-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_WideDw (m : (ℓ : Loc Cert.WideDw.nD Cert.WideDw.τ Cert.WideDw.sig) → Buf (Elt Bits) ℓ) : Prop :=
  True

def Pre_WideDwIdeal (m : (ℓ : Loc Cert.WideDwIdeal.nD Cert.WideDwIdeal.τ Cert.WideDwIdeal.sig) → Buf (Elt Ideal) ℓ) : Prop :=
  True

def Pre_WideDwRefIdeal (m : (ℓ : Loc Cert.WideDwRefIdeal.nD Cert.WideDwRefIdeal.τ Cert.WideDwRefIdeal.sig) → Buf (Elt Ideal) ℓ) : Prop :=
  True

def Pre_SquareDw (m : (ℓ : Loc Cert.SquareDw.nD Cert.SquareDw.τ Cert.SquareDw.sig) → Buf (Elt Bits) ℓ) : Prop :=
  True

def Pre_SquareDwIdeal (m : (ℓ : Loc Cert.SquareDwIdeal.nD Cert.SquareDwIdeal.τ Cert.SquareDwIdeal.sig) → Buf (Elt Ideal) ℓ) : Prop :=
  True

def Pre_SquareDwRefIdeal (m : (ℓ : Loc Cert.SquareDwRefIdeal.nD Cert.SquareDwRefIdeal.τ Cert.SquareDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_SquareDx (m : (ℓ : Loc Cert.SquareDx.nD Cert.SquareDx.τ Cert.SquareDx.sig) → Buf (Elt Bits) ℓ) : Prop :=
  True

def Pre_SquareDxIdeal (m : (ℓ : Loc Cert.SquareDxIdeal.nD Cert.SquareDxIdeal.τ Cert.SquareDxIdeal.sig) → Buf (Elt Ideal) ℓ) : Prop :=
  True

def Pre_SquareDxRefIdeal (m : (ℓ : Loc Cert.SquareDxRefIdeal.nD Cert.SquareDxRefIdeal.τ Cert.SquareDxRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_CaQ (m : (ℓ : Loc Cert.CaQ.nD Cert.CaQ.τ Cert.CaQ.sig) → Buf (Elt Bits) ℓ) : Prop :=
  True

def Pre_CaQIdeal (m : (ℓ : Loc Cert.CaQIdeal.nD Cert.CaQIdeal.τ Cert.CaQIdeal.sig) → Buf (Elt Ideal) ℓ) : Prop :=
  True

def Pre_CaQRefIdeal (m : (ℓ : Loc Cert.CaQRefIdeal.nD Cert.CaQRefIdeal.τ Cert.CaQRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_SwaBwd (m : (ℓ : Loc Cert.SwaBwd.nD Cert.SwaBwd.τ Cert.SwaBwd.sig) → Buf (Elt Bits) ℓ) : Prop :=
  True

def Pre_SwaBwdIdeal (m : (ℓ : Loc Cert.SwaBwdIdeal.nD Cert.SwaBwdIdeal.τ Cert.SwaBwdIdeal.sig) → Buf (Elt Ideal) ℓ) : Prop :=
  True

def Pre_SwaBwdIdeal_finite_window [hPre_finite_window : Cert.Pre_finite_window.Facts] (m : (ℓ : Loc Cert.SwaBwdIdeal.nD Cert.SwaBwdIdeal.τ Cert.SwaBwdIdeal.sig) → Buf (Elt Ideal) ℓ) : Prop :=
  ∀ c : Dev Cert.SwaBwdIdeal.nD,
    (Cert.Pre_finite_window.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2))) = (fun _ => 1#1)

def Pre_SwaBwdRefIdeal (m : (ℓ : Loc Cert.SwaBwdRefIdeal.nD Cert.SwaBwdRefIdeal.τ Cert.SwaBwdRefIdeal.sig) → Buf (Elt Ideal) ℓ) : Prop :=
  True

def Pre_SwaBwdRefIdeal_finite_window [hPre_finite_window : Cert.Pre_finite_window.Facts] (m : (ℓ : Loc Cert.SwaBwdRefIdeal.nD Cert.SwaBwdRefIdeal.τ Cert.SwaBwdRefIdeal.sig) → Buf (Elt Ideal) ℓ) : Prop :=
  ∀ c : Dev Cert.SwaBwdRefIdeal.nD,
    (Cert.Pre_finite_window.fn (F := Ideal) (m ((c.tc : Thread Cert.SwaBwdRefIdeal.nD Cert.SwaBwdRefIdeal.τ).loc Cert.SwaBwdRefIdeal.main_arg0)) (m ((c.tc : Thread Cert.SwaBwdRefIdeal.nD Cert.SwaBwdRefIdeal.τ).loc Cert.SwaBwdRefIdeal.main_arg1)) (m ((c.tc : Thread Cert.SwaBwdRefIdeal.nD Cert.SwaBwdRefIdeal.τ).loc Cert.SwaBwdRefIdeal.main_arg2))) = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_WideDw [hWideDw : Cert.WideDw.Facts] : Prop :=
  ∀ (m : (ℓ : Loc Cert.WideDw.nD Cert.WideDw.τ Cert.WideDw.sig) → Buf (Elt Bits) ℓ) (g : Dev Cert.WideDw.nD → PrngReg), Pre_WideDw m →
    θ_run (Cert.WideDw.defs (F := Bits)) (onTc (τ := Cert.WideDw.τ) (Cert.WideDw.main (F := Bits))) ⟨m, fun _ => 0, g⟩ (fun r => (∀ c : Dev Cert.WideDw.nD,
      r.2.mem ((c.tc : Thread Cert.WideDw.nD Cert.WideDw.τ).loc Cert.WideDw.main_arg0) = m ((c.tc : Thread Cert.WideDw.nD Cert.WideDw.τ).loc Cert.WideDw.main_arg0)
      ∧ r.2.mem ((c.tc : Thread Cert.WideDw.nD Cert.WideDw.τ).loc Cert.WideDw.main_arg1) = m ((c.tc : Thread Cert.WideDw.nD Cert.WideDw.τ).loc Cert.WideDw.main_arg1))
      ∧ r.2.sem = fun _ => 0)

def quiescent_WideDwIdeal [hWideDwIdeal : Cert.WideDwIdeal.Facts] : Prop :=
  ∀ (m : (ℓ : Loc Cert.WideDwIdeal.nD Cert.WideDwIdeal.τ Cert.WideDwIdeal.sig) → Buf (Elt Ideal) ℓ) (g : Dev Cert.WideDwIdeal.nD → PrngReg), Pre_WideDwIdeal m →
    θ_run (Cert.WideDwIdeal.defs (F := Ideal)) (onTc (τ := Cert.WideDwIdeal.τ) (Cert.WideDwIdeal.main (F := Ideal))) ⟨m, fun _ => 0, g⟩ (fun r => (∀ c : Dev Cert.WideDwIdeal.nD,
      r.2.mem ((c.tc : Thread Cert.WideDwIdeal.nD Cert.WideDwIdeal.τ).loc Cert.WideDwIdeal.main_arg0) = m ((c.tc : Thread Cert.WideDwIdeal.nD Cert.WideDwIdeal.τ).loc Cert.WideDwIdeal.main_arg0)
      ∧ r.2.mem ((c.tc : Thread Cert.WideDwIdeal.nD Cert.WideDwIdeal.τ).loc Cert.WideDwIdeal.main_arg1) = m ((c.tc : Thread Cert.WideDwIdeal.nD Cert.WideDwIdeal.τ).loc Cert.WideDwIdeal.main_arg1))
      ∧ r.2.sem = fun _ => 0)

def quiescent_WideDwRefIdeal [hWideDwRefIdeal : Cert.WideDwRefIdeal.Facts] : Prop :=
  ∀ (m : (ℓ : Loc Cert.WideDwRefIdeal.nD Cert.WideDwRefIdeal.τ Cert.WideDwRefIdeal.sig) → Buf (Elt Ideal) ℓ) (g : Dev Cert.WideDwRefIdeal.nD → PrngReg), Pre_WideDwRefIdeal m →
    θ_run (Cert.WideDwRefIdeal.defs (F := Ideal)) (onTc (τ := Cert.WideDwRefIdeal.τ) (Cert.WideDwRefIdeal.main (F := Ideal))) ⟨m, fun _ => 0, g⟩ (fun r => (∀ c : Dev Cert.WideDwRefIdeal.nD,
      r.2.mem ((c.tc : Thread Cert.WideDwRefIdeal.nD Cert.WideDwRefIdeal.τ).loc Cert.WideDwRefIdeal.main_arg0) = m ((c.tc : Thread Cert.WideDwRefIdeal.nD Cert.WideDwRefIdeal.τ).loc Cert.WideDwRefIdeal.main_arg0)
      ∧ r.2.mem ((c.tc : Thread Cert.WideDwRefIdeal.nD Cert.WideDwRefIdeal.τ).loc Cert.WideDwRefIdeal.main_arg1) = m ((c.tc : Thread Cert.WideDwRefIdeal.nD Cert.WideDwRefIdeal.τ).loc Cert.WideDwRefIdeal.main_arg1))
      ∧ r.2.sem = fun _ => 0)

def quiescent_SquareDw [hSquareDw : Cert.SquareDw.Facts] : Prop :=
  ∀ (m : (ℓ : Loc Cert.SquareDw.nD Cert.SquareDw.τ Cert.SquareDw.sig) → Buf (Elt Bits) ℓ) (g : Dev Cert.SquareDw.nD → PrngReg), Pre_SquareDw m →
    θ_run (Cert.SquareDw.defs (F := Bits)) (onTc (τ := Cert.SquareDw.τ) (Cert.SquareDw.main (F := Bits))) ⟨m, fun _ => 0, g⟩ (fun r => (∀ c : Dev Cert.SquareDw.nD,
      r.2.mem ((c.tc : Thread Cert.SquareDw.nD Cert.SquareDw.τ).loc Cert.SquareDw.main_arg0) = m ((c.tc : Thread Cert.SquareDw.nD Cert.SquareDw.τ).loc Cert.SquareDw.main_arg0)
      ∧ r.2.mem ((c.tc : Thread Cert.SquareDw.nD Cert.SquareDw.τ).loc Cert.SquareDw.main_arg1) = m ((c.tc : Thread Cert.SquareDw.nD Cert.SquareDw.τ).loc Cert.SquareDw.main_arg1))
      ∧ r.2.sem = fun _ => 0)

def quiescent_SquareDwIdeal [hSquareDwIdeal : Cert.SquareDwIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ r.2.sem = fun _ => 0)

def quiescent_SquareDwRefIdeal [hSquareDwRefIdeal : Cert.SquareDwRefIdeal.Facts] : Prop :=
  ∀ (m : (ℓ : Loc Cert.SquareDwRefIdeal.nD Cert.SquareDwRefIdeal.τ Cert.SquareDwRefIdeal.sig) → Buf (Elt Ideal) ℓ) (g : Dev Cert.SquareDwRefIdeal.nD → PrngReg), Pre_SquareDwRefIdeal m →
    θ_run (Cert.SquareDwRefIdeal.defs (F := Ideal)) (onTc (τ := Cert.SquareDwRefIdeal.τ) (Cert.SquareDwRefIdeal.main (F := Ideal))) ⟨m, fun _ => 0, g⟩ (fun r => (∀ c : Dev Cert.SquareDwRefIdeal.nD,
      r.2.mem ((c.tc : Thread Cert.SquareDwRefIdeal.nD Cert.SquareDwRefIdeal.τ).loc Cert.SquareDwRefIdeal.main_arg0) = m ((c.tc : Thread Cert.SquareDwRefIdeal.nD Cert.SquareDwRefIdeal.τ).loc Cert.SquareDwRefIdeal.main_arg0)
      ∧ r.2.mem ((c.tc : Thread Cert.SquareDwRefIdeal.nD Cert.SquareDwRefIdeal.τ).loc Cert.SquareDwRefIdeal.main_arg1) = m ((c.tc : Thread Cert.SquareDwRefIdeal.nD Cert.SquareDwRefIdeal.τ).loc Cert.SquareDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_SquareDx [hSquareDx : Cert.SquareDx.Facts] : Prop :=
  ∀ (m : (ℓ : Loc Cert.SquareDx.nD Cert.SquareDx.τ Cert.SquareDx.sig) → Buf (Elt Bits) ℓ) (g : Dev Cert.SquareDx.nD → PrngReg), Pre_SquareDx m →
    θ_run (Cert.SquareDx.defs (F := Bits)) (onTc (τ := Cert.SquareDx.τ) (Cert.SquareDx.main (F := Bits))) ⟨m, fun _ => 0, g⟩ (fun r => (∀ c : Dev Cert.SquareDx.nD,
      r.2.mem ((c.tc : Thread Cert.SquareDx.nD Cert.SquareDx.τ).loc Cert.SquareDx.main_arg0) = m ((c.tc : Thread Cert.SquareDx.nD Cert.SquareDx.τ).loc Cert.SquareDx.main_arg0)
      ∧ r.2.mem ((c.tc : Thread Cert.SquareDx.nD Cert.SquareDx.τ).loc Cert.SquareDx.main_arg1) = m ((c.tc : Thread Cert.SquareDx.nD Cert.SquareDx.τ).loc Cert.SquareDx.main_arg1))
      ∧ r.2.sem = fun _ => 0)

def quiescent_SquareDxIdeal [hSquareDxIdeal : Cert.SquareDxIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg), Pre_SquareDxIdeal m →
    θ_run (Cert.SquareDxIdeal.defs (F := Ideal)) (onTc (τ := Cert.SquareDxIdeal.τ) (Cert.SquareDxIdeal.main (F := Ideal))) ⟨m, fun _ => 0, g⟩ (fun r => (∀ c : Dev Cert.SquareDxIdeal.nD,
      r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
      ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1))
      ∧ r.2.sem = fun _ => 0)

def quiescent_SquareDxRefIdeal [hSquareDxRefIdeal : Cert.SquareDxRefIdeal.Facts] : Prop :=
  ∀ (m : (ℓ : Loc Cert.SquareDxRefIdeal.nD Cert.SquareDxRefIdeal.τ Cert.SquareDxRefIdeal.sig) → Buf (Elt Ideal) ℓ) (g : Dev Cert.SquareDxRefIdeal.nD → PrngReg), Pre_SquareDxRefIdeal m →
    θ_run (Cert.SquareDxRefIdeal.defs (F := Ideal)) (onTc (τ := Cert.SquareDxRefIdeal.τ) (Cert.SquareDxRefIdeal.main (F := Ideal))) ⟨m, fun _ => 0, g⟩ (fun r => (∀ c : Dev Cert.SquareDxRefIdeal.nD,
      r.2.mem ((c.tc : Thread Cert.SquareDxRefIdeal.nD Cert.SquareDxRefIdeal.τ).loc Cert.SquareDxRefIdeal.main_arg0) = m ((c.tc : Thread Cert.SquareDxRefIdeal.nD Cert.SquareDxRefIdeal.τ).loc Cert.SquareDxRefIdeal.main_arg0)
      ∧ r.2.mem ((c.tc : Thread Cert.SquareDxRefIdeal.nD Cert.SquareDxRefIdeal.τ).loc Cert.SquareDxRefIdeal.main_arg1) = m ((c.tc : Thread Cert.SquareDxRefIdeal.nD Cert.SquareDxRefIdeal.τ).loc Cert.SquareDxRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_CaQ [hCaQ : Cert.CaQ.Facts] : Prop :=
  ∀ (m : (ℓ : Loc Cert.CaQ.nD Cert.CaQ.τ Cert.CaQ.sig) → Buf (Elt Bits) ℓ) (g : Dev Cert.CaQ.nD → PrngReg), Pre_CaQ m →
    θ_run (Cert.CaQ.defs (F := Bits)) (onTc (τ := Cert.CaQ.τ) (Cert.CaQ.main (F := Bits))) ⟨m, fun _ => 0, g⟩ (fun r => (∀ c : Dev Cert.CaQ.nD,
      r.2.mem ((c.tc : Thread Cert.CaQ.nD Cert.CaQ.τ).loc Cert.CaQ.main_arg0) = m ((c.tc : Thread Cert.CaQ.nD Cert.CaQ.τ).loc Cert.CaQ.main_arg0)
      ∧ r.2.mem ((c.tc : Thread Cert.CaQ.nD Cert.CaQ.τ).loc Cert.CaQ.main_arg1) = m ((c.tc : Thread Cert.CaQ.nD Cert.CaQ.τ).loc Cert.CaQ.main_arg1))
      ∧ r.2.sem = fun _ => 0)

def quiescent_CaQIdeal [hCaQIdeal : Cert.CaQIdeal.Facts] : Prop :=
  ∀ (m : (ℓ : Loc Cert.CaQIdeal.nD Cert.CaQIdeal.τ Cert.CaQIdeal.sig) → Buf (Elt Ideal) ℓ) (g : Dev Cert.CaQIdeal.nD → PrngReg), Pre_CaQIdeal m →
    θ_run (Cert.CaQIdeal.defs (F := Ideal)) (onTc (τ := Cert.CaQIdeal.τ) (Cert.CaQIdeal.main (F := Ideal))) ⟨m, fun _ => 0, g⟩ (fun r => (∀ c : Dev Cert.CaQIdeal.nD,
      r.2.mem ((c.tc : Thread Cert.CaQIdeal.nD Cert.CaQIdeal.τ).loc Cert.CaQIdeal.main_arg0) = m ((c.tc : Thread Cert.CaQIdeal.nD Cert.CaQIdeal.τ).loc Cert.CaQIdeal.main_arg0)
      ∧ r.2.mem ((c.tc : Thread Cert.CaQIdeal.nD Cert.CaQIdeal.τ).loc Cert.CaQIdeal.main_arg1) = m ((c.tc : Thread Cert.CaQIdeal.nD Cert.CaQIdeal.τ).loc Cert.CaQIdeal.main_arg1))
      ∧ r.2.sem = fun _ => 0)

def quiescent_CaQRefIdeal [hCaQRefIdeal : Cert.CaQRefIdeal.Facts] : Prop :=
  ∀ (m : (ℓ : Loc Cert.CaQRefIdeal.nD Cert.CaQRefIdeal.τ Cert.CaQRefIdeal.sig) → Buf (Elt Ideal) ℓ) (g : Dev Cert.CaQRefIdeal.nD → PrngReg), Pre_CaQRefIdeal m →
    θ_run (Cert.CaQRefIdeal.defs (F := Ideal)) (onTc (τ := Cert.CaQRefIdeal.τ) (Cert.CaQRefIdeal.main (F := Ideal))) ⟨m, fun _ => 0, g⟩ (fun r => (∀ c : Dev Cert.CaQRefIdeal.nD,
      r.2.mem ((c.tc : Thread Cert.CaQRefIdeal.nD Cert.CaQRefIdeal.τ).loc Cert.CaQRefIdeal.main_arg0) = m ((c.tc : Thread Cert.CaQRefIdeal.nD Cert.CaQRefIdeal.τ).loc Cert.CaQRefIdeal.main_arg0)
      ∧ r.2.mem ((c.tc : Thread Cert.CaQRefIdeal.nD Cert.CaQRefIdeal.τ).loc Cert.CaQRefIdeal.main_arg1) = m ((c.tc : Thread Cert.CaQRefIdeal.nD Cert.CaQRefIdeal.τ).loc Cert.CaQRefIdeal.main_arg1))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1))
      ∧ r.2.sem = fun _ => 0)

def quiescent_SwaBwd [hSwaBwd : Cert.SwaBwd.Facts] : Prop :=
  ∀ (m : (ℓ : Loc Cert.SwaBwd.nD Cert.SwaBwd.τ Cert.SwaBwd.sig) → Buf (Elt Bits) ℓ) (g : Dev Cert.SwaBwd.nD → PrngReg), Pre_SwaBwd m →
    θ_run (Cert.SwaBwd.defs (F := Bits)) (onTc (τ := Cert.SwaBwd.τ) (Cert.SwaBwd.main (F := Bits))) ⟨m, fun _ => 0, g⟩ (fun r => (∀ c : Dev Cert.SwaBwd.nD,
      r.2.mem ((c.tc : Thread Cert.SwaBwd.nD Cert.SwaBwd.τ).loc Cert.SwaBwd.main_arg0) = m ((c.tc : Thread Cert.SwaBwd.nD Cert.SwaBwd.τ).loc Cert.SwaBwd.main_arg0)
      ∧ r.2.mem ((c.tc : Thread Cert.SwaBwd.nD Cert.SwaBwd.τ).loc Cert.SwaBwd.main_arg1) = m ((c.tc : Thread Cert.SwaBwd.nD Cert.SwaBwd.τ).loc Cert.SwaBwd.main_arg1)
      ∧ r.2.mem ((c.tc : Thread Cert.SwaBwd.nD Cert.SwaBwd.τ).loc Cert.SwaBwd.main_arg2) = m ((c.tc : Thread Cert.SwaBwd.nD Cert.SwaBwd.τ).loc Cert.SwaBwd.main_arg2))
      ∧ r.2.sem = fun _ => 0)

def quiescent_SwaBwdIdeal [hSwaBwdIdeal : Cert.SwaBwdIdeal.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2))
      ∧ r.2.sem = fun _ => 0)

def quiescent_SwaBwdIdeal_pre_finite_window [hSwaBwdIdeal : Cert.SwaBwdIdeal.Facts] [hPre_finite_window : Cert.Pre_finite_window.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal_finite_window m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2))
      ∧ r.2.sem = fun _ => 0)

def quiescent_SwaBwdRefIdeal [hSwaBwdRefIdeal : Cert.SwaBwdRefIdeal.Facts] : Prop :=
  ∀ (m : (ℓ : Loc Cert.SwaBwdRefIdeal.nD Cert.SwaBwdRefIdeal.τ Cert.SwaBwdRefIdeal.sig) → Buf (Elt Ideal) ℓ) (g : Dev Cert.SwaBwdRefIdeal.nD → PrngReg), Pre_SwaBwdRefIdeal m →
    θ_run (Cert.SwaBwdRefIdeal.defs (F := Ideal)) (onTc (τ := Cert.SwaBwdRefIdeal.τ) (Cert.SwaBwdRefIdeal.main (F := Ideal))) ⟨m, fun _ => 0, g⟩ (fun r => (∀ c : Dev Cert.SwaBwdRefIdeal.nD,
      r.2.mem ((c.tc : Thread Cert.SwaBwdRefIdeal.nD Cert.SwaBwdRefIdeal.τ).loc Cert.SwaBwdRefIdeal.main_arg0) = m ((c.tc : Thread Cert.SwaBwdRefIdeal.nD Cert.SwaBwdRefIdeal.τ).loc Cert.SwaBwdRefIdeal.main_arg0)
      ∧ r.2.mem ((c.tc : Thread Cert.SwaBwdRefIdeal.nD Cert.SwaBwdRefIdeal.τ).loc Cert.SwaBwdRefIdeal.main_arg1) = m ((c.tc : Thread Cert.SwaBwdRefIdeal.nD Cert.SwaBwdRefIdeal.τ).loc Cert.SwaBwdRefIdeal.main_arg1)
      ∧ r.2.mem ((c.tc : Thread Cert.SwaBwdRefIdeal.nD Cert.SwaBwdRefIdeal.τ).loc Cert.SwaBwdRefIdeal.main_arg2) = m ((c.tc : Thread Cert.SwaBwdRefIdeal.nD Cert.SwaBwdRefIdeal.τ).loc Cert.SwaBwdRefIdeal.main_arg2))
      ∧ r.2.sem = fun _ => 0)

def quiescent_SwaBwdRefIdeal_pre_finite_window [hSwaBwdRefIdeal : Cert.SwaBwdRefIdeal.Facts] [hPre_finite_window : Cert.Pre_finite_window.Facts] : Prop :=
  ∀ (m : (ℓ : Loc Cert.SwaBwdRefIdeal.nD Cert.SwaBwdRefIdeal.τ Cert.SwaBwdRefIdeal.sig) → Buf (Elt Ideal) ℓ) (g : Dev Cert.SwaBwdRefIdeal.nD → PrngReg), Pre_SwaBwdRefIdeal_finite_window m →
    θ_run (Cert.SwaBwdRefIdeal.defs (F := Ideal)) (onTc (τ := Cert.SwaBwdRefIdeal.τ) (Cert.SwaBwdRefIdeal.main (F := Ideal))) ⟨m, fun _ => 0, g⟩ (fun r => (∀ c : Dev Cert.SwaBwdRefIdeal.nD,
      r.2.mem ((c.tc : Thread Cert.SwaBwdRefIdeal.nD Cert.SwaBwdRefIdeal.τ).loc Cert.SwaBwdRefIdeal.main_arg0) = m ((c.tc : Thread Cert.SwaBwdRefIdeal.nD Cert.SwaBwdRefIdeal.τ).loc Cert.SwaBwdRefIdeal.main_arg0)
      ∧ r.2.mem ((c.tc : Thread Cert.SwaBwdRefIdeal.nD Cert.SwaBwdRefIdeal.τ).loc Cert.SwaBwdRefIdeal.main_arg1) = m ((c.tc : Thread Cert.SwaBwdRefIdeal.nD Cert.SwaBwdRefIdeal.τ).loc Cert.SwaBwdRefIdeal.main_arg1)
      ∧ r.2.mem ((c.tc : Thread Cert.SwaBwdRefIdeal.nD Cert.SwaBwdRefIdeal.τ).loc Cert.SwaBwdRefIdeal.main_arg2) = m ((c.tc : Thread Cert.SwaBwdRefIdeal.nD Cert.SwaBwdRefIdeal.τ).loc Cert.SwaBwdRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v12) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_WideDw_WideDwIdeal : Prop :=
  True

def algebraic_WideDwIdeal_WideDwRefIdeal [hWideDwIdeal : Cert.WideDwIdeal.Facts] [hWideDwRefIdeal : Cert.WideDwRefIdeal.Facts] : Prop :=
  ∀ (m : (ℓ : Loc Cert.WideDwIdeal.nD Cert.WideDwIdeal.τ Cert.WideDwIdeal.sig) → Buf (Elt Ideal) ℓ) (g : Dev Cert.WideDwIdeal.nD → PrngReg)
    (m' : (ℓ : Loc Cert.WideDwRefIdeal.nD Cert.WideDwRefIdeal.τ Cert.WideDwRefIdeal.sig) → Buf (Elt Ideal) ℓ) (g' : Dev Cert.WideDwRefIdeal.nD → PrngReg), Pre_WideDwIdeal m →
    (∀ c : Dev Cert.WideDwIdeal.nD,
      m' ((c.tc : Thread Cert.WideDwRefIdeal.nD Cert.WideDwRefIdeal.τ).loc Cert.WideDwRefIdeal.main_arg0) = m ((c.tc : Thread Cert.WideDwIdeal.nD Cert.WideDwIdeal.τ).loc Cert.WideDwIdeal.main_arg0)
      ∧ m' ((c.tc : Thread Cert.WideDwRefIdeal.nD Cert.WideDwRefIdeal.τ).loc Cert.WideDwRefIdeal.main_arg1) = m ((c.tc : Thread Cert.WideDwIdeal.nD Cert.WideDwIdeal.τ).loc Cert.WideDwIdeal.main_arg1)) →
    ∃ (v0 : (c : Dev Cert.WideDwIdeal.nD) → Buf (Elt Ideal) ((c.tc : Thread Cert.WideDwIdeal.nD Cert.WideDwIdeal.τ).loc Cert.WideDwIdeal.main_v0)),
      θ_run (Cert.WideDwIdeal.defs (F := Ideal)) (onTc (τ := Cert.WideDwIdeal.τ) (Cert.WideDwIdeal.main (F := Ideal))) ⟨m, fun _ => 0, g⟩ (fun r => ∀ c : Dev Cert.WideDwIdeal.nD,
          r.2.mem ((c.tc : Thread Cert.WideDwIdeal.nD Cert.WideDwIdeal.τ).loc Cert.WideDwIdeal.main_v0) = v0 c
          ∧ r.2.mem ((c.tc : Thread Cert.WideDwIdeal.nD Cert.WideDwIdeal.τ).loc Cert.WideDwIdeal.main_arg0) = m ((c.tc : Thread Cert.WideDwIdeal.nD Cert.WideDwIdeal.τ).loc Cert.WideDwIdeal.main_arg0)
          ∧ r.2.mem ((c.tc : Thread Cert.WideDwIdeal.nD Cert.WideDwIdeal.τ).loc Cert.WideDwIdeal.main_arg1) = m ((c.tc : Thread Cert.WideDwIdeal.nD Cert.WideDwIdeal.τ).loc Cert.WideDwIdeal.main_arg1))
      ∧ θ_run (Cert.WideDwRefIdeal.defs (F := Ideal)) (onTc (τ := Cert.WideDwRefIdeal.τ) (Cert.WideDwRefIdeal.main (F := Ideal))) ⟨m', fun _ => 0, g'⟩ (fun r => ∀ c : Dev Cert.WideDwRefIdeal.nD,
          r.2.mem ((c.tc : Thread Cert.WideDwRefIdeal.nD Cert.WideDwRefIdeal.τ).loc Cert.WideDwRefIdeal.main_v6) = v0 c
          ∧ r.2.mem ((c.tc : Thread Cert.WideDwRefIdeal.nD Cert.WideDwRefIdeal.τ).loc Cert.WideDwRefIdeal.main_arg0) = m' ((c.tc : Thread Cert.WideDwRefIdeal.nD Cert.WideDwRefIdeal.τ).loc Cert.WideDwRefIdeal.main_arg0)
          ∧ r.2.mem ((c.tc : Thread Cert.WideDwRefIdeal.nD Cert.WideDwRefIdeal.τ).loc Cert.WideDwRefIdeal.main_arg1) = m' ((c.tc : Thread Cert.WideDwRefIdeal.nD Cert.WideDwRefIdeal.τ).loc Cert.WideDwRefIdeal.main_arg1))

def preserves_SquareDw_SquareDwIdeal : Prop :=
  True

def algebraic_SquareDwIdeal_SquareDwRefIdeal [hSquareDwIdeal : Cert.SquareDwIdeal.Facts] [hSquareDwRefIdeal : Cert.SquareDwRefIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.SquareDwRefIdeal.nD Cert.SquareDwRefIdeal.τ Cert.SquareDwRefIdeal.sig) → Buf (Elt Ideal) ℓ) (g' : Dev Cert.SquareDwRefIdeal.nD → PrngReg), Pre_SquareDwIdeal m →
    (∀ c : Dev Cert.SquareDwIdeal.nD,
      m' ((c.tc : Thread Cert.SquareDwRefIdeal.nD Cert.SquareDwRefIdeal.τ).loc Cert.SquareDwRefIdeal.main_arg0) = m ((c.tc : Thread Cert.SquareDwIdeal.nD Cert.SquareDwIdeal.τ).loc Cert.SquareDwIdeal.main_arg0)
      ∧ m' ((c.tc : Thread Cert.SquareDwRefIdeal.nD Cert.SquareDwRefIdeal.τ).loc Cert.SquareDwRefIdeal.main_arg1) = m ((c.tc : Thread Cert.SquareDwIdeal.nD Cert.SquareDwIdeal.τ).loc Cert.SquareDwIdeal.main_arg1)) →
    ∃ (v0 : (c : Dev Cert.SquareDwIdeal.nD) → Buf (Elt Ideal) ((c.tc : Thread Cert.SquareDwIdeal.nD Cert.SquareDwIdeal.τ).loc Cert.SquareDwIdeal.main_v0)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v0) = v0 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ θ_run (Cert.SquareDwRefIdeal.defs (F := Ideal)) (onTc (τ := Cert.SquareDwRefIdeal.τ) (Cert.SquareDwRefIdeal.main (F := Ideal))) ⟨m', fun _ => 0, g'⟩ (fun r => ∀ c : Dev Cert.SquareDwRefIdeal.nD,
          r.2.mem ((c.tc : Thread Cert.SquareDwRefIdeal.nD Cert.SquareDwRefIdeal.τ).loc Cert.SquareDwRefIdeal.main_v6) = v0 c
          ∧ r.2.mem ((c.tc : Thread Cert.SquareDwRefIdeal.nD Cert.SquareDwRefIdeal.τ).loc Cert.SquareDwRefIdeal.main_arg0) = m' ((c.tc : Thread Cert.SquareDwRefIdeal.nD Cert.SquareDwRefIdeal.τ).loc Cert.SquareDwRefIdeal.main_arg0)
          ∧ r.2.mem ((c.tc : Thread Cert.SquareDwRefIdeal.nD Cert.SquareDwRefIdeal.τ).loc Cert.SquareDwRefIdeal.main_arg1) = m' ((c.tc : Thread Cert.SquareDwRefIdeal.nD Cert.SquareDwRefIdeal.τ).loc Cert.SquareDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_SquareDx_SquareDxIdeal : Prop :=
  True

def algebraic_SquareDxIdeal_SquareDxRefIdeal [hSquareDxIdeal : Cert.SquareDxIdeal.Facts] [hSquareDxRefIdeal : Cert.SquareDxRefIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg)
    (m' : (ℓ : Loc Cert.SquareDxRefIdeal.nD Cert.SquareDxRefIdeal.τ Cert.SquareDxRefIdeal.sig) → Buf (Elt Ideal) ℓ) (g' : Dev Cert.SquareDxRefIdeal.nD → PrngReg), Pre_SquareDxIdeal m →
    (∀ c : Dev Cert.SquareDxIdeal.nD,
      m' ((c.tc : Thread Cert.SquareDxRefIdeal.nD Cert.SquareDxRefIdeal.τ).loc Cert.SquareDxRefIdeal.main_arg0) = m ((c.tc : Thread Cert.SquareDxIdeal.nD Cert.SquareDxIdeal.τ).loc Cert.SquareDxIdeal.main_arg0)
      ∧ m' ((c.tc : Thread Cert.SquareDxRefIdeal.nD Cert.SquareDxRefIdeal.τ).loc Cert.SquareDxRefIdeal.main_arg1) = m ((c.tc : Thread Cert.SquareDxIdeal.nD Cert.SquareDxIdeal.τ).loc Cert.SquareDxIdeal.main_arg1)) →
    ∃ (v0 : (c : Dev Cert.SquareDxIdeal.nD) → Buf (Elt Ideal) ((c.tc : Thread Cert.SquareDxIdeal.nD Cert.SquareDxIdeal.τ).loc Cert.SquareDxIdeal.main_v0)),
      θ_run (Cert.SquareDxIdeal.defs (F := Ideal)) (onTc (τ := Cert.SquareDxIdeal.τ) (Cert.SquareDxIdeal.main (F := Ideal))) ⟨m, fun _ => 0, g⟩ (fun r => ∀ c : Dev Cert.SquareDxIdeal.nD,
          r.2.mem ((c.tc : Thread Cert.SquareDxIdeal.nD Cert.SquareDxIdeal.τ).loc Cert.SquareDxIdeal.main_v0) = v0 c
          ∧ r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
          ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1))
      ∧ θ_run (Cert.SquareDxRefIdeal.defs (F := Ideal)) (onTc (τ := Cert.SquareDxRefIdeal.τ) (Cert.SquareDxRefIdeal.main (F := Ideal))) ⟨m', fun _ => 0, g'⟩ (fun r => ∀ c : Dev Cert.SquareDxRefIdeal.nD,
          r.2.mem ((c.tc : Thread Cert.SquareDxRefIdeal.nD Cert.SquareDxRefIdeal.τ).loc Cert.SquareDxRefIdeal.main_v5) = v0 c
          ∧ r.2.mem ((c.tc : Thread Cert.SquareDxRefIdeal.nD Cert.SquareDxRefIdeal.τ).loc Cert.SquareDxRefIdeal.main_arg0) = m' ((c.tc : Thread Cert.SquareDxRefIdeal.nD Cert.SquareDxRefIdeal.τ).loc Cert.SquareDxRefIdeal.main_arg0)
          ∧ r.2.mem ((c.tc : Thread Cert.SquareDxRefIdeal.nD Cert.SquareDxRefIdeal.τ).loc Cert.SquareDxRefIdeal.main_arg1) = m' ((c.tc : Thread Cert.SquareDxRefIdeal.nD Cert.SquareDxRefIdeal.τ).loc Cert.SquareDxRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v8) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_CaQ_CaQIdeal : Prop :=
  True

def algebraic_CaQIdeal_CaQRefIdeal [hCaQIdeal : Cert.CaQIdeal.Facts] [hCaQRefIdeal : Cert.CaQRefIdeal.Facts] : Prop :=
  ∀ (m : (ℓ : Loc Cert.CaQIdeal.nD Cert.CaQIdeal.τ Cert.CaQIdeal.sig) → Buf (Elt Ideal) ℓ) (g : Dev Cert.CaQIdeal.nD → PrngReg)
    (m' : (ℓ : Loc Cert.CaQRefIdeal.nD Cert.CaQRefIdeal.τ Cert.CaQRefIdeal.sig) → Buf (Elt Ideal) ℓ) (g' : Dev Cert.CaQRefIdeal.nD → PrngReg), Pre_CaQIdeal m →
    (∀ c : Dev Cert.CaQIdeal.nD,
      m' ((c.tc : Thread Cert.CaQRefIdeal.nD Cert.CaQRefIdeal.τ).loc Cert.CaQRefIdeal.main_arg0) = m ((c.tc : Thread Cert.CaQIdeal.nD Cert.CaQIdeal.τ).loc Cert.CaQIdeal.main_arg0)
      ∧ m' ((c.tc : Thread Cert.CaQRefIdeal.nD Cert.CaQRefIdeal.τ).loc Cert.CaQRefIdeal.main_arg1) = m ((c.tc : Thread Cert.CaQIdeal.nD Cert.CaQIdeal.τ).loc Cert.CaQIdeal.main_arg1)) →
    ∃ (v0 : (c : Dev Cert.CaQIdeal.nD) → Buf (Elt Ideal) ((c.tc : Thread Cert.CaQIdeal.nD Cert.CaQIdeal.τ).loc Cert.CaQIdeal.main_v0)),
      θ_run (Cert.CaQIdeal.defs (F := Ideal)) (onTc (τ := Cert.CaQIdeal.τ) (Cert.CaQIdeal.main (F := Ideal))) ⟨m, fun _ => 0, g⟩ (fun r => ∀ c : Dev Cert.CaQIdeal.nD,
          r.2.mem ((c.tc : Thread Cert.CaQIdeal.nD Cert.CaQIdeal.τ).loc Cert.CaQIdeal.main_v0) = v0 c
          ∧ r.2.mem ((c.tc : Thread Cert.CaQIdeal.nD Cert.CaQIdeal.τ).loc Cert.CaQIdeal.main_arg0) = m ((c.tc : Thread Cert.CaQIdeal.nD Cert.CaQIdeal.τ).loc Cert.CaQIdeal.main_arg0)
          ∧ r.2.mem ((c.tc : Thread Cert.CaQIdeal.nD Cert.CaQIdeal.τ).loc Cert.CaQIdeal.main_arg1) = m ((c.tc : Thread Cert.CaQIdeal.nD Cert.CaQIdeal.τ).loc Cert.CaQIdeal.main_arg1))
      ∧ θ_run (Cert.CaQRefIdeal.defs (F := Ideal)) (onTc (τ := Cert.CaQRefIdeal.τ) (Cert.CaQRefIdeal.main (F := Ideal))) ⟨m', fun _ => 0, g'⟩ (fun r => ∀ c : Dev Cert.CaQRefIdeal.nD,
          r.2.mem ((c.tc : Thread Cert.CaQRefIdeal.nD Cert.CaQRefIdeal.τ).loc Cert.CaQRefIdeal.main_v3) = v0 c
          ∧ r.2.mem ((c.tc : Thread Cert.CaQRefIdeal.nD Cert.CaQRefIdeal.τ).loc Cert.CaQRefIdeal.main_arg0) = m' ((c.tc : Thread Cert.CaQRefIdeal.nD Cert.CaQRefIdeal.τ).loc Cert.CaQRefIdeal.main_arg0)
          ∧ r.2.mem ((c.tc : Thread Cert.CaQRefIdeal.nD Cert.CaQRefIdeal.τ).loc Cert.CaQRefIdeal.main_arg1) = m' ((c.tc : Thread Cert.CaQRefIdeal.nD Cert.CaQRefIdeal.τ).loc Cert.CaQRefIdeal.main_arg1))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)) →
    ∃ (v0 : (c : Dev Cert.ConvBwdIdeal.nD) → Buf (Elt Ideal) ((c.tc : Thread Cert.ConvBwdIdeal.nD Cert.ConvBwdIdeal.τ).loc Cert.ConvBwdIdeal.main_v0)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0) = v0 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v47) = v0 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1))

def preserves_SwaBwd_SwaBwdIdeal : Prop :=
  True

def algebraic_SwaBwdIdeal_SwaBwdRefIdeal_pre_finite_window [hSwaBwdIdeal : Cert.SwaBwdIdeal.Facts] [hSwaBwdRefIdeal : Cert.SwaBwdRefIdeal.Facts] [hPre_finite_window : Cert.Pre_finite_window.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg)
    (m' : (ℓ : Loc Cert.SwaBwdRefIdeal.nD Cert.SwaBwdRefIdeal.τ Cert.SwaBwdRefIdeal.sig) → Buf (Elt Ideal) ℓ) (g' : Dev Cert.SwaBwdRefIdeal.nD → PrngReg), Pre_SwaBwdIdeal_finite_window m →
    (∀ c : Dev Cert.SwaBwdIdeal.nD,
      m' ((c.tc : Thread Cert.SwaBwdRefIdeal.nD Cert.SwaBwdRefIdeal.τ).loc Cert.SwaBwdRefIdeal.main_arg0) = m ((c.tc : Thread Cert.SwaBwdIdeal.nD Cert.SwaBwdIdeal.τ).loc Cert.SwaBwdIdeal.main_arg0)
      ∧ m' ((c.tc : Thread Cert.SwaBwdRefIdeal.nD Cert.SwaBwdRefIdeal.τ).loc Cert.SwaBwdRefIdeal.main_arg1) = m ((c.tc : Thread Cert.SwaBwdIdeal.nD Cert.SwaBwdIdeal.τ).loc Cert.SwaBwdIdeal.main_arg1)
      ∧ m' ((c.tc : Thread Cert.SwaBwdRefIdeal.nD Cert.SwaBwdRefIdeal.τ).loc Cert.SwaBwdRefIdeal.main_arg2) = m ((c.tc : Thread Cert.SwaBwdIdeal.nD Cert.SwaBwdIdeal.τ).loc Cert.SwaBwdIdeal.main_arg2)) →
    ∃ (v0 : (c : Dev Cert.SwaBwdIdeal.nD) → Buf (Elt Ideal) ((c.tc : Thread Cert.SwaBwdIdeal.nD Cert.SwaBwdIdeal.τ).loc Cert.SwaBwdIdeal.main_v59_0)) (v1 : (c : Dev Cert.SwaBwdIdeal.nD) → Buf (Elt Ideal) ((c.tc : Thread Cert.SwaBwdIdeal.nD Cert.SwaBwdIdeal.τ).loc Cert.SwaBwdIdeal.main_v59_1)) (v2 : (c : Dev Cert.SwaBwdIdeal.nD) → Buf (Elt Ideal) ((c.tc : Thread Cert.SwaBwdIdeal.nD Cert.SwaBwdIdeal.τ).loc Cert.SwaBwdIdeal.main_v59_2)) (v3 : (c : Dev Cert.SwaBwdIdeal.nD) → Buf (Elt Ideal) ((c.tc : Thread Cert.SwaBwdIdeal.nD Cert.SwaBwdIdeal.τ).loc Cert.SwaBwdIdeal.main_v59_3)) (v4 : (c : Dev Cert.SwaBwdIdeal.nD) → Buf (Elt Ideal) ((c.tc : Thread Cert.SwaBwdIdeal.nD Cert.SwaBwdIdeal.τ).loc Cert.SwaBwdIdeal.main_v59_4)) (v5 : (c : Dev Cert.SwaBwdIdeal.nD) → Buf (Elt Ideal) ((c.tc : Thread Cert.SwaBwdIdeal.nD Cert.SwaBwdIdeal.τ).loc Cert.SwaBwdIdeal.main_v59_5)),
      θ_run (Cert.SwaBwdIdeal.defs (F := Ideal)) (onTc (τ := Cert.SwaBwdIdeal.τ) (Cert.SwaBwdIdeal.main (F := Ideal))) ⟨m, fun _ => 0, g⟩ (fun r => ∀ c : Dev Cert.SwaBwdIdeal.nD,
          r.2.mem ((c.tc : Thread Cert.SwaBwdIdeal.nD Cert.SwaBwdIdeal.τ).loc Cert.SwaBwdIdeal.main_v59_0) = v0 c
          ∧ r.2.mem ((c.tc : Thread Cert.SwaBwdIdeal.nD Cert.SwaBwdIdeal.τ).loc Cert.SwaBwdIdeal.main_v59_1) = v1 c
          ∧ r.2.mem ((c.tc : Thread Cert.SwaBwdIdeal.nD Cert.SwaBwdIdeal.τ).loc Cert.SwaBwdIdeal.main_v59_2) = v2 c
          ∧ r.2.mem ((c.tc : Thread Cert.SwaBwdIdeal.nD Cert.SwaBwdIdeal.τ).loc Cert.SwaBwdIdeal.main_v59_3) = v3 c
          ∧ r.2.mem ((c.tc : Thread Cert.SwaBwdIdeal.nD Cert.SwaBwdIdeal.τ).loc Cert.SwaBwdIdeal.main_v59_4) = v4 c
          ∧ r.2.mem ((c.tc : Thread Cert.SwaBwdIdeal.nD Cert.SwaBwdIdeal.τ).loc Cert.SwaBwdIdeal.main_v59_5) = v5 c
          ∧ r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
          ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
          ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2))
      ∧ θ_run (Cert.SwaBwdRefIdeal.defs (F := Ideal)) (onTc (τ := Cert.SwaBwdRefIdeal.τ) (Cert.SwaBwdRefIdeal.main (F := Ideal))) ⟨m', fun _ => 0, g'⟩ (fun r => ∀ c : Dev Cert.SwaBwdRefIdeal.nD,
          r.2.mem ((c.tc : Thread Cert.SwaBwdRefIdeal.nD Cert.SwaBwdRefIdeal.τ).loc Cert.SwaBwdRefIdeal.main_v120) = v0 c
          ∧ r.2.mem ((c.tc : Thread Cert.SwaBwdRefIdeal.nD Cert.SwaBwdRefIdeal.τ).loc Cert.SwaBwdRefIdeal.main_v122) = v1 c
          ∧ r.2.mem ((c.tc : Thread Cert.SwaBwdRefIdeal.nD Cert.SwaBwdRefIdeal.τ).loc Cert.SwaBwdRefIdeal.main_v124) = v2 c
          ∧ r.2.mem ((c.tc : Thread Cert.SwaBwdRefIdeal.nD Cert.SwaBwdRefIdeal.τ).loc Cert.SwaBwdRefIdeal.main_v126) = v3 c
          ∧ r.2.mem ((c.tc : Thread Cert.SwaBwdRefIdeal.nD Cert.SwaBwdRefIdeal.τ).loc Cert.SwaBwdRefIdeal.main_v128) = v4 c
          ∧ r.2.mem ((c.tc : Thread Cert.SwaBwdRefIdeal.nD Cert.SwaBwdRefIdeal.τ).loc Cert.SwaBwdRefIdeal.main_v110) = v5 c
          ∧ r.2.mem ((c.tc : Thread Cert.SwaBwdRefIdeal.nD Cert.SwaBwdRefIdeal.τ).loc Cert.SwaBwdRefIdeal.main_arg0) = m' ((c.tc : Thread Cert.SwaBwdRefIdeal.nD Cert.SwaBwdRefIdeal.τ).loc Cert.SwaBwdRefIdeal.main_arg0)
          ∧ r.2.mem ((c.tc : Thread Cert.SwaBwdRefIdeal.nD Cert.SwaBwdRefIdeal.τ).loc Cert.SwaBwdRefIdeal.main_arg1) = m' ((c.tc : Thread Cert.SwaBwdRefIdeal.nD Cert.SwaBwdRefIdeal.τ).loc Cert.SwaBwdRefIdeal.main_arg1)
          ∧ r.2.mem ((c.tc : Thread Cert.SwaBwdRefIdeal.nD Cert.SwaBwdRefIdeal.τ).loc Cert.SwaBwdRefIdeal.main_arg2) = m' ((c.tc : Thread Cert.SwaBwdRefIdeal.nD Cert.SwaBwdRefIdeal.τ).loc Cert.SwaBwdRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)) (v2 : (c : Dev Cert.FfnDownIdeal.nD) → Buf (Elt Ideal) ((c.tc : Thread Cert.FfnDownIdeal.nD Cert.FfnDownIdeal.τ).loc Cert.FfnDownIdeal.main_v0_2)) (v3 : (c : Dev Cert.FfnDownIdeal.nD) → Buf (Elt Ideal) ((c.tc : Thread Cert.FfnDownIdeal.nD Cert.FfnDownIdeal.τ).loc Cert.FfnDownIdeal.main_v0_3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_v0_2) = v2 c
          ∧ r.2.mem ((c.tc : Thread Cert.FfnDownIdeal.nD Cert.FfnDownIdeal.τ).loc Cert.FfnDownIdeal.main_v0_3) = v3 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v35) = v0 c
          ∧ r.2.mem ((c.tc : Thread Cert.FfnDownRefIdeal.nD Cert.FfnDownRefIdeal.τ).loc Cert.FfnDownRefIdeal.main_v56) = v1 c
          ∧ r.2.mem ((c.tc : Thread Cert.FfnDownRefIdeal.nD Cert.FfnDownRefIdeal.τ).loc Cert.FfnDownRefIdeal.main_v57) = v2 c
          ∧ r.2.mem ((c.tc : Thread Cert.FfnDownRefIdeal.nD Cert.FfnDownRefIdeal.τ).loc Cert.FfnDownRefIdeal.main_v58) = v3 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4))

def Claim : Prop :=
  ∃ (hKernel : Cert.Kernel.Facts) (hKernelIdeal : Cert.KernelIdeal.Facts) (hReferenceIdeal : Cert.ReferenceIdeal.Facts) (hUpDw : Cert.UpDw.Facts) (hUpDwIdeal : Cert.UpDwIdeal.Facts) (hUpDwRefIdeal : Cert.UpDwRefIdeal.Facts) (hWideDw : Cert.WideDw.Facts) (hWideDwIdeal : Cert.WideDwIdeal.Facts) (hWideDwRefIdeal : Cert.WideDwRefIdeal.Facts) (hSquareDw : Cert.SquareDw.Facts) (hSquareDwIdeal : Cert.SquareDwIdeal.Facts) (hSquareDwRefIdeal : Cert.SquareDwRefIdeal.Facts) (hDownDx : Cert.DownDx.Facts) (hDownDxIdeal : Cert.DownDxIdeal.Facts) (hDownDxRefIdeal : Cert.DownDxRefIdeal.Facts) (hSquareDx : Cert.SquareDx.Facts) (hSquareDxIdeal : Cert.SquareDxIdeal.Facts) (hSquareDxRefIdeal : Cert.SquareDxRefIdeal.Facts) (hFfnUp : Cert.FfnUp.Facts) (hFfnUpIdeal : Cert.FfnUpIdeal.Facts) (hFfnUpRefIdeal : Cert.FfnUpRefIdeal.Facts) (hCaQ : Cert.CaQ.Facts) (hCaQIdeal : Cert.CaQIdeal.Facts) (hCaQRefIdeal : Cert.CaQRefIdeal.Facts) (hConvBwd : Cert.ConvBwd.Facts) (hConvBwdIdeal : Cert.ConvBwdIdeal.Facts) (hConvBwdRefIdeal : Cert.ConvBwdRefIdeal.Facts) (hSwaBwd : Cert.SwaBwd.Facts) (hSwaBwdIdeal : Cert.SwaBwdIdeal.Facts) (hSwaBwdRefIdeal : Cert.SwaBwdRefIdeal.Facts) (hFfnDown : Cert.FfnDown.Facts) (hFfnDownIdeal : Cert.FfnDownIdeal.Facts) (hFfnDownRefIdeal : Cert.FfnDownRefIdeal.Facts) (hPre_finite_scores : Cert.Pre_finite_scores.Facts) (hPre_finite_window : Cert.Pre_finite_window.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_WideDw (hWideDw := hWideDw)
    ∧ quiescent_WideDwIdeal (hWideDwIdeal := hWideDwIdeal)
    ∧ quiescent_WideDwRefIdeal (hWideDwRefIdeal := hWideDwRefIdeal)
    ∧ quiescent_SquareDw (hSquareDw := hSquareDw)
    ∧ quiescent_SquareDwIdeal (hSquareDwIdeal := hSquareDwIdeal)
    ∧ quiescent_SquareDwRefIdeal (hSquareDwRefIdeal := hSquareDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_SquareDx (hSquareDx := hSquareDx)
    ∧ quiescent_SquareDxIdeal (hSquareDxIdeal := hSquareDxIdeal)
    ∧ quiescent_SquareDxRefIdeal (hSquareDxRefIdeal := hSquareDxRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_CaQ (hCaQ := hCaQ)
    ∧ quiescent_CaQIdeal (hCaQIdeal := hCaQIdeal)
    ∧ quiescent_CaQRefIdeal (hCaQRefIdeal := hCaQRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_SwaBwd (hSwaBwd := hSwaBwd)
    ∧ quiescent_SwaBwdIdeal (hSwaBwdIdeal := hSwaBwdIdeal)
    ∧ quiescent_SwaBwdIdeal_pre_finite_window (hSwaBwdIdeal := hSwaBwdIdeal) (hPre_finite_window := hPre_finite_window)
    ∧ quiescent_SwaBwdRefIdeal (hSwaBwdRefIdeal := hSwaBwdRefIdeal)
    ∧ quiescent_SwaBwdRefIdeal_pre_finite_window (hSwaBwdRefIdeal := hSwaBwdRefIdeal) (hPre_finite_window := hPre_finite_window)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_UpDw_UpDwIdeal
    ∧ algebraic_UpDwIdeal_UpDwRefIdeal (hUpDwIdeal := hUpDwIdeal) (hUpDwRefIdeal := hUpDwRefIdeal)
    ∧ preserves_WideDw_WideDwIdeal
    ∧ algebraic_WideDwIdeal_WideDwRefIdeal (hWideDwIdeal := hWideDwIdeal) (hWideDwRefIdeal := hWideDwRefIdeal)
    ∧ preserves_SquareDw_SquareDwIdeal
    ∧ algebraic_SquareDwIdeal_SquareDwRefIdeal (hSquareDwIdeal := hSquareDwIdeal) (hSquareDwRefIdeal := hSquareDwRefIdeal)
    ∧ preserves_DownDx_DownDxIdeal
    ∧ algebraic_DownDxIdeal_DownDxRefIdeal (hDownDxIdeal := hDownDxIdeal) (hDownDxRefIdeal := hDownDxRefIdeal)
    ∧ preserves_SquareDx_SquareDxIdeal
    ∧ algebraic_SquareDxIdeal_SquareDxRefIdeal (hSquareDxIdeal := hSquareDxIdeal) (hSquareDxRefIdeal := hSquareDxRefIdeal)
    ∧ preserves_FfnUp_FfnUpIdeal
    ∧ algebraic_FfnUpIdeal_FfnUpRefIdeal (hFfnUpIdeal := hFfnUpIdeal) (hFfnUpRefIdeal := hFfnUpRefIdeal)
    ∧ preserves_CaQ_CaQIdeal
    ∧ algebraic_CaQIdeal_CaQRefIdeal (hCaQIdeal := hCaQIdeal) (hCaQRefIdeal := hCaQRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_SwaBwd_SwaBwdIdeal
    ∧ algebraic_SwaBwdIdeal_SwaBwdRefIdeal_pre_finite_window (hSwaBwdIdeal := hSwaBwdIdeal) (hSwaBwdRefIdeal := hSwaBwdRefIdeal) (hPre_finite_window := hPre_finite_window)
    ∧ preserves_FfnDown_FfnDownIdeal
    ∧ algebraic_FfnDownIdeal_FfnDownRefIdeal (hFfnDownIdeal := hFfnDownIdeal) (hFfnDownRefIdeal := hFfnDownRefIdeal)
-- ==== Pre_finite_scores.lean ====
abbrev S8192x1024 : Shape := ⟨2, ![8192, 1024]⟩
abbrev S256x1024 : Shape := ⟨2, ![256, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S8192x1024 .bf16) (main_arg1 : FVec F S256x1024 .bf16) (main_arg2 : FVec F S256x1024 .bf16) (main_arg3 : FVec F S8192x1024 .bf16) : IVec S_ 1 :=
  let main_v0 : FVec F S8192x1024 .f32 := (extf .f32 · bitsLt_bf16_f32) main_arg0
  let main_v1 : FVec F S256x1024 .f32 := (extf .f32 · bitsLt_bf16_f32) main_arg1
  let main_v2 : FVec F S8192x1024 .f32 := Host.absf main_v0
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_c : IVec S_ 1 := constantI S_ 1 1#1
  let main_v5 : IVec S_ 1 := (fun x v => Host.reduce IntOp.andi x v reducesTo_S8192x1024_S_d0_1 h_S_) main_v4 main_c
  let main_v6 : FVec F S256x1024 .f32 := Host.absf main_v1
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  let main_c_1 : IVec S_ 1 := constantI S_ 1 1#1
  let main_v9 : IVec S_ 1 := (fun x v => Host.reduce IntOp.andi x v reducesTo_S256x1024_S_d0_1 h_S_) main_v8 main_c_1
  let main_v10 : IVec S_ 1 := andi main_v5 main_v9
  main_v10
-- ==== Pre_finite_window.lean ====
abbrev S8192x2816 : Shape := ⟨2, ![8192, 2816]⟩
abbrev S1x8 : Shape := ⟨2, ![1, 8]⟩
abbrev S8192x1024 : Shape := ⟨2, ![8192, 1024]⟩
abbrev S8192x768 : Shape := ⟨2, ![8192, 768]⟩
abbrev S8192x512 : Shape := ⟨2, ![8192, 512]⟩
abbrev S_ : Shape := ⟨0, ![]⟩

class Facts : Prop where
  slices_S8192x2816_S8192x768_0_0 : S8192x2816.Slices ![0, 0] S8192x768
  bitsLt_bf16_f32 : FTy.bits .bf16 < FTy.bits .f32
  slices_S8192x1024_S8192x512_0_0 : S8192x1024.Slices ![0, 0] S8192x512
  bcast_S_S8192x768 : S_.BroadcastsInDim S8192x768 (![] : Fin 0 → Fin S8192x768.rank)
  reducesTo_S8192x768_S_d0_1 : S8192x768.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x2816 .bf16) (main_arg1 : FVec F S1x8 .f32) (main_arg2 : FVec F S8192x1024 .bf16) : IVec S_ 1 :=
  let main_v0 : FVec F S8192x768 .bf16 := (extractStridedSlice S8192x768 ![0, 0] · slices_S8192x2816_S8192x768_0_0) main_arg0
  let main_v1 : FVec F S8192x768 .f32 := (extf .f32 · bitsLt_bf16_f32) main_v0
  let main_v2 : FVec F S8192x512 .bf16 := (extractStridedSlice S8192x512 ![0, 0] · slices_S8192x1024_S8192x512_0_0) main_arg2
  let main_v3 : FVec F S8192x512 .f32 := (extf .f32 · bitsLt_bf16_f32) main_v2
  let main_v4 : FVec F S8192x768 .f32 := Host.absf main_v1
  let main_cst : FVec F S_ .f32 := constant S_ .f32 0x7F800000#32
  let main_v5 : FVec F S8192x768 .f32 := broadcastInDim S8192x768 ![] bcast_S_S8192x768 main_cst
  let main_v6 : IVec S8192x768 1 := cmpf .olt main_v4 main_v5
  let main_c : IVec S_ 1 := constantI S_ 1 1#1
  let main_v7 : IVec S_ 1 := (fun x v => Host.reduce IntOp.andi x v reducesTo_S8192x768_S_d0_1 h_S_) main_v6 main_c
  let main_v8 : FVec F S1x8 .f32 := Host.absf main_arg1
  let main_cst_0 : FVec F S_ .f32 := constant S_ .f32 0x7F800000#32
  let main_v9 : FVec F S1x8 .f32 := broadcastInDim S1x8 ![] bcast_S_S1x8 main_cst_0
  let main_v10 : IVec S1x8 1 := cmpf .olt main_v8 main_v9
  let main_c_1 : IVec S_ 1 := constantI S_ 1 1#1
  let main_v11 : IVec S_ 1 := (fun x v => Host.reduce IntOp.andi x v reducesTo_S1x8_S_d0_1 h_S_) main_v10 main_c_1
  let main_v12 : IVec S_ 1 := andi main_v7 main_v11
  let main_v13 : FVec F S8192x512 .f32 := Host.absf main_v3
  let main_cst_2 : FVec F S_ .f32 := constant S_ .f32 0x7F800000#32
  let main_v14 : FVec F S8192x512 .f32 := broadcastInDim S8192x512 ![] bcast_S_S8192x512 main_cst_2
  let main_v15 : IVec S8192x512 1 := cmpf .olt main_v13 main_v14
  let main_c_3 : IVec S_ 1 := constantI S_ 1 1#1
  let main_v16 : IVec S_ 1 := (fun x v => Host.reduce IntOp.andi x v reducesTo_S8192x512_S_d0_1 h_S_) main_v15 main_c_3
  let main_v17 : IVec S_ 1 := andi main_v12 main_v16
  main_v17
-- ==== Kernel.lean ====
abbrev S8192x1024 : Shape := ⟨2, ![8192, 1024]⟩
abbrev S256x1024 : Shape := ⟨2, ![256, 1024]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .hbm, ⟨4, _⟩ => ⟨S8192x1024, .bf16⟩
  | .hbm, ⟨5, _⟩ => ⟨S256x1024, .f32⟩
  | .hbm, ⟨6, _⟩ => ⟨S256x1024, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .hbm, ⟨4, _⟩ => ⟨S8192x1024, .f32⟩
  | .hbm, ⟨5, _⟩ => ⟨S256x1024, .f32⟩
  | .hbm, ⟨6, _⟩ => ⟨S256x1024, .f32⟩
  | .hbm, ⟨7, _⟩ => ⟨S8192x4x256, .f32⟩
  | .hbm, ⟨8, _⟩ => ⟨S256x4x256, .f32⟩
  | .hbm, ⟨9, _⟩ => ⟨S256x4x256, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .i1⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S4x8192x256, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x256x8192, .f32⟩
  | .hbm, ⟨53, _⟩ => ⟨S8192x4x256, .f32⟩
  | .hbm, ⟨54, _⟩ => ⟨S8192x1024, .f32⟩
  | .hbm, ⟨55, _⟩ => ⟨S8192x1024, .f32⟩
  | .hbm, ⟨56, _⟩ => ⟨S8192x4x256, .f32⟩
  | .hbm, ⟨57, _⟩ => ⟨S4x256x8192, .f32⟩
  | .hbm, ⟨58, _⟩ => ⟨S4x8192x256, .f32⟩
  | .hbm, ⟨59, _⟩ => ⟨S4x256x256, .f32⟩
  | .hbm, ⟨60, _⟩ => ⟨S256x4x256, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x256, .f32⟩
  | .hbm, ⟨79, _⟩ => ⟨S256x4x256, .f32⟩
  | .hbm, ⟨80, _⟩ => ⟨S4x8192x256, .f32⟩
  | .hbm, ⟨81, _⟩ => ⟨S8192x4x256, .f32⟩
  | .hbm, ⟨82, _⟩ => ⟨S256x1024, .f32⟩
  | .hbm, ⟨83, _⟩ => ⟨S256x1024, .f32⟩
  | .hbm, ⟨84, _⟩ => ⟨S8192x1024, .f32⟩
  | .hbm, ⟨85, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== UpDw.lean ====
abbrev S2x8192x2816 : Shape := ⟨3, ![2, 8192, 2816]⟩
abbrev S8192x1024 : Shape := ⟨2, ![8192, 1024]⟩
abbrev S5632x1024 : Shape := ⟨2, ![5632, 1024]⟩
abbrev S1x1024x2816 : Shape := ⟨3, ![1, 1024, 2816]⟩
abbrev S1024x1024 : Shape := ⟨2, ![1024, 1024]⟩
abbrev S2816x1024 : Shape := ⟨2, ![2816, 1024]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S8192x1024, .bf16⟩
  | .hbm, ⟨2, _⟩ => ⟨S5632x1024, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2x8192x2816 : Shape := ⟨3, ![2, 8192, 2816]⟩
abbrev S8192x1024 : Shape := ⟨2, ![8192, 1024]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S8192x1024, .bf16⟩
  | .hbm, ⟨2, _⟩ => ⟨S1x8192x2816, .bf16⟩
  | .hbm, ⟨3, _⟩ => ⟨S8192x2816, .bf16⟩
  | .hbm, ⟨4, _⟩ => ⟨S1x8192x2816, .bf16⟩
  | .hbm, ⟨5, _⟩ => ⟨S8192x2816, .bf16⟩
  | .hbm, ⟨6, _⟩ => ⟨S8192x5632, .bf16⟩
  | .hbm, ⟨7, _⟩ => ⟨S8192x5632, .f32⟩
  | .hbm, ⟨8, _⟩ => ⟨S8192x1024, .f32⟩
  | .hbm, ⟨9, _⟩ => ⟨S_, .f32⟩
  | .hbm, ⟨10, _⟩ => ⟨S1024x5632, .f32⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S5632x1024, .f32⟩
  | .hbm, ⟨15, _⟩ => ⟨S5632x1024, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== WideDw.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WideDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SquareDw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SquareDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .f32⟩
  | .local _ .vmem, ⟨4, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x1024, .f32⟩
  | .hbm, ⟨3, _⟩ => ⟨S2816x1024, .f32⟩
  | .hbm, ⟨4, _⟩ => ⟨S_, .f32⟩
  | .hbm, ⟨5, _⟩ => ⟨S8192x2816, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SquareDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnUp.lean ====
abbrev S8192x1024 : Shape := ⟨2, ![8192, 1024]⟩
abbrev S5632x1024 : Shape := ⟨2, ![5632, 1024]⟩
abbrev S2x8192x2816 : Shape := ⟨3, ![2, 8192, 2816]⟩
abbrev S1024x1024 : Shape := ⟨2, ![1024, 1024]⟩
abbrev S2816x1024 : Shape := ⟨2, ![2816, 1024]⟩
abbrev S1x1024x2816 : Shape := ⟨3, ![1, 1024, 2816]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S2x8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1x1024x2816, .f32⟩
  | .local _ .vmem, ⟨5, _⟩ => ⟨S1x1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S1024x5632, .bf16⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S1x8192x2816, .f32⟩
  | .hbm, ⟨9, _⟩ => ⟨S1x8192x2816, .f32⟩
  | .hbm, ⟨10, _⟩ => ⟨S2x8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== CaQ.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CaQRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ConvBwd.lean ====
abbrev S2x8192x2816 : Shape := ⟨3, ![2, 8192, 2816]⟩
abbrev S3x5632 : Shape := ⟨2, ![3, 5632]⟩
abbrev S2x512x1408 : Shape := ⟨3, ![2, 512, 1408]⟩
abbrev S2x8x1408 : Shape := ⟨3, ![2, 8, 1408]⟩
abbrev S3x1408 : Shape := ⟨2, ![3, 1408]⟩
abbrev S512x1 : Shape := ⟨2, ![512, 1]⟩
abbrev S1x512x1408 : Shape := ⟨3, ![1, 512, 1408]⟩
abbrev S512x1408 : Shape := ⟨2, ![512, 1408]⟩
abbrev S1x8x1408 : Shape := ⟨3, ![1, 8, 1408]⟩
abbrev S8x1408 : Shape := ⟨2, ![8, 1408]⟩
abbrev S1x1408 : Shape := ⟨2, ![1, 1408]⟩

abbrev nBuf : Space → Nat
  | .hbm => 3
  | .vmem => 10
  | .smem => 0
  | _ => 0

abbrev bufTy : (tb : Table) → Fin (tcTables nBuf tb) → BufTy
  | .hbm, ⟨0, _⟩ => ⟨S2x8192x2816, .f32⟩
  | .hbm, ⟨1, _⟩ => ⟨S3x5632, .f32⟩
  | .hbm, ⟨2, _⟩ => ⟨S2x8192x2816, .bf16⟩
  | .local _ .vmem, ⟨0, _⟩ => ⟨S2x512x1408, .f32⟩
  | .local _ .vmem, ⟨1, _⟩ => ⟨S2x512x1408, .f32⟩
  | .local _ .vmem, ⟨2, _⟩ => ⟨S2x8x1408, .f32⟩
  | .local _ .vmem, ⟨3, _⟩ => ⟨S2x8x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | .local _ .vmem, ⟨8, _⟩ => ⟨S2x512x1408, .bf16⟩
  | .local _ .vmem, ⟨9, _⟩ => ⟨S2x512x1408, .bf16⟩
  | _, _ => ⟨S2x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![c0_i32.toNat, v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S2x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvBwdRefIdeal.lean ====
abbrev S2x8192x2816 : Shape := ⟨3, ![2, 8192, 2816]⟩
abbrev S3x5632 : Shape := ⟨2, ![3, 5632]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x2816, .f32⟩
  | .hbm, ⟨1, _⟩ => ⟨S3x5632, .f32⟩
  | .hbm, ⟨2, _⟩ => ⟨S1x8192x2816, .f32⟩
  | .hbm, ⟨3, _⟩ => ⟨S8192x2816, .f32⟩
  | .hbm, ⟨4, _⟩ => ⟨S1x8192x2816, .f32⟩
  | .hbm, ⟨5, _⟩ => ⟨S8192x2816, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S_, .f32⟩
  | .hbm, ⟨10, _⟩ => ⟨S2x5632, .f32⟩
  | .hbm, ⟨11, _⟩ => ⟨S8194x5632, .f32⟩
  | .hbm, ⟨12, _⟩ => ⟨S_, .f32⟩
  | .hbm, ⟨13, _⟩ => ⟨S2x5632, .f32⟩
  | .hbm, ⟨14, _⟩ => ⟨S8192x5632, .f32⟩
  | .hbm, ⟨15, _⟩ => ⟨S1x5632, .f32⟩
  | .hbm, ⟨16, _⟩ => ⟨S5632, .f32⟩
  | .hbm, ⟨17, _⟩ => ⟨S1x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8194x5632, .f32⟩
  | .hbm, ⟨38, _⟩ => ⟨S8192x5632, .f32⟩
  | .hbm, ⟨39, _⟩ => ⟨S8192x5632, .f32⟩
  | .hbm, ⟨40, _⟩ => ⟨S_, .f32⟩
  | .hbm, ⟨41, _⟩ => ⟨S8194x5632, .f32⟩
  | .hbm, ⟨42, _⟩ => ⟨S8194x5632, .f32⟩
  | .hbm, ⟨43, _⟩ => ⟨S8192x5632, .f32⟩
  | .hbm, ⟨44, _⟩ => ⟨S8192x5632, .f32⟩
  | .hbm, ⟨45, _⟩ => ⟨S_, .f32⟩
  | .hbm, ⟨46, _⟩ => ⟨S8194x5632, .f32⟩
  | .hbm, ⟨47, _⟩ => ⟨S8194x5632, .f32⟩
  | .hbm, ⟨48, _⟩ => ⟨S2x5632, .f32⟩
  | .hbm, ⟨49, _⟩ => ⟨S8192x5632, .f32⟩
  | .hbm, ⟨50, _⟩ => ⟨S8192x2816, .f32⟩
  | .hbm, ⟨51, _⟩ => ⟨S8192x2816, .f32⟩
  | .hbm, ⟨52, _⟩ => ⟨S1x8192x2816, .f32⟩
  | .hbm, ⟨53, _⟩ => ⟨S1x8192x2816, .f32⟩
  | .hbm, ⟨54, _⟩ => ⟨S2x8192x2816, .f32⟩
  | .hbm, ⟨55, _⟩ => ⟨S2x8192x2816, .bf16⟩
  | _, _ => ⟨S2x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_4 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩

abbrev nD : Nat := 1
abbrev τ : Topo := Topo.v7x

variable {F : FTy → Type} [FloatOps F]
-- ==== SwaBwd.lean ====
abbrev S8192x2816 : Shape := ⟨2, ![8192, 2816]⟩
abbrev S1x8 : Shape := ⟨2, ![1, 8]⟩
abbrev S8192x1024 : Shape := ⟨2, ![8192, 1024]⟩
abbrev S8192x512 : Shape := ⟨2, ![8192, 512]⟩
abbrev S8192x128 : Shape := ⟨2, ![8192, 128]⟩
abbrev S64x128x2x64 : Shape := ⟨4, ![64, 128, 2, 64]⟩
abbrev S_ : Shape := ⟨0, ![]⟩
abbrev S65x128x2x64 : Shape := ⟨4, ![65, 128, 2, 64]⟩
abbrev S64x256x2x64 : Shape := ⟨4, ![64, 256, 2, 64]⟩
abbrev S64x128x2x4x64 : Shape := ⟨5, ![64, 128, 2, 4, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S2x4 : Shape := ⟨2, ![2, 4]⟩
abbrev S1x2x4x1x1 : Shape := ⟨5, ![1, 2, 4, 1, 1]⟩
abbrev S64x2x4x128x1 : Shape := ⟨5, ![64, 2, 4, 128, 1]⟩
abbrev S64x2x4x128x257 : Shape := ⟨5, ![64, 2, 4, 128, 257]⟩
abbrev S64x2x4x128 : Shape := ⟨4, ![64, 2, 4, 128]⟩
abbrev S64x128x2x4 : Shape := ⟨4, ![64, 128, 2, 4]⟩
abbrev S8192x8 : Shape := ⟨2, ![8192, 8]⟩
abbrev S128x512 : Shape := ⟨2, ![128, 512]⟩
abbrev S128x128 : Shape := ⟨2, ![128, 128]⟩
abbrev S128x8 : Shape := ⟨2, ![128, 8]⟩
abbrev S512x256 : Shape := ⟨2, ![512, 256]⟩
abbrev S128x64 : Shape := ⟨2, ![128, 64]⟩
abbrev S256x64 : Shape := ⟨2, ![256, 64]⟩
abbrev S512x64 : Shape := ⟨2, ![512, 64]⟩
abbrev S512x1 : Shape := ⟨2, ![512, 1]⟩
abbrev S512 : Shape := ⟨1, ![512]⟩
abbrev S1x1 : Shape := ⟨2, ![1, 1]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 83
  | .vmem => 25
  | .smem => 1
  | _ => 0

abbrev bufTy : (tb : Table) → Fin (tcTables nBuf tb) → BufTy
  | .hbm, ⟨0, _⟩ => ⟨S8192x2816, .bf16⟩
  | .hbm, ⟨1, _⟩ => ⟨S1x8, .f32⟩
  | .hbm, ⟨2, _⟩ => ⟨S8192x1024, .bf16⟩
  | .hbm, ⟨3, _⟩ => ⟨S8192x2816, .f32⟩
  | .hbm, ⟨4, _⟩ => ⟨S8192x512, .f32⟩
  | .hbm, ⟨5, _⟩ => ⟨S8192x128, .f32⟩
  | .hbm, ⟨6, _⟩ => ⟨S8192x128, .f32⟩
  | .hbm, ⟨7, _⟩ => ⟨S64x128x2x64, .f32⟩
  | .hbm, ⟨8, _⟩ => ⟨S_, .i32⟩
  | .hbm, ⟨9, _⟩ => ⟨S_, .f32⟩
  | .hbm, ⟨10, _⟩ => ⟨S65x128x2x64, .f32⟩
  | .hbm, ⟨11, _⟩ => ⟨S64x128x2x64, .f32⟩
  | .hbm, ⟨12, _⟩ => ⟨S64x256x2x64, .f32⟩
  | .hbm, ⟨13, _⟩ => ⟨S64x128x2x4x64, .f32⟩
  | .hbm, ⟨14, _⟩ => ⟨S64x2x256x128x4, .f32⟩
  | .hbm, ⟨15, _⟩ => ⟨S64x2x4x128x256, .f32⟩
  | .hbm, ⟨16, _⟩ => ⟨S_, .f32⟩
  | .hbm, ⟨17, _⟩ => ⟨S64x2x4x128x256, .f32⟩
  | .hbm, ⟨18, _⟩ => ⟨S64x2x4x128x256, .f32⟩
  | .hbm, ⟨19, _⟩ => ⟨S128, .i32⟩
  | .hbm, ⟨20, _⟩ => ⟨S128x1, .i32⟩
  | .hbm, ⟨21, _⟩ => ⟨S256, .i32⟩
  | .hbm, ⟨22, _⟩ => ⟨S1x256, .i32⟩
  | .hbm, ⟨23, _⟩ => ⟨S_, .i32⟩
  | .hbm, ⟨24, _⟩ => ⟨S128x1, .i32⟩
  | .hbm, ⟨25, _⟩ => ⟨S128x1, .i32⟩
  | .hbm, ⟨26, _⟩ => ⟨S128x256, .i32⟩
  | .hbm, ⟨27, _⟩ => ⟨S128x256, .i32⟩
  | .hbm, ⟨28, _⟩ => ⟨S128x256, .i32⟩
  | .hbm, ⟨29, _⟩ => ⟨S64, .i32⟩
  | .hbm, ⟨30, _⟩ => ⟨S64x1x1, .i32⟩
  | .hbm, ⟨31, _⟩ => ⟨S_, .i32⟩
  | .hbm, ⟨32, _⟩ => ⟨S64x1x1, .i32⟩
  | .hbm, ⟨33, _⟩ => ⟨S64x1x1, .i32⟩
  | .hbm, ⟨34, _⟩ => ⟨S_, .i32⟩
  | .hbm, ⟨35, _⟩ => ⟨S64x1x1, .i32⟩
  | .hbm, ⟨36, _⟩ => ⟨S64x1x1, .i32⟩
  | .hbm, ⟨37, _⟩ => ⟨S1x1x256, .i32⟩
  | .hbm, ⟨38, _⟩ => ⟨S64x1x256, .i32⟩
  | .hbm, ⟨39, _⟩ => ⟨S64x1x256, .i32⟩
  | .hbm, ⟨40, _⟩ => ⟨S64x1x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i1⟩
  | .hbm, ⟨48, _⟩ => ⟨S_, .i32⟩
  | .hbm, ⟨49, _⟩ => ⟨S64x1x256, .i32⟩
  | .hbm, ⟨50, _⟩ => ⟨S64x1x256, .i1⟩
  | .hbm, ⟨51, _⟩ => ⟨S1x128x256, .i1⟩
  | .hbm, ⟨52, _⟩ => ⟨S64x128x256, .i1⟩
  | .hbm, ⟨53, _⟩ => ⟨S64x128x256, .i1⟩
  | .hbm, ⟨54, _⟩ => ⟨S64x128x256, .i1⟩
  | .hbm, ⟨55, _⟩ => ⟨S64x1x1x128x256, .i1⟩
  | .hbm, ⟨56, _⟩ => ⟨S_, .f32⟩
  | .hbm, ⟨57, _⟩ => ⟨S_, .f32⟩
  | .hbm, ⟨58, _⟩ => ⟨S64x2x4x128x256, .i1⟩
  | .hbm, ⟨59, _⟩ => ⟨S64x2x4x128x256, .f32⟩
  | .hbm, ⟨60, _⟩ => ⟨S64x2x4x128x256, .f32⟩
  | .hbm, ⟨61, _⟩ => ⟨S2x4, .f32⟩
  | .hbm, ⟨62, _⟩ => ⟨S1x2x4x1x1, .f32⟩
  | .hbm, ⟨63, _⟩ => ⟨S64x2x4x128x1, .f32⟩
  | .hbm, ⟨64, _⟩ => ⟨S64x2x4x128x257, .f32⟩
  | .hbm, ⟨65, _⟩ => ⟨S_, .f32⟩
  | .hbm, ⟨66, _⟩ => ⟨S64x2x4x128, .f32⟩
  | .hbm, ⟨67, _⟩ => ⟨S64x2x4x128x1, .f32⟩
  | .hbm, ⟨68, _⟩ => ⟨S64x2x4x128x257, .f32⟩
  | .hbm, ⟨69, _⟩ => ⟨S64x2x4x128x257, .f32⟩
  | .hbm, ⟨70, _⟩ => ⟨S64x2x4x128x257, .f32⟩
  | .hbm, ⟨71, _⟩ => ⟨S_, .f32⟩
  | .hbm, ⟨72, _⟩ => ⟨S64x2x4x128, .f32⟩
  | .hbm, ⟨73, _⟩ => ⟨S64x2x4x128, .f32⟩
  | .hbm, ⟨74, _⟩ => ⟨S64x2x4x128, .f32⟩
  | .hbm, ⟨75, _⟩ => ⟨S64x128x2x4, .f32⟩
  | .hbm, ⟨76, _⟩ => ⟨S8192x8, .f32⟩
  | .hbm, ⟨77, _⟩ => ⟨S8192x512, .bf16⟩
  | .hbm, ⟨78, _⟩ => ⟨S8192x128, .f32⟩
  | .hbm, ⟨79, _⟩ => ⟨S8192x128, .f32⟩
  | .hbm, ⟨80, _⟩ => ⟨S8192x128, .f32⟩
  | .hbm, ⟨81, _⟩ => ⟨S8192x128, .f32⟩
  | .hbm, ⟨82, _⟩ => ⟨S1x8, .f32⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x512, .bf16⟩
  | .local _ .vmem, ⟨11, _⟩ => ⟨S128x512, .bf16⟩
  | .local _ .vmem, ⟨12, _⟩ => ⟨S128x8, .f32⟩
  | .local _ .vmem, ⟨13, _⟩ => ⟨S128x8, .f32⟩
  | .local _ .vmem, ⟨14, _⟩ => ⟨S128x512, .bf16⟩
  | .local _ .vmem, ⟨15, _⟩ => ⟨S128x512, .bf16⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S1x8, .f32⟩
  | .local _ .smem, ⟨0, _⟩ => ⟨S1x8, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59_0 : Ref sig .tc := ⟨.hbm, 77, rfl⟩
abbrev main_v59_1 : Ref sig .tc := ⟨.hbm, 78, rfl⟩
abbrev main_v59_2 : Ref sig .tc := ⟨.hbm, 79, rfl⟩
abbrev main_v59_3 : Ref sig .tc := ⟨.hbm, 80, rfl⟩
abbrev main_v59_4 : Ref sig .tc := ⟨.hbm, 81, rfl⟩
abbrev main_v59_5 : Ref sig .tc := ⟨.hbm, 82, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== SwaBwdRefIdeal.lean ====
abbrev S8192x2816 : Shape := ⟨2, ![8192, 2816]⟩
abbrev S1x8 : Shape := ⟨2, ![1, 8]⟩
abbrev S8192x1024 : Shape := ⟨2, ![8192, 1024]⟩
abbrev S8192x512 : Shape := ⟨2, ![8192, 512]⟩
abbrev S8192x128 : Shape := ⟨2, ![8192, 128]⟩
abbrev S64x128x2x64 : Shape := ⟨4, ![64, 128, 2, 64]⟩
abbrev S_ : Shape := ⟨0, ![]⟩
abbrev S65x128x2x64 : Shape := ⟨4, ![65, 128, 2, 64]⟩
abbrev S64x256x2x64 : Shape := ⟨4, ![64, 256, 2, 64]⟩
abbrev S64x128x2x4x64 : Shape := ⟨5, ![64, 128, 2, 4, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S2x4 : Shape := ⟨2, ![2, 4]⟩
abbrev S1x2x4x1x1 : Shape := ⟨5, ![1, 2, 4, 1, 1]⟩
abbrev S64x2x4x128x1 : Shape := ⟨5, ![64, 2, 4, 128, 1]⟩
abbrev S64x2x4x128x257 : Shape := ⟨5, ![64, 2, 4, 128, 257]⟩
abbrev S64x2x4x128 : Shape := ⟨4, ![64, 2, 4, 128]⟩
abbrev S64x2x64x4x128 : Shape := ⟨5, ![64, 2, 64, 4, 128]⟩
abbrev S64x2x64x256 : Shape := ⟨4, ![64, 2, 64, 256]⟩
abbrev S64x2x128x4x64 : Shape := ⟨5, ![64, 2, 128, 4, 64]⟩
abbrev S64x2x256x64 : Shape := ⟨4, ![64, 2, 256, 64]⟩

abbrev nBuf : Space → Nat
  | .hbm => 167
  | .vmem => 0
  | .smem => 0
  | _ => 0

abbrev hbmTy0_0 (i : Nat) : BufTy := match i % 128 with
  | 0 => ⟨S8192x2816, .bf16⟩
  | 1 => ⟨S1x8, .f32⟩
  | 2 => ⟨S8192x1024, .bf16⟩
  | 3 => ⟨S8192x2816, .f32⟩
  | 4 => ⟨S8192x512, .f32⟩
  | 5 => ⟨S8192x128, .f32⟩
  | 6 => ⟨S8192x128, .f32⟩
  | 7 => ⟨S8192x512, .bf16⟩
  | 8 => ⟨S8192x512, .f32⟩
  | 9 => ⟨S64x128x2x64, .f32⟩
  | 10 => ⟨S_, .i32⟩
  | 11 => ⟨S_, .f32⟩
  | 12 => ⟨S65x128x2x64, .f32⟩
  | 13 => ⟨S64x128x2x64, .f32⟩
  | 14 => ⟨S64x256x2x64, .f32⟩
  | 15 => ⟨S64x128x2x64, .f32⟩
  | 16 => ⟨S_, .i32⟩
  | 17 => ⟨S_, .f32⟩
  | 18 => ⟨S65x128x2x64, .f32⟩
  | 19 => ⟨S64x128x2x64, .f32⟩
  | 20 => ⟨S64x256x2x64, .f32⟩
  | 21 => ⟨S64x128x2x4x64, .f32⟩
  | 22 => ⟨S64x2x256x128x4, .f32⟩
  | 23 => ⟨S64x2x4x128x256, .f32⟩
  | 24 => ⟨S_, .f32⟩
  | 25 => ⟨S64x2x4x128x256, .f32⟩
  | 26 => ⟨S64x2x4x128x256, .f32⟩
  | 27 => ⟨S128, .i32⟩
  | 28 => ⟨S128x1, .i32⟩
  | 29 => ⟨S256, .i32⟩
  | 30 => ⟨S1x256, .i32⟩
  | 31 => ⟨S_, .i32⟩
  | 32 => ⟨S128x1, .i32⟩
  | 33 => ⟨S128x1, .i32⟩
  | 34 => ⟨S128x256, .i32⟩
  | 35 => ⟨S128x256, .i32⟩
  | 36 => ⟨S128x256, .i32⟩
  | 37 => ⟨S64, .i32⟩
  | 38 => ⟨S64x1x1, .i32⟩
  | 39 => ⟨S_, .i32⟩
  | 40 => ⟨S64x1x1, .i32⟩
  | 41 => ⟨S64x1x1, .i32⟩
  | 42 => ⟨S_, .i32⟩
  | 43 => ⟨S64x1x1, .i32⟩
  | 44 => ⟨S64x1x1, .i32⟩
  | 45 => ⟨S1x1x256, .i32⟩
  | 46 => ⟨S64x1x256, .i32⟩
  | 47 => ⟨S64x1x256, .i32⟩
  | 48 => ⟨S64x1x256, .i32⟩
  | 49 => ⟨S_, .i32⟩
  | 50 => ⟨S128x256, .i32⟩
  | 51 => ⟨S128x256, .i1⟩
  | 52 => ⟨S_, .i32⟩
  | 53 => ⟨S128x256, .i32⟩
  | 54 => ⟨S128x256, .i1⟩
  | 55 => ⟨S128x256, .i1⟩
  | 56 => ⟨S_, .i32⟩
  | 57 => ⟨S64x1x256, .i32⟩
  | 58 => ⟨S64x1x256, .i1⟩
  | 59 => ⟨S1x128x256, .i1⟩
  | 60 => ⟨S64x128x256, .i1⟩
  | 61 => ⟨S64x128x256, .i1⟩
  | 62 => ⟨S64x128x256, .i1⟩
  | 63 => ⟨S64x1x1x128x256, .i1⟩
  | 64 => ⟨S_, .f32⟩
  | 65 => ⟨S_, .f32⟩
  | 66 => ⟨S64x2x4x128x256, .i1⟩
  | 67 => ⟨S64x2x4x128x256, .f32⟩
  | 68 => ⟨S64x2x4x128x256, .f32⟩
  | 69 => ⟨S_, .f32⟩
  | 70 => ⟨S64x2x4x128x256, .f32⟩
  | 71 => ⟨S2x4, .f32⟩
  | 72 => ⟨S1x2x4x1x1, .f32⟩
  | 73 => ⟨S64x2x4x128x1, .f32⟩
  | 74 => ⟨S64x2x4x128x257, .f32⟩
  | 75 => ⟨S_, .f32⟩
  | 76 => ⟨S64x2x4x128, .f32⟩
  | 77 => ⟨S64x2x4x128x1, .f32⟩
  | 78 => ⟨S64x2x4x128x257, .f32⟩
  | 79 => ⟨S64x2x4x128x257, .i1⟩
  | 80 => ⟨S64x2x4x128x257, .f32⟩
  | 81 => ⟨S_, .f32⟩
  | 82 => ⟨S64x2x4x128, .f32⟩
  | 83 => ⟨S_, .f32⟩
  | 84 => ⟨S64x2x4x128, .f32⟩
  | 85 => ⟨S64x2x4x128, .f32⟩
  | 86 => ⟨S_, .f32⟩
  | 87 => ⟨S64x2x4x128, .f32⟩
  | 88 => ⟨S64x2x4x128, .i1⟩
  | 89 => ⟨S_, .f32⟩
  | 90 => ⟨S64x2x4x128, .f32⟩
  | 91 => ⟨S64x2x4x128, .i1⟩
  | 92 => ⟨S_, .f32⟩
  | 93 => ⟨S64x2x4x128, .f32⟩
  | 94 => ⟨S_, .f32⟩
  | 95 => ⟨S64x2x4x128, .f32⟩
  | 96 => ⟨S_, .f32⟩
  | 97 => ⟨S64x2x4x128, .f32⟩
  | 98 => ⟨S64x2x4x128, .f32⟩
  | 99 => ⟨S64x2x4x128, .f32⟩
  | 100 => ⟨S64x2x4x128x1, .f32⟩
  | 101 => ⟨S64x2x4x128x257, .f32⟩
  | 102 => ⟨S64x2x4x128x257, .f32⟩
  | 103 => ⟨S64x2x4x128x257, .f32⟩
  | 104 => ⟨S_, .f32⟩
  | 105 => ⟨S64x2x4x128, .f32⟩
  | 106 => ⟨S64x2x4x128x1, .f32⟩
  | 107 => ⟨S64x2x4x128x257, .f32⟩
  | 108 => ⟨S64x2x4x128x257, .f32⟩
  | 109 => ⟨S64x2x4x128x1, .f32⟩
  | 110 => ⟨S_, .f32⟩
  | 111 => ⟨S64x2x4x128x1, .f32⟩
  | 112 => ⟨S64x2x4x128x1, .f32⟩
  | 113 => ⟨S64x2x4x128x256, .f32⟩
  | 114 => ⟨S64x2x64x4x128, .f32⟩
  | 115 => ⟨S64x128x2x4x64, .f32⟩
  | 116 => ⟨S8192x512, .f32⟩
  | 117 => ⟨S64x128x2x4x64, .f32⟩
  | 118 => ⟨S64x2x64x4x128, .f32⟩
  | 119 => ⟨S64x2x4x128x256, .f32⟩
  | 120 => ⟨S64x2x64x256, .f32⟩
  | 121 => ⟨S64x256x2x64, .f32⟩
  | 122 => ⟨S_, .f32⟩
  | 123 => ⟨S64x2x4x128x257, .f32⟩
  | 124 => ⟨S64x2x4x128x257, .f32⟩
  | 125 => ⟨S64x2x4x128x257, .f32⟩
  | 126 => ⟨S64x2x4x128x257, .f32⟩
  | 127 => ⟨S_, .f32⟩
  | _ => ⟨S8192x2816, .bf16⟩

abbrev hbmTy0_1 (i : Nat) : BufTy := match i % 128 with
  | 0 => ⟨S64x2x4x128, .f32⟩
  | 1 => ⟨S64x2x4x128x1, .f32⟩
  | 2 => ⟨S64x2x4x128x1, .f32⟩
  | 3 => ⟨S64x2x4x128x257, .f32⟩
  | 4 => ⟨S64x2x4x128x257, .f32⟩
  | 5 => ⟨S_, .f32⟩
  | 6 => ⟨S64x2x4x128, .f32⟩
  | 7 => ⟨S64x2x4x128x257, .f32⟩
  | 8 => ⟨S64x2x4x128x257, .f32⟩
  | 9 => ⟨S64x2x4x128x257, .f32⟩
  | 10 => ⟨S64x2x4x128x256, .f32⟩
  | 11 => ⟨S64x2x4x128x1, .f32⟩
  | 12 => ⟨S_, .f32⟩
  | 13 => ⟨S2x4, .f32⟩
  | 14 => ⟨S1x2x4x1x1, .f32⟩
  | 15 => ⟨S_, .f32⟩
  | 16 => ⟨S2x4, .f32⟩
  | 17 => ⟨S1x8, .f32⟩
  | 18 => ⟨S_, .f32⟩
  | 19 => ⟨S64x2x4x128x256, .f32⟩
  | 20 => ⟨S64x2x4x128x256, .f32⟩
  | 21 => ⟨S_, .f32⟩
  | 22 => ⟨S64x2x4x128x256, .f32⟩
  | 23 => ⟨S64x2x4x128x256, .f32⟩
  | 24 => ⟨S64x2x256x128x4, .f32⟩
  | 25 => ⟨S64x2x128x4x64, .f32⟩
  | 26 => ⟨S64x128x2x4x64, .f32⟩
  | 27 => ⟨S64x2x256x64, .f32⟩
  | 28 => ⟨S64x256x2x64, .f32⟩
  | 29 => ⟨S8192x512, .f32⟩
  | 30 => ⟨S8192x512, .bf16⟩
  | 31 => ⟨S64x128x2x64, .f32⟩
  | 32 => ⟨S8192x128, .f32⟩
  | 33 => ⟨S64x128x2x64, .f32⟩
  | 34 => ⟨S8192x128, .f32⟩
  | 35 => ⟨S64x128x2x64, .f32⟩
  | 36 => ⟨S8192x128, .f32⟩
  | 37 => ⟨S64x128x2x64, .f32⟩
  | 38 => ⟨S8192x128, .f32⟩
  | _ => ⟨S8192x2816, .bf16⟩

abbrev hbmTy (i : Nat) : BufTy := match i / 128 with
  | 0 => hbmTy0_0 i
  | 1 => hbmTy0_1 i
  | _ => ⟨S8192x2816, .bf16⟩

abbrev bufTy : (tb : Table) → Fin (tcTables nBuf tb) → BufTy
  | .hbm, ⟨i, _⟩ => hbmTy i
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_call2_v0 : Ref sig .tc := ⟨.hbm, 65, rfl⟩
abbrev main_v50_1 : Ref sig .tc := ⟨.hbm, 66, rfl⟩
abbrev main_call2_v2 : Ref sig .tc := ⟨.hbm, 67, rfl⟩
abbrev main_v50_0 : Ref sig .tc := ⟨.hbm, 68, rfl⟩
abbrev main_call2_cst : Ref sig .tc := ⟨.hbm, 69, rfl⟩
abbrev main_v50_2 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_18 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_19 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_20 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_21 : Ref sig .tc := ⟨.hbm, 140, rfl⟩
abbrev main_v107 : Ref sig .tc := ⟨.hbm, 141, rfl⟩
abbrev main_v108 : Ref sig .tc := ⟨.hbm, 142, rfl⟩
abbrev main_cst_22 : Ref sig .tc := ⟨.hbm, 143, rfl⟩
abbrev main_v109 : Ref sig .tc := ⟨.hbm, 144, rfl⟩
abbrev main_v110 : Ref sig .tc := ⟨.hbm, 145, rfl⟩
abbrev main_call3_cst : Ref sig .tc := ⟨.hbm, 146, rfl⟩
abbrev main_call3_v0 : Ref sig .tc := ⟨.hbm, 147, rfl⟩
abbrev main_v111 : Ref sig .tc := ⟨.hbm, 148, rfl⟩
abbrev main_cst_23 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== FfnDownRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .bf16⟩
  | .hbm, ⟨78, _⟩ => ⟨S1x1024, .f32⟩
  | .hbm, ⟨79, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Proof.MemAttn.Head.lean ====
/-
  ONE HEAD of the memory cross-attention's gradient, as the kernel computes it on 1024 query rows: the attention weights
  `weights`, the gradient of the scores `dscore`, and the three products `dq`, `dk`, `dv`. What a grid point stores into
  its blocks, head by head, is these (`blockQ_B`, … `incV_B`: the case where the accumulators are read back).
-/
module

public import proofs.«01_k».proof.Proof.Gen.KernelIdeal.Value
public import Idealize.ShloMosaic.Lib.Pipeline.ReadBack
public import Idealize.ShloMosaic.Lib.Pointwise.Tactic
public import Idealize.ShloMosaic.Lib.ValueIdx
public import Idealize.ShloMosaic.Lib.Tactic

@[expose] public section

noncomputable section

namespace Cert.KernelIdeal.MemAttn

open Cert.KernelIdeal Cert.KernelIdeal.Gen Idealize.ShloMosaic Idealize.ShloMosaic.TcCoe Idealize.SL.Sem

variable {F : FTy → Type} [FloatOps F]

/-- The scaled scores of a head: query rows against memory rows. -/
def scores (q : FVec F S1024x256 .bf16) (k : FVec F S256x256 .bf16) : FVec F S1024x256 .f32 :=
  mulf (matmul dot_S1024x256_S256x256_S1024x256_1_1_0_0_n_n none q k (constant S1024x256 .f32 0x00000000#32)) (broadcast S1024x256 (Scalar.ofBits .f32 0x3D800000#32))

/-- A row statistic, the same at each of the row's 256 entries. -/
def spread (r : FVec F S1024 .f32) : FVec F S1024x256 .f32 :=
  broadcastTo S1024x256 (shapeCast S1024x1 r shapeCasts_S1024_S1024x1) broadcasts_S1024x1_S1024x256

/-- Each row's sum, at each entry of the row. -/
def rowSum (x : FVec F S1024x256 .f32) : FVec F S1024x256 .f32 :=
  spread (multiReduction .add [1] S1024 x 0x00000000#32 reduces_S1024x256_S1024 (.inl rfl) rfl)

/-- The exponentials of the scores less their row's largest. -/
def expo (s : FVec F S1024x256 .f32) : FVec F S1024x256 .f32 :=
  exp (subf s (spread (multiReduction .maximumf [1] S1024 s 0xFF800000#32 reduces_S1024x256_S1024 (.inl rfl) rfl)))

/-- The attention weights: the exponentials over their row's sum. -/
def weights (q : FVec F S1024x256 .bf16) (k : FVec F S256x256 .bf16) : FVec F S1024x256 .f32 :=
  divf (expo (scores q k)) (rowSum (expo (scores q k)))

/-- The gradient of the weights: the output's gradient against the memory's values. -/
def dweights (d : FVec F S1024x256 .bf16) (v : FVec F S256x256 .bf16) : FVec F S1024x256 .f32 :=
  matmul dot_S1024x256_S256x256_S1024x256_1_1_0_0_n_n none d v (constant S1024x256 .f32 0x00000000#32)

/-- The gradient of the unscaled scores: `p (dp − Σ p dp)`, scaled. -/
def dscore (p dp : FVec F S1024x256 .f32) : FVec F S1024x256 .bf16 :=
  truncf .bf16 (mulf (mulf p (subf dp (rowSum (mulf p dp)))) (broadcast S1024x256 (Scalar.ofBits .f32 0x3D800000#32))) bitsLt_bf16_f32

/-- The head's gradient of the queries. -/
def headQ (q : FVec F S1024x256 .bf16) (k v : FVec F S256x256 .bf16) (d : FVec F S1024x256 .bf16) : FVec F S1024x256 .bf16 :=
  truncf .bf16 (matmul dot_S1024x256_S256x256_S1024x256_1_0_0_1_n_n none (dscore (weights q k) (dweights d v)) k (constant S1024x256 .f32 0x00000000#32)) bitsLt_bf16_f32

/-- What these 1024 rows add to the head's gradient of the keys. -/
def headK (q : FVec F S1024x256 .bf16) (k v : FVec F S256x256 .bf16) (d : FVec F S1024x256 .bf16) : FVec F S256x256 .f32 :=
  matmul dot_S1024x256_S1024x256_S256x256_0_0_1_1_n_n none (dscore (weights q k) (dweights d v)) q (constant S256x256 .f32 0x00000000#32)

/-- What these 1024 rows add to the head's gradient of the values. -/
def headV (q : FVec F S1024x256 .bf16) (k : FVec F S256x256 .bf16) (d : FVec F S1024x256 .bf16) : FVec F S256x256 .f32 :=
  matmul dot_S1024x256_S1024x256_S256x256_0_0_1_1_n_n none (truncf .bf16 (weights q k) bitsLt_bf16_f32) d (constant S256x256 .f32 0x00000000#32)

/-- Head `h`'s 256 columns of a row block. -/
def cols {R : Nat} {e : EltTy} (x : Vec F ⟨2, ![R, 1024]⟩ e) (h : Fin 4) : Vec F ⟨2, ![R, 256]⟩ e :=
  fun i => x (ix2 (i 0) ⟨256 * h.val + (i 1).val, by have := h.isLt; have : (i 1).val < 256 := (i 1).isLt; omega⟩)

/-- Four heads' columns side by side. -/
def glue {R : Nat} {e : EltTy} (p : Fin 4 → Vec F ⟨2, ![R, 256]⟩ e) : Vec F ⟨2, ![R, 1024]⟩ e :=
  fun i => p ⟨(i 1).val / 256, by have : (i 1).val < 1024 := (i 1).isLt; omega⟩ (ix2 (i 0) ⟨(i 1).val % 256, Nat.mod_lt _ (by norm_num)⟩)

/-- A load of a head's columns reads them. -/
theorem ld_cols {R : Nat} {e : EltTy} (x : Vec F ⟨2, ![R, 1024]⟩ e) (h : Fin 4) (o : Nat) (ho : o = 256 * h.val)
    (inb : ∀ a, (![0, o] : Fin 2 → Nat) a + (![R, 256] : Fin 2 → Nat) a ≤ (⟨2, ![R, 1024]⟩ : Shape).size a) :
    View.ld x (Rect.unit (s := ⟨2, ![R, 1024]⟩) ![0, o] ![R, 256] inb) = cols x h := by
  subst ho
  funext i
  refine congrArg x (funext fun a => Fin.ext ?_)
  fin_cases a
  · show 0 + 1 * (i 0).val = (i 0).val; omega
  · show 256 * h.val + 1 * (i 1).val = 256 * h.val + (i 1).val; omega

/-- A store of head `h`'s columns, read at an index of the block: the stored piece on those columns, what was there
    before elsewhere. -/
theorem canon_cols {R : Nat} {e : EltTy} (h : Fin 4) (o : Nat) (ho : o = 256 * h.val)
    (inb : ∀ a, (![0, o] : Fin 2 → Nat) a + (![R, 256] : Fin 2 → Nat) a ≤ (⟨2, ![R, 1024]⟩ : Shape).size a)
    (w : Vec F ⟨2, ![R, 256]⟩ e) (L : List (View.Piece (Elt F) ⟨2, ![R, 1024]⟩ e)) (i : (⟨2, ![R, 1024]⟩ : Shape).Idx) :
    View.canon (⟨Rect.unit (s := ⟨2, ![R, 1024]⟩) ![0, o] ![R, 256] inb, w⟩ :: L) i
      = if (i 1).val / 256 = h.val then w (ix2 (i 0) ⟨(i 1).val % 256, Nat.mod_lt _ (by norm_num)⟩) else View.canon L i := by
  subst ho
  split
  · next hh =>
    have e : (Rect.unit (s := ⟨2, ![R, 1024]⟩) ![0, 256 * h.val] ![R, 256] inb).emb (ix2 (i 0) ⟨(i 1).val % 256, Nat.mod_lt _ (by norm_num)⟩) = i := by
      funext a; refine Fin.ext ?_
      fin_cases a
      · show 0 + 1 * (i 0).val = (i 0).val; omega
      · show 256 * h.val + 1 * ((i 1).val % 256) = (i 1).val; omega
    conv_lhs => rw [← e]
    exact View.canon_cons_emb (Rect.unit (s := ⟨2, ![R, 1024]⟩) ![0, 256 * h.val] ![R, 256] inb) w L _
  · next hh =>
    refine View.canon_cons_of_not_mem _ L fun hm => hh ?_
    rw [Rect.mem_set_unit] at hm
    have := hm 1
    have h1 : 256 * h.val ≤ (i 1).val := this.1
    have h2 : (i 1).val < 256 * h.val + 256 := this.2
    omega

/-- Stores of the four heads' columns leave the heads side by side. -/
theorem canon_glue {R : Nat} {e : EltTy} (inb0 inb1 inb2 inb3) (p : Fin 4 → Vec F ⟨2, ![R, 256]⟩ e) (L : List (View.Piece (Elt F) ⟨2, ![R, 1024]⟩ e)) :
    View.canon (⟨Rect.unit (s := ⟨2, ![R, 1024]⟩) ![0, 768] ![R, 256] inb3, p 3⟩
      :: ⟨Rect.unit (s := ⟨2, ![R, 1024]⟩) ![0, 512] ![R, 256] inb2, p 2⟩
      :: ⟨Rect.unit (s := ⟨2, ![R, 1024]⟩) ![0, 256] ![R, 256] inb1, p 1⟩
      :: ⟨Rect.unit (s := ⟨2, ![R, 1024]⟩) ![0, 0] ![R, 256] inb0, p 0⟩ :: L) = glue p := by
  funext i
  rw [canon_cols 3 768 rfl, canon_cols 2 512 rfl, canon_cols 1 256 rfl, canon_cols 0 0 rfl]
  have hlt : (i 1).val < 1024 := (i 1).isLt
  unfold glue
  have key : ∀ h : Fin 4, (i 1).val / 256 = h.val → p h (ix2 (i 0) ⟨(i 1).val % 256, Nat.mod_lt _ (by norm_num)⟩)
      = p ⟨(i 1).val / 256, by omega⟩ (ix2 (i 0) ⟨(i 1).val % 256, Nat.mod_lt _ (by norm_num)⟩) := fun h e => by
    have : h = ⟨(i 1).val / 256, by omega⟩ := Fin.ext e.symm
    rw [this]
  split
  · next h => exact key 3 h
  split
  · next h => exact key 2 h
  split
  · next h => exact key 1 h
  split
  · next h => exact key 0 h
  · next h3 h2 h1 h0 =>
    exfalso
    have : (i 1).val / 256 < 4 := by omega
    simp only [Fin.val_zero, Fin.val_one, Fin.val_two, show (3 : Fin 4).val = 3 from rfl] at h3 h2 h1 h0
    omega

/-- The heads' gradient of the queries, of a block of 1024 rows. -/
def stepQ (q : Vec F S1024x1024 .bf16) (k v : Vec F S256x1024 .bf16) (d : Vec F S1024x1024 .bf16) : Vec F S1024x1024 .bf16 :=
  glue fun h => headQ (cols q h) (cols k h) (cols v h) (cols d h)

/-- An accumulated gradient of the keys after a block of 1024 rows. -/
def stepK (q : Vec F S1024x1024 .bf16) (k v : Vec F S256x1024 .bf16) (d : Vec F S1024x1024 .bf16) (acc : Vec F S256x1024 .f32) : Vec F S256x1024 .f32 :=
  glue fun h => addf (cols acc h) (headK (cols q h) (cols k h) (cols v h) (cols d h))

/-- An accumulated gradient of the values after a block of 1024 rows. -/
def stepV (q : Vec F S1024x1024 .bf16) (k : Vec F S256x1024 .bf16) (d : Vec F S1024x1024 .bf16) (acc : Vec F S256x1024 .f32) : Vec F S256x1024 .f32 :=
  glue fun h => addf (cols acc h) (headV (cols q h) (cols k h) (cols d h))

/-- The accumulators' start. -/
abbrev zeros : Vec F S256x1024 .f32 := broadcast S256x1024 (Scalar.ofBits .f32 0x00000000#32)

/-- At the first grid point the block of the queries' gradient is `stepQ` of the input blocks. -/
theorem out_A_4 (c : Dev nD) (i : grid0.Coords) (arg1 : Memref sig .tc .vmem S1024x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .f32) (harg7 : arg7.IsWhole) (hc0 : cond0_0 i)
    (x0 : Vec F S1024x1024 .bf16) (x1 : Vec F S256x1024 .bf16) (x2 : Vec F S256x1024 .bf16) (x3 : Vec F S1024x1024 .bf16) :
    out0_A_4 c i arg1 harg1 arg2 harg2 arg3 harg3 arg4 harg4 arg5 harg5 arg6 harg6 arg7 harg7 hc0 x0 x1 x2 x3 = stepQ x0 x1 x2 x3 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  simp only [View.readAt_eq_ld, harg1.read_unread, harg2.read_unread, harg3.read_unread, harg4.read_unread]
  refine Eq.trans ?_ (canon_glue inb_S1024x1024_S1024x256_0_0 inb_S1024x1024_S1024x256_0_256 inb_S1024x1024_S1024x256_0_512 inb_S1024x1024_S1024x256_0_768 _ [])
  simp only [ld_cols (R := 1024) _ 0 0 rfl, ld_cols (R := 1024) _ 1 256 rfl, ld_cols (R := 1024) _ 2 512 rfl, ld_cols (R := 1024) _ 3 768 rfl, ld_cols (R := 256) _ 0 0 rfl, ld_cols (R := 256) _ 1 256 rfl, ld_cols (R := 256) _ 2 512 rfl, ld_cols (R := 256) _ 3 768 rfl]
  rfl

/-- At the first grid point the keys' accumulator starts at zero. -/
theorem out_A_5 (c : Dev nD) (i : grid0.Coords) (arg1 : Memref sig .tc .vmem S1024x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .f32) (harg7 : arg7.IsWhole) (hc0 : cond0_0 i)
    (x0 : Vec F S1024x1024 .bf16) (x1 : Vec F S256x1024 .bf16) (x2 : Vec F S256x1024 .bf16) (x3 : Vec F S1024x1024 .bf16) :
    out0_A_5 c i arg1 harg1 arg2 harg2 arg3 harg3 arg4 harg4 arg5 harg5 arg6 harg6 arg7 harg7 hc0 x0 x1 x2 x3 = stepK x0 x1 x2 x3 zeros := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  simp only [View.readAt_eq_ld, harg1.read_unread, harg2.read_unread, harg3.read_unread, harg4.read_unread]
  simp (disch := decide) only [View.readCov_skip, View.readCov_fill]
  refine Eq.trans ?_ (canon_glue inb_S256x1024_S256x256_0_0 inb_S256x1024_S256x256_0_256 inb_S256x1024_S256x256_0_512 inb_S256x1024_S256x256_0_768 _ [⟨Rect.unit ![0, 0] ![256, 1024] inb_S256x1024_S256x1024_0_0, k0_pay8⟩])
  simp only [ld_cols (R := 1024) _ 0 0 rfl, ld_cols (R := 1024) _ 1 256 rfl, ld_cols (R := 1024) _ 2 512 rfl, ld_cols (R := 1024) _ 3 768 rfl, ld_cols (R := 256) _ 0 0 rfl, ld_cols (R := 256) _ 1 256 rfl, ld_cols (R := 256) _ 2 512 rfl, ld_cols (R := 256) _ 3 768 rfl]
  rfl

/-- At the first grid point the values' accumulator starts at zero. -/
theorem out_A_6 (c : Dev nD) (i : grid0.Coords) (arg1 : Memref sig .tc .vmem S1024x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .f32) (harg7 : arg7.IsWhole) (hc0 : cond0_0 i)
    (x0 : Vec F S1024x1024 .bf16) (x1 : Vec F S256x1024 .bf16) (x2 : Vec F S256x1024 .bf16) (x3 : Vec F S1024x1024 .bf16) :
    out0_A_6 c i arg1 harg1 arg2 harg2 arg3 harg3 arg4 harg4 arg5 harg5 arg6 harg6 arg7 harg7 hc0 x0 x1 x2 x3 = stepV x0 x1 x3 zeros := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  sl_unfold_words
  simp only [View.readAt_eq_ld, harg1.read_unread, harg2.read_unread, harg3.read_unread, harg4.read_unread]
  simp (disch := decide) only [View.readCov_skip, View.readCov_fill]
  refine Eq.trans ?_ (canon_glue inb_S256x1024_S256x256_0_0 inb_S256x1024_S256x256_0_256 inb_S256x1024_S256x256_0_512 inb_S256x1024_S256x256_0_768 _ [⟨Rect.unit ![0, 0] ![256, 1024] inb_S256x1024_S256x1024_0_0, k0_pay9⟩])
  simp only [ld_cols (R := 1024) _ 0 0 rfl, ld_cols (R := 1024) _ 1 256 rfl, ld_cols (R := 1024) _ 2 512 rfl, ld_cols (R := 1024) _ 3 768 rfl, ld_cols (R := 256) _ 0 0 rfl, ld_cols (R := 256) _ 1 256 rfl, ld_cols (R := 256) _ 2 512 rfl, ld_cols (R := 256) _ 3 768 rfl]
  rfl

/-- At a later grid point the block of the queries' gradient is `stepQ` of the input blocks. -/
theorem out_B_4 (c : Dev nD) (i : grid0.Coords) (arg1 : Memref sig .tc .vmem S1024x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .f32) (harg7 : arg7.IsWhole) (hc0 : ¬cond0_0 i)
    (x0 : Vec F S1024x1024 .bf16) (x1 : Vec F S256x1024 .bf16) (x2 : Vec F S256x1024 .bf16) (x3 : Vec F S1024x1024 .bf16) (xo5 : Vec F S256x1024 .f32) (xo6 : Vec F S256x1024 .f32) :
    out0_B_4 c i arg1 harg1 arg2 harg2 arg3 harg3 arg4 harg4 arg5 harg5 arg6 harg6 arg7 harg7 hc0 x0 x1 x2 x3 xo5 xo6 = stepQ x0 x1 x2 x3 := by
  unfold out0_B_4
  rw [View.read_writes_eq_canon _ _ _ (cover0_B_4 c i arg1 harg1 arg2 harg2 arg3 harg3 arg4 harg4 arg5 harg5 arg6 harg6 arg7 harg7 hc0 x0 x1 x2 x3 xo5 xo6)]
  unfold kernelRun0_B
  dsimp only
  sl_unfold_words
  simp only [View.readAt_eq_ld, harg1.read_unread, harg2.read_unread, harg3.read_unread, harg4.read_unread, harg6.read_unread, harg7.read_unread]
  refine Eq.trans ?_ (canon_glue inb_S1024x1024_S1024x256_0_0 inb_S1024x1024_S1024x256_0_256 inb_S1024x1024_S1024x256_0_512 inb_S1024x1024_S1024x256_0_768 _ [])
  simp only [ld_cols (R := 1024) _ 0 0 rfl, ld_cols (R := 1024) _ 1 256 rfl, ld_cols (R := 1024) _ 2 512 rfl, ld_cols (R := 1024) _ 3 768 rfl, ld_cols (R := 256) _ 0 0 rfl, ld_cols (R := 256) _ 1 256 rfl, ld_cols (R := 256) _ 2 512 rfl, ld_cols (R := 256) _ 3 768 rfl]
  rfl

/-- At a later grid point the keys' accumulator takes the block's contribution. -/
theorem out_B_5 (c : Dev nD) (i : grid0.Coords) (arg1 : Memref sig .tc .vmem S1024x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .f32) (harg7 : arg7.IsWhole) (hc0 : ¬cond0_0 i)
    (x0 : Vec F S1024x1024 .bf16) (x1 : Vec F S256x1024 .bf16) (x2 : Vec F S256x1024 .bf16) (x3 : Vec F S1024x1024 .bf16) (xo5 : Vec F S256x1024 .f32) (xo6 : Vec F S256x1024 .f32) :
    out0_B_5 c i arg1 harg1 arg2 harg2 arg3 harg3 arg4 harg4 arg5 harg5 arg6 harg6 arg7 harg7 hc0 x0 x1 x2 x3 xo5 xo6 = stepK x0 x1 x2 x3 xo5 := by
  unfold out0_B_5
  rw [View.read_writes_eq_canon _ _ _ (cover0_B_5 c i arg1 harg1 arg2 harg2 arg3 harg3 arg4 harg4 arg5 harg5 arg6 harg6 arg7 harg7 hc0 x0 x1 x2 x3 xo5 xo6)]
  unfold kernelRun0_B
  dsimp only
  sl_unfold_words
  simp only [View.readAt_eq_ld, harg1.read_unread, harg2.read_unread, harg3.read_unread, harg4.read_unread, harg6.read_unread, harg7.read_unread]
  refine Eq.trans ?_ (canon_glue inb_S256x1024_S256x256_0_0 inb_S256x1024_S256x256_0_256 inb_S256x1024_S256x256_0_512 inb_S256x1024_S256x256_0_768 _ [])
  simp only [ld_cols (R := 1024) _ 0 0 rfl, ld_cols (R := 1024) _ 1 256 rfl, ld_cols (R := 1024) _ 2 512 rfl, ld_cols (R := 1024) _ 3 768 rfl, ld_cols (R := 256) _ 0 0 rfl, ld_cols (R := 256) _ 1 256 rfl, ld_cols (R := 256) _ 2 512 rfl, ld_cols (R := 256) _ 3 768 rfl]
  unfold k0_pay36 k0_pay39 k0_pay3 k0_pay6
  simp only [shapeCast_self]
  rfl

/-- At a later grid point the values' accumulator takes the block's contribution. -/
theorem out_B_6 (c : Dev nD) (i : grid0.Coords) (arg1 : Memref sig .tc .vmem S1024x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .f32) (harg7 : arg7.IsWhole) (hc0 : ¬cond0_0 i)
    (x0 : Vec F S1024x1024 .bf16) (x1 : Vec F S256x1024 .bf16) (x2 : Vec F S256x1024 .bf16) (x3 : Vec F S1024x1024 .bf16) (xo5 : Vec F S256x1024 .f32) (xo6 : Vec F S256x1024 .f32) :
    out0_B_6 c i arg1 harg1 arg2 harg2 arg3 harg3 arg4 harg4 arg5 harg5 arg6 harg6 arg7 harg7 hc0 x0 x1 x2 x3 xo5 xo6 = stepV x0 x1 x3 xo6 := by
  unfold out0_B_6
  rw [View.read_writes_eq_canon _ _ _ (cover0_B_6 c i arg1 harg1 arg2 harg2 arg3 harg3 arg4 harg4 arg5 harg5 arg6 harg6 arg7 harg7 hc0 x0 x1 x2 x3 xo5 xo6)]
  unfold kernelRun0_B
  dsimp only
  sl_unfold_words
  simp only [View.readAt_eq_ld, harg1.read_unread, harg2.read_unread, harg3.read_unread, harg4.read_unread, harg6.read_unread, harg7.read_unread]
  refine Eq.trans ?_ (canon_glue inb_S256x1024_S256x256_0_0 inb_S256x1024_S256x256_0_256 inb_S256x1024_S256x256_0_512 inb_S256x1024_S256x256_0_768 _ [])
  simp only [ld_cols (R := 1024) _ 0 0 rfl, ld_cols (R := 1024) _ 1 256 rfl, ld_cols (R := 1024) _ 2 512 rfl, ld_cols (R := 1024) _ 3 768 rfl, ld_cols (R := 256) _ 0 0 rfl, ld_cols (R := 256) _ 1 256 rfl, ld_cols (R := 256) _ 2 512 rfl, ld_cols (R := 256) _ 3 768 rfl]
  unfold k0_pay37 k0_pay1 k0_pay40 k0_pay4 k0_pay7
  simp only [shapeCast_self]
  rfl

end Cert.KernelIdeal.MemAttn

end
-- ==== Proof.MemAttn.Row.lean ====
/-
  ONE ROW of a softmax attention and its gradient, over the extended reals: the weights `wt`, the gradient of the scores as
  the kernel writes it (`ds`: `p (dp − Σ p dp)`) and as the derivative of the softmax writes it (`dsVjp`: the quotient
  rule), equal on a row of finite scores.
-/
module

public import Idealize.ShloMosaic.PureOps.Ideal
public import Idealize.ShloMosaic.PureOps.Ideal.Laws
public import Idealize.ShloMosaic.Lib.IdealHost
public import Idealize.ShloMosaic.Lib.Pointwise.Tactic

@[expose] public section

noncomputable section

namespace Cert.MemAttn

open Idealize.ShloMosaic

variable {n : Nat}

/-- The largest of a row's scores. -/
def top (s : Fin n → EReal) : EReal := Finset.univ.fold max ⊥ s

/-- The exponentials of a row's scores less the largest. -/
def ex (s : Fin n → EReal) (j : Fin n) : EReal := Ideal.exp (s j - top s)

/-- The softmax weights of a row. -/
def wt (s : Fin n → EReal) (j : Fin n) : EReal := Ideal.div (ex s j) (∑ i, ex s i)

/-- The gradient of a row's scores from that of its weights: `p (dp − Σ p dp)`. -/
def ds (s dp : Fin n → EReal) (j : Fin n) : EReal := wt s j * (dp j - ∑ i, wt s i * dp i)

/-- The same by the quotient rule: `(dp / l − Σ dp (1 / l²) e) e`. -/
def dsVjp (s dp : Fin n → EReal) (j : Fin n) : EReal :=
  (Ideal.div (dp j) (∑ i, ex s i) + -(∑ i, dp i * Ideal.div 1 ((∑ i, ex s i) * (∑ i, ex s i)) * ex s i)) * ex s j

/-- A nonnegative real factor comes out of a sum of extended reals. -/
theorem coe_mul_sum {ι : Type*} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha, ← ih]
    exact EReal.left_distrib_of_nonneg_of_ne_top (EReal.coe_nonneg.mpr hc) (EReal.coe_ne_top c) _ _

/-- A sum of reals is the real of their sum. -/
theorem coe_sum {ι : Type*} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- Division by a nonzero real multiplies by its inverse. -/
theorem div_coe (x : EReal) (L : ℝ) (hL : L ≠ 0) : Ideal.div x (L : EReal) = x * ((L⁻¹ : ℝ) : EReal) := by
  unfold Ideal.div
  rw [if_neg (by exact_mod_cast hL), EReal.coe_inv]

/-- On a row of finite scores the exponentials are positive reals. -/
theorem ex_coe [NeZero n] (s : Fin n → EReal) (r : Fin n → ℝ) (hs : ∀ j, s j = (r j : EReal)) :
    ∃ e : Fin n → ℝ, (∀ j, 0 < e j) ∧ ∀ j, ex s j = (e j : EReal) := by
  have ht : ∃ j, top s = s j := by
    obtain ⟨j, -, hj⟩ := Finset.exists_mem_eq_sup (Finset.univ : Finset (Fin n)) ⟨0, Finset.mem_univ _⟩ s
    exact ⟨j, hj⟩
  obtain ⟨k, hk⟩ := ht
  refine ⟨fun j => Real.exp (r j - r k), fun j => Real.exp_pos _, fun j => ?_⟩
  unfold ex
  rw [hk, hs j, hs k, ← EReal.coe_sub]
  rfl

/-- Where a row's exponentials are reals of positive sum the two forms of the scores' gradient agree, whatever the gradient of the
    weights. -/
theorem dsVjp_of_coe (s dp : Fin n → EReal) (e : Fin n → ℝ) (hL : 0 < ∑ i, e i) (hex : ∀ j, ex s j = (e j : EReal)) (j : Fin n) :
    dsVjp s dp j = ds s dp j := by
  have hl : ∑ i, ex s i = ((∑ i, e i : ℝ) : EReal) := by rw [← coe_sum]; exact Finset.sum_congr rfl fun i _ => hex i
  unfold dsVjp ds wt
  simp only [hl]
  simp only [hex]
  generalize (∑ i, e i) = L at hL
  have hc : (0 : ℝ) ≤ L⁻¹ := inv_nonneg.mpr hL.le
  rw [← EReal.coe_mul]
  simp only [div_coe _ _ hL.ne', div_coe _ _ (mul_pos hL hL).ne', one_mul]
  have h1 : ∀ i, dp i * (((L * L)⁻¹ : ℝ) : EReal) * (e i : EReal) = ((L⁻¹ : ℝ) : EReal) * ((e i : EReal) * ((L⁻¹ : ℝ) : EReal) * dp i) := fun i => by
    rw [mul_inv, EReal.coe_mul]; ac_rfl
  simp only [h1, ← coe_mul_sum Finset.univ _ hc]
  rw [← mul_neg, mul_comm (dp j), ← EReal.left_distrib_of_nonneg_of_ne_top (EReal.coe_nonneg.mpr hc) (EReal.coe_ne_top _),
    ← sub_eq_add_neg]
  ac_rfl

/-- So it is on a row of finite scores. -/
theorem dsVjp_eq [NeZero n] (s dp : Fin n → EReal) (r : Fin n → ℝ) (hs : ∀ j, s j = (r j : EReal)) (j : Fin n) :
    dsVjp s dp j = ds s dp j := by
  obtain ⟨e, he, hex⟩ := ex_coe s r hs
  exact dsVjp_of_coe s dp e (Finset.sum_pos (fun i _ => he i) ⟨0, Finset.mem_univ _⟩) hex j

/-! ## The arrays: four heads of 256 columns -/

/-- Column `c` of head `h`. -/
def col (h : Fin 4) (c : Fin 256) : Fin 1024 := ⟨256 * h.val + c.val, by omega⟩

/-- The head of a column. -/
def hd (x : Fin 1024) : Fin 4 := ⟨x.val / 256, by omega⟩

/-- The kernel's factor of the scores, 1/16. -/
def scale : EReal := Ideal.ofBits .f32 0x3D800000#32

variable {R : Nat}

/-- The scaled scores of row `r` in head `h`. -/
def sc (q : (⟨2, ![R, 1024]⟩ : Shape).Idx → EReal) (k : (⟨2, ![256, 1024]⟩ : Shape).Idx → EReal) (h : Fin 4) (r : Fin R) (j : Fin 256) : EReal :=
  (∑ c : Fin 256, q (ix2 r (col h c)) * k (ix2 j (col h c))) * scale

/-- The gradient of the weights of row `r` in head `h`. -/
def dw (d : (⟨2, ![R, 1024]⟩ : Shape).Idx → EReal) (v : (⟨2, ![256, 1024]⟩ : Shape).Idx → EReal) (h : Fin 4) (r : Fin R) (j : Fin 256) : EReal :=
  ∑ c : Fin 256, d (ix2 r (col h c)) * v (ix2 j (col h c))

/-- The gradient of the queries. -/
def gradQ (q : (⟨2, ![R, 1024]⟩ : Shape).Idx → EReal) (k v : (⟨2, ![256, 1024]⟩ : Shape).Idx → EReal) (d : (⟨2, ![R, 1024]⟩ : Shape).Idx → EReal) (r : Fin R) (x : Fin 1024) : EReal :=
  ∑ j : Fin 256, ds (sc q k (hd x) r) (dw d v (hd x) r) j * scale * k (ix2 j x)

/-- The gradient of the keys. -/
def gradK (q : (⟨2, ![R, 1024]⟩ : Shape).Idx → EReal) (k v : (⟨2, ![256, 1024]⟩ : Shape).Idx → EReal) (d : (⟨2, ![R, 1024]⟩ : Shape).Idx → EReal) (j : Fin 256) (x : Fin 1024) : EReal :=
  ∑ r : Fin R, ds (sc q k (hd x) r) (dw d v (hd x) r) j * scale * q (ix2 r x)

/-- The gradient of the values. -/
def gradV (q : (⟨2, ![R, 1024]⟩ : Shape).Idx → EReal) (k : (⟨2, ![256, 1024]⟩ : Shape).Idx → EReal) (d : (⟨2, ![R, 1024]⟩ : Shape).Idx → EReal) (j : Fin 256) (x : Fin 1024) : EReal :=
  ∑ r : Fin R, wt (sc q k (hd x) r) j * d (ix2 r x)

end Cert.MemAttn

end
-- ==== Proof.MemAttn.Block.lean ====
/-
  ONE GRID POINT of the memory cross-attention's gradient over the extended reals: `stepQ` is `gradQ` of the 1024 rows, and
  `stepK`, `stepV` add `gradK`, `gradV` of the rows to the accumulators.
-/
module

public import proofs.«01_k».proof.Proof.MemAttn.Head
public import proofs.«01_k».proof.Proof.MemAttn.Row
public import Idealize.ShloMosaic.Lib.Pointwise

@[expose] public section

noncomputable section

namespace Cert.KernelIdeal.MemAttn

open Cert.KernelIdeal Cert.KernelIdeal.Gen Cert.MemAttn Idealize.ShloMosaic

theorem ofBits_bot : Ideal.ofBits .f32 0xFF800000#32 = ⊥ := by simp [Ideal.ofBits, Ideal.ieee]

/-- The scaled scores at an index. -/
theorem scores_apply (q : FVec Ideal S1024x256 .bf16) (k : FVec Ideal S256x256 .bf16) (r : Fin 1024) (j : Fin 256) :
    scores q k (ix2 r j) = (∑ c : Fin 256, q (ix2 r c) * k (ix2 j c)) * scale := by
  unfold scores
  simp only [pointwise, Ideal.matmul_def, zero_add]
  rfl

/-- A row's sum at an index. -/
theorem rowSum_apply (x : FVec Ideal S1024x256 .f32) (r : Fin 1024) (j : Fin 256) :
    rowSum x (ix2 r j) = ∑ i : Fin 256, x (ix2 r i) := by
  unfold rowSum spread
  pointwise

/-- The exponentials at an index. -/
theorem expo_apply (s : FVec Ideal S1024x256 .f32) (r : Fin 1024) (j : Fin 256) :
    expo s (ix2 r j) = ex (fun i => s (ix2 r i)) j := by
  unfold expo spread ex top
  rw [← ofBits_bot]
  pointwise

/-- The weights at an index. -/
theorem weights_apply (q : FVec Ideal S1024x256 .bf16) (k : FVec Ideal S256x256 .bf16) (r : Fin 1024) (j : Fin 256) :
    weights (F := Ideal) q k (ix2 r j) = wt (fun j => (∑ c : Fin 256, q (ix2 r c) * k (ix2 j c)) * scale) j := by
  show Ideal.div (expo (scores q k) (ix2 r j)) (rowSum (expo (scores q k)) (ix2 r j)) = _
  rw [rowSum_apply]
  simp only [expo_apply, scores_apply]
  rfl

/-- The gradient of the weights at an index. -/
theorem dweights_apply (d : FVec Ideal S1024x256 .bf16) (v : FVec Ideal S256x256 .bf16) (r : Fin 1024) (j : Fin 256) :
    dweights (F := Ideal) d v (ix2 r j) = ∑ c : Fin 256, d (ix2 r c) * v (ix2 j c) := by
  unfold dweights
  simp only [pointwise, Ideal.matmul_def, zero_add]

/-- The gradient of the scores at an index. -/
theorem dscore_apply (p dp : FVec Ideal S1024x256 .f32) (r : Fin 1024) (j : Fin 256) :
    dscore p dp (ix2 r j) = p (ix2 r j) * (dp (ix2 r j) - ∑ i : Fin 256, p (ix2 r i) * dp (ix2 r i)) * scale := by
  show p (ix2 r j) * (dp (ix2 r j) - rowSum (mulf p dp) (ix2 r j)) * scale = _
  rw [rowSum_apply]
  rfl

theorem headQ_apply (q : FVec Ideal S1024x256 .bf16) (k v : FVec Ideal S256x256 .bf16) (d : FVec Ideal S1024x256 .bf16) (r : Fin 1024) (c : Fin 256) :
    headQ (F := Ideal) q k v d (ix2 r c) = ∑ j : Fin 256, dscore (F := Ideal) (weights (F := Ideal) q k) (dweights (F := Ideal) d v) (ix2 r j) * k (ix2 j c) := by
  unfold headQ
  simp only [pointwise, Ideal.matmul_def, zero_add]

theorem headK_apply (q : FVec Ideal S1024x256 .bf16) (k v : FVec Ideal S256x256 .bf16) (d : FVec Ideal S1024x256 .bf16) (j c : Fin 256) :
    headK (F := Ideal) q k v d (ix2 j c) = ∑ r : Fin 1024, dscore (F := Ideal) (weights (F := Ideal) q k) (dweights (F := Ideal) d v) (ix2 r j) * q (ix2 r c) := by
  unfold headK
  simp only [pointwise, Ideal.matmul_def, zero_add]

theorem headV_apply (q : FVec Ideal S1024x256 .bf16) (k : FVec Ideal S256x256 .bf16) (d : FVec Ideal S1024x256 .bf16) (j c : Fin 256) :
    headV (F := Ideal) q k d (ix2 j c) = ∑ r : Fin 1024, weights (F := Ideal) q k (ix2 r j) * d (ix2 r c) := by
  unfold headV
  simp only [pointwise, Ideal.matmul_def, zero_add]

/-- A head's weights, from the block's columns. -/
theorem weights_cols (q : Vec Ideal S1024x1024 .bf16) (k : Vec Ideal S256x1024 .bf16) (h : Fin 4) (r : Fin 1024) (j : Fin 256) :
    weights (F := Ideal) (cols (F := Ideal) (R := 1024) q h) (cols (F := Ideal) (R := 256) k h) (ix2 r j) = wt (sc q k h r) j :=
  weights_apply _ _ r j

/-- A head's gradient of the scores, from the block's columns. -/
theorem dscore_cols (q : Vec Ideal S1024x1024 .bf16) (k v : Vec Ideal S256x1024 .bf16) (d : Vec Ideal S1024x1024 .bf16) (h : Fin 4) (r : Fin 1024) (j : Fin 256) :
    dscore (F := Ideal) (weights (F := Ideal) (cols (F := Ideal) (R := 1024) q h) (cols (F := Ideal) (R := 256) k h)) (dweights (F := Ideal) (cols (F := Ideal) (R := 1024) d h) (cols (F := Ideal) (R := 256) v h)) (ix2 r j)
      = ds (sc q k h r) (dw d v h r) j * scale := by
  rw [dscore_apply]
  simp only [weights_cols, dweights_apply]
  rfl

/-- A column is column `x % 256` of its head. -/
theorem cols_hd {R : Nat} {e : EltTy} (x : Vec Ideal ⟨2, ![R, 1024]⟩ e) (r : Fin R) (c : Fin 1024) :
    cols (F := Ideal) x (hd c) (ix2 r ⟨c.val % 256, Nat.mod_lt _ (by norm_num)⟩) = x (ix2 r c) := by
  show x (ix2 r ⟨256 * (c.val / 256) + c.val % 256, _⟩) = _
  congr 2
  exact Fin.ext (by show 256 * (c.val / 256) + c.val % 256 = c.val; omega)

theorem stepQ_apply (q : Vec Ideal S1024x1024 .bf16) (k v : Vec Ideal S256x1024 .bf16) (d : Vec Ideal S1024x1024 .bf16) (r : Fin 1024) (x : Fin 1024) :
    stepQ q k v d (ix2 r x) = gradQ q k v d r x := by
  show (headQ (F := Ideal) (cols (F := Ideal) q (hd x)) (cols (F := Ideal) k (hd x)) (cols (F := Ideal) v (hd x)) (cols (F := Ideal) d (hd x)) (ix2 r ⟨x.val % 256, _⟩) : EReal) = _
  rw [headQ_apply]
  exact Finset.sum_congr rfl fun j _ => by rw [dscore_cols, cols_hd]

theorem stepK_apply (q : Vec Ideal S1024x1024 .bf16) (k v : Vec Ideal S256x1024 .bf16) (d : Vec Ideal S1024x1024 .bf16) (acc : Vec Ideal S256x1024 .f32) (j : Fin 256) (x : Fin 1024) :
    stepK q k v d acc (ix2 j x) = acc (ix2 j x) + gradK q k v d j x := by
  show (cols (F := Ideal) acc (hd x) (ix2 j ⟨x.val % 256, _⟩) + headK (F := Ideal) (cols (F := Ideal) q (hd x)) (cols (F := Ideal) k (hd x)) (cols (F := Ideal) v (hd x)) (cols (F := Ideal) d (hd x)) (ix2 j ⟨x.val % 256, _⟩) : EReal) = _
  rw [headK_apply, cols_hd]
  exact congrArg _ (Finset.sum_congr rfl fun r _ => by rw [dscore_cols, cols_hd])

theorem stepV_apply (q : Vec Ideal S1024x1024 .bf16) (k : Vec Ideal S256x1024 .bf16) (d : Vec Ideal S1024x1024 .bf16) (acc : Vec Ideal S256x1024 .f32) (j : Fin 256) (x : Fin 1024) :
    stepV q k d acc (ix2 j x) = acc (ix2 j x) + gradV q k d j x := by
  show (cols (F := Ideal) acc (hd x) (ix2 j ⟨x.val % 256, _⟩) + headV (F := Ideal) (cols (F := Ideal) q (hd x)) (cols (F := Ideal) k (hd x)) (cols (F := Ideal) d (hd x)) (ix2 j ⟨x.val % 256, _⟩) : EReal) = _
  rw [headV_apply, cols_hd]
  exact congrArg _ (Finset.sum_congr rfl fun r _ => by rw [weights_cols, cols_hd])

end Cert.KernelIdeal.MemAttn

end
-- ==== Proof.MemAttn.Arrays.lean ====
/-
  WHAT THE KERNEL'S ARRAYS HOLD after the run, over the extended reals: `gradQ`, `gradK` and `gradV` of the whole arguments.
  The queries' gradient is written block by block; the other two accumulate over the eight blocks of 1024 rows, and a sum
  over the blocks of the sums over their rows is the sum over the 8192 rows.
-/
module

public import proofs.«01_k».proof.Proof.MemAttn.Block

@[expose] public section

noncomputable section

namespace Cert.KernelIdeal.MemAttn

open Cert.KernelIdeal Cert.KernelIdeal.Gen Cert.MemAttn Idealize.ShloMosaic Idealize.ShloMosaic.TcCoe Idealize.SL.Sem

variable (m : (ℓ : Loc nD τ sig) → Buf (Elt Ideal) ℓ) (ρ : Dev nD → PrngReg)

/-- The queries. -/
abbrev qA (c : Dev nD) : Vec Ideal S8192x1024 .bf16 := m ((c : Thread nD τ).loc main_arg0)
/-- The keys. -/
abbrev kA (c : Dev nD) : Vec Ideal S256x1024 .bf16 := m ((c : Thread nD τ).loc main_arg1)
/-- The values. -/
abbrev vA (c : Dev nD) : Vec Ideal S256x1024 .bf16 := m ((c : Thread nD τ).loc main_arg2)
/-- The output's gradient. -/
abbrev dA (c : Dev nD) : Vec Ideal S8192x1024 .bf16 := m ((c : Thread nD τ).loc main_arg3)

/-- Rows `1024 t …` of an array. -/
def rows (x : Vec Ideal S8192x1024 .bf16) (t : Fin 8) : Vec Ideal S1024x1024 .bf16 :=
  fun i => x (ix2 ⟨t.val * 1024 + (i 0).val, by have h : (i 0).val < 1024 := (i 0).isLt; omega⟩ (i 1))

/-- A grid point as one of eight. -/
def pt (t : Fin cfg0.N) : Fin 8 := ⟨t.val, Nat.lt_of_lt_of_eq t.isLt N_0⟩

theorem iblk_0 (c : Dev nD) (t : Fin cfg0.N) : (iblk m c 0 t : Vec Ideal S1024x1024 .bf16) = rows (qA m c) (pt t) := by
  have hi : win0_0.index t 0 = t.val ∧ win0_0.index t 1 = 0 := by
    rcases fin_N0 t with rfl | rfl | rfl | rfl | rfl | rfl | rfl | rfl <;> decide
  funext j
  unfold iblk
  rw [View.read_apply]
  show V m c main_arg0 _ = m (c.tc.loc main_arg0) _
  unfold V
  congr 1
  funext a
  apply Fin.ext
  match a with
  | ⟨0, _⟩ => show win0_0.index t 0 * 1024 + 1 * (j 0).val = t.val * 1024 + (j 0).val; rw [hi.1]; omega
  | ⟨1, _⟩ => show win0_0.index t 1 * 1024 + 1 * (j 1).val = (j 1).val; rw [hi.2]; omega

theorem iblk_3 (c : Dev nD) (t : Fin cfg0.N) : (iblk m c 3 t : Vec Ideal S1024x1024 .bf16) = rows (dA m c) (pt t) := by
  have hi : win0_3.index t 0 = t.val ∧ win0_3.index t 1 = 0 := by
    rcases fin_N0 t with rfl | rfl | rfl | rfl | rfl | rfl | rfl | rfl <;> decide
  funext j
  unfold iblk
  rw [View.read_apply]
  show V m c main_arg3 _ = m (c.tc.loc main_arg3) _
  unfold V
  congr 1
  funext a
  apply Fin.ext
  match a with
  | ⟨0, _⟩ => show win0_3.index t 0 * 1024 + 1 * (j 0).val = t.val * 1024 + (j 0).val; rw [hi.1]; omega
  | ⟨1, _⟩ => show win0_3.index t 1 * 1024 + 1 * (j 1).val = (j 1).val; rw [hi.2]; omega

theorem iblk_1 (c : Dev nD) (t : Fin cfg0.N) : (iblk m c 1 t : Vec Ideal S256x1024 .bf16) = kA m c := by
  have hi : win0_1.index t 0 = 0 ∧ win0_1.index t 1 = 0 := by
    rcases fin_N0 t with rfl | rfl | rfl | rfl | rfl | rfl | rfl | rfl <;> decide
  funext j
  unfold iblk
  rw [View.read_apply]
  show V m c main_arg1 _ = m (c.tc.loc main_arg1) _
  unfold V
  congr 1
  funext a
  apply Fin.ext
  match a with
  | ⟨0, _⟩ => show win0_1.index t 0 * 256 + 1 * (j 0).val = (j 0).val; rw [hi.1]; omega
  | ⟨1, _⟩ => show win0_1.index t 1 * 1024 + 1 * (j 1).val = (j 1).val; rw [hi.2]; omega

theorem iblk_2 (c : Dev nD) (t : Fin cfg0.N) : (iblk m c 2 t : Vec Ideal S256x1024 .bf16) = vA m c := by
  have hi : win0_2.index t 0 = 0 ∧ win0_2.index t 1 = 0 := by
    rcases fin_N0 t with rfl | rfl | rfl | rfl | rfl | rfl | rfl | rfl <;> decide
  funext j
  unfold iblk
  rw [View.read_apply]
  show V m c main_arg2 _ = m (c.tc.loc main_arg2) _
  unfold V
  congr 1
  funext a
  apply Fin.ext
  match a with
  | ⟨0, _⟩ => show win0_2.index t 0 * 256 + 1 * (j 0).val = (j 0).val; rw [hi.1]; omega
  | ⟨1, _⟩ => show win0_2.index t 1 * 1024 + 1 * (j 1).val = (j 1).val; rw [hi.2]; omega

/-! ## The gradient of the queries -/

/-- The gradient of the queries as an array. -/
def resultQ (c : Dev nD) : Buf (Elt Ideal) ((c : Thread nD τ).loc main_v0_0) :=
  fun i => gradQ (qA m c) (kA m c) (vA m c) (dA m c) (i 0) (i 1)

/-- After a point the block of the queries' gradient is `stepQ` of the point's rows. -/
theorem outs_Q (c : Dev nD) (t : Fin cfg0.N) :
    (outsAt0 m c t.val t.isLt).1 = stepQ (rows (qA m c) (pt t)) (kA m c) (vA m c) (rows (dA m c) (pt t)) := by
  by_cases h0 : t.val % 8 = 0
  · rw [outsAt0_A m c t h0]
    dsimp only
    rw [out_A_4, iblk_0, iblk_1, iblk_2, iblk_3]
  · rw [outsAt0_B m c t h0]
    dsimp only
    rw [out_B_4, iblk_0, iblk_1, iblk_2, iblk_3]

theorem flushed_Q (c : Dev nD) (t : Fin cfg0.N) (_ : (cfg0.win 4).flush t = true) :
    (dats m 0 c).flushed 4 t = ((cfg0.win 4).blk t).view.read (Elt Ideal) (resultQ m c) := by
  rw [Value.flushed4, outs_Q]
  have hi : win0_4.index t 0 = t.val ∧ win0_4.index t 1 = 0 := by
    rcases fin_N0 t with rfl | rfl | rfl | rfl | rfl | rfl | rfl | rfl <;> decide
  funext j
  rw [View.read_apply]
  refine (stepQ_apply _ _ _ _ (j 0) (j 1)).trans ?_
  show gradQ (qA m c) (kA m c) (vA m c) (dA m c) ⟨t.val * 1024 + (j 0).val, _⟩ (j 1) = resultQ m c _
  unfold resultQ
  refine congrArg₂ (gradQ (qA m c) (kA m c) (vA m c) (dA m c)) (Fin.ext ?_) (Fin.ext ?_)
  · show t.val * 1024 + (j 0).val = win0_4.index t 0 * 1024 + 1 * (j 0).val; rw [hi.1]; omega
  · show (j 1).val = win0_4.index t 1 * 1024 + 1 * (j 1).val; rw [hi.2]; omega

theorem final_Q (c : Dev nD) : (dats m 0 c).arrAt 4 cfg0.N = resultQ m c :=
  (dats m 0 c).arrAt_eq_of_cover 4 (resultQ m c) (flushed_Q m c) fun i => by
    have h0 : (i 0 : Nat) < 8192 := (i 0).isLt
    have h1 : (i 1 : Nat) < 1024 := (i 1).isLt
    have hN : grid0.N = 8 := N_0
    let t : Fin cfg0.N := ⟨(i 0 : Nat) / 1024, by show _ < grid0.N; omega⟩
    have hi : win0_4.index t 0 = t.val ∧ win0_4.index t 1 = 0 := by
      rcases fin_N0 t with h | h | h | h | h | h | h | h <;> rw [h] <;> decide
    refine ⟨t, flush0_4 t, ?_⟩
    show i ∈ ((View.whole main_v0_0).slice (win0_4.rect t)).set
    rw [View.set_slice_whole, Rect.mem_set_unit]
    intro a
    match a with
    | ⟨0, _⟩ => show win0_4.index t 0 * 1024 ≤ (i 0 : Nat) ∧ (i 0 : Nat) < win0_4.index t 0 * 1024 + 1024
                rw [hi.1]; show (i 0 : Nat) / 1024 * 1024 ≤ _ ∧ _ < (i 0 : Nat) / 1024 * 1024 + 1024; omega
    | ⟨1, _⟩ => show win0_4.index t 1 * 1024 ≤ (i 1 : Nat) ∧ (i 1 : Nat) < win0_4.index t 1 * 1024 + 1024
                rw [hi.2]; omega

/-! ## The accumulated gradients -/

/-- What block `t` adds to the keys' gradient. -/
def addK (c : Dev nD) (j : Fin 256) (x : Fin 1024) (t : ℕ) : EReal :=
  if h : t < 8 then gradK (rows (qA m c) ⟨t, h⟩) (kA m c) (vA m c) (rows (dA m c) ⟨t, h⟩) j x else 0

/-- What block `t` adds to the values' gradient. -/
def addV (c : Dev nD) (j : Fin 256) (x : Fin 1024) (t : ℕ) : EReal :=
  if h : t < 8 then gradV (rows (qA m c) ⟨t, h⟩) (kA m c) (rows (dA m c) ⟨t, h⟩) j x else 0

theorem zeros_apply (i : S256x1024.Idx) : zeros (F := Ideal) i = (0 : EReal) := Ideal.ofBits_zero_f32

/-- After point `n` the accumulators hold the sums of what the blocks up to `n` add. -/
theorem outs_KV (c : Dev nD) (j : Fin 256) (x : Fin 1024) : ∀ (n : ℕ) (hn : n < cfg0.N),
    (outsAt0 m c n hn).2.1 (ix2 j x) = ∑ t ∈ Finset.range (n + 1), addK m c j x t
    ∧ (outsAt0 m c n hn).2.2 (ix2 j x) = ∑ t ∈ Finset.range (n + 1), addV m c j x t
  | 0, hn => by
    have hA : (⟨0, hn⟩ : Fin cfg0.N).val % 8 = 0 := rfl
    rw [show outsAt0 m c 0 hn = _ from outsAt0_A m c ⟨0, hn⟩ hA]
    dsimp only
    rw [out_A_5, out_A_6, iblk_0, iblk_1, iblk_2, iblk_3, stepK_apply, stepV_apply, zeros_apply, zero_add, zero_add]
    simp only [zero_add, Finset.range_one, Finset.sum_singleton]
    exact ⟨rfl, rfl⟩
  | n + 1, hn => by
    have hN : cfg0.N = 8 := N_0
    have hB : ¬(⟨n + 1, hn⟩ : Fin cfg0.N).val % 8 = 0 := by dsimp only; omega
    obtain ⟨ihK, ihV⟩ := outs_KV c j x n (Nat.lt_of_succ_lt hn)
    rw [show outsAt0 m c (n + 1) hn = _ from outsAt0_B m c ⟨n + 1, hn⟩ hB]
    dsimp only
    rw [out_B_5, out_B_6, iblk_0, iblk_1, iblk_2, iblk_3, stepK_apply, stepV_apply, Finset.sum_range_succ _ (n + 1),
      Finset.sum_range_succ _ (n + 1), ← ihK, ← ihV]
    have h8 : n + 1 < 8 := by omega
    refine ⟨congrArg₂ (· + ·) rfl ?_, congrArg₂ (· + ·) rfl ?_⟩
    · unfold addK; rw [dif_pos h8]; rfl
    · unfold addV; rw [dif_pos h8]; rfl

/-- The gradient of the keys as an array. -/
def resultK (c : Dev nD) : Buf (Elt Ideal) ((c : Thread nD τ).loc main_v0_1) :=
  fun i => gradK (qA m c) (kA m c) (vA m c) (dA m c) (i 0) (i 1)

/-- The gradient of the values as an array. -/
def resultV (c : Dev nD) : Buf (Elt Ideal) ((c : Thread nD τ).loc main_v0_2) :=
  fun i => gradV (qA m c) (kA m c) (dA m c) (i 0) (i 1)

/-- The eight blocks' sums are the sum over all rows. -/
theorem sum_addK (c : Dev nD) (j : Fin 256) (x : Fin 1024) :
    ∑ t ∈ Finset.range 8, addK m c j x t = gradK (qA m c) (kA m c) (vA m c) (dA m c) j x := by
  rw [Finset.sum_range]
  unfold gradK
  rw [Fin.sum_univ_tiles 8 1024 rfl]
  refine Finset.sum_congr rfl fun t _ => ?_
  unfold addK
  rw [dif_pos t.isLt]
  rfl

theorem sum_addV (c : Dev nD) (j : Fin 256) (x : Fin 1024) :
    ∑ t ∈ Finset.range 8, addV m c j x t = gradV (qA m c) (kA m c) (dA m c) j x := by
  rw [Finset.sum_range]
  unfold gradV
  rw [Fin.sum_univ_tiles 8 1024 rfl]
  refine Finset.sum_congr rfl fun t _ => ?_
  unfold addV
  rw [dif_pos t.isLt]
  rfl

theorem last_K (c : Dev nD) (hn : 7 < cfg0.N) : (outsAt0 m c 7 hn).2.1 = resultK m c := by
  funext i
  exact ((congrArg _ (ix2_eta i).symm).trans (outs_KV m c (i 0) (i 1) 7 hn).1).trans (sum_addK m c (i 0) (i 1))

theorem last_V (c : Dev nD) (hn : 7 < cfg0.N) : (outsAt0 m c 7 hn).2.2 = resultV m c := by
  funext i
  exact ((congrArg _ (ix2_eta i).symm).trans (outs_KV m c (i 0) (i 1) 7 hn).2).trans (sum_addV m c (i 0) (i 1))

theorem flushed_K (c : Dev nD) (t : Fin cfg0.N) (hf : (cfg0.win 5).flush t = true) :
    (dats m 0 c).flushed 5 t = ((cfg0.win 5).blk t).view.read (Elt Ideal) (resultK m c) := by
  have hN : cfg0.N = 8 := N_0
  have h7 : t.val = 7 := by have := (flush0_5 t).mp hf; have := t.isLt; omega
  obtain rfl : t = t0_7 := Fin.ext h7
  rw [Value.flushed5]
  rw [show (outsAt0 m c t0_7.val t0_7.isLt).2.1 = _ from last_K m c _]
  have hz : (fun a => win0_5.index t0_7 a * main_v0_1.ty.shape.size a) = fun _ => 0 := funext fun a => by fin_cases a <;> decide
  exact (Memref.read_access_unit_zero (Elt Ideal) main_v0_1 hz (fun a => by rw [congrFun hz a]; simp) (resultK m c)).symm

theorem flushed_V (c : Dev nD) (t : Fin cfg0.N) (hf : (cfg0.win 6).flush t = true) :
    (dats m 0 c).flushed 6 t = ((cfg0.win 6).blk t).view.read (Elt Ideal) (resultV m c) := by
  have hN : cfg0.N = 8 := N_0
  have h7 : t.val = 7 := by have := (flush0_6 t).mp hf; have := t.isLt; omega
  obtain rfl : t = t0_7 := Fin.ext h7
  rw [Value.flushed6]
  rw [show (outsAt0 m c t0_7.val t0_7.isLt).2.2 = _ from last_V m c _]
  have hz : (fun a => win0_6.index t0_7 a * main_v0_2.ty.shape.size a) = fun _ => 0 := funext fun a => by fin_cases a <;> decide
  exact (Memref.read_access_unit_zero (Elt Ideal) main_v0_2 hz (fun a => by rw [congrFun hz a]; simp) (resultV m c)).symm

theorem final_K (c : Dev nD) : (dats m 0 c).arrAt 5 cfg0.N = resultK m c :=
  (dats m 0 c).arrAt_eq_of_cover 5 (resultK m c) (flushed_K m c) fun i =>
    ⟨t0_7, (flush0_5 t0_7).mpr rfl, by
      show i ∈ ((View.whole main_v0_1).slice (win0_5.rect t0_7)).set
      rw [View.set_slice_whole, Rect.mem_set_unit]
      intro a
      have h0 : (i 0 : Nat) < 256 := (i 0).isLt
      have h1 : (i 1 : Nat) < 1024 := (i 1).isLt
      match a with
      | ⟨0, _⟩ => show 0 ≤ (i 0 : Nat) ∧ (i 0 : Nat) < 0 + 256; omega
      | ⟨1, _⟩ => show 0 ≤ (i 1 : Nat) ∧ (i 1 : Nat) < 0 + 1024; omega⟩

theorem final_V (c : Dev nD) : (dats m 0 c).arrAt 6 cfg0.N = resultV m c :=
  (dats m 0 c).arrAt_eq_of_cover 6 (resultV m c) (flushed_V m c) fun i =>
    ⟨t0_7, (flush0_6 t0_7).mpr rfl, by
      show i ∈ ((View.whole main_v0_2).slice (win0_6.rect t0_7)).set
      rw [View.set_slice_whole, Rect.mem_set_unit]
      intro a
      have h0 : (i 0 : Nat) < 256 := (i 0).isLt
      have h1 : (i 1 : Nat) < 1024 := (i 1).isLt
      match a with
      | ⟨0, _⟩ => show 0 ≤ (i 0 : Nat) ∧ (i 0 : Nat) < 0 + 256; omega
      | ⟨1, _⟩ => show 0 ≤ (i 1 : Nat) ∧ (i 1 : Nat) < 0 + 1024; omega⟩

/-- The kernel's run: its three results are the three gradients, its arguments are as launched. -/
theorem run : θ_run defs (onTc (τ := τ) (main (F := Ideal))) ⟨m, fun _ => 0, ρ⟩ fun r => ∀ c : Dev nD,
      r.2.mem ((c : Thread nD τ).loc main_v0_0) = resultQ m c
      ∧ r.2.mem ((c : Thread nD τ).loc main_v0_1) = resultK m c
      ∧ r.2.mem ((c : Thread nD τ).loc main_v0_2) = resultV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, h⟩ := h c
    exact ⟨h4.trans (final_Q m c), h5.trans (final_K m c), h6.trans (final_V m c), h⟩) (Value.run_blocks m ρ)

end Cert.KernelIdeal.MemAttn

end
-- ==== Proof.MemAttn.Reference.lean ====
/-
  WHAT THE REFERENCE COMPUTES, read at an index over the extended reals: the derivative of the memory cross-attention is
  `gradQ`, `gradK`, `gradV` of its arguments with the scores' gradient in the form of the quotient rule (`dsVjp`), which is
  the kernel's form where the queries and keys are finite.
-/
module

public import proofs.«01_k».proof.Proof.Gen.ReferenceIdeal.Read
public import proofs.«01_k».proof.Proof.MemAttn.Row
public import Idealize.ShloMosaic.Lib.Pointwise

@[expose] public section

noncomputable section

namespace Cert.ReferenceIdeal.MemAttn

open Cert.ReferenceIdeal Cert.ReferenceIdeal.Read Cert.MemAttn Idealize.ShloMosaic

variable (x0 x3 : (⟨S8192x1024, .bf16⟩ : BufTy).Contents (Elt Ideal)) (x1 x2 : (⟨S256x1024, .bf16⟩ : BufTy).Contents (Elt Ideal))

theorem bot_eq : Ideal.ofBits .f32 0xFF800000#32 = ⊥ := by simp [Ideal.ofBits, Ideal.ieee]

/-! ## The heads of the arguments -/

theorem v3_at (j : S8192x4x256.Idx) : val_main_v3 (F := Ideal) x0 j = x0 (ix2 (j 0) (col (j 1) (j 2))) := by
  rw [val_main_v3_apply, val_main_v0_apply]
  show x0 _ = x0 _
  congr 1
  have h0 : (j 0).val < 8192 := (j 0).isLt
  have h1 : (j 1).val < 4 := (j 1).isLt
  have h2 : (j 2).val < 256 := (j 2).isLt
  funext a
  apply Fin.ext
  match a with
  | ⟨0, _⟩ => show (((j 0).val * 4 + (j 1).val) * 256 + (j 2).val) / 1024 = (j 0).val; omega
  | ⟨1, _⟩ => show (((j 0).val * 4 + (j 1).val) * 256 + (j 2).val) % 1024 = 256 * (j 1).val + (j 2).val; omega

theorem v4_at (j : S256x4x256.Idx) : val_main_v4 (F := Ideal) x1 j = x1 (ix2 (j 0) (col (j 1) (j 2))) := by
  rw [val_main_v4_apply, val_main_v1_apply]
  show x1 _ = x1 _
  congr 1
  have h0 : (j 0).val < 256 := (j 0).isLt
  have h1 : (j 1).val < 4 := (j 1).isLt
  have h2 : (j 2).val < 256 := (j 2).isLt
  funext a
  apply Fin.ext
  match a with
  | ⟨0, _⟩ => show (((j 0).val * 4 + (j 1).val) * 256 + (j 2).val) / 1024 = (j 0).val; omega
  | ⟨1, _⟩ => show (((j 0).val * 4 + (j 1).val) * 256 + (j 2).val) % 1024 = 256 * (j 1).val + (j 2).val; omega

theorem v5_at (j : S256x4x256.Idx) : val_main_v5 (F := Ideal) x2 j = x2 (ix2 (j 0) (col (j 1) (j 2))) := v4_at x2 j

theorem v42_at (j : S4x256x8192.Idx) : val_main_v42 (F := Ideal) x3 j = x3 (ix2 (j 2) (col (j 0) (j 1))) := by
  rw [val_main_v42_apply]
  exact v3_at x3 (idx_main_v42 j)

/-! ## The softmax -/

theorem v8_at (i : S4x8192x256.Idx) : val_main_v8 (F := Ideal) x0 x1 i = sc x0 x1 (i 0) (i 1) (i 2) := by
  rw [val_main_v8_apply, val_main_v6_apply, val_main_v7_apply]
  simp only [v3_at, v4_at]
  rfl

theorem v9_at (i : S4x8192.Idx) : val_main_v9 (F := Ideal) x0 x1 i = top (sc x0 x1 (i 0) (i 1)) := by
  unfold val_main_v9 top
  simp only [pointwise, v8_at]
  rw [← bot_eq]
  rfl

theorem v27_at (i : S4x8192x256.Idx) : val_main_v27 (F := Ideal) x0 x1 i = top (sc x0 x1 (i 0) (i 1)) := by
  rw [val_main_v27_apply, val_main_v26_apply, val_main_v16_apply, val_main_v15_apply, v9_at]
  show max (Ideal.ofBits .f32 0xFF800000#32) _ = _
  rw [bot_eq, bot_sup_eq]
  rfl

theorem v29_at (i : S4x8192x256.Idx) : val_main_v29 (F := Ideal) x0 x1 i = ex (sc x0 x1 (i 0) (i 1)) (i 2) := by
  rw [val_main_v29_apply, val_main_v28_apply, v27_at, v8_at]
  rfl

theorem v30_at (i : S4x8192.Idx) : val_main_v30 (F := Ideal) x0 x1 i = ∑ k, ex (sc x0 x1 (i 0) (i 1)) k := by
  rw [val_main_v30_apply]
  simp only [v29_at]
  show Ideal.ofBits .f32 0x00000000#32 + _ = _
  rw [Ideal.ofBits_zero_f32, zero_add]
  rfl

theorem v33_at (i : S4x8192x256.Idx) : val_main_v33 (F := Ideal) x0 x1 i = wt (sc x0 x1 (i 0) (i 1)) (i 2) := by
  rw [val_main_v33_apply, val_main_v32_apply, val_main_v31_apply, v30_at, v29_at]
  rfl

/-! ## The derivative -/

theorem v43_at (i : S4x8192x256.Idx) : val_main_v43 (F := Ideal) x2 x3 i = dw x3 x2 (i 0) (i 1) (i 2) := by
  rw [val_main_v43_apply]
  simp only [v42_at, v5_at]
  rfl

theorem v36_at (i : S4x8192x1.Idx) : val_main_v36 (F := Ideal) x0 x1 i
    = Ideal.div 1 ((∑ k, ex (sc x0 x1 (i 0) (i 1)) k) * (∑ k, ex (sc x0 x1 (i 0) (i 1)) k)) := by
  rw [val_main_v36_apply, val_main_v35_apply, val_main_v34_apply, val_main_v31_apply, v30_at]
  show Ideal.div (Ideal.ofBits .f32 0x3F800000#32) _ = _
  rw [Ideal.ofBits_one_f32]
  rfl

theorem v49_at (i : S4x8192.Idx) : val_main_v49 (F := Ideal) x0 x1 x2 x3 i
    = ∑ k, dw x3 x2 (i 0) (i 1) k * Ideal.div 1 ((∑ k, ex (sc x0 x1 (i 0) (i 1)) k) * (∑ k, ex (sc x0 x1 (i 0) (i 1)) k)) * ex (sc x0 x1 (i 0) (i 1)) k := by
  rw [val_main_v49_apply]
  simp only [val_main_v48_apply, val_main_v47_apply, val_main_v46_apply, v43_at, v36_at, v29_at]
  show Ideal.ofBits .f32 0x00000000#32 + _ = _
  rw [Ideal.ofBits_zero_f32, zero_add]
  rfl

theorem v54_at (i : S4x8192.Idx) : val_main_v54 (F := Ideal) x0 x1 x2 x3 i = -val_main_v49 (F := Ideal) x0 x1 x2 x3 i := by
  rw [val_main_v54_apply]
  simp only [Fin.sum_univ_one, val_main_v51_apply, val_main_v50_apply]
  show Ideal.ofBits .f32 0x00000000#32 + -val_main_v49 (F := Ideal) x0 x1 x2 x3 (idx_main_v50 (idx_main_v54 i 0)) = _
  rw [Ideal.ofBits_zero_f32, zero_add]
  refine congrArg (fun j => -val_main_v49 (F := Ideal) x0 x1 x2 x3 j) ?_
  funext a
  have h0 : (i 0).val < 4 := (i 0).isLt
  have h1 : (i 1).val < 8192 := (i 1).isLt
  apply Fin.ext
  match a with
  | ⟨0, _⟩ => show (((i 0).val * 8192 + (i 1).val) * 1 + 0) / 8192 = (i 0).val; omega
  | ⟨1, _⟩ => show (((i 0).val * 8192 + (i 1).val) * 1 + 0) % 8192 = (i 1).val; omega

theorem v59_at (i : S4x8192x256.Idx) : val_main_v59 (F := Ideal) x0 x1 x2 x3 i
    = dsVjp (sc x0 x1 (i 0) (i 1)) (dw x3 x2 (i 0) (i 1)) (i 2) * scale := by
  rw [val_main_v59_apply, val_main_v58_apply, val_main_v57_apply, val_main_v56_apply, val_main_v55_apply, v54_at, v49_at,
    val_main_v53_apply, val_main_v52_apply, val_main_v31_apply, v30_at, v43_at, v29_at]
  rfl

/-! ## The three results -/

variable {x0 x1} (hs : ∀ h r, ∃ s : Fin 256 → ℝ, ∀ j, sc x0 x1 h r j = (s j : EReal))
include hs

/-- Where the scores are finite the reference's gradient of the scores is the kernel's. -/
theorem v59_eq (i : S4x8192x256.Idx) : val_main_v59 (F := Ideal) x0 x1 x2 x3 i
    = ds (sc x0 x1 (i 0) (i 1)) (dw x3 x2 (i 0) (i 1)) (i 2) * scale := by
  obtain ⟨s, h⟩ := hs (i 0) (i 1)
  exact (v59_at x0 x3 x1 x2 i).trans (congrArg (· * scale) (dsVjp_eq _ _ s h _))

theorem v67_eq (i : S8192x1024.Idx) : val_main_v67 (F := Ideal) x0 x1 x2 x3 i = gradQ x0 x1 x2 x3 (i 0) (i 1) := by
  rw [val_main_v67_apply, val_main_v66_apply, val_main_v63_apply, val_main_v62_apply]
  simp only [v59_eq x3 x2 hs, v4_at]
  have h0 : (i 0).val < 8192 := (i 0).isLt
  have h1 : (i 1).val < 1024 := (i 1).isLt
  have e0 : idx_main_v66 i 0 = i 0 := Fin.ext (by show ((i 0).val * 1024 + (i 1).val) / 1024 = (i 0).val; omega)
  have e1 : idx_main_v66 i 1 = hd (i 1) := Fin.ext (by show ((i 0).val * 1024 + (i 1).val) / 256 % 4 = (i 1).val / 256; omega)
  have e2 : col (idx_main_v66 i 1) (idx_main_v66 i 2) = i 1 := Fin.ext (by
    show 256 * (((i 0).val * 1024 + (i 1).val) / 256 % 4) + ((i 0).val * 1024 + (i 1).val) % 256 = (i 1).val; omega)
  refine Finset.sum_congr rfl fun k _ => ?_
  show ds (sc x0 x1 (idx_main_v66 i 1) (idx_main_v66 i 0)) (dw x3 x2 (idx_main_v66 i 1) (idx_main_v66 i 0)) k * scale
    * x1 (ix2 k (col (idx_main_v66 i 1) (idx_main_v66 i 2))) = _
  rw [e2, e1, e0]

theorem v65_eq (i : S256x1024.Idx) : val_main_v65 (F := Ideal) x0 x1 x2 x3 i = gradK x0 x1 x2 x3 (i 0) (i 1) := by
  rw [val_main_v65_apply, val_main_v61_apply, val_main_v60_apply]
  simp only [v59_eq x3 x2 hs, v3_at]
  have h0 : (i 0).val < 256 := (i 0).isLt
  have h1 : (i 1).val < 1024 := (i 1).isLt
  have e0 : idx_main_v65 i 0 = i 0 := Fin.ext (by show ((i 0).val * 1024 + (i 1).val) / 1024 = (i 0).val; omega)
  have e1 : idx_main_v65 i 1 = hd (i 1) := Fin.ext (by show ((i 0).val * 1024 + (i 1).val) / 256 % 4 = (i 1).val / 256; omega)
  have e2 : col (idx_main_v65 i 1) (idx_main_v65 i 2) = i 1 := Fin.ext (by
    show 256 * (((i 0).val * 1024 + (i 1).val) / 256 % 4) + ((i 0).val * 1024 + (i 1).val) % 256 = (i 1).val; omega)
  refine Finset.sum_congr rfl fun r _ => ?_
  show ds (sc x0 x1 (idx_main_v65 i 1) r) (dw x3 x2 (idx_main_v65 i 1) r) (idx_main_v65 i 0) * scale
    * x0 (ix2 r (col (idx_main_v65 i 1) (idx_main_v65 i 2))) = _
  rw [e2, e1, e0]

omit hs in
theorem v64_eq (i : S256x1024.Idx) : val_main_v64 (F := Ideal) x0 x1 x3 i = gradV x0 x1 x3 (i 0) (i 1) := by
  rw [val_main_v64_apply, val_main_v45_apply, val_main_v44_apply]
  simp only [v42_at, v33_at]
  have h0 : (i 0).val < 256 := (i 0).isLt
  have h1 : (i 1).val < 1024 := (i 1).isLt
  have e0 : idx_main_v64 i 0 = i 0 := Fin.ext (by show ((i 0).val * 1024 + (i 1).val) / 1024 = (i 0).val; omega)
  have e1 : idx_main_v64 i 1 = hd (i 1) := Fin.ext (by show ((i 0).val * 1024 + (i 1).val) / 256 % 4 = (i 1).val / 256; omega)
  have e2 : col (idx_main_v64 i 1) (idx_main_v64 i 2) = i 1 := Fin.ext (by
    show 256 * (((i 0).val * 1024 + (i 1).val) / 256 % 4) + ((i 0).val * 1024 + (i 1).val) % 256 = (i 1).val; omega)
  refine Finset.sum_congr rfl fun r _ => ?_
  show x3 (ix2 r (col (idx_main_v64 i 1) (idx_main_v64 i 2))) * wt (sc x0 x1 (idx_main_v64 i 1) r) (idx_main_v64 i 0) = _
  rw [e2, e1, e0, mul_comm]

end Cert.ReferenceIdeal.MemAttn

end
-- ==== Proof.MemAttn.Finite.lean ====
/-
  WHAT THE PRECONDITION GIVES: where every entry of the queries and of the keys is less than infinity in absolute value,
  the scores are real numbers.
-/
module

public import proofs.«01_k».proof.Pre_finite_scores
public import proofs.«01_k».proof.Proof.MemAttn.Row
public import Idealize.ShloMosaic.Lib.ReduceAll

@[expose] public section

noncomputable section

namespace Cert.MemAttn

open Cert.Pre_finite_scores Idealize.ShloMosaic

theorem inf_eq : Ideal.ofBits .f32 0x7F800000#32 = ⊤ := by simp [Ideal.ofBits, Ideal.ieee]

theorem scale_coe : scale = ((1 / 16 : ℝ) : EReal) := by
  simp [scale, Ideal.ofBits, Ideal.ieee, -EReal.coe_mul]; norm_num

/-- An extended real of absolute value below infinity is a real number. -/
theorem real_of_abs (x : EReal) (h : Ideal.cmp .olt (max x (-x)) ⊤ = 1#1) : ∃ r : ℝ, x = (r : EReal) := by
  have hlt : max x (-x) < ⊤ := by
    by_contra hn
    simp [Ideal.cmp, hn] at h
  obtain ⟨h1, h2⟩ := max_lt_iff.1 hlt
  induction x with
  | bot => simp at h2
  | top => simp at h1
  | coe r => exact ⟨r, rfl⟩

instance : Subsingleton S_.Idx := ⟨fun _ _ => funext fun a => a.elim0⟩

variable [Cert.Pre_finite_scores.Facts]
variable (q d : FVec Ideal S8192x1024 .bf16) (k v : FVec Ideal S256x1024 .bf16)

/-- The precondition's two halves. -/
theorem finite (h : fn (F := Ideal) q k v d = fun _ => 1#1) :
    (∀ i, ∃ r : ℝ, q i = (r : EReal)) ∧ ∀ i, ∃ r : ℝ, k i = (r : EReal) := by
  have h0 := congrFun h (fun a => a.elim0)
  obtain ⟨hq, hk⟩ := IntOp.andi_eq_one.1 h0
  constructor <;> intro i <;> apply real_of_abs <;> rw [← inf_eq]
  · exact Host.reduce_andi_all _ _ _ _ _ hq i
  · exact Host.reduce_andi_all _ _ _ _ _ hk i

/-- Under the precondition the scores are real. -/
theorem sc_coe (h : fn (F := Ideal) q k v d = fun _ => 1#1) (hd : Fin 4) (r : Fin 8192) :
    ∃ s : Fin 256 → ℝ, ∀ j, sc q k hd r j = (s j : EReal) := by
  obtain ⟨hq, hk⟩ := finite q d k v h
  choose a ha using hq
  choose b hb using hk
  refine ⟨fun j => (∑ c : Fin 256, a (ix2 r (col hd c)) * b (ix2 j (col hd c))) * (1 / 16), fun j => ?_⟩
  unfold sc
  simp only [ha, hb, ← EReal.coe_mul]
  rw [coe_sum, scale_coe, ← EReal.coe_mul]

end Cert.MemAttn
-- ==== Proof.MemAttn.Claims.lean ====
/-
  THE CLAIMS ABOUT THE MEMORY ATTENTION'S GRADIENT: the frames, and that kernel and reference compute the same three arrays.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_scores
public import proofs.«01_k».proof.Proof.MemAttn.Arrays
public import proofs.«01_k».proof.Proof.MemAttn.Reference
public import proofs.«01_k».proof.Proof.MemAttn.Finite
public import Idealize.ShloMosaic.Adequacy
public import Idealize.ShloMosaic.Init

@[expose] public section

noncomputable section

namespace Cert.MemAttn

open Idealize.ShloMosaic Idealize.SL.Sem

/-- The reference leaves its arguments unchanged, and there is no semaphore in it. -/
theorem reference_frame : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run m g)

/-- Kernel and reference end with the same gradients of the queries, keys and values. -/
theorem algebraic : Cert.algebraic_KernelIdeal_ReferenceIdeal_pre_finite_scores := fun m g m' g' hpre hargs =>
  ⟨Cert.KernelIdeal.MemAttn.resultQ m, Cert.KernelIdeal.MemAttn.resultK m, Cert.KernelIdeal.MemAttn.resultV m,
    Cert.KernelIdeal.MemAttn.run m g,
    (θ_run Cert.ReferenceIdeal.defs _ _).mono (fun r h c => by
      obtain ⟨hq, hk, hv, h⟩ := h c
      obtain ⟨e0, e1, e2, e3⟩ := hargs c
      have hs := sc_coe _ _ _ _ (hpre c)
      refine ⟨?_, ?_, ?_, h⟩
      · rw [hq, Cert.ReferenceIdeal.Read.val_main_v67_eq, e0, e1, e2, e3]
        exact funext fun i => Cert.ReferenceIdeal.MemAttn.v67_eq _ _ hs i
      · rw [hk, Cert.ReferenceIdeal.Read.val_main_v65_eq, e0, e1, e2, e3]
        exact funext fun i => Cert.ReferenceIdeal.MemAttn.v65_eq _ _ hs i
      · rw [hv, e0, e1, e3]
        exact (Cert.ReferenceIdeal.Read.val_main_v64_eq _ _ _).trans (funext fun i => Cert.ReferenceIdeal.MemAttn.v64_eq _ i))
      (Cert.ReferenceIdeal.Value.run m' g')⟩

end Cert.MemAttn
-- ==== Proof.Swa.Tile.lean ====
/-
  ONE GRID POINT of the sliding-window attention's gradient, as the kernel computes it: a block of 128 queries in 8 heads of 64
  columns, whose 4 heads to a key head are laid one under the other as 512 rows, against the 256 keys of its own block and of
  the block before it.
-/
module

public import proofs.«01_k».proof.Proof.Gen.SwaBwdIdeal.Value
public import Idealize.ShloMosaic.Lib.Pipeline.ReadBack
public import Idealize.ShloMosaic.Lib.Pointwise.Tactic
public import Idealize.ShloMosaic.Lib.ValueIdx
public import Idealize.ShloMosaic.Lib.Tactic

@[expose] public section

noncomputable section

namespace Cert.SwaBwdIdeal.Swa

open Cert.SwaBwdIdeal Cert.SwaBwdIdeal.Gen Idealize.ShloMosaic Idealize.ShloMosaic.TcCoe Idealize.SL.Sem

variable {F : FTy → Type} [FloatOps F]

/-! ## The parts of the blocks -/

/-- The 64 columns of head `h` in a block of eight heads. -/
def headOf {e : EltTy} (x : Vec F S128x512 e) (h : Fin 8) : Vec F S128x64 e :=
  fun i => x (ix2 (i 0) ⟨64 * h.val + (i 1).val, by have : (i 1).val < 64 := (i 1).isLt; omega⟩)

/-- The 64 columns of key head `k` in a block of two. -/
def keyOf {e : EltTy} (x : Vec F S128x128 e) (k : Fin 2) : Vec F S128x64 e :=
  fun i => x (ix2 (i 0) ⟨64 * k.val + (i 1).val, by have : (i 1).val < 64 := (i 1).isLt; omega⟩)

/-- The column of head `h`. -/
def colOf {e : EltTy} (x : Vec F S128x8 e) (h : Fin 8) : Vec F S128x1 e := fun i => x (ix2 (i 0) h)

/-- Query head `g` of key head `k`. -/
def hd (k : Fin 2) (g : Fin 4) : Fin 8 := ⟨4 * k.val + g.val, by omega⟩

/-- The keys or values of a key head: the block before, then the point's own. -/
def keys (p c : Vec F S128x128 .bf16) (k : Fin 2) : FVec F S256x64 .bf16 :=
  concatenate S256x64 0 [⟨S128x64, keyOf p k⟩, ⟨S128x64, keyOf c k⟩] concatenates_S128x64_S128x64_S256x64_d0

/-- The rows of the four heads of a key head, one head under the other. -/
def rows (x : Vec F S128x512 .bf16) (k : Fin 2) : FVec F S512x64 .bf16 :=
  concatenate S512x64 0 [⟨S128x64, headOf x (hd k 0)⟩, ⟨S128x64, headOf x (hd k 1)⟩, ⟨S128x64, headOf x (hd k 2)⟩, ⟨S128x64, headOf x (hd k 3)⟩]
    concatenates_S128x64_S128x64_S128x64_S128x64_S512x64_d0

/-- The logarithms of the four heads of a key head, likewise. -/
def logs (x : Vec F S128x8 .f32) (k : Fin 2) : FVec F S512x1 .f32 :=
  concatenate S512x1 0 [⟨S128x1, colOf x (hd k 0)⟩, ⟨S128x1, colOf x (hd k 1)⟩, ⟨S128x1, colOf x (hd k 2)⟩, ⟨S128x1, colOf x (hd k 3)⟩]
    concatenates_S128x1_S128x1_S128x1_S128x1_S512x1_d0

/-! ## The point's values -/

/-- The weights. -/
def prob (i : grid0.Coords) (q : FVec F S512x64 .bf16) (k : FVec F S256x64 .bf16) (l : FVec F S512x1 .f32) : FVec F S512x256 .f32 :=
  select (k0_pay7 i)
    (exp (subf
      (select (k0_pay7 i)
        (mulf (matmul dot_S512x64_S256x64_S512x256_1_1_0_0_n_n none q k (constant S512x256 .f32 0x00000000#32)) (broadcast S512x256 (Scalar.ofBits .f32 0x3E000000#32)))
        (broadcast S512x256 (Scalar.ofBits .f32 0xF149F2CA#32)))
      (broadcastTo S512x256 l broadcasts_S512x1_S512x256)))
    (broadcast S512x256 (Scalar.ofBits .f32 0x00000000#32))

/-- The gradient of the weights. -/
def dprob (d : FVec F S512x64 .bf16) (v : FVec F S256x64 .bf16) : FVec F S512x256 .f32 :=
  matmul dot_S512x64_S256x64_S512x256_1_1_0_0_n_n none d v (constant S512x256 .f32 0x00000000#32)

/-- Each row's sum of weight times gradient. -/
def delta (p dp : FVec F S512x256 .f32) : FVec F S512x1 .f32 :=
  shapeCast S512x1 (multiReduction .add [1] S512 (mulf p dp) 0x00000000#32 reduces_S512x256_S512 (.inl rfl) rfl) shapeCasts_S512_S512x1

/-- The gradient of the scores before their scale. -/
def dscore (p dp : FVec F S512x256 .f32) : FVec F S512x256 .bf16 :=
  truncf .bf16 (mulf (mulf p (subf dp (broadcastTo S512x256 (delta p dp) broadcasts_S512x1_S512x256))) (broadcast S512x256 (Scalar.ofBits .f32 0x3E000000#32))) bitsLt_bf16_f32

/-- The gradient of the queries. -/
def gq (p dp : FVec F S512x256 .f32) (k : FVec F S256x64 .bf16) : FVec F S512x64 .bf16 :=
  truncf .bf16 (matmul dot_S512x256_S256x64_S512x64_1_0_0_1_n_n none (dscore p dp) k (constant S512x64 .f32 0x00000000#32)) bitsLt_bf16_f32

/-- The gradient of the keys. -/
def gk (p dp : FVec F S512x256 .f32) (q : FVec F S512x64 .bf16) : FVec F S256x64 .f32 :=
  matmul dot_S512x256_S512x64_S256x64_0_0_1_1_n_n none (dscore p dp) q (constant S256x64 .f32 0x00000000#32)

/-- The gradient of the values. -/
def gv (p : FVec F S512x256 .f32) (d : FVec F S512x64 .bf16) : FVec F S256x64 .f32 :=
  matmul dot_S512x256_S512x64_S256x64_0_0_1_1_n_n none (truncf .bf16 p bitsLt_bf16_f32) d (constant S256x64 .f32 0x00000000#32)

/-- The point's weights, for a key head. -/
def weights (i : grid0.Coords) (q : Vec F S128x512 .bf16) (kp kc : Vec F S128x128 .bf16) (l : Vec F S128x8 .f32) (k : Fin 2) : FVec F S512x256 .f32 :=
  prob i (rows q k) (keys kp kc k) (logs l k)

/-- Their gradient. -/
def dweights (d : Vec F S128x512 .bf16) (vp vc : Vec F S128x128 .bf16) (k : Fin 2) : FVec F S512x256 .f32 :=
  dprob (rows d k) (keys vp vc k)

/-- Values of 64 columns, side by side. -/
def beside {n W : Nat} (hW : W = 64 * n) {e : EltTy} (p : Fin n → Vec F S128x64 e) : Vec F ⟨2, ![128, W]⟩ e :=
  fun y => p ⟨(y 1).val / 64, by have : (y 1).val < W := (y 1).isLt; omega⟩ (ix2 (y 0) ⟨(y 1).val % 64, Nat.mod_lt _ (by norm_num)⟩)

/-- The rows of head `h` in a value whose four heads lie one under the other. -/
def part (x : FVec F S512x64 .bf16) (g : Fin 4) : FVec F S128x64 .bf16 :=
  fun i => x (ix2 ⟨128 * g.val + (i 0).val, by have : (i 0).val < 128 := (i 0).isLt; omega⟩ (i 1))

/-- The keys of the block before, or of the point's own. -/
def side (x : FVec F S256x64 .f32) (b : Fin 2) : FVec F S128x64 .f32 :=
  fun i => x (ix2 ⟨128 * b.val + (i 0).val, by have : (i 0).val < 128 := (i 0).isLt; omega⟩ (i 1))

/-- The key head of a query head, and its place there. -/
def kh (h : Fin 8) : Fin 2 := ⟨h.val / 4, by omega⟩
def gr (h : Fin 8) : Fin 4 := ⟨h.val % 4, Nat.mod_lt _ (by norm_num)⟩

/-- What the point stores of the queries' gradient. -/
def stepQ (i : grid0.Coords) (q : Vec F S128x512 .bf16) (kp kc vp vc : Vec F S128x128 .bf16) (d : Vec F S128x512 .bf16) (l : Vec F S128x8 .f32) : Vec F S128x512 .bf16 :=
  beside (n := 8) rfl fun h => part (gq (weights i q kp kc l (kh h)) (dweights d vp vc (kh h)) (keys kp kc (kh h))) (gr h)

/-- What it stores of the keys' gradient, of the block before or its own. -/
def stepK (b : Fin 2) (i : grid0.Coords) (q : Vec F S128x512 .bf16) (kp kc vp vc : Vec F S128x128 .bf16) (d : Vec F S128x512 .bf16) (l : Vec F S128x8 .f32) : Vec F S128x128 .f32 :=
  beside (n := 2) rfl fun k => side (gk (weights i q kp kc l k) (dweights d vp vc k) (rows q k)) b

/-- What it stores of the values' gradient. -/
def stepV (b : Fin 2) (i : grid0.Coords) (q : Vec F S128x512 .bf16) (kp kc : Vec F S128x128 .bf16) (d : Vec F S128x512 .bf16) (l : Vec F S128x8 .f32) : Vec F S128x128 .f32 :=
  beside (n := 2) rfl fun k => side (gv (weights i q kp kc l k) (rows d k)) b

/-! ## Loads, cuts and stores -/

theorem ld_head (x : Vec F S128x512 .bf16) (h : Fin 8) (o : Nat) (ho : o = 64 * h.val)
    (inb : ∀ a, (![0, o] : Fin 2 → Nat) a + (![128, 64] : Fin 2 → Nat) a ≤ S128x512.size a) :
    View.ld x (Rect.unit (s := S128x512) ![0, o] ![128, 64] inb) = headOf x h := by
  subst ho
  funext i
  refine congrArg x (funext fun a => Fin.ext ?_)
  fin_cases a
  · show 0 + 1 * (i 0).val = (i 0).val; omega
  · show 64 * h.val + 1 * (i 1).val = 64 * h.val + (i 1).val; omega

theorem ld_key (x : Vec F S128x128 .bf16) (k : Fin 2) (o : Nat) (ho : o = 64 * k.val)
    (inb : ∀ a, (![0, o] : Fin 2 → Nat) a + (![128, 64] : Fin 2 → Nat) a ≤ S128x128.size a) :
    View.ld x (Rect.unit (s := S128x128) ![0, o] ![128, 64] inb) = keyOf x k := by
  subst ho
  funext i
  refine congrArg x (funext fun a => Fin.ext ?_)
  fin_cases a
  · show 0 + 1 * (i 0).val = (i 0).val; omega
  · show 64 * k.val + 1 * (i 1).val = 64 * k.val + (i 1).val; omega

theorem ld_col (x : Vec F S128x8 .f32) (h : Fin 8) (o : Nat) (ho : o = h.val)
    (inb : ∀ a, (![0, o] : Fin 2 → Nat) a + (![128, 1] : Fin 2 → Nat) a ≤ S128x8.size a) :
    View.ld x (Rect.unit (s := S128x8) ![0, o] ![128, 1] inb) = colOf x h := by
  subst ho
  funext i
  have h1 : (i 1).val < 1 := (i 1).isLt
  refine congrArg x (funext fun a => Fin.ext ?_)
  fin_cases a
  · show 0 + 1 * (i 0).val = (i 0).val; omega
  · show h.val + 1 * (i 1).val = h.val; omega

theorem cut_part (x : FVec F S512x64 .bf16) (g : Fin 4) (o : Nat) (ho : o = 128 * g.val) (hs) :
    extractStridedSlice S128x64 ![o, 0] x hs = part x g := by
  subst ho
  funext i
  refine congrArg x (funext fun a => Fin.ext ?_)
  fin_cases a
  · show 128 * g.val + (i 0).val = 128 * g.val + (i 0).val; rfl
  · show 0 + (i 1).val = (i 1).val; omega

theorem cut_side (x : FVec F S256x64 .f32) (b : Fin 2) (o : Nat) (ho : o = 128 * b.val) (hs) :
    extractStridedSlice S128x64 ![o, 0] x hs = side x b := by
  subst ho
  funext i
  refine congrArg x (funext fun a => Fin.ext ?_)
  fin_cases a
  · show 128 * b.val + (i 0).val = 128 * b.val + (i 0).val; rfl
  · show 0 + (i 1).val = (i 1).val; omega

/-- A store of 64 columns, read at an index of the block. -/
theorem canon_cols {W : Nat} {e : EltTy} (h : Nat) (o : Nat) (ho : o = 64 * h)
    (inb : ∀ a, (![0, o] : Fin 2 → Nat) a + (![128, 64] : Fin 2 → Nat) a ≤ (⟨2, ![128, W]⟩ : Shape).size a)
    (w : Vec F S128x64 e) (L : List (View.Piece (Elt F) ⟨2, ![128, W]⟩ e)) (i : (⟨2, ![128, W]⟩ : Shape).Idx) :
    View.canon (⟨Rect.unit (s := ⟨2, ![128, W]⟩) ![0, o] ![128, 64] inb, w⟩ :: L) i
      = if (i 1).val / 64 = h then w (ix2 (i 0) ⟨(i 1).val % 64, Nat.mod_lt _ (by norm_num)⟩) else View.canon L i := by
  subst ho
  split
  · next hh =>
    have e : (Rect.unit (s := ⟨2, ![128, W]⟩) ![0, 64 * h] ![128, 64] inb).emb (ix2 (i 0) ⟨(i 1).val % 64, Nat.mod_lt _ (by norm_num)⟩) = i := by
      funext a; refine Fin.ext ?_
      fin_cases a
      · show 0 + 1 * (i 0).val = (i 0).val; omega
      · show 64 * h + 1 * ((i 1).val % 64) = (i 1).val; omega
    conv_lhs => rw [← e]
    exact View.canon_cons_emb (Rect.unit (s := ⟨2, ![128, W]⟩) ![0, 64 * h] ![128, 64] inb) w L _
  · next hh =>
    refine View.canon_cons_of_not_mem _ L fun hm => hh ?_
    rw [Rect.mem_set_unit] at hm
    have := hm 1
    have h1 : 64 * h ≤ (i 1).val := this.1
    have h2 : (i 1).val < 64 * h + 64 := this.2
    omega

theorem beside_at {n W : Nat} (hW : W = 64 * n) {e : EltTy} (p : Fin n → Vec F S128x64 e) (y : (⟨2, ![128, W]⟩ : Shape).Idx) (h : Fin n)
    (hh : (y 1).val / 64 = h.val) : p h (ix2 (y 0) ⟨(y 1).val % 64, Nat.mod_lt _ (by norm_num)⟩) = beside hW p y :=
  congrArg (fun h => p h (ix2 (y 0) ⟨(y 1).val % 64, Nat.mod_lt _ (by norm_num)⟩)) (Fin.ext hh.symm)

/-- Two stores leave their values side by side. -/
theorem canon_two {e : EltTy} (inb0 inb1) (p : Fin 2 → Vec F S128x64 e) (p0 p1 : Vec F S128x64 e) (h0 : p 0 = p0) (h1 : p 1 = p1) (L : List (View.Piece (Elt F) S128x128 e)) :
    View.canon (⟨Rect.unit (s := S128x128) ![0, 64] ![128, 64] inb1, p1⟩ :: ⟨Rect.unit (s := S128x128) ![0, 0] ![128, 64] inb0, p0⟩ :: L)
      = beside (n := 2) rfl p := by
  subst h0 h1
  funext y
  have hlt : (y 1).val < 128 := (y 1).isLt
  refine (canon_cols 1 64 rfl inb1 _ _ y).trans ?_
  split
  · next h => exact beside_at (n := 2) rfl p y 1 h
  refine (canon_cols 0 0 rfl inb0 _ _ y).trans ?_
  split
  · next h => exact beside_at (n := 2) rfl p y 0 h
  · exfalso; omega

/-- Eight stores leave their values side by side. -/
theorem canon_eight {e : EltTy} (i0 i1 i2 i3 i4 i5 i6 i7) (p : Fin 8 → Vec F S128x64 e) (p0 p1 p2 p3 p4 p5 p6 p7 : Vec F S128x64 e)
    (h0 : p 0 = p0) (h1 : p 1 = p1) (h2 : p 2 = p2) (h3 : p 3 = p3) (h4 : p 4 = p4) (h5 : p 5 = p5) (h6 : p 6 = p6) (h7 : p 7 = p7) :
    View.canon (Val := Elt F) [⟨Rect.unit (s := S128x512) ![0, 448] ![128, 64] i7, p7⟩, ⟨Rect.unit (s := S128x512) ![0, 384] ![128, 64] i6, p6⟩,
      ⟨Rect.unit (s := S128x512) ![0, 320] ![128, 64] i5, p5⟩, ⟨Rect.unit (s := S128x512) ![0, 256] ![128, 64] i4, p4⟩,
      ⟨Rect.unit (s := S128x512) ![0, 192] ![128, 64] i3, p3⟩, ⟨Rect.unit (s := S128x512) ![0, 128] ![128, 64] i2, p2⟩,
      ⟨Rect.unit (s := S128x512) ![0, 64] ![128, 64] i1, p1⟩, ⟨Rect.unit (s := S128x512) ![0, 0] ![128, 64] i0, p0⟩] = beside (n := 8) rfl p := by
  subst h0 h1 h2 h3 h4 h5 h6 h7
  funext y
  have hlt : (y 1).val < 512 := (y 1).isLt
  refine (canon_cols 7 448 rfl i7 _ _ y).trans ?_
  split; · next h => exact beside_at (n := 8) rfl p y 7 h
  refine (canon_cols 6 384 rfl i6 _ _ y).trans ?_
  split; · next h => exact beside_at (n := 8) rfl p y 6 h
  refine (canon_cols 5 320 rfl i5 _ _ y).trans ?_
  split; · next h => exact beside_at (n := 8) rfl p y 5 h
  refine (canon_cols 4 256 rfl i4 _ _ y).trans ?_
  split; · next h => exact beside_at (n := 8) rfl p y 4 h
  refine (canon_cols 3 192 rfl i3 _ _ y).trans ?_
  split; · next h => exact beside_at (n := 8) rfl p y 3 h
  refine (canon_cols 2 128 rfl i2 _ _ y).trans ?_
  split; · next h => exact beside_at (n := 8) rfl p y 2 h
  refine (canon_cols 1 64 rfl i1 _ _ y).trans ?_
  split; · next h => exact beside_at (n := 8) rfl p y 1 h
  refine (canon_cols 0 0 rfl i0 _ _ y).trans ?_
  split; · next h => exact beside_at (n := 8) rfl p y 0 h
  exfalso; omega

/-! ## The kernel's values are these -/

section

variable (i : grid0.Coords) (q d : Vec F S128x512 .bf16) (kp kc vp vc : Vec F S128x128 .bf16) (l : Vec F S128x8 .f32)

theorem pay9_eq : k0_pay9 (keyOf kp 0) (keyOf kc 0) = keys kp kc 0 := rfl
theorem pay10_eq : k0_pay10 (keyOf kp 1) (keyOf kc 1) = keys kp kc 1 := rfl
theorem pay11_eq : k0_pay11 (keyOf vp 0) (keyOf vc 0) = keys vp vc 0 := rfl
theorem pay12_eq : k0_pay12 (keyOf vp 1) (keyOf vc 1) = keys vp vc 1 := rfl
theorem pay13_eq : k0_pay13 (headOf q 0) (headOf q 1) (headOf q 2) (headOf q 3) = rows q 0 := rfl
theorem pay14_eq : k0_pay14 (headOf q 4) (headOf q 5) (headOf q 6) (headOf q 7) = rows q 1 := rfl
theorem pay15_eq : k0_pay15 (headOf d 0) (headOf d 1) (headOf d 2) (headOf d 3) = rows d 0 := rfl
theorem pay16_eq : k0_pay16 (headOf d 4) (headOf d 5) (headOf d 6) (headOf d 7) = rows d 1 := rfl
theorem pay18_eq : k0_pay18 (k0_pay17 (colOf l 0)) (colOf l 1) (colOf l 2) (colOf l 3) = logs l 0 := by
  unfold k0_pay18 k0_pay17; dsimp only; rw [shapeCast_self, shapeCast_self, shapeCast_self, shapeCast_self]; rfl
theorem pay19_eq : k0_pay19 (colOf l 4) (colOf l 5) (colOf l 6) (colOf l 7) = logs l 1 := by
  unfold k0_pay19; dsimp only; rw [shapeCast_self, shapeCast_self, shapeCast_self, shapeCast_self]; rfl
theorem pay22_eq : k0_pay22 (k0_pay7 i) (keys kp kc 0) (rows q 0) (k0_pay17 (colOf l 0)) (colOf l 1) (colOf l 2) (colOf l 3) = weights i q kp kc l 0 := by
  unfold k0_pay22; rw [pay18_eq]; rfl
theorem pay23_eq : k0_pay23 (k0_pay7 i) (keys kp kc 1) (rows q 1) (colOf l 4) (colOf l 5) (colOf l 6) (colOf l 7) = weights i q kp kc l 1 := by
  unfold k0_pay23; rw [pay19_eq]; rfl
theorem pay20_eq : k0_pay20 (keys vp vc 0) (rows d 0) = dweights d vp vc 0 := rfl
theorem pay21_eq : k0_pay21 (keys vp vc 1) (rows d 1) = dweights d vp vc 1 := rfl

end

section

variable (p dp : FVec F S512x256 .f32) (x : FVec F S512x64 .bf16) (k : FVec F S256x64 .bf16) (y : FVec F S256x64 .f32)

theorem pay24_eq : k0_pay24 dp p = delta p dp := rfl
theorem pay25_eq : k0_pay25 dp p = delta p dp := rfl
theorem pay28_eq : k0_pay28 k dp p = gq p dp k := rfl
theorem pay29_eq : k0_pay29 k dp p = gq p dp k := rfl
theorem pay30_eq : k0_pay30 x dp p = gk p dp x := rfl
theorem pay31_eq : k0_pay31 x dp p = gk p dp x := rfl
theorem pay32_eq : k0_pay32 x p = gv p x := rfl
theorem pay33_eq : k0_pay33 x p = gv p x := rfl
theorem pay38_eq : k0_pay38 x = part x 0 := cut_part x 0 0 rfl slices_S512x64_o0_0_S128x64
theorem pay41_eq : k0_pay41 x = part x 1 := cut_part x 1 128 rfl slices_S512x64_o128_0_S128x64
theorem pay42_eq : k0_pay42 x = part x 2 := cut_part x 2 256 rfl slices_S512x64_o256_0_S128x64
theorem pay44_eq : k0_pay44 x = part x 3 := cut_part x 3 384 rfl slices_S512x64_o384_0_S128x64
theorem pay55_eq : k0_pay55 x = part x 0 := cut_part x 0 0 rfl slices_S512x64_o0_0_S128x64
theorem pay57_eq : k0_pay57 x = part x 1 := cut_part x 1 128 rfl slices_S512x64_o128_0_S128x64
theorem pay58_eq : k0_pay58 x = part x 2 := cut_part x 2 256 rfl slices_S512x64_o256_0_S128x64
theorem pay60_eq : k0_pay60 x = part x 3 := cut_part x 3 384 rfl slices_S512x64_o384_0_S128x64
theorem pay48_eq : k0_pay48 y = side y 0 := cut_side y 0 0 rfl slices_S256x64_o0_0_S128x64
theorem pay49_eq : k0_pay49 y = side y 1 := cut_side y 1 128 rfl slices_S256x64_o128_0_S128x64
theorem pay50_eq : k0_pay50 y = side y 0 := cut_side y 0 0 rfl slices_S256x64_o0_0_S128x64
theorem pay51_eq : k0_pay51 y = side y 1 := cut_side y 1 128 rfl slices_S256x64_o128_0_S128x64
theorem pay1_eq : k0_pay1 y = side y 0 := cut_side y 0 0 rfl slices_S256x64_o0_0_S128x64
theorem pay2_eq : k0_pay2 y = side y 1 := cut_side y 1 128 rfl slices_S256x64_o128_0_S128x64
theorem pay3_eq : k0_pay3 y = side y 0 := cut_side y 0 0 rfl slices_S256x64_o0_0_S128x64
theorem pay4_eq : k0_pay4 y = side y 1 := cut_side y 1 128 rfl slices_S256x64_o128_0_S128x64

end

section

variable (i : grid0.Coords) (q d : Vec F S128x512 .bf16) (kp kc vp vc : Vec F S128x128 .bf16) (l : Vec F S128x8 .f32)

theorem w0 : k0_pay22 (k0_pay7 i) (k0_pay9 (keyOf kp 0) (keyOf kc 0)) (k0_pay13 (headOf q 0) (headOf q 1) (headOf q 2) (headOf q 3)) (k0_pay17 (colOf l 0)) (colOf l 1) (colOf l 2) (colOf l 3) = weights i q kp kc l 0 :=
  pay22_eq i q kp kc l
theorem d0 : k0_pay20 (k0_pay11 (keyOf vp 0) (keyOf vc 0)) (k0_pay15 (headOf d 0) (headOf d 1) (headOf d 2) (headOf d 3)) = dweights d vp vc 0 := rfl
theorem w1 : k0_pay23 (k0_pay7 i) (k0_pay10 (keyOf kp 1) (keyOf kc 1)) (k0_pay14 (headOf q 4) (headOf q 5) (headOf q 6) (headOf q 7)) (colOf l 4) (colOf l 5) (colOf l 6) (colOf l 7) = weights i q kp kc l 1 :=
  pay23_eq i q kp kc l
theorem d1 : k0_pay21 (k0_pay12 (keyOf vp 1) (keyOf vc 1)) (k0_pay16 (headOf d 4) (headOf d 5) (headOf d 6) (headOf d 7)) = dweights d vp vc 1 := rfl
theorem pieceV_10 : k0_pay51 (k0_pay32 (k0_pay15 (headOf d 0) (headOf d 1) (headOf d 2) (headOf d 3)) (k0_pay22 (k0_pay7 i) (k0_pay9 (keyOf kp 0) (keyOf kc 0)) (k0_pay13 (headOf q 0) (headOf q 1) (headOf q 2) (headOf q 3)) (k0_pay17 (colOf l 0)) (colOf l 1) (colOf l 2) (colOf l 3)))
    = side (gv (weights i q kp kc l 0) (rows d 0)) 1 := by
  rw [w0, pay15_eq, pay32_eq, pay51_eq]
theorem pieceV_11 : k0_pay4 (k0_pay33 (k0_pay16 (headOf d 4) (headOf d 5) (headOf d 6) (headOf d 7)) (k0_pay23 (k0_pay7 i) (k0_pay10 (keyOf kp 1) (keyOf kc 1)) (k0_pay14 (headOf q 4) (headOf q 5) (headOf q 6) (headOf q 7)) (colOf l 4) (colOf l 5) (colOf l 6) (colOf l 7)))
    = side (gv (weights i q kp kc l 1) (rows d 1)) 1 := by
  rw [w1, pay16_eq, pay33_eq, pay4_eq]
theorem pieceV_00 : k0_pay50 (k0_pay32 (k0_pay15 (headOf d 0) (headOf d 1) (headOf d 2) (headOf d 3)) (k0_pay22 (k0_pay7 i) (k0_pay9 (keyOf kp 0) (keyOf kc 0)) (k0_pay13 (headOf q 0) (headOf q 1) (headOf q 2) (headOf q 3)) (k0_pay17 (colOf l 0)) (colOf l 1) (colOf l 2) (colOf l 3)))
    = side (gv (weights i q kp kc l 0) (rows d 0)) 0 := by
  rw [w0, pay15_eq, pay32_eq, pay50_eq]
theorem pieceV_01 : k0_pay3 (k0_pay33 (k0_pay16 (headOf d 4) (headOf d 5) (headOf d 6) (headOf d 7)) (k0_pay23 (k0_pay7 i) (k0_pay10 (keyOf kp 1) (keyOf kc 1)) (k0_pay14 (headOf q 4) (headOf q 5) (headOf q 6) (headOf q 7)) (colOf l 4) (colOf l 5) (colOf l 6) (colOf l 7)))
    = side (gv (weights i q kp kc l 1) (rows d 1)) 0 := by
  rw [w1, pay16_eq, pay33_eq, pay3_eq]
theorem pieceK_10 : k0_pay49 (k0_pay30 (k0_pay13 (headOf q 0) (headOf q 1) (headOf q 2) (headOf q 3)) (k0_pay20 (k0_pay11 (keyOf vp 0) (keyOf vc 0)) (k0_pay15 (headOf d 0) (headOf d 1) (headOf d 2) (headOf d 3))) (k0_pay22 (k0_pay7 i) (k0_pay9 (keyOf kp 0) (keyOf kc 0)) (k0_pay13 (headOf q 0) (headOf q 1) (headOf q 2) (headOf q 3)) (k0_pay17 (colOf l 0)) (colOf l 1) (colOf l 2) (colOf l 3)))
    = side (gk (weights i q kp kc l 0) (dweights d vp vc 0) (rows q 0)) 1 := by
  rw [w0, d0, pay13_eq, pay30_eq, pay49_eq]
theorem pieceK_11 : k0_pay2 (k0_pay31 (k0_pay14 (headOf q 4) (headOf q 5) (headOf q 6) (headOf q 7)) (k0_pay21 (k0_pay12 (keyOf vp 1) (keyOf vc 1)) (k0_pay16 (headOf d 4) (headOf d 5) (headOf d 6) (headOf d 7))) (k0_pay23 (k0_pay7 i) (k0_pay10 (keyOf kp 1) (keyOf kc 1)) (k0_pay14 (headOf q 4) (headOf q 5) (headOf q 6) (headOf q 7)) (colOf l 4) (colOf l 5) (colOf l 6) (colOf l 7)))
    = side (gk (weights i q kp kc l 1) (dweights d vp vc 1) (rows q 1)) 1 := by
  rw [w1, d1, pay14_eq, pay31_eq, pay2_eq]
theorem pieceK_00 : k0_pay48 (k0_pay30 (k0_pay13 (headOf q 0) (headOf q 1) (headOf q 2) (headOf q 3)) (k0_pay20 (k0_pay11 (keyOf vp 0) (keyOf vc 0)) (k0_pay15 (headOf d 0) (headOf d 1) (headOf d 2) (headOf d 3))) (k0_pay22 (k0_pay7 i) (k0_pay9 (keyOf kp 0) (keyOf kc 0)) (k0_pay13 (headOf q 0) (headOf q 1) (headOf q 2) (headOf q 3)) (k0_pay17 (colOf l 0)) (colOf l 1) (colOf l 2) (colOf l 3)))
    = side (gk (weights i q kp kc l 0) (dweights d vp vc 0) (rows q 0)) 0 := by
  rw [w0, d0, pay13_eq, pay30_eq, pay48_eq]
theorem pieceK_01 : k0_pay1 (k0_pay31 (k0_pay14 (headOf q 4) (headOf q 5) (headOf q 6) (headOf q 7)) (k0_pay21 (k0_pay12 (keyOf vp 1) (keyOf vc 1)) (k0_pay16 (headOf d 4) (headOf d 5) (headOf d 6) (headOf d 7))) (k0_pay23 (k0_pay7 i) (k0_pay10 (keyOf kp 1) (keyOf kc 1)) (k0_pay14 (headOf q 4) (headOf q 5) (headOf q 6) (headOf q 7)) (colOf l 4) (colOf l 5) (colOf l 6) (colOf l 7)))
    = side (gk (weights i q kp kc l 1) (dweights d vp vc 1) (rows q 1)) 0 := by
  rw [w1, d1, pay14_eq, pay31_eq, pay1_eq]
theorem pieceQ_0 : k0_pay38 (k0_pay28 (k0_pay9 (keyOf kp 0) (keyOf kc 0)) (k0_pay20 (k0_pay11 (keyOf vp 0) (keyOf vc 0)) (k0_pay15 (headOf d 0) (headOf d 1) (headOf d 2) (headOf d 3))) (k0_pay22 (k0_pay7 i) (k0_pay9 (keyOf kp 0) (keyOf kc 0)) (k0_pay13 (headOf q 0) (headOf q 1) (headOf q 2) (headOf q 3)) (k0_pay17 (colOf l 0)) (colOf l 1) (colOf l 2) (colOf l 3)))
    = part (gq (weights i q kp kc l 0) (dweights d vp vc 0) (keys kp kc 0)) 0 := by
  rw [w0, d0, pay9_eq, pay28_eq, pay38_eq]
theorem pieceQ_1 : k0_pay41 (k0_pay28 (k0_pay9 (keyOf kp 0) (keyOf kc 0)) (k0_pay20 (k0_pay11 (keyOf vp 0) (keyOf vc 0)) (k0_pay15 (headOf d 0) (headOf d 1) (headOf d 2) (headOf d 3))) (k0_pay22 (k0_pay7 i) (k0_pay9 (keyOf kp 0) (keyOf kc 0)) (k0_pay13 (headOf q 0) (headOf q 1) (headOf q 2) (headOf q 3)) (k0_pay17 (colOf l 0)) (colOf l 1) (colOf l 2) (colOf l 3)))
    = part (gq (weights i q kp kc l 0) (dweights d vp vc 0) (keys kp kc 0)) 1 := by
  rw [w0, d0, pay9_eq, pay28_eq, pay41_eq]
theorem pieceQ_2 : k0_pay42 (k0_pay28 (k0_pay9 (keyOf kp 0) (keyOf kc 0)) (k0_pay20 (k0_pay11 (keyOf vp 0) (keyOf vc 0)) (k0_pay15 (headOf d 0) (headOf d 1) (headOf d 2) (headOf d 3))) (k0_pay22 (k0_pay7 i) (k0_pay9 (keyOf kp 0) (keyOf kc 0)) (k0_pay13 (headOf q 0) (headOf q 1) (headOf q 2) (headOf q 3)) (k0_pay17 (colOf l 0)) (colOf l 1) (colOf l 2) (colOf l 3)))
    = part (gq (weights i q kp kc l 0) (dweights d vp vc 0) (keys kp kc 0)) 2 := by
  rw [w0, d0, pay9_eq, pay28_eq, pay42_eq]
theorem pieceQ_3 : k0_pay44 (k0_pay28 (k0_pay9 (keyOf kp 0) (keyOf kc 0)) (k0_pay20 (k0_pay11 (keyOf vp 0) (keyOf vc 0)) (k0_pay15 (headOf d 0) (headOf d 1) (headOf d 2) (headOf d 3))) (k0_pay22 (k0_pay7 i) (k0_pay9 (keyOf kp 0) (keyOf kc 0)) (k0_pay13 (headOf q 0) (headOf q 1) (headOf q 2) (headOf q 3)) (k0_pay17 (colOf l 0)) (colOf l 1) (colOf l 2) (colOf l 3)))
    = part (gq (weights i q kp kc l 0) (dweights d vp vc 0) (keys kp kc 0)) 3 := by
  rw [w0, d0, pay9_eq, pay28_eq, pay44_eq]
theorem pieceQ_4 : k0_pay55 (k0_pay29 (k0_pay10 (keyOf kp 1) (keyOf kc 1)) (k0_pay21 (k0_pay12 (keyOf vp 1) (keyOf vc 1)) (k0_pay16 (headOf d 4) (headOf d 5) (headOf d 6) (headOf d 7))) (k0_pay23 (k0_pay7 i) (k0_pay10 (keyOf kp 1) (keyOf kc 1)) (k0_pay14 (headOf q 4) (headOf q 5) (headOf q 6) (headOf q 7)) (colOf l 4) (colOf l 5) (colOf l 6) (colOf l 7)))
    = part (gq (weights i q kp kc l 1) (dweights d vp vc 1) (keys kp kc 1)) 0 := by
  rw [w1, d1, pay10_eq, pay29_eq, pay55_eq]
theorem pieceQ_5 : k0_pay57 (k0_pay29 (k0_pay10 (keyOf kp 1) (keyOf kc 1)) (k0_pay21 (k0_pay12 (keyOf vp 1) (keyOf vc 1)) (k0_pay16 (headOf d 4) (headOf d 5) (headOf d 6) (headOf d 7))) (k0_pay23 (k0_pay7 i) (k0_pay10 (keyOf kp 1) (keyOf kc 1)) (k0_pay14 (headOf q 4) (headOf q 5) (headOf q 6) (headOf q 7)) (colOf l 4) (colOf l 5) (colOf l 6) (colOf l 7)))
    = part (gq (weights i q kp kc l 1) (dweights d vp vc 1) (keys kp kc 1)) 1 := by
  rw [w1, d1, pay10_eq, pay29_eq, pay57_eq]
theorem pieceQ_6 : k0_pay58 (k0_pay29 (k0_pay10 (keyOf kp 1) (keyOf kc 1)) (k0_pay21 (k0_pay12 (keyOf vp 1) (keyOf vc 1)) (k0_pay16 (headOf d 4) (headOf d 5) (headOf d 6) (headOf d 7))) (k0_pay23 (k0_pay7 i) (k0_pay10 (keyOf kp 1) (keyOf kc 1)) (k0_pay14 (headOf q 4) (headOf q 5) (headOf q 6) (headOf q 7)) (colOf l 4) (colOf l 5) (colOf l 6) (colOf l 7)))
    = part (gq (weights i q kp kc l 1) (dweights d vp vc 1) (keys kp kc 1)) 2 := by
  rw [w1, d1, pay10_eq, pay29_eq, pay58_eq]
theorem pieceQ_7 : k0_pay60 (k0_pay29 (k0_pay10 (keyOf kp 1) (keyOf kc 1)) (k0_pay21 (k0_pay12 (keyOf vp 1) (keyOf vc 1)) (k0_pay16 (headOf d 4) (headOf d 5) (headOf d 6) (headOf d 7))) (k0_pay23 (k0_pay7 i) (k0_pay10 (keyOf kp 1) (keyOf kc 1)) (k0_pay14 (headOf q 4) (headOf q 5) (headOf q 6) (headOf q 7)) (colOf l 4) (colOf l 5) (colOf l 6) (colOf l 7)))
    = part (gq (weights i q kp kc l 1) (dweights d vp vc 1) (keys kp kc 1)) 3 := by
  rw [w1, d1, pay10_eq, pay29_eq, pay60_eq]

end

end Cert.SwaBwdIdeal.Swa

end
-- ==== Proof.Swa.Outs.lean ====
/-
  WHAT EACH GRID POINT of the sliding-window attention's gradient leaves in its output windows.
-/
module

public import proofs.«01_k».proof.Proof.Swa.Tile

@[expose] public section

noncomputable section

namespace Cert.SwaBwdIdeal.Swa

open Cert.SwaBwdIdeal Cert.SwaBwdIdeal.Gen Idealize.ShloMosaic Idealize.ShloMosaic.TcCoe Idealize.SL.Sem

variable {F : FTy → Type} [FloatOps F]

variable (m : (ℓ : Loc nD τ sig) → Buf (Elt F) ℓ)

set_option maxHeartbeats 4000000 in
/-- The first point: the queries' gradient. -/
theorem outs_A_Q (c : Dev nD) (t : Fin cfg0.N) (h0 : t.val % 64 = 0) :
    (outsAt0 m c t.val t.isLt).1 = stepQ (grid0.coords t) (X0_1 m c t) (iblk m c 2 t) (iblk m c 3 t) (iblk m c 4 t) (iblk m c 5 t) (iblk m c 6 t) (iblk m c 7 t) := by
  rw [outsAt0_A m c t h0]
  dsimp only
  unfold out0_A_8
  rw [View.read_writes_eq_canon _ _ _ (cover0_A_8 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [ld_head _ 0 0 rfl, ld_head _ 1 64 rfl, ld_head _ 2 128 rfl, ld_head _ 3 192 rfl, ld_head _ 4 256 rfl, ld_head _ 5 320 rfl, ld_head _ 6 384 rfl,
    ld_head _ 7 448 rfl, ld_key _ 0 0 rfl, ld_key _ 1 64 rfl, ld_col _ 0 0 rfl, ld_col _ 1 1 rfl, ld_col _ 2 2 rfl, ld_col _ 3 3 rfl, ld_col _ 4 4 rfl,
    ld_col _ 5 5 rfl, ld_col _ 6 6 rfl, ld_col _ 7 7 rfl]
  exact canon_eight (F := F) (e := .bf16) _ _ _ _ _ _ _ _
    (fun h => part (gq (weights (grid0.coords t) (X0_1 m c t) (iblk m c 2 t) (iblk m c 3 t) (iblk m c 7 t) (kh h)) (dweights (iblk m c 6 t) (iblk m c 4 t) (iblk m c 5 t) (kh h)) (keys (iblk m c 2 t) (iblk m c 3 t) (kh h))) (gr h)) _ _ _ _ _ _ _ _
    (pieceQ_0 (grid0.coords t) (X0_1 m c t) (iblk m c 6 t) (iblk m c 2 t) (iblk m c 3 t) (iblk m c 4 t) (iblk m c 5 t) (iblk m c 7 t)).symm (pieceQ_1 (grid0.coords t) (X0_1 m c t) (iblk m c 6 t) (iblk m c 2 t) (iblk m c 3 t) (iblk m c 4 t) (iblk m c 5 t) (iblk m c 7 t)).symm (pieceQ_2 (grid0.coords t) (X0_1 m c t) (iblk m c 6 t) (iblk m c 2 t) (iblk m c 3 t) (iblk m c 4 t) (iblk m c 5 t) (iblk m c 7 t)).symm (pieceQ_3 (grid0.coords t) (X0_1 m c t) (iblk m c 6 t) (iblk m c 2 t) (iblk m c 3 t) (iblk m c 4 t) (iblk m c 5 t) (iblk m c 7 t)).symm (pieceQ_4 (grid0.coords t) (X0_1 m c t) (iblk m c 6 t) (iblk m c 2 t) (iblk m c 3 t) (iblk m c 4 t) (iblk m c 5 t) (iblk m c 7 t)).symm (pieceQ_5 (grid0.coords t) (X0_1 m c t) (iblk m c 6 t) (iblk m c 2 t) (iblk m c 3 t) (iblk m c 4 t) (iblk m c 5 t) (iblk m c 7 t)).symm (pieceQ_6 (grid0.coords t) (X0_1 m c t) (iblk m c 6 t) (iblk m c 2 t) (iblk m c 3 t) (iblk m c 4 t) (iblk m c 5 t) (iblk m c 7 t)).symm (pieceQ_7 (grid0.coords t) (X0_1 m c t) (iblk m c 6 t) (iblk m c 2 t) (iblk m c 3 t) (iblk m c 4 t) (iblk m c 5 t) (iblk m c 7 t)).symm

set_option maxHeartbeats 4000000 in
/-- The first point: the gradient of its own keys. -/
theorem outs_A_Ka (c : Dev nD) (t : Fin cfg0.N) (h0 : t.val % 64 = 0) :
    (outsAt0 m c t.val t.isLt).2.1 = stepK 1 (grid0.coords t) (X0_1 m c t) (iblk m c 2 t) (iblk m c 3 t) (iblk m c 4 t) (iblk m c 5 t) (iblk m c 6 t) (iblk m c 7 t) := by
  rw [outsAt0_A m c t h0]
  dsimp only
  unfold out0_A_9
  rw [View.read_writes_eq_canon _ _ _ (cover0_A_9 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [ld_head _ 0 0 rfl, ld_head _ 1 64 rfl, ld_head _ 2 128 rfl, ld_head _ 3 192 rfl, ld_head _ 4 256 rfl, ld_head _ 5 320 rfl, ld_head _ 6 384 rfl,
    ld_head _ 7 448 rfl, ld_key _ 0 0 rfl, ld_key _ 1 64 rfl, ld_col _ 0 0 rfl, ld_col _ 1 1 rfl, ld_col _ 2 2 rfl, ld_col _ 3 3 rfl, ld_col _ 4 4 rfl,
    ld_col _ 5 5 rfl, ld_col _ 6 6 rfl, ld_col _ 7 7 rfl]
  exact canon_two (F := F) (e := .f32) inb_S128x128_S128x64_0_0 inb_S128x128_S128x64_0_64 (fun k => side (gk (weights (grid0.coords t) (X0_1 m c t) (iblk m c 2 t) (iblk m c 3 t) (iblk m c 7 t) k) (dweights (iblk m c 6 t) (iblk m c 4 t) (iblk m c 5 t) k) (rows (X0_1 m c t) k)) 1) _ _
    (pieceK_10 (grid0.coords t) (X0_1 m c t) (iblk m c 6 t) (iblk m c 2 t) (iblk m c 3 t) (iblk m c 4 t) (iblk m c 5 t) (iblk m c 7 t)).symm (pieceK_11 (grid0.coords t) (X0_1 m c t) (iblk m c 6 t) (iblk m c 2 t) (iblk m c 3 t) (iblk m c 4 t) (iblk m c 5 t) (iblk m c 7 t)).symm []

set_option maxHeartbeats 4000000 in
/-- The first point: the gradient of the keys before. -/
theorem outs_A_Kb (c : Dev nD) (t : Fin cfg0.N) (h0 : t.val % 64 = 0) :
    (outsAt0 m c t.val t.isLt).2.2.1 = stepK 0 (grid0.coords t) (X0_1 m c t) (iblk m c 2 t) (iblk m c 3 t) (iblk m c 4 t) (iblk m c 5 t) (iblk m c 6 t) (iblk m c 7 t) := by
  rw [outsAt0_A m c t h0]
  dsimp only
  unfold out0_A_10
  rw [View.read_writes_eq_canon _ _ _ (cover0_A_10 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [ld_head _ 0 0 rfl, ld_head _ 1 64 rfl, ld_head _ 2 128 rfl, ld_head _ 3 192 rfl, ld_head _ 4 256 rfl, ld_head _ 5 320 rfl, ld_head _ 6 384 rfl,
    ld_head _ 7 448 rfl, ld_key _ 0 0 rfl, ld_key _ 1 64 rfl, ld_col _ 0 0 rfl, ld_col _ 1 1 rfl, ld_col _ 2 2 rfl, ld_col _ 3 3 rfl, ld_col _ 4 4 rfl,
    ld_col _ 5 5 rfl, ld_col _ 6 6 rfl, ld_col _ 7 7 rfl]
  exact canon_two (F := F) (e := .f32) inb_S128x128_S128x64_0_0 inb_S128x128_S128x64_0_64 (fun k => side (gk (weights (grid0.coords t) (X0_1 m c t) (iblk m c 2 t) (iblk m c 3 t) (iblk m c 7 t) k) (dweights (iblk m c 6 t) (iblk m c 4 t) (iblk m c 5 t) k) (rows (X0_1 m c t) k)) 0) _ _
    (pieceK_00 (grid0.coords t) (X0_1 m c t) (iblk m c 6 t) (iblk m c 2 t) (iblk m c 3 t) (iblk m c 4 t) (iblk m c 5 t) (iblk m c 7 t)).symm (pieceK_01 (grid0.coords t) (X0_1 m c t) (iblk m c 6 t) (iblk m c 2 t) (iblk m c 3 t) (iblk m c 4 t) (iblk m c 5 t) (iblk m c 7 t)).symm []

set_option maxHeartbeats 4000000 in
/-- The first point: the gradient of its own values. -/
theorem outs_A_Va (c : Dev nD) (t : Fin cfg0.N) (h0 : t.val % 64 = 0) :
    (outsAt0 m c t.val t.isLt).2.2.2.1 = stepV 1 (grid0.coords t) (X0_1 m c t) (iblk m c 2 t) (iblk m c 3 t) (iblk m c 6 t) (iblk m c 7 t) := by
  rw [outsAt0_A m c t h0]
  dsimp only
  unfold out0_A_11
  rw [View.read_writes_eq_canon _ _ _ (cover0_A_11 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [ld_head _ 0 0 rfl, ld_head _ 1 64 rfl, ld_head _ 2 128 rfl, ld_head _ 3 192 rfl, ld_head _ 4 256 rfl, ld_head _ 5 320 rfl, ld_head _ 6 384 rfl,
    ld_head _ 7 448 rfl, ld_key _ 0 0 rfl, ld_key _ 1 64 rfl, ld_col _ 0 0 rfl, ld_col _ 1 1 rfl, ld_col _ 2 2 rfl, ld_col _ 3 3 rfl, ld_col _ 4 4 rfl,
    ld_col _ 5 5 rfl, ld_col _ 6 6 rfl, ld_col _ 7 7 rfl]
  exact canon_two (F := F) (e := .f32) inb_S128x128_S128x64_0_0 inb_S128x128_S128x64_0_64 (fun k => side (gv (weights (grid0.coords t) (X0_1 m c t) (iblk m c 2 t) (iblk m c 3 t) (iblk m c 7 t) k) (rows (iblk m c 6 t) k)) 1) _ _
    (pieceV_10 (grid0.coords t) (X0_1 m c t) (iblk m c 6 t) (iblk m c 2 t) (iblk m c 3 t) (iblk m c 7 t)).symm (pieceV_11 (grid0.coords t) (X0_1 m c t) (iblk m c 6 t) (iblk m c 2 t) (iblk m c 3 t) (iblk m c 7 t)).symm []

set_option maxHeartbeats 4000000 in
/-- The first point: the gradient of the values before. -/
theorem outs_A_Vb (c : Dev nD) (t : Fin cfg0.N) (h0 : t.val % 64 = 0) :
    (outsAt0 m c t.val t.isLt).2.2.2.2.1 = stepV 0 (grid0.coords t) (X0_1 m c t) (iblk m c 2 t) (iblk m c 3 t) (iblk m c 6 t) (iblk m c 7 t) := by
  rw [outsAt0_A m c t h0]
  dsimp only
  unfold out0_A_12
  rw [View.read_writes_eq_canon _ _ _ (cover0_A_12 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [ld_head _ 0 0 rfl, ld_head _ 1 64 rfl, ld_head _ 2 128 rfl, ld_head _ 3 192 rfl, ld_head _ 4 256 rfl, ld_head _ 5 320 rfl, ld_head _ 6 384 rfl,
    ld_head _ 7 448 rfl, ld_key _ 0 0 rfl, ld_key _ 1 64 rfl, ld_col _ 0 0 rfl, ld_col _ 1 1 rfl, ld_col _ 2 2 rfl, ld_col _ 3 3 rfl, ld_col _ 4 4 rfl,
    ld_col _ 5 5 rfl, ld_col _ 6 6 rfl, ld_col _ 7 7 rfl]
  exact canon_two (F := F) (e := .f32) inb_S128x128_S128x64_0_0 inb_S128x128_S128x64_0_64 (fun k => side (gv (weights (grid0.coords t) (X0_1 m c t) (iblk m c 2 t) (iblk m c 3 t) (iblk m c 7 t) k) (rows (iblk m c 6 t) k)) 0) _ _
    (pieceV_00 (grid0.coords t) (X0_1 m c t) (iblk m c 6 t) (iblk m c 2 t) (iblk m c 3 t) (iblk m c 7 t)).symm (pieceV_01 (grid0.coords t) (X0_1 m c t) (iblk m c 6 t) (iblk m c 2 t) (iblk m c 3 t) (iblk m c 7 t)).symm []

set_option maxHeartbeats 4000000 in
/-- A later point: the queries' gradient. -/
theorem outs_B_Q (c : Dev nD) (t : Fin cfg0.N) (h0 : ¬t.val % 64 = 0) :
    (outsAt0 m c t.val t.isLt).1 = stepQ (grid0.coords t) (X0_1 m c t) (iblk m c 2 t) (iblk m c 3 t) (iblk m c 4 t) (iblk m c 5 t) (iblk m c 6 t) (iblk m c 7 t) := by
  rw [outsAt0_B m c t h0]
  dsimp only
  unfold out0_B_8
  rw [View.read_writes_eq_canon _ _ _ (cover0_B_8 c _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [ld_head _ 0 0 rfl, ld_head _ 1 64 rfl, ld_head _ 2 128 rfl, ld_head _ 3 192 rfl, ld_head _ 4 256 rfl, ld_head _ 5 320 rfl, ld_head _ 6 384 rfl,
    ld_head _ 7 448 rfl, ld_key _ 0 0 rfl, ld_key _ 1 64 rfl, ld_col _ 0 0 rfl, ld_col _ 1 1 rfl, ld_col _ 2 2 rfl, ld_col _ 3 3 rfl, ld_col _ 4 4 rfl,
    ld_col _ 5 5 rfl, ld_col _ 6 6 rfl, ld_col _ 7 7 rfl]
  exact canon_eight (F := F) (e := .bf16) _ _ _ _ _ _ _ _
    (fun h => part (gq (weights (grid0.coords t) (X0_1 m c t) (iblk m c 2 t) (iblk m c 3 t) (iblk m c 7 t) (kh h)) (dweights (iblk m c 6 t) (iblk m c 4 t) (iblk m c 5 t) (kh h)) (keys (iblk m c 2 t) (iblk m c 3 t) (kh h))) (gr h)) _ _ _ _ _ _ _ _
    (pieceQ_0 (grid0.coords t) (X0_1 m c t) (iblk m c 6 t) (iblk m c 2 t) (iblk m c 3 t) (iblk m c 4 t) (iblk m c 5 t) (iblk m c 7 t)).symm (pieceQ_1 (grid0.coords t) (X0_1 m c t) (iblk m c 6 t) (iblk m c 2 t) (iblk m c 3 t) (iblk m c 4 t) (iblk m c 5 t) (iblk m c 7 t)).symm (pieceQ_2 (grid0.coords t) (X0_1 m c t) (iblk m c 6 t) (iblk m c 2 t) (iblk m c 3 t) (iblk m c 4 t) (iblk m c 5 t) (iblk m c 7 t)).symm (pieceQ_3 (grid0.coords t) (X0_1 m c t) (iblk m c 6 t) (iblk m c 2 t) (iblk m c 3 t) (iblk m c 4 t) (iblk m c 5 t) (iblk m c 7 t)).symm (pieceQ_4 (grid0.coords t) (X0_1 m c t) (iblk m c 6 t) (iblk m c 2 t) (iblk m c 3 t) (iblk m c 4 t) (iblk m c 5 t) (iblk m c 7 t)).symm (pieceQ_5 (grid0.coords t) (X0_1 m c t) (iblk m c 6 t) (iblk m c 2 t) (iblk m c 3 t) (iblk m c 4 t) (iblk m c 5 t) (iblk m c 7 t)).symm (pieceQ_6 (grid0.coords t) (X0_1 m c t) (iblk m c 6 t) (iblk m c 2 t) (iblk m c 3 t) (iblk m c 4 t) (iblk m c 5 t) (iblk m c 7 t)).symm (pieceQ_7 (grid0.coords t) (X0_1 m c t) (iblk m c 6 t) (iblk m c 2 t) (iblk m c 3 t) (iblk m c 4 t) (iblk m c 5 t) (iblk m c 7 t)).symm

set_option maxHeartbeats 4000000 in
/-- A later point: the gradient of its own keys. -/
theorem outs_B_Ka (c : Dev nD) (t : Fin cfg0.N) (h0 : ¬t.val % 64 = 0) :
    (outsAt0 m c t.val t.isLt).2.1 = stepK 1 (grid0.coords t) (X0_1 m c t) (iblk m c 2 t) (iblk m c 3 t) (iblk m c 4 t) (iblk m c 5 t) (iblk m c 6 t) (iblk m c 7 t) := by
  rw [outsAt0_B m c t h0]
  dsimp only
  unfold out0_B_9
  rw [View.read_writes_eq_canon _ _ _ (cover0_B_9 c _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [ld_head _ 0 0 rfl, ld_head _ 1 64 rfl, ld_head _ 2 128 rfl, ld_head _ 3 192 rfl, ld_head _ 4 256 rfl, ld_head _ 5 320 rfl, ld_head _ 6 384 rfl,
    ld_head _ 7 448 rfl, ld_key _ 0 0 rfl, ld_key _ 1 64 rfl, ld_col _ 0 0 rfl, ld_col _ 1 1 rfl, ld_col _ 2 2 rfl, ld_col _ 3 3 rfl, ld_col _ 4 4 rfl,
    ld_col _ 5 5 rfl, ld_col _ 6 6 rfl, ld_col _ 7 7 rfl]
  exact canon_two (F := F) (e := .f32) inb_S128x128_S128x64_0_0 inb_S128x128_S128x64_0_64 (fun k => side (gk (weights (grid0.coords t) (X0_1 m c t) (iblk m c 2 t) (iblk m c 3 t) (iblk m c 7 t) k) (dweights (iblk m c 6 t) (iblk m c 4 t) (iblk m c 5 t) k) (rows (X0_1 m c t) k)) 1) _ _
    (pieceK_10 (grid0.coords t) (X0_1 m c t) (iblk m c 6 t) (iblk m c 2 t) (iblk m c 3 t) (iblk m c 4 t) (iblk m c 5 t) (iblk m c 7 t)).symm (pieceK_11 (grid0.coords t) (X0_1 m c t) (iblk m c 6 t) (iblk m c 2 t) (iblk m c 3 t) (iblk m c 4 t) (iblk m c 5 t) (iblk m c 7 t)).symm []

set_option maxHeartbeats 4000000 in
/-- A later point: the gradient of the keys before. -/
theorem outs_B_Kb (c : Dev nD) (t : Fin cfg0.N) (h0 : ¬t.val % 64 = 0) :
    (outsAt0 m c t.val t.isLt).2.2.1 = stepK 0 (grid0.coords t) (X0_1 m c t) (iblk m c 2 t) (iblk m c 3 t) (iblk m c 4 t) (iblk m c 5 t) (iblk m c 6 t) (iblk m c 7 t) := by
  rw [outsAt0_B m c t h0]
  dsimp only
  unfold out0_B_10
  rw [View.read_writes_eq_canon _ _ _ (cover0_B_10 c _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [ld_head _ 0 0 rfl, ld_head _ 1 64 rfl, ld_head _ 2 128 rfl, ld_head _ 3 192 rfl, ld_head _ 4 256 rfl, ld_head _ 5 320 rfl, ld_head _ 6 384 rfl,
    ld_head _ 7 448 rfl, ld_key _ 0 0 rfl, ld_key _ 1 64 rfl, ld_col _ 0 0 rfl, ld_col _ 1 1 rfl, ld_col _ 2 2 rfl, ld_col _ 3 3 rfl, ld_col _ 4 4 rfl,
    ld_col _ 5 5 rfl, ld_col _ 6 6 rfl, ld_col _ 7 7 rfl]
  exact canon_two (F := F) (e := .f32) inb_S128x128_S128x64_0_0 inb_S128x128_S128x64_0_64 (fun k => side (gk (weights (grid0.coords t) (X0_1 m c t) (iblk m c 2 t) (iblk m c 3 t) (iblk m c 7 t) k) (dweights (iblk m c 6 t) (iblk m c 4 t) (iblk m c 5 t) k) (rows (X0_1 m c t) k)) 0) _ _
    (pieceK_00 (grid0.coords t) (X0_1 m c t) (iblk m c 6 t) (iblk m c 2 t) (iblk m c 3 t) (iblk m c 4 t) (iblk m c 5 t) (iblk m c 7 t)).symm (pieceK_01 (grid0.coords t) (X0_1 m c t) (iblk m c 6 t) (iblk m c 2 t) (iblk m c 3 t) (iblk m c 4 t) (iblk m c 5 t) (iblk m c 7 t)).symm []

set_option maxHeartbeats 4000000 in
/-- A later point: the gradient of its own values. -/
theorem outs_B_Va (c : Dev nD) (t : Fin cfg0.N) (h0 : ¬t.val % 64 = 0) :
    (outsAt0 m c t.val t.isLt).2.2.2.1 = stepV 1 (grid0.coords t) (X0_1 m c t) (iblk m c 2 t) (iblk m c 3 t) (iblk m c 6 t) (iblk m c 7 t) := by
  rw [outsAt0_B m c t h0]
  dsimp only
  unfold out0_B_11
  rw [View.read_writes_eq_canon _ _ _ (cover0_B_11 c _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [ld_head _ 0 0 rfl, ld_head _ 1 64 rfl, ld_head _ 2 128 rfl, ld_head _ 3 192 rfl, ld_head _ 4 256 rfl, ld_head _ 5 320 rfl, ld_head _ 6 384 rfl,
    ld_head _ 7 448 rfl, ld_key _ 0 0 rfl, ld_key _ 1 64 rfl, ld_col _ 0 0 rfl, ld_col _ 1 1 rfl, ld_col _ 2 2 rfl, ld_col _ 3 3 rfl, ld_col _ 4 4 rfl,
    ld_col _ 5 5 rfl, ld_col _ 6 6 rfl, ld_col _ 7 7 rfl]
  exact canon_two (F := F) (e := .f32) inb_S128x128_S128x64_0_0 inb_S128x128_S128x64_0_64 (fun k => side (gv (weights (grid0.coords t) (X0_1 m c t) (iblk m c 2 t) (iblk m c 3 t) (iblk m c 7 t) k) (rows (iblk m c 6 t) k)) 1) _ _
    (pieceV_10 (grid0.coords t) (X0_1 m c t) (iblk m c 6 t) (iblk m c 2 t) (iblk m c 3 t) (iblk m c 7 t)).symm (pieceV_11 (grid0.coords t) (X0_1 m c t) (iblk m c 6 t) (iblk m c 2 t) (iblk m c 3 t) (iblk m c 7 t)).symm []

set_option maxHeartbeats 4000000 in
/-- A later point: the gradient of the values before. -/
theorem outs_B_Vb (c : Dev nD) (t : Fin cfg0.N) (h0 : ¬t.val % 64 = 0) :
    (outsAt0 m c t.val t.isLt).2.2.2.2.1 = stepV 0 (grid0.coords t) (X0_1 m c t) (iblk m c 2 t) (iblk m c 3 t) (iblk m c 6 t) (iblk m c 7 t) := by
  rw [outsAt0_B m c t h0]
  dsimp only
  unfold out0_B_12
  rw [View.read_writes_eq_canon _ _ _ (cover0_B_12 c _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [ld_head _ 0 0 rfl, ld_head _ 1 64 rfl, ld_head _ 2 128 rfl, ld_head _ 3 192 rfl, ld_head _ 4 256 rfl, ld_head _ 5 320 rfl, ld_head _ 6 384 rfl,
    ld_head _ 7 448 rfl, ld_key _ 0 0 rfl, ld_key _ 1 64 rfl, ld_col _ 0 0 rfl, ld_col _ 1 1 rfl, ld_col _ 2 2 rfl, ld_col _ 3 3 rfl, ld_col _ 4 4 rfl,
    ld_col _ 5 5 rfl, ld_col _ 6 6 rfl, ld_col _ 7 7 rfl]
  exact canon_two (F := F) (e := .f32) inb_S128x128_S128x64_0_0 inb_S128x128_S128x64_0_64 (fun k => side (gv (weights (grid0.coords t) (X0_1 m c t) (iblk m c 2 t) (iblk m c 3 t) (iblk m c 7 t) k) (rows (iblk m c 6 t) k)) 0) _ _
    (pieceV_00 (grid0.coords t) (X0_1 m c t) (iblk m c 6 t) (iblk m c 2 t) (iblk m c 3 t) (iblk m c 7 t)).symm (pieceV_01 (grid0.coords t) (X0_1 m c t) (iblk m c 6 t) (iblk m c 2 t) (iblk m c 3 t) (iblk m c 7 t)).symm []

end Cert.SwaBwdIdeal.Swa

end
-- ==== Proof.Swa.Row.lean ====
/-
  ONE ROW of the sliding-window attention and its gradient, over the extended reals: 256 keys, of which a row sees those at
  most 127 places before it, and a sink beside them. The weights as the kernel writes them, from the rows' logarithms, are those
  of the softmax, and the gradient of the scores is what the quotient rule gives, where the scores are finite.
-/
module

public import proofs.«01_k».proof.Proof.MemAttn.Row

@[expose] public section

noncomputable section

namespace Cert.Swa

open Idealize.ShloMosaic
open Cert.MemAttn (top ex wt dsVjp coe_sum div_coe dsVjp_of_coe)

/-- The factor of the scores, 1/8. -/
def scale : EReal := Ideal.ofBits .f32 0x3E000000#32

/-- Row `r` of block `n` sees key `j` of its window. -/
def ok (n : Fin 64) (r : Fin 128) (j : Fin 256) : Prop := (j.val ≤ r.val + 128 ∧ r.val < j.val) ∧ (128 ≤ j.val ∨ 0 < n.val)

instance (n : Fin 64) (r : Fin 128) (j : Fin 256) : Decidable (ok n r j) := by unfold ok; infer_instance

/-- The key head of a query head. -/
def kh (h : Fin 8) : Fin 2 := ⟨h.val / 4, by omega⟩
/-- Query head `g` of key head `k`. -/
def hd (k : Fin 2) (g : Fin 4) : Fin 8 := ⟨4 * k.val + g.val, by omega⟩

theorem kh_hd (k : Fin 2) (g : Fin 4) : kh (hd k g) = k := Fin.ext (by show (4 * k.val + g.val) / 4 = k.val; omega)

/-- The arguments' entries, by block and head: queries, keys and values of each block's window, incoming gradient, sinks. -/
structure Args where
  /-- The queries. -/
  q : Fin 64 → Fin 8 → Fin 128 → Fin 64 → EReal
  /-- The keys. -/
  k : Fin 64 → Fin 2 → Fin 256 → Fin 64 → EReal
  /-- The values. -/
  v : Fin 64 → Fin 2 → Fin 256 → Fin 64 → EReal
  /-- The gradient that comes in. -/
  d : Fin 64 → Fin 8 → Fin 128 → Fin 64 → EReal
  /-- The sinks. -/
  s : Fin 8 → EReal

namespace Args

variable (A B : Args) (n : Fin 64) (h : Fin 8) (r : Fin 128)

/-- The scaled scores. -/
def sc (j : Fin 256) : EReal := (∑ c : Fin 64, A.q n h r c * A.k n (kh h) j c) * scale
/-- The scores that the softmax takes: those not seen are −∞, and the sink comes after them. -/
def row (j : Fin 257) : EReal := if hj : j.val < 256 then (if ok n r ⟨j.val, hj⟩ then A.sc n h r ⟨j.val, hj⟩ else ⊥) else A.s h
/-- The logarithm of the sum of the exponentials. -/
def lse : EReal := top (A.row n h r) + Ideal.log (∑ j, ex (A.row n h r) j)
/-- The weights. -/
def p (j : Fin 256) : EReal := if ok n r j then Ideal.exp (A.sc n h r j - A.lse n h r) else 0
/-- The sink's weight. -/
def ps : EReal := Ideal.exp (A.s h - A.lse n h r)
/-- The gradient of the weights. -/
def dp (j : Fin 256) : EReal := ∑ c : Fin 64, A.d n h r c * A.v n (kh h) j c
/-- The sum of weight times gradient. -/
def delta : EReal := ∑ j, A.p n h r j * A.dp n h r j
/-- The gradient of the scores before their scale. -/
def ds (j : Fin 256) : EReal := A.p n h r j * (A.dp n h r j - A.delta n h r) * scale
/-- The gradient of the queries. -/
def dq (c : Fin 64) : EReal := ∑ j, A.ds n h r j * A.k n (kh h) j c
/-- The gradient of the window's keys. -/
def dk (k : Fin 2) (j : Fin 256) (c : Fin 64) : EReal := ∑ g : Fin 4, ∑ r : Fin 128, A.ds n (hd k g) r j * A.q n (hd k g) r c
/-- The gradient of the window's values. -/
def dv (k : Fin 2) (j : Fin 256) (c : Fin 64) : EReal := ∑ g : Fin 4, ∑ r : Fin 128, A.p n (hd k g) r j * A.d n (hd k g) r c
/-- What a block gives to the sink's gradient. -/
def part : EReal := -∑ r : Fin 128, A.ps n h r * A.delta n h r
/-- The gradient of the sinks. -/
def dsink : EReal := ∑ n : Fin 64, A.part n h

/-- The weights' gradient with the sink's, which is nothing. -/
def dpx (j : Fin 257) : EReal := if hj : j.val < 256 then A.dp n h r ⟨j.val, hj⟩ else 0

theorem row_castSucc (j : Fin 256) : A.row n h r j.castSucc = if ok n r j then A.sc n h r j else ⊥ := dif_pos j.isLt
theorem row_last : A.row n h r (Fin.last 256) = A.s h := dif_neg (by simp)
theorem dpx_castSucc (j : Fin 256) : A.dpx n h r j.castSucc = A.dp n h r j := dif_pos j.isLt
theorem dpx_last : A.dpx n h r (Fin.last 256) = 0 := dif_neg (by simp)

/-! ## Keys that are not seen do not count -/

/-- Two sets of arguments that differ only in the keys and values before the first block. -/
structure Agree : Prop where
  q : A.q = B.q
  d : A.d = B.d
  s : A.s = B.s
  k : ∀ n k j, 128 ≤ j.val ∨ 0 < n.val → A.k n k j = B.k n k j
  v : ∀ n k j, 128 ≤ j.val ∨ 0 < n.val → A.v n k j = B.v n k j

variable {A B} (H : Agree A B)
include H

theorem Agree.sc (j : Fin 256) (hj : ok n r j) : A.sc n h r j = B.sc n h r j := by
  unfold Args.sc; rw [H.q, H.k n _ j hj.2]
theorem Agree.dp (j : Fin 256) (hj : ok n r j) : A.dp n h r j = B.dp n h r j := by
  unfold Args.dp; rw [H.d, H.v n _ j hj.2]
theorem Agree.row : A.row n h r = B.row n h r := by
  funext j
  unfold Args.row
  split
  · split
    · next hj => exact H.sc n h r _ hj
    · rfl
  · rw [H.s]
theorem Agree.lse : A.lse n h r = B.lse n h r := by unfold Args.lse; rw [H.row]
theorem Agree.p (j : Fin 256) : A.p n h r j = B.p n h r j := by
  unfold Args.p
  split
  · next hj => rw [H.sc n h r j hj, H.lse]
  · rfl
omit H in
theorem p_of_not (A : Args) (j : Fin 256) (hj : ¬ok n r j) : A.p n h r j = 0 := if_neg hj
omit H in
theorem ds_of_not (A : Args) (j : Fin 256) (hj : ¬ok n r j) : A.ds n h r j = 0 := by
  unfold Args.ds; rw [p_of_not n h r A j hj, zero_mul, zero_mul]
theorem Agree.delta : A.delta n h r = B.delta n h r := by
  unfold Args.delta
  refine Finset.sum_congr rfl fun j _ => ?_
  by_cases hj : ok n r j
  · rw [H.p, H.dp n h r j hj]
  · rw [p_of_not n h r A j hj, p_of_not n h r B j hj, zero_mul, zero_mul]
theorem Agree.ds (j : Fin 256) : A.ds n h r j = B.ds n h r j := by
  by_cases hj : ok n r j
  · unfold Args.ds; rw [H.p, H.dp n h r j hj, H.delta]
  · rw [ds_of_not n h r A j hj, ds_of_not n h r B j hj]
theorem Agree.dq (c : Fin 64) : A.dq n h r c = B.dq n h r c := by
  unfold Args.dq
  refine Finset.sum_congr rfl fun j _ => ?_
  by_cases hj : ok n r j
  · rw [H.ds, H.k n _ j hj.2]
  · rw [ds_of_not n h r A j hj, ds_of_not n h r B j hj, zero_mul, zero_mul]
theorem Agree.dk (k : Fin 2) (j : Fin 256) (c : Fin 64) : A.dk n k j c = B.dk n k j c := by
  unfold Args.dk; simp only [H.ds, H.q]
theorem Agree.dv (k : Fin 2) (j : Fin 256) (c : Fin 64) : A.dv n k j c = B.dv n k j c := by
  unfold Args.dv; simp only [H.p, H.d]
theorem Agree.dsink : A.dsink h = B.dsink h := by
  unfold Args.dsink Args.part Args.ps; simp only [H.lse, H.delta, H.s]
omit H

/-! ## The softmax and its derivative -/

variable (A) (hx : ∀ n h r j, ∃ x : ℝ, A.sc n h r j = (x : EReal)) (hs : ∀ h, ∃ x : ℝ, A.s h = (x : EReal))
include hx hs

/-- On finite scores the exponentials are reals of positive sum, and the kernel's weights are the softmax's. -/
theorem real_row : ∃ e : Fin 257 → ℝ, 0 < ∑ i, e i ∧ (∀ j, ex (A.row n h r) j = (e j : EReal))
    ∧ (∀ j, A.p n h r j = ((e j.castSucc * (∑ i, e i)⁻¹ : ℝ) : EReal)) ∧ A.ps n h r = ((e (Fin.last 256) * (∑ i, e i)⁻¹ : ℝ) : EReal) := by
  choose x hx using hx n h r
  obtain ⟨y, hy⟩ := hs h
  have hM : ∃ M : ℝ, top (A.row n h r) = (M : EReal) := by
    obtain ⟨j, -, hj⟩ := Finset.exists_mem_eq_sup (Finset.univ : Finset (Fin 257)) ⟨0, Finset.mem_univ _⟩ (A.row n h r)
    have hj : top (A.row n h r) = A.row n h r j := hj
    have hle : A.row n h r (Fin.last 256) ≤ top (A.row n h r) := Finset.le_sup (f := A.row n h r) (Finset.mem_univ _)
    rw [row_last, hy] at hle
    rw [hj] at hle ⊢
    unfold row at hle ⊢
    split
    · next hj' =>
      rw [dif_pos hj'] at hle
      split
      · exact ⟨_, hx _⟩
      · next hk => rw [if_neg hk] at hle; exact absurd hle (not_le.2 (EReal.bot_lt_coe y))
    · exact ⟨y, hy⟩
  obtain ⟨M, hM⟩ := hM
  let e : Fin 257 → ℝ := fun j => if hj : j.val < 256 then (if ok n r ⟨j.val, hj⟩ then Real.exp (x ⟨j.val, hj⟩ - M) else 0) else Real.exp (y - M)
  have he0 : ∀ j, 0 ≤ e j := fun j => by
    show 0 ≤ (if hj : j.val < 256 then (if ok n r ⟨j.val, hj⟩ then Real.exp (x ⟨j.val, hj⟩ - M) else 0) else Real.exp (y - M))
    split
    · split
      · exact (Real.exp_pos _).le
      · exact le_rfl
    · exact (Real.exp_pos _).le
  have hlast : e (Fin.last 256) = Real.exp (y - M) := dif_neg (by simp)
  have hcast : ∀ j : Fin 256, e j.castSucc = if ok n r j then Real.exp (x j - M) else 0 := fun j => dif_pos j.isLt
  have hL : 0 < ∑ i, e i := lt_of_lt_of_le (by rw [hlast]; exact Real.exp_pos _ : 0 < e (Fin.last 256))
    (Finset.single_le_sum (f := e) (fun i _ => he0 i) (Finset.mem_univ _))
  have hex : ∀ j, ex (A.row n h r) j = (e j : EReal) := fun j => by
    refine Fin.lastCases ?_ (fun j => ?_) j
    · unfold ex; rw [hM, row_last, hy, hlast, ← EReal.coe_sub]; rfl
    · unfold ex; rw [hM, row_castSucc, hcast]
      split
      · rw [hx, ← EReal.coe_sub]; rfl
      · rw [EReal.bot_sub]; rfl
  have hlse : A.lse n h r = ((M + Real.log (∑ i, e i) : ℝ) : EReal) := by
    unfold lse
    rw [hM, Finset.sum_congr rfl fun i _ => hex i, coe_sum, EReal.coe_add]
    congr 1
    show (if (∑ i, e i) ≤ 0 then (⊥ : EReal) else ((Real.log (∑ i, e i) : ℝ) : EReal)) = _
    rw [if_neg (not_le.2 hL)]
  have hexp : ∀ x : ℝ, Real.exp (x - (M + Real.log (∑ i, e i))) = Real.exp (x - M) * (∑ i, e i)⁻¹ := fun x => by
    rw [← sub_sub, Real.exp_sub, Real.exp_log hL, div_eq_mul_inv]
  refine ⟨e, hL, hex, fun j => ?_, ?_⟩
  · unfold p
    rw [hcast, hlse]
    split
    · rw [hx, ← EReal.coe_sub, ← hexp]; rfl
    · rw [zero_mul]; rfl
  · unfold ps
    rw [hlast, hlse, hy, ← EReal.coe_sub, ← hexp]; rfl

/-- The softmax's weights. -/
theorem wt_castSucc (j : Fin 256) : wt (A.row n h r) j.castSucc = A.p n h r j := by
  obtain ⟨e, hL, hex, hp, -⟩ := real_row A n h r hx hs
  unfold wt
  rw [hp, hex, Finset.sum_congr rfl fun i _ => hex i, coe_sum, div_coe _ _ hL.ne', EReal.coe_mul]
theorem wt_last : wt (A.row n h r) (Fin.last 256) = A.ps n h r := by
  obtain ⟨e, hL, hex, -, hp⟩ := real_row A n h r hx hs
  unfold wt
  rw [hp, hex, Finset.sum_congr rfl fun i _ => hex i, coe_sum, div_coe _ _ hL.ne', EReal.coe_mul]

theorem dsVjp_row (j : Fin 257) : dsVjp (A.row n h r) (A.dpx n h r) j = wt (A.row n h r) j * (A.dpx n h r j - A.delta n h r) := by
  obtain ⟨e, hL, hex, -, -⟩ := real_row A n h r hx hs
  rw [dsVjp_of_coe _ _ e hL hex]
  unfold Cert.MemAttn.ds
  rw [Fin.sum_univ_castSucc]
  simp only [wt_castSucc A n h r hx hs, dpx_castSucc, dpx_last, mul_zero, add_zero]
  rfl

/-- The derivative of the softmax at a key. -/
theorem dsVjp_castSucc (j : Fin 256) : (if ok n r j then dsVjp (A.row n h r) (A.dpx n h r) j.castSucc else 0) * scale = A.ds n h r j := by
  split
  · rw [dsVjp_row A n h r hx hs, wt_castSucc A n h r hx hs, dpx_castSucc]; rfl
  · next hj => rw [ds_of_not n h r A j hj, zero_mul]

/-- The derivative of the softmax at the sink. -/
theorem dsVjp_last : dsVjp (A.row n h r) (A.dpx n h r) (Fin.last 256) = -(A.ps n h r * A.delta n h r) := by
  rw [dsVjp_row A n h r hx hs, wt_last A n h r hx hs, dpx_last, zero_sub, mul_neg]

/-- Where the gradient of the weights is finite too, the sums over the rows are the blocks' parts. -/
theorem sum_sink (hd : ∀ n h r j, ∃ x : ℝ, A.dp n h r j = (x : EReal)) :
    ∑ r : Fin 128, dsVjp (A.row n h r) (A.dpx n h r) (Fin.last 256) = A.part n h := by
  have hreal : ∀ r, ∃ x : ℝ, A.ps n h r * A.delta n h r = (x : EReal) := fun r => by
    obtain ⟨e, -, -, hp, hps⟩ := real_row A n h r hx hs
    choose y hy using hd n h r
    unfold delta
    simp only [hp, hps, hy, ← EReal.coe_mul]
    rw [coe_sum, ← EReal.coe_mul]
    exact ⟨_, rfl⟩
  choose x hx' using hreal
  unfold part
  simp only [dsVjp_last A n h _ hx hs, hx', ← EReal.coe_neg, coe_sum, Finset.sum_neg_distrib]

end Args

end Cert.Swa

end
-- ==== Proof.Swa.Mask.lean ====
/-
  THE MASK of the sliding window as kernel and reference compute it, in words of 32 bits: one bit that says whether a row sees a
  key.
-/
module

public import Idealize.ShloMosaic.Lib.Pointwise

@[expose] public section

noncomputable section

namespace Cert.Swa

open Idealize.ShloMosaic

/-- A statement's truth as a bit. -/
def bit (P : Prop) [Decidable P] : BitVec 1 := if P then 1#1 else 0#1

theorem bit_and (P Q : Prop) [Decidable P] [Decidable Q] : IntOp.andi (bit P) (bit Q) = bit (P ∧ Q) := by
  unfold bit; by_cases hp : P <;> by_cases hq : Q <;> simp [hp, hq, IntOp.andi]

theorem bit_or (P Q : Prop) [Decidable P] [Decidable Q] : IntOp.ori (bit P) (bit Q) = bit (P ∨ Q) := by
  unfold bit; by_cases hp : P <;> by_cases hq : Q <;> simp [hp, hq, IntOp.ori]

/-- A choice by such a bit. -/
theorem bit_eq_one (P : Prop) [Decidable P] : (bit P = 1#1) ↔ P := by unfold bit; by_cases hp : P <;> simp [hp]

/-- The distance of a key from its row. -/
def diff (r : Fin 128) (j : Fin 256) : BitVec 32 := IntOp.subi (IntOp.addi (BitVec.ofNat 32 r.val) 128#32) (BitVec.ofNat 32 j.val)

theorem diff_ge : ∀ (r : Fin 128) (j : Fin 256), IntOp.cmpi .sge (diff r j) 0#32 = bit (j.val ≤ r.val + 128) := by decide +kernel
theorem diff_lt : ∀ (r : Fin 128) (j : Fin 256), IntOp.cmpi .slt (diff r j) 128#32 = bit (r.val < j.val) := by decide +kernel
theorem own_key : ∀ j : Fin 256, IntOp.cmpi .sge (BitVec.ofNat 32 j.val) 128#32 = bit (128 ≤ j.val) := by decide +kernel
theorem has_prev : ∀ n : Fin 64, IntOp.cmpi .sgt (BitVec.ofNat 32 n.val) 0#32 = bit (0 < n.val) := by decide +kernel
theorem row_word : ∀ R : Fin 512, IntOp.andi (BitVec.ofNat 32 R.val) 127#32 = BitVec.ofNat 32 (R.val % 128) := by decide +kernel
theorem key_pos : ∀ (n : Fin 64) (j : Fin 256),
    IntOp.cmpi .sge (IntOp.addi (IntOp.subi (IntOp.muli (BitVec.ofNat 32 n.val) 128#32) 128#32) (BitVec.ofNat 32 j.val)) 0#32 = bit (128 ≤ j.val ∨ 0 < n.val) := by decide +kernel

end Cert.Swa

end
-- ==== Proof.Swa.Block.lean ====
/-
  ONE GRID POINT of the sliding-window attention's gradient over the extended reals: where the blocks hold a block of the
  arguments, and its logarithms, the point's results are the gradients of the rows' mathematics.
-/
module

public import proofs.«01_k».proof.Proof.Swa.Tile
public import proofs.«01_k».proof.Proof.Swa.Row
public import proofs.«01_k».proof.Proof.Swa.Mask
public import Idealize.ShloMosaic.Lib.Pointwise
public import Idealize.ShloMosaic.Lib.Pointwise.Sums

@[expose] public section

noncomputable section

namespace Cert.SwaBwdIdeal.Swa

open Cert.SwaBwdIdeal Cert.SwaBwdIdeal.Gen Idealize.ShloMosaic
open Cert.Swa (Args ok scale bit bit_and bit_or bit_eq_one diff diff_ge diff_lt own_key has_prev row_word)

/-- Row `r` of head `g` among the four heads' rows. -/
def at4 (g : Fin 4) (r : Fin 128) : Fin 512 := ⟨g.val * 128 + r.val, by omega⟩

theorem sum_at4 (f : Fin 512 → EReal) : ∑ R, f R = ∑ g : Fin 4, ∑ r : Fin 128, f (at4 g r) := Fin.sum_univ_tiles 4 128 rfl f

theorem iota_rows (R : Fin 512) (j : Fin 256) : iota .tc S512x256 32 [0] iota_S512x256_d0_w32 (ix2 R j) = BitVec.ofNat 32 R.val := by
  show BitVec.ofNat 32 (0 * 512 + R.val) = _
  rw [Nat.zero_mul, Nat.zero_add]
theorem iota_cols (R : Fin 512) (j : Fin 256) : iota .tc S512x256 32 [1] iota_S512x256_d1_w32 (ix2 R j) = BitVec.ofNat 32 j.val := by
  show BitVec.ofNat 32 (0 * 256 + j.val) = _
  rw [Nat.zero_mul, Nat.zero_add]

/-- The mask at an index. -/
theorem mask_apply (i : grid0.Coords) (g : Fin 4) (r : Fin 128) (j : Fin 256) (n : Fin 64) (hn : (i 0).val = n.val) :
    k0_pay7 i (ix2 (at4 g r) j) = bit (ok n r j) := by
  have h1 : IntOp.subi (IntOp.addi (IntOp.andi (BitVec.ofNat 32 (at4 g r).val) 127#32) 128#32) (BitVec.ofNat 32 j.val) = diff r j := by
    rw [row_word]
    have : (at4 g r).val % 128 = r.val := by show (g.val * 128 + r.val) % 128 = r.val; omega
    rw [this]; rfl
  show IntOp.andi (IntOp.andi (IntOp.cmpi .sge (IntOp.subi (IntOp.addi (IntOp.andi (iota .tc S512x256 32 [0] iota_S512x256_d0_w32 (ix2 (at4 g r) j)) 127#32) 128#32) (iota .tc S512x256 32 [1] iota_S512x256_d1_w32 (ix2 (at4 g r) j))) 0#32)
      (IntOp.cmpi .slt (IntOp.subi (IntOp.addi (IntOp.andi (iota .tc S512x256 32 [0] iota_S512x256_d0_w32 (ix2 (at4 g r) j)) 127#32) 128#32) (iota .tc S512x256 32 [1] iota_S512x256_d1_w32 (ix2 (at4 g r) j))) 128#32))
    (IntOp.ori (IntOp.cmpi .sge (iota .tc S512x256 32 [1] iota_S512x256_d1_w32 (ix2 (at4 g r) j)) 128#32) (IntOp.cmpi .sgt (BitVec.ofNat 32 (i 0).val) 0#32)) = _
  rw [iota_rows, iota_cols, h1, diff_ge, diff_lt, own_key, hn, has_prev, bit_and, bit_or, bit_and]
  rfl

/-- Four pieces one under the other. -/
theorem four_apply {α : Type} {W : Nat} (x0 x1 x2 x3 : (⟨2, ![128, W]⟩ : Shape).Idx → α)
    (hc : Shape.Concatenates [(⟨2, ![128, W]⟩ : Shape), ⟨2, ![128, W]⟩, ⟨2, ![128, W]⟩, ⟨2, ![128, W]⟩] ⟨2, ![512, W]⟩ 0) (g : Fin 4) (r : Fin 128) (c : Fin W) :
    concatenate ⟨2, ![512, W]⟩ 0 [⟨⟨2, ![128, W]⟩, x0⟩, ⟨⟨2, ![128, W]⟩, x1⟩, ⟨⟨2, ![128, W]⟩, x2⟩, ⟨⟨2, ![128, W]⟩, x3⟩] hc (ix2 (at4 g r) c)
      = (![x0, x1, x2, x3] : Fin 4 → _) g (ix2 r c) := by
  have hr := r.isLt
  unfold at4
  simp only [pointwise]
  fin_vals g with hg
  · obtain rfl : g = 0 := Fin.ext hg
    rw [dif_pos (by show 0 * 128 + r.val < 128; omega)]
    refine congrArg x0 (funext fun a => Fin.ext ?_)
    match a with
    | ⟨0, _⟩ => show 0 * 128 + r.val = r.val; omega
    | ⟨1, _⟩ => rfl
  · obtain rfl : g = 1 := Fin.ext hg
    rw [dif_neg (by show ¬ 1 * 128 + r.val < 128; omega), dif_pos (by show 1 * 128 + r.val - 128 < 128; omega)]
    refine congrArg x1 (funext fun a => Fin.ext ?_)
    match a with
    | ⟨0, _⟩ => show 1 * 128 + r.val - 128 = r.val; omega
    | ⟨1, _⟩ => rfl
  · obtain rfl : g = 2 := Fin.ext hg
    rw [dif_neg (by show ¬ 2 * 128 + r.val < 128; omega), dif_neg (by show ¬ 2 * 128 + r.val - 128 < 128; omega), dif_pos (by show 2 * 128 + r.val - 128 - 128 < 128; omega)]
    refine congrArg x2 (funext fun a => Fin.ext ?_)
    match a with
    | ⟨0, _⟩ => show 2 * 128 + r.val - 128 - 128 = r.val; omega
    | ⟨1, _⟩ => rfl
  · obtain rfl : g = 3 := Fin.ext hg
    rw [dif_neg (by show ¬ 3 * 128 + r.val < 128; omega), dif_neg (by show ¬ 3 * 128 + r.val - 128 < 128; omega), dif_neg (by show ¬ 3 * 128 + r.val - 128 - 128 < 128; omega)]
    refine congrArg x3 (funext fun a => Fin.ext ?_)
    match a with
    | ⟨0, _⟩ => show 3 * 128 + r.val - 128 - 128 - 128 = r.val; omega
    | ⟨1, _⟩ => rfl

theorem rows_apply (x : Vec Ideal S128x512 .bf16) (k : Fin 2) (g : Fin 4) (r : Fin 128) (c : Fin 64) :
    rows (F := Ideal) x k (ix2 (at4 g r) c) = headOf (F := Ideal) x (hd k g) (ix2 r c) := by
  refine (four_apply _ _ _ _ _ g r c).trans ?_
  fin_cases g <;> rfl

theorem logs_apply (x : Vec Ideal S128x8 .f32) (k : Fin 2) (g : Fin 4) (r : Fin 128) :
    logs (F := Ideal) x k (ix2 (at4 g r) 0) = x (ix2 r (hd k g)) := by
  refine (four_apply _ _ _ _ _ g r 0).trans ?_
  fin_cases g <;> rfl

theorem keys_apply (p c : Vec Ideal S128x128 .bf16) (k : Fin 2) (j : Fin 256) (x : Fin 64) :
    keys (F := Ideal) p c k (ix2 j x) = if hj : j.val < 128 then keyOf (F := Ideal) p k (ix2 ⟨j.val, hj⟩ x) else keyOf (F := Ideal) c k (ix2 ⟨j.val - 128, by omega⟩ x) := by
  unfold keys
  rw [concatenate_pair_apply]
  rfl

theorem dprob_apply (d : FVec Ideal S512x64 .bf16) (v : FVec Ideal S256x64 .bf16) (R : Fin 512) (j : Fin 256) :
    (dprob d v (ix2 R j) : EReal) = ∑ c : Fin 64, d (ix2 R c) * v (ix2 j c) := by
  unfold dprob
  simp only [pointwise, Ideal.matmul_def, zero_add]

theorem delta_apply (p dp : FVec Ideal S512x256 .f32) (R : Fin 512) :
    (delta p dp (ix2 R 0) : EReal) = ∑ j : Fin 256, p (ix2 R j) * dp (ix2 R j) := by
  unfold delta
  pointwise

theorem dscore_apply (p dp : FVec Ideal S512x256 .f32) (R : Fin 512) (j : Fin 256) :
    (dscore p dp (ix2 R j) : EReal) = p (ix2 R j) * (dp (ix2 R j) - ∑ j : Fin 256, p (ix2 R j) * dp (ix2 R j)) * scale := by
  rw [← delta_apply]
  unfold dscore
  simp only [pointwise]
  rfl

theorem gq_apply (p dp : FVec Ideal S512x256 .f32) (k : FVec Ideal S256x64 .bf16) (R : Fin 512) (c : Fin 64) :
    (gq p dp k (ix2 R c) : EReal) = ∑ j : Fin 256, dscore (F := Ideal) p dp (ix2 R j) * k (ix2 j c) := by
  unfold gq
  simp only [pointwise, Ideal.matmul_def, zero_add]

theorem gk_apply (p dp : FVec Ideal S512x256 .f32) (q : FVec Ideal S512x64 .bf16) (j : Fin 256) (c : Fin 64) :
    (gk p dp q (ix2 j c) : EReal) = ∑ R : Fin 512, dscore (F := Ideal) p dp (ix2 R j) * q (ix2 R c) := by
  unfold gk
  simp only [pointwise, Ideal.matmul_def, zero_add]

theorem gv_apply (p : FVec Ideal S512x256 .f32) (d : FVec Ideal S512x64 .bf16) (j : Fin 256) (c : Fin 64) :
    (gv p d (ix2 j c) : EReal) = ∑ R : Fin 512, p (ix2 R j) * d (ix2 R c) := by
  unfold gv
  simp only [pointwise, Ideal.matmul_def, zero_add]

theorem prob_apply (i : grid0.Coords) (q : FVec Ideal S512x64 .bf16) (k : FVec Ideal S256x64 .bf16) (l : FVec Ideal S512x1 .f32)
    (g : Fin 4) (r : Fin 128) (j : Fin 256) (n : Fin 64) (hn : (i 0).val = n.val) :
    (prob i q k l (ix2 (at4 g r) j) : EReal)
      = if ok n r j then Ideal.exp ((∑ c : Fin 64, q (ix2 (at4 g r) c) * k (ix2 j c)) * scale - l (ix2 (at4 g r) 0)) else 0 := by
  unfold prob
  simp only [pointwise, Ideal.matmul_def, zero_add]
  rw [mask_apply i g r j n hn]
  by_cases h : ok n r j
  · rw [if_pos h, (bit_eq_one _).2 h]; rfl
  · have hb : bit (ok n r j) = 0#1 := if_neg h
    rw [if_neg h, hb]; rfl

/-! ## A block of the arguments -/

/-- The blocks hold block `n` of the arguments, and the rows' logarithms. -/
structure Holds (A : Args) (n : Fin 64) (i : grid0.Coords) (q : Vec Ideal S128x512 .bf16) (kp kc vp vc : Vec Ideal S128x128 .bf16)
    (d : Vec Ideal S128x512 .bf16) (l : Vec Ideal S128x8 .f32) : Prop where
  i : (i 0).val = n.val
  q : ∀ h r c, headOf (F := Ideal) q h (ix2 r c) = A.q n h r c
  kp : ∀ k (j : Fin 128) c, keyOf (F := Ideal) kp k (ix2 j c) = A.k n k ⟨j.val, by omega⟩ c
  kc : ∀ k (j : Fin 128) c, keyOf (F := Ideal) kc k (ix2 j c) = A.k n k ⟨128 + j.val, by omega⟩ c
  vp : ∀ k (j : Fin 128) c, keyOf (F := Ideal) vp k (ix2 j c) = A.v n k ⟨j.val, by omega⟩ c
  vc : ∀ k (j : Fin 128) c, keyOf (F := Ideal) vc k (ix2 j c) = A.v n k ⟨128 + j.val, by omega⟩ c
  d : ∀ h r c, headOf (F := Ideal) d h (ix2 r c) = A.d n h r c
  l : ∀ h r, l (ix2 r h) = A.lse n h r

section
variable {A : Args} {n : Fin 64} {i : grid0.Coords} {q : Vec Ideal S128x512 .bf16} {kp kc vp vc : Vec Ideal S128x128 .bf16}
  {d : Vec Ideal S128x512 .bf16} {l : Vec Ideal S128x8 .f32} (H : Holds A n i q kp kc vp vc d l)
include H

theorem Holds.keys (k : Fin 2) (j : Fin 256) (c : Fin 64) : keys (F := Ideal) kp kc k (ix2 j c) = A.k n k j c := by
  rw [keys_apply]
  split
  · next hj => exact H.kp k ⟨j.val, hj⟩ c
  · next hj => exact (H.kc k ⟨j.val - 128, by omega⟩ c).trans (congrArg (fun j => A.k n k j c) (Fin.ext (by show 128 + (j.val - 128) = j.val; omega)))

theorem Holds.vals (k : Fin 2) (j : Fin 256) (c : Fin 64) : Swa.keys (F := Ideal) vp vc k (ix2 j c) = A.v n k j c := by
  rw [keys_apply]
  split
  · next hj => exact H.vp k ⟨j.val, hj⟩ c
  · next hj => exact (H.vc k ⟨j.val - 128, by omega⟩ c).trans (congrArg (fun j => A.v n k j c) (Fin.ext (by show 128 + (j.val - 128) = j.val; omega)))

theorem Holds.weights (k : Fin 2) (g : Fin 4) (r : Fin 128) (j : Fin 256) :
    (Swa.weights i q kp kc l k (ix2 (at4 g r) j) : EReal) = A.p n (Cert.Swa.hd k g) r j := by
  refine (prob_apply i _ _ _ g r j n H.i).trans ?_
  unfold Args.p Args.sc
  rw [logs_apply, H.l, Cert.Swa.kh_hd]
  refine if_congr Iff.rfl (congrArg (fun x : EReal => Ideal.exp (x * scale - A.lse n (Cert.Swa.hd k g) r)) ?_) rfl
  exact Finset.sum_congr rfl fun c _ => by rw [rows_apply, H.q, H.keys]; rfl

theorem Holds.dweights (k : Fin 2) (g : Fin 4) (r : Fin 128) (j : Fin 256) :
    (Swa.dweights (F := Ideal) d vp vc k (ix2 (at4 g r) j) : EReal) = A.dp n (Cert.Swa.hd k g) r j := by
  refine (dprob_apply _ _ _ _).trans ?_
  unfold Args.dp
  rw [Cert.Swa.kh_hd]
  exact Finset.sum_congr rfl fun c _ => by rw [rows_apply, H.d, H.vals]; rfl

theorem Holds.dscore (k : Fin 2) (g : Fin 4) (r : Fin 128) (j : Fin 256) :
    (Swa.dscore (F := Ideal) (Swa.weights i q kp kc l k) (Swa.dweights (F := Ideal) d vp vc k) (ix2 (at4 g r) j) : EReal) = A.ds n (Cert.Swa.hd k g) r j := by
  rw [dscore_apply, H.weights, H.dweights]
  unfold Args.ds Args.delta
  simp only [H.weights, H.dweights]

theorem Holds.delta (k : Fin 2) (g : Fin 4) (r : Fin 128) :
    (Swa.delta (F := Ideal) (Swa.weights i q kp kc l k) (Swa.dweights (F := Ideal) d vp vc k) (ix2 (at4 g r) 0) : EReal) = A.delta n (Cert.Swa.hd k g) r := by
  rw [delta_apply]
  unfold Args.delta
  simp only [H.weights, H.dweights]

omit H in
theorem hd_kh (h : Fin 8) : Cert.Swa.hd (kh h) (gr h) = h := Fin.ext (by show 4 * (h.val / 4) + h.val % 4 = h.val; omega)

/-- The point's gradient of the queries. -/
theorem Holds.stepQ (r : Fin 128) (x : Fin 512) :
    (Swa.stepQ i q kp kc vp vc d l (ix2 r x) : EReal) = A.dq n ⟨x.val / 64, by omega⟩ r ⟨x.val % 64, Nat.mod_lt _ (by norm_num)⟩ := by
  have e : (⟨128 * (gr ⟨x.val / 64, by omega⟩).val + r.val, by have := (gr ⟨x.val / 64, by omega⟩).isLt; omega⟩ : Fin 512) = at4 (gr ⟨x.val / 64, by omega⟩) r :=
    Fin.ext (by show 128 * _ + _ = _ * 128 + _; omega)
  show (gq (F := Ideal) (Swa.weights i q kp kc l (kh ⟨x.val / 64, by omega⟩)) (Swa.dweights d vp vc (kh ⟨x.val / 64, by omega⟩)) (Swa.keys kp kc (kh ⟨x.val / 64, by omega⟩))
    (ix2 ⟨128 * (gr ⟨x.val / 64, by omega⟩).val + r.val, _⟩ ⟨x.val % 64, _⟩) : EReal) = _
  rw [e, gq_apply]
  unfold Args.dq
  refine Finset.sum_congr rfl fun j _ => ?_
  rw [H.dscore, H.keys, hd_kh]
  rfl

/-- The point's gradient of the keys. -/
theorem Holds.stepK (b : Fin 2) (r : Fin 128) (x : Fin 128) :
    (Swa.stepK b i q kp kc vp vc d l (ix2 r x) : EReal) = A.dk n ⟨x.val / 64, by omega⟩ ⟨128 * b.val + r.val, by omega⟩ ⟨x.val % 64, Nat.mod_lt _ (by norm_num)⟩ := by
  show (gk (F := Ideal) (Swa.weights i q kp kc l ⟨x.val / 64, _⟩) (Swa.dweights d vp vc ⟨x.val / 64, _⟩) (rows q ⟨x.val / 64, _⟩)
    (ix2 ⟨128 * b.val + r.val, _⟩ ⟨x.val % 64, _⟩) : EReal) = _
  rw [gk_apply, sum_at4]
  unfold Args.dk
  refine Finset.sum_congr rfl fun g _ => Finset.sum_congr rfl fun r _ => ?_
  rw [H.dscore, rows_apply, H.q]
  rfl

/-- The point's gradient of the values. -/
theorem Holds.stepV (b : Fin 2) (r : Fin 128) (x : Fin 128) :
    (Swa.stepV b i q kp kc d l (ix2 r x) : EReal) = A.dv n ⟨x.val / 64, by omega⟩ ⟨128 * b.val + r.val, by omega⟩ ⟨x.val % 64, Nat.mod_lt _ (by norm_num)⟩ := by
  show (gv (F := Ideal) (Swa.weights i q kp kc l ⟨x.val / 64, _⟩) (rows d ⟨x.val / 64, _⟩)
    (ix2 ⟨128 * b.val + r.val, _⟩ ⟨x.val % 64, _⟩) : EReal) = _
  rw [gv_apply, sum_at4]
  unfold Args.dv
  refine Finset.sum_congr rfl fun g _ => Finset.sum_congr rfl fun r _ => ?_
  rw [H.weights, rows_apply, H.d]
  rfl

end

end Cert.SwaBwdIdeal.Swa

end
-- ==== Proof.Swa.Lse.lean ====
/-
  THE LOGARITHMS that the kernel takes: each row's largest score plus the logarithm of the sum of its exponentials, which the
  host computes with reference.py's lines before the launch. Its scores and their maximum are stages of the reference's run.
-/
module

public import proofs.«01_k».proof.Proof.Gen.SwaBwdIdeal.Value
public import proofs.«01_k».proof.Proof.Gen.SwaBwdRefIdeal.Read

@[expose] public section

noncomputable section

namespace Cert.SwaBwdIdeal.Swa

open Cert.SwaBwdIdeal Cert.SwaBwdIdeal.Gen Idealize.ShloMosaic Idealize.ShloMosaic.TcCoe Idealize.SL.Sem
open Cert.SwaBwdRefIdeal.Read (val_main_v54 val_main_v55)

variable {F : FTy → Type} [FloatOps F]

/-- Two blocks of keys one after the other. -/
def window (a b : (⟨S64x128x2x64, .f32⟩ : BufTy).Contents (Elt F)) : (⟨S64x256x2x64, .f32⟩ : BufTy).Contents (Elt F) :=
  concatenate S64x256x2x64 1 [⟨S64x128x2x64, a⟩, ⟨S64x128x2x64, b⟩] concatenates_S64x128x2x64_S64x128x2x64_S64x256x2x64_d1

/-- The scores with the sink's after them. -/
def withSink (a : (⟨S64x2x4x128x256, .f32⟩ : BufTy).Contents (Elt F)) (b : (⟨S64x2x4x128x1, .f32⟩ : BufTy).Contents (Elt F)) : (⟨S64x2x4x128x257, .f32⟩ : BufTy).Contents (Elt F) :=
  concatenate S64x2x4x128x257 4 [⟨S64x2x4x128x256, a⟩, ⟨S64x2x4x128x1, b⟩] concatenates_S64x2x4x128x256_S64x2x4x128x1_S64x2x4x128x257_d4

theorem window_op : StableHlo.binary (τ := τ) main_v6 main_v4 main_v7 ((fun a b => concatenate S64x256x2x64 1 [⟨S64x128x2x64, a⟩, ⟨S64x128x2x64, b⟩] concatenates_S64x128x2x64_S64x128x2x64_S64x256x2x64_d1) : (⟨S64x128x2x64, .f32⟩ : BufTy).Contents (Elt F) → (⟨S64x128x2x64, .f32⟩ : BufTy).Contents (Elt F) → (⟨S64x256x2x64, .f32⟩ : BufTy).Contents (Elt F))
    = StableHlo.binary main_v6 main_v4 main_v7 window := rfl

theorem withSink_op : StableHlo.binary (τ := τ) main_v44 main_v47 main_v48 ((fun a b => concatenate S64x2x4x128x257 4 [⟨S64x2x4x128x256, a⟩, ⟨S64x2x4x128x1, b⟩] concatenates_S64x2x4x128x256_S64x2x4x128x1_S64x2x4x128x257_d4) : (⟨S64x2x4x128x256, .f32⟩ : BufTy).Contents (Elt F) → (⟨S64x2x4x128x1, .f32⟩ : BufTy).Contents (Elt F) → (⟨S64x2x4x128x257, .f32⟩ : BufTy).Contents (Elt F))
    = StableHlo.binary main_v44 main_v47 main_v48 withSink := rfl

/-- The rows' maximum plus the logarithm of the sum of their exponentials. -/
def logSum (s : FVec F S64x2x4x128x257 .f32) (t : FVec F S64x2x4x128 .f32) : FVec F S8192x8 .f32 :=
  shapeCast S8192x8 (transpose S64x128x2x4 [0, 3, 1, 2]
    (addf t (Host.log (Host.reduceAdd
      (Host.exp (subf s (broadcastInDim S64x2x4x128x257 ![0, 1, 2, 3, 4] bcast_S64x2x4x128x1_S64x2x4x128x257_0_1_2_3_4
        (broadcastInDim S64x2x4x128x1 ![0, 1, 2, 3] bcast_S64x2x4x128_S64x2x4x128x1_0_1_2_3 t))))
      (constant S_ .f32 0x00000000#32) reducesTo_S64x2x4x128x257_S64x2x4x128_d4 h_S_)))
    transposes_S64x2x4x128_S64x128x2x4_0_3_1_2) shapeCasts_S64x128x2x4_S8192x8

variable (m : (ℓ : Loc nD τ sig) → Buf (Elt F) ℓ)

set_option maxRecDepth 8192 in
set_option maxHeartbeats 8000000 in
/-- What the launch finds in the logarithms' array. -/
theorem V_logs (c : Dev nD) : V m c main_v58
    = logSum (val_main_v54 (F := F) (m ((c : Thread nD τ).loc main_arg0)) (m ((c : Thread nD τ).loc main_arg1)))
        (val_main_v55 (F := F) (m ((c : Thread nD τ).loc main_arg0)) (m ((c : Thread nD τ).loc main_arg1))) := by
  show StableHlo.after _ _ (Proc.devRef .tc main_v58) = _
  simp only [hostOps0, hostOps0_1, hostOps0_2, hostOps0_3, hostOps0_4, List.flatten_cons, List.flatten_nil, List.append_nil, List.cons_append,
    List.nil_append, window_op, withSink_op, StableHlo.TRef.binary, StableHlo.TRef.nullary, StableHlo.TRef.ternary, StableHlo.TRef.unary,
    StableHlo.TRef.toBuf, StableHlo.TRef.ofBuf, cast_eq]
  after_results_simp
  rfl

end Cert.SwaBwdIdeal.Swa

end
-- ==== Proof.Swa.Results.lean ====
/-
  THE ARGUMENTS AND RESULTS of the sliding-window attention's gradient as arrays: a block has 128 rows, a query head 64 columns,
  and a block's window is the keys of the block before it and its own. Before the first block the reference has keys and values
  of zero and the kernel reads the first block's own, which no row sees.
-/
module

public import proofs.«01_k».proof.Proof.Swa.Row
public import Idealize.ShloMosaic.Lib.ValueIdx

@[expose] public section

noncomputable section

namespace Cert.Swa

open Idealize.ShloMosaic

/-- Row `r` of block `n`. -/
def at128 (n : Fin 64) (r : Fin 128) : Fin 8192 := ⟨128 * n.val + r.val, by omega⟩
/-- The array's row of key `j` in the window of block `n`, where there is one. -/
def keyRow (n : Fin 64) (j : Fin 256) : Fin 8192 := ⟨128 * n.val + j.val - 128, by omega⟩
/-- The row that the kernel reads. -/
def readRow (n : Fin 64) (j : Fin 256) : Fin 8192 := ⟨if j.val < 128 then 128 * (n.val - 1) + j.val else 128 * n.val + (j.val - 128), by split <;> omega⟩
/-- The columns of query heads, key heads and value heads among those of the projections. -/
def colQ (h : Fin 8) (c : Fin 64) : Fin 2816 := ⟨64 * h.val + c.val, by omega⟩
def colK (k : Fin 2) (c : Fin 64) : Fin 2816 := ⟨512 + (64 * k.val + c.val), by omega⟩
def colV (k : Fin 2) (c : Fin 64) : Fin 2816 := ⟨640 + (64 * k.val + c.val), by omega⟩
/-- The columns of heads in the gradient that comes in. -/
def colD (h : Fin 8) (c : Fin 64) : Fin 1024 := ⟨64 * h.val + c.val, by omega⟩

variable (z : (⟨2, ![8192, 2816]⟩ : Shape).Idx → EReal) (s : (⟨2, ![1, 8]⟩ : Shape).Idx → EReal) (d : (⟨2, ![8192, 1024]⟩ : Shape).Idx → EReal)

/-- The arguments as the reference has them. -/
def refArgs : Args where
  q n h r c := z (ix2 (at128 n r) (colQ h c))
  k n k j c := if 128 ≤ j.val ∨ 0 < n.val then z (ix2 (keyRow n j) (colK k c)) else 0
  v n k j c := if 128 ≤ j.val ∨ 0 < n.val then z (ix2 (keyRow n j) (colV k c)) else 0
  d n h r c := d (ix2 (at128 n r) (colD h c))
  s h := s (ix2 0 h)

/-- The arguments as the kernel reads them. -/
def kerArgs : Args where
  q n h r c := z (ix2 (at128 n r) (colQ h c))
  k n k j c := z (ix2 (readRow n j) (colK k c))
  v n k j c := z (ix2 (readRow n j) (colV k c))
  d n h r c := d (ix2 (at128 n r) (colD h c))
  s h := s (ix2 0 h)

theorem readRow_eq (n : Fin 64) (j : Fin 256) (h : 128 ≤ j.val ∨ 0 < n.val) : readRow n j = keyRow n j := by
  refine Fin.ext ?_
  show (if j.val < 128 then 128 * (n.val - 1) + j.val else 128 * n.val + (j.val - 128)) = 128 * n.val + j.val - 128
  split <;> omega

/-- They differ only in what no row sees. -/
theorem agree : Args.Agree (kerArgs z s d) (refArgs z s d) where
  q := rfl
  d := rfl
  s := rfl
  k n k j h := by
    funext c
    show z (ix2 (readRow n j) (colK k c)) = if 128 ≤ j.val ∨ 0 < n.val then z (ix2 (keyRow n j) (colK k c)) else 0
    rw [if_pos h, readRow_eq n j h]
  v n k j h := by
    funext c
    show z (ix2 (readRow n j) (colV k c)) = if 128 ≤ j.val ∨ 0 < n.val then z (ix2 (keyRow n j) (colV k c)) else 0
    rw [if_pos h, readRow_eq n j h]

/-! ## The results as arrays -/

namespace Args
variable (A : Args)

/-! The sums of a query head, with its key head put in. -/
theorem sc_hd (n : Fin 64) (k : Fin 2) (g : Fin 4) (r : Fin 128) (j : Fin 256) :
    A.sc n (hd k g) r j = (∑ c, A.q n (hd k g) r c * A.k n k j c) * scale := by unfold Args.sc; rw [kh_hd]
theorem dp_hd (n : Fin 64) (k : Fin 2) (g : Fin 4) (r : Fin 128) (j : Fin 256) :
    A.dp n (hd k g) r j = ∑ c, A.d n (hd k g) r c * A.v n k j c := by unfold Args.dp; rw [kh_hd]
theorem dq_hd (n : Fin 64) (k : Fin 2) (g : Fin 4) (r : Fin 128) (c : Fin 64) :
    A.dq n (hd k g) r c = ∑ j, A.ds n (hd k g) r j * A.k n k j c := by unfold Args.dq; rw [kh_hd]

/-- The queries' gradient. -/
def arrQ (R : Fin 8192) (x : Fin 512) : EReal :=
  A.dq ⟨R.val / 128, by omega⟩ ⟨x.val / 64, by omega⟩ ⟨R.val % 128, Nat.mod_lt _ (by norm_num)⟩ ⟨x.val % 64, Nat.mod_lt _ (by norm_num)⟩
/-- The keys' gradient from the blocks whose own they are (`b = 1`), and from the block after (`b = 0`). -/
def arrK (b : Fin 2) (R : Fin 8192) (x : Fin 128) : EReal :=
  A.dk ⟨R.val / 128, by omega⟩ ⟨x.val / 64, by omega⟩ ⟨128 * b.val + R.val % 128, by omega⟩ ⟨x.val % 64, Nat.mod_lt _ (by norm_num)⟩
/-- The values' gradient, likewise. -/
def arrV (b : Fin 2) (R : Fin 8192) (x : Fin 128) : EReal :=
  A.dv ⟨R.val / 128, by omega⟩ ⟨x.val / 64, by omega⟩ ⟨128 * b.val + R.val % 128, by omega⟩ ⟨x.val % 64, Nat.mod_lt _ (by norm_num)⟩

variable {A} {B : Args} (H : Agree A B)
include H
theorem Agree.arrQ (R : Fin 8192) (x : Fin 512) : A.arrQ R x = B.arrQ R x := H.dq _ _ _ _
theorem Agree.arrK (b : Fin 2) (R : Fin 8192) (x : Fin 128) : A.arrK b R x = B.arrK b R x := H.dk _ _ _ _
theorem Agree.arrV (b : Fin 2) (R : Fin 8192) (x : Fin 128) : A.arrV b R x = B.arrV b R x := H.dv _ _ _ _

end Args

end Cert.Swa

end
-- ==== Proof.Swa.Heads.lean ====
/-
  THE REFERENCE'S HEADS, WINDOWS AND MASK, read at an index over the extended reals.
-/
module

public import proofs.«01_k».proof.Proof.Gen.SwaBwdRefIdeal.Read
public import proofs.«01_k».proof.Proof.Swa.Results
public import proofs.«01_k».proof.Proof.Swa.Mask
public import Idealize.ShloMosaic.Lib.Pointwise
public import Idealize.ShloMosaic.Lib.TwoAxisContraction
public import Idealize.ShloMosaic.Lib.KernelVsHost

@[expose] public section

noncomputable section

namespace Cert.SwaBwdRefIdeal.Swa

open Cert.SwaBwdRefIdeal Cert.SwaBwdRefIdeal.Gen Cert.SwaBwdRefIdeal.Read Cert.Swa Idealize.ShloMosaic
open Cert.MemAttn (top ex wt dsVjp)

variable (x0 : (⟨S8192x2816, .bf16⟩ : BufTy).Contents (Elt Ideal)) (x1 : (⟨S1x8, .f32⟩ : BufTy).Contents (Elt Ideal))
  (x2 : (⟨S8192x1024, .bf16⟩ : BufTy).Contents (Elt Ideal))

theorem bot_eq : Ideal.ofBits .f32 0xFF800000#32 = ⊥ := by simp [Ideal.ofBits, Ideal.ieee]

/-! ## The heads of the arguments -/

theorem v14_at (i : S64x128x2x4x64.Idx) : val_main_v14 (F := Ideal) x0 i = (refArgs x0 x1 x2).q (i 0) (hd (i 2) (i 3)) (i 1) (i 4) := by
  rw [val_main_v14_apply, val_main_v1_apply, val_main_v0_apply]
  show x0 _ = x0 _
  congr 1
  have h0 : (i 0).val < 64 := (i 0).isLt
  have h1 : (i 1).val < 128 := (i 1).isLt
  have h2 : (i 2).val < 2 := (i 2).isLt
  have h3 : (i 3).val < 4 := (i 3).isLt
  have h4 : (i 4).val < 64 := (i 4).isLt
  funext a
  apply Fin.ext
  match a with
  | ⟨0, _⟩ => show (((((i 0).val * 128 + (i 1).val) * 2 + (i 2).val) * 4 + (i 3).val) * 64 + (i 4).val) / 512 = 128 * (i 0).val + (i 1).val; omega
  | ⟨1, _⟩ => show (((((i 0).val * 128 + (i 1).val) * 2 + (i 2).val) * 4 + (i 3).val) * 64 + (i 4).val) % 512 = 64 * (4 * (i 2).val + (i 3).val) + (i 4).val; omega

theorem v87_at (i : S64x128x2x4x64.Idx) : val_main_v87 (F := Ideal) x2 i = (refArgs x0 x1 x2).d (i 0) (hd (i 2) (i 3)) (i 1) (i 4) := by
  rw [val_main_v87_apply, val_main_v5_apply, val_main_v4_apply]
  show x2 _ = x2 _
  congr 1
  have h0 : (i 0).val < 64 := (i 0).isLt
  have h1 : (i 1).val < 128 := (i 1).isLt
  have h2 : (i 2).val < 2 := (i 2).isLt
  have h3 : (i 3).val < 4 := (i 3).isLt
  have h4 : (i 4).val < 64 := (i 4).isLt
  funext a
  apply Fin.ext
  match a with
  | ⟨0, _⟩ => show (((((i 0).val * 128 + (i 1).val) * 2 + (i 2).val) * 4 + (i 3).val) * 64 + (i 4).val) / 512 = 128 * (i 0).val + (i 1).val; omega
  | ⟨1, _⟩ => show (((((i 0).val * 128 + (i 1).val) * 2 + (i 2).val) * 4 + (i 3).val) * 64 + (i 4).val) % 512 = 64 * (4 * (i 2).val + (i 3).val) + (i 4).val; omega

theorem v6_at (i : S64x128x2x64.Idx) : val_main_v6 (F := Ideal) x0 i = x0 (ix2 (at128 (i 0) (i 1)) (colK (i 2) (i 3))) := by
  rw [val_main_v6_apply, val_main_v2_apply, val_main_v0_apply]
  show x0 _ = x0 _
  congr 1
  have h0 : (i 0).val < 64 := (i 0).isLt
  have h1 : (i 1).val < 128 := (i 1).isLt
  have h2 : (i 2).val < 2 := (i 2).isLt
  have h3 : (i 3).val < 64 := (i 3).isLt
  funext a
  apply Fin.ext
  match a with
  | ⟨0, _⟩ => show ((((i 0).val * 128 + (i 1).val) * 2 + (i 2).val) * 64 + (i 3).val) / 128 = 128 * (i 0).val + (i 1).val; omega
  | ⟨1, _⟩ => show 512 + ((((i 0).val * 128 + (i 1).val) * 2 + (i 2).val) * 64 + (i 3).val) % 128 = 512 + (64 * (i 2).val + (i 3).val); omega

theorem v10_at (i : S64x128x2x64.Idx) : val_main_v10 (F := Ideal) x0 i = x0 (ix2 (at128 (i 0) (i 1)) (colV (i 2) (i 3))) := by
  rw [val_main_v10_apply, val_main_v3_apply, val_main_v0_apply]
  show x0 _ = x0 _
  congr 1
  have h0 : (i 0).val < 64 := (i 0).isLt
  have h1 : (i 1).val < 128 := (i 1).isLt
  have h2 : (i 2).val < 2 := (i 2).isLt
  have h3 : (i 3).val < 64 := (i 3).isLt
  funext a
  apply Fin.ext
  match a with
  | ⟨0, _⟩ => show ((((i 0).val * 128 + (i 1).val) * 2 + (i 2).val) * 64 + (i 3).val) / 128 = 128 * (i 0).val + (i 1).val; omega
  | ⟨1, _⟩ => show 640 + ((((i 0).val * 128 + (i 1).val) * 2 + (i 2).val) * 64 + (i 3).val) % 128 = 640 + (64 * (i 2).val + (i 3).val); omega

theorem pad_zero (i : S_.Idx) : val_main_call0_v0 (F := Ideal) i = 0 := by
  rw [val_main_call0_v0_apply, val_main_c_apply]
  show ((((0#32 : BitVec 32).toInt : ℤ) : ℝ) : EReal) = 0
  simp

/-- The window's keys. -/
theorem shift_at (x : (⟨S64x128x2x64, .f32⟩ : BufTy).Contents (Elt Ideal)) (v : (⟨S_, .f32⟩ : BufTy).Contents (Elt Ideal)) (hv : ∀ i, v i = 0)
    (col : Fin 2 → Fin 64 → Fin 2816) (hx : ∀ i : S64x128x2x64.Idx, x i = x0 (ix2 (at128 (i 0) (i 1)) (col (i 2) (i 3)))) (i : S64x256x2x64.Idx) :
    (concatenate S64x256x2x64 1 [⟨S64x128x2x64, extractStridedSlice S64x128x2x64 ![0, 0, 0, 0]
      (pad S65x128x2x64 ![1, 0, 0, 0] ![0, 0, 0, 0] ![0, 0, 0, 0] x v pads_S64x128x2x64_S65x128x2x64_100_000_000_000 h_S_) slices_S65x128x2x64_S64x128x2x64_0_0_0_0⟩, ⟨S64x128x2x64, x⟩]
      concatenates_S64x128x2x64_S64x128x2x64_S64x256x2x64_d1 i : EReal)
      = if 128 ≤ (i 1).val ∨ 0 < (i 0).val then x0 (ix2 (keyRow (i 0) (i 1)) (col (i 2) (i 3))) else 0 := by
  have h0 : (i 0).val < 64 := (i 0).isLt
  have h1 : (i 1).val < 256 := (i 1).isLt
  rw [concatenate_pair_apply]
  split
  · next hlt =>
    have hlt : (i 1).val < 128 := hlt
    refine (extractStridedSlice_apply ![0, 0, 0, 0] _ _ _ (ix4 (n0 := 65) (n1 := 128) (n2 := 2) (n3 := 64) ⟨(i 0).val, by omega⟩ ⟨(i 1).val, hlt⟩ (i 2) (i 3)) (fun a => ?_)).trans ?_
    · match a with
      | ⟨0, _⟩ => show (i 0).val = 0 + (i 0).val; omega
      | ⟨1, _⟩ => show (i 1).val = 0 + (i 1).val; omega
      | ⟨2, _⟩ => show (i 2).val = 0 + (i 2).val; omega
      | ⟨3, _⟩ => show (i 3).val = 0 + (i 3).val; omega
    by_cases hp : 0 < (i 0).val
    · rw [if_pos (Or.inr hp)]
      refine (pad_apply_of_inside _ _ _ _ _ _ _ _ (ix4 (n0 := 64) (n1 := 128) (n2 := 2) (n3 := 64) ⟨(i 0).val - 1, by omega⟩ ⟨(i 1).val, hlt⟩ (i 2) (i 3)) (fun a => ?_)).trans ?_
      · match a with
        | ⟨0, _⟩ => show (i 0).val = 1 + ((i 0).val - 1) * (0 + 1); omega
        | ⟨1, _⟩ => show (i 1).val = 0 + (i 1).val * (0 + 1); omega
        | ⟨2, _⟩ => show (i 2).val = 0 + (i 2).val * (0 + 1); omega
        | ⟨3, _⟩ => show (i 3).val = 0 + (i 3).val * (0 + 1); omega
      · rw [hx]
        refine congrArg x0 (congrArg (fun R => ix2 R (col (i 2) (i 3))) (Fin.ext ?_))
        show 128 * ((i 0).val - 1) + (i 1).val = 128 * (i 0).val + (i 1).val - 128
        omega
    · rw [if_neg (by omega)]
      refine (pad_apply_of_not_inside _ _ _ _ _ _ _ _ ⟨0, by decide⟩ ?_).trans (hv _)
      show ¬(1 ≤ (i 0).val ∧ _)
      omega
  · next hlt =>
    have hlt : ¬(i 1).val < 128 := hlt
    rw [if_pos (Or.inl (by omega)), hx]
    refine congrArg x0 (congrArg₂ (fun R C => ix2 R C) (Fin.ext ?_) rfl)
    show 128 * (i 0).val + ((i 1).val - 128) = 128 * (i 0).val + (i 1).val - 128
    omega

theorem v9_at (i : S64x256x2x64.Idx) : val_main_v9 (F := Ideal) x0 i = (refArgs x0 x1 x2).k (i 0) (i 2) (i 1) (i 3) :=
  shift_at x0 _ _ pad_zero colK (v6_at x0) i
theorem v13_at (i : S64x256x2x64.Idx) : val_main_v13 (F := Ideal) x0 i = (refArgs x0 x1 x2).v (i 0) (i 2) (i 1) (i 3) :=
  shift_at x0 _ _ pad_zero colV (v10_at x0) i

/-! ## The mask -/

/-- The mask's bit. -/
def okBit (n : Fin 64) (r : Fin 128) (j : Fin 256) : BitVec 1 := bit (ok n r j)
/-- A choice by the mask. -/
def pick (n : Fin 64) (r : Fin 128) (j : Fin 256) (a b : EReal) : EReal := if ok n r j then a else b

theorem select_ok (n : Fin 64) (r : Fin 128) (j : Fin 256) (a b : EReal) : Scalar.select (okBit n r j) a b = pick n r j a b := by
  unfold okBit pick
  by_cases h : ok n r j
  · rw [if_pos h, (bit_eq_one _).2 h]; rfl
  · have hb : bit (ok n r j) = 0#1 := if_neg h
    rw [if_neg h, hb]; rfl

theorem mask_at (i : S64x2x4x128x256.Idx) : val_main_v50_1 (F := Ideal) i = okBit (i 0) (i 3) (i 4) := by
  simp only [val_main_v50_1_apply, val_main_v49_apply, val_main_v48_apply, val_main_v47_apply, val_main_v46_apply, val_main_v45_apply, val_main_v44_apply,
    val_main_v43_apply, val_main_v42_apply, val_main_v41_apply, val_main_v40_apply, val_main_v39_apply, val_main_v38_apply, val_main_v37_apply, val_main_v36_apply,
    val_main_v35_apply, val_main_v34_apply, val_main_v33_apply, val_main_v32_apply, val_main_v31_apply, val_main_v30_apply, val_main_v29_apply, val_main_v28_apply,
    val_main_v27_apply, val_main_v26_apply, val_main_v25_apply, val_main_v24_apply, val_main_v23_apply, val_main_v22_apply, val_main_v21_apply, val_main_v20_apply,
    val_main_v19_apply, val_main_c_1_apply, val_main_c_2_apply, val_main_c_3_apply, val_main_c_4_apply, val_main_c_5_apply, val_main_c_6_apply]
  have e1 := diff_ge (i 3) (i 4)
  have e2 := diff_lt (i 3) (i 4)
  have e3 := key_pos (i 0) (i 4)
  refine (congrArg₂ IntOp.andi (congrArg₂ IntOp.andi e1 e2) e3).trans ?_
  unfold okBit
  rw [bit_and, bit_and]
  rfl

end Cert.SwaBwdRefIdeal.Swa

end
-- ==== Proof.Swa.Softmax.lean ====
/-
  THE REFERENCE'S SOFTMAX AND ITS DERIVATIVE, read at an index over the extended reals; the derivative is in the form of the quotient
  rule.
-/
module

public import proofs.«01_k».proof.Proof.Gen.SwaBwdRefIdeal.Read
public import proofs.«01_k».proof.Proof.Swa.Heads
public import Idealize.ShloMosaic.Lib.Pointwise
public import Idealize.ShloMosaic.Lib.TwoAxisContraction
public import Idealize.ShloMosaic.Lib.KernelVsHost

@[expose] public section

noncomputable section

namespace Cert.SwaBwdRefIdeal.Swa

open Cert.SwaBwdRefIdeal Cert.SwaBwdRefIdeal.Gen Cert.SwaBwdRefIdeal.Read Cert.Swa Idealize.ShloMosaic
open Cert.MemAttn (top ex wt dsVjp)

variable (x0 : (⟨S8192x2816, .bf16⟩ : BufTy).Contents (Elt Ideal)) (x1 : (⟨S1x8, .f32⟩ : BufTy).Contents (Elt Ideal))
  (x2 : (⟨S8192x1024, .bf16⟩ : BufTy).Contents (Elt Ideal))

/-! ## The softmax -/

/-- The scores' row at an index. -/
abbrev rowAt (i0 : Fin 64) (i1 : Fin 2) (i2 : Fin 4) (i3 : Fin 128) : Fin 257 → EReal := (refArgs x0 x1 x2).row i0 (hd i1 i2) i3

theorem v18_at (i : S64x2x4x128x256.Idx) : val_main_v18 (F := Ideal) x0 i = (refArgs x0 x1 x2).sc (i 0) (hd (i 1) (i 2)) (i 3) (i 4) := by
  rw [val_main_v18_apply, val_main_v16_apply, val_main_v15_apply, val_main_v17_apply, val_main_cst_apply]
  refine Eq.trans ?_ (Args.sc_hd (refArgs x0 x1 x2) (i 0) (i 1) (i 2) (i 3) (i 4)).symm
  refine congrArg (fun x : EReal => x * scale) (Finset.sum_congr rfl fun c _ => ?_)
  rw [v9_at x0 x1 x2, v14_at x0 x1 x2]
  exact mul_comm (G := EReal) _ _

theorem v50_at (i : S64x2x4x128x256.Idx) : val_main_v50_0 (F := Ideal) x0 i
    = pick (i 0) (i 3) (i 4) ((refArgs x0 x1 x2).sc (i 0) (hd (i 1) (i 2)) (i 3) (i 4)) ⊥ := by
  rw [val_main_v50_0_apply, mask_at]
  refine (select_ok _ _ _ _ _).trans (congrArg₂ (pick (i 0) (i 3) (i 4)) (v18_at x0 x1 x2 i) ?_)
  rw [val_main_call2_v2_apply, val_main_call2_v0_apply, val_main_cst_7_apply]
  exact bot_eq

theorem v53_at (i : S64x2x4x128x1.Idx) : val_main_v53 (F := Ideal) x1 i = (refArgs x0 x1 x2).s (hd (i 1) (i 2)) := by
  rw [val_main_v53_apply, val_main_v52_apply, val_main_v51_apply]
  show x1 _ = x1 _
  congr 1
  have h1 : (i 1).val < 2 := (i 1).isLt
  have h2 : (i 2).val < 4 := (i 2).isLt
  funext a
  apply Fin.ext
  match a with
  | ⟨0, _⟩ => rfl
  | ⟨1, _⟩ => show ((i 1).val * 4 + (i 2).val) % 8 = 4 * (i 1).val + (i 2).val; omega

theorem v54_at (i : S64x2x4x128x257.Idx) : val_main_v54 (F := Ideal) x0 x1 i = rowAt x0 x1 x2 (i 0) (i 1) (i 2) (i 3) (i 4) := by
  unfold val_main_v54
  rw [concatenate_pair_apply]
  show _ = (refArgs x0 x1 x2).row (i 0) (hd (i 1) (i 2)) (i 3) (i 4)
  unfold Args.row
  split
  · next h =>
    rw [dif_pos (show (i 4).val < 256 from h)]
    exact v50_at x0 x1 x2 _
  · next h =>
    rw [dif_neg (show ¬(i 4).val < 256 from h)]
    exact v53_at x0 x1 x2 _

theorem v55_at (i : S64x2x4x128.Idx) : val_main_v55 (F := Ideal) x0 x1 i = top (rowAt x0 x1 x2 (i 0) (i 1) (i 2) (i 3)) := by
  unfold val_main_v55 top
  simp only [pointwise, v54_at x0 x1 x2]
  rw [← bot_eq]
  rfl

theorem v73_at (i : S64x2x4x128x257.Idx) : val_main_v73 (F := Ideal) x0 x1 i = top (rowAt x0 x1 x2 (i 0) (i 1) (i 2) (i 3)) := by
  rw [val_main_v73_apply, val_main_v72_apply, val_main_v62_apply, val_main_v61_apply, val_main_cst_10_apply, v55_at x0 x1 x2]
  show max (Ideal.ofBits .f32 0xFF800000#32) _ = _
  rw [bot_eq, bot_sup_eq]
  rfl

theorem v75_at (i : S64x2x4x128x257.Idx) : val_main_v75 (F := Ideal) x0 x1 i = ex (rowAt x0 x1 x2 (i 0) (i 1) (i 2) (i 3)) (i 4) := by
  rw [val_main_v75_apply, val_main_v74_apply, v73_at x0 x1 x2, v54_at x0 x1 x2]
  rfl

theorem v76_at (i : S64x2x4x128.Idx) : val_main_v76 (F := Ideal) x0 x1 i = ∑ k, ex (rowAt x0 x1 x2 (i 0) (i 1) (i 2) (i 3)) k := by
  rw [val_main_v76_apply]
  simp only [v75_at x0 x1 x2]
  show Ideal.ofBits .f32 0x00000000#32 + _ = _
  rw [Ideal.ofBits_zero_f32, zero_add]
  rfl

theorem v83_at (i : S64x2x4x128x256.Idx) : val_main_v83 (F := Ideal) x0 x1 i = wt (rowAt x0 x1 x2 (i 0) (i 1) (i 2) (i 3)) (Fin.castSucc (n := 256) (i 4)) := by
  rw [val_main_v83_apply, val_main_v79_apply, val_main_v78_apply, val_main_v77_apply, v76_at x0 x1 x2, v75_at x0 x1 x2]
  rfl

/-! ## The derivative -/

theorem v88_at (i : S64x2x64x4x128.Idx) : val_main_v88 (F := Ideal) x2 i = (refArgs x0 x1 x2).d (i 0) (hd (i 1) (i 3)) (i 4) (i 2) := by
  rw [val_main_v88_apply]
  exact v87_at x0 x1 x2 _

theorem v89_at (i : S64x2x4x128x256.Idx) : val_main_v89 (F := Ideal) x0 x2 i = (refArgs x0 x1 x2).dp (i 0) (hd (i 1) (i 2)) (i 3) (i 4) := by
  rw [val_main_v89_apply]
  refine Eq.trans ?_ (Args.dp_hd (refArgs x0 x1 x2) (i 0) (i 1) (i 2) (i 3) (i 4)).symm
  refine Finset.sum_congr rfl fun c _ => ?_
  rw [v88_at x0 x1 x2, v13_at x0 x1 x2]
  rfl

theorem v92_at (i : S64x2x4x128x257.Idx) : val_main_v92 (F := Ideal) x0 x2 i = (refArgs x0 x1 x2).dpx (i 0) (hd (i 1) (i 2)) (i 3) (i 4) := by
  unfold val_main_v92 Args.dpx
  have h4 : (i 4).val < 257 := (i 4).isLt
  by_cases h : (i 4).val < 256
  · rw [dif_pos (show (i 4).val < 256 from h)]
    refine (pad_apply_of_inside _ _ _ _ _ _ _ _ (ix5 (n0 := 64) (n1 := 2) (n2 := 4) (n3 := 128) (n4 := 256) (i 0) (i 1) (i 2) (i 3) ⟨(i 4).val, h⟩) (fun a => ?_)).trans (v89_at x0 x1 x2 _)
    match a with
    | ⟨0, _⟩ => show (i 0).val = 0 + (i 0).val * (0 + 1); omega
    | ⟨1, _⟩ => show (i 1).val = 0 + (i 1).val * (0 + 1); omega
    | ⟨2, _⟩ => show (i 2).val = 0 + (i 2).val * (0 + 1); omega
    | ⟨3, _⟩ => show (i 3).val = 0 + (i 3).val * (0 + 1); omega
    | ⟨4, _⟩ => show (i 4).val = 0 + (i 4).val * (0 + 1); omega
  · rw [dif_neg (show ¬(i 4).val < 256 from h)]
    refine (pad_apply_of_not_inside _ _ _ _ _ _ _ _ ⟨4, by decide⟩ ?_).trans ((val_main_cst_18_apply _).trans Ideal.ofBits_zero_f32)
    show ¬(0 ≤ (i 4).val ∧ ((i 4).val - 0) % (0 + 1) = 0 ∧ ((i 4).val - 0) / (0 + 1) < 256)
    omega

theorem v82_at (i : S64x2x4x128x1.Idx) : val_main_v82 (F := Ideal) x0 x1 i
    = Ideal.div 1 ((∑ k, ex (rowAt x0 x1 x2 (i 0) (i 1) (i 2) (i 3)) k) * (∑ k, ex (rowAt x0 x1 x2 (i 0) (i 1) (i 2) (i 3)) k)) := by
  rw [val_main_v82_apply, val_main_v81_apply, val_main_v80_apply, val_main_v77_apply, v76_at x0 x1 x2]
  show Ideal.div (Ideal.ofBits .f32 0x3F800000#32) _ = _
  rw [Ideal.ofBits_one_f32]
  rfl

theorem v96_at (i : S64x2x4x128.Idx) : val_main_v96 (F := Ideal) x0 x1 x2 i
    = ∑ k, (refArgs x0 x1 x2).dpx (i 0) (hd (i 1) (i 2)) (i 3) k
        * Ideal.div 1 ((∑ k, ex (rowAt x0 x1 x2 (i 0) (i 1) (i 2) (i 3)) k) * (∑ k, ex (rowAt x0 x1 x2 (i 0) (i 1) (i 2) (i 3)) k)) * ex (rowAt x0 x1 x2 (i 0) (i 1) (i 2) (i 3)) k := by
  rw [val_main_v96_apply]
  simp only [val_main_v95_apply, val_main_v94_apply, val_main_v93_apply, v92_at x0 x1 x2, v82_at x0 x1 x2, v75_at x0 x1 x2]
  show Ideal.ofBits .f32 0x00000000#32 + _ = _
  rw [Ideal.ofBits_zero_f32, zero_add]
  rfl

theorem v101_at (i : S64x2x4x128.Idx) : val_main_v101 (F := Ideal) x0 x1 x2 i = -val_main_v96 (F := Ideal) x0 x1 x2 i := by
  rw [val_main_v101_apply]
  simp only [Fin.sum_univ_one, val_main_v98_apply, val_main_v97_apply]
  show Ideal.ofBits .f32 0x00000000#32 + -val_main_v96 (F := Ideal) x0 x1 x2 (idx_main_v97 (idx_main_v101 i 0)) = _
  rw [Ideal.ofBits_zero_f32, zero_add]
  refine congrArg (fun j => -val_main_v96 (F := Ideal) x0 x1 x2 j) ?_
  funext a
  have h0 : (i 0).val < 64 := (i 0).isLt
  have h1 : (i 1).val < 2 := (i 1).isLt
  have h2 : (i 2).val < 4 := (i 2).isLt
  have h3 : (i 3).val < 128 := (i 3).isLt
  apply Fin.ext
  match a with
  | ⟨0, _⟩ => show (((((i 0).val * 2 + (i 1).val) * 4 + (i 2).val) * 128 + (i 3).val) * 1 + 0) / 1024 = (i 0).val; omega
  | ⟨1, _⟩ => show (((((i 0).val * 2 + (i 1).val) * 4 + (i 2).val) * 128 + (i 3).val) * 1 + 0) / 512 % 2 = (i 1).val; omega
  | ⟨2, _⟩ => show (((((i 0).val * 2 + (i 1).val) * 4 + (i 2).val) * 128 + (i 3).val) * 1 + 0) / 128 % 4 = (i 2).val; omega
  | ⟨3, _⟩ => show (((((i 0).val * 2 + (i 1).val) * 4 + (i 2).val) * 128 + (i 3).val) * 1 + 0) % 128 = (i 3).val; omega

theorem v104_at (i : S64x2x4x128x257.Idx) : val_main_v104 (F := Ideal) x0 x1 x2 i
    = dsVjp (rowAt x0 x1 x2 (i 0) (i 1) (i 2) (i 3)) ((refArgs x0 x1 x2).dpx (i 0) (hd (i 1) (i 2)) (i 3)) (i 4) := by
  rw [val_main_v104_apply, val_main_v103_apply, val_main_v102_apply, val_main_v100_apply, val_main_v99_apply, v101_at, v96_at,
    val_main_v77_apply, v76_at x0 x1 x2, v92_at x0 x1 x2, v75_at x0 x1 x2]
  rfl

end Cert.SwaBwdRefIdeal.Swa

end
-- ==== Proof.Swa.Logs.lean ====
/-
  THE LOGARITHMS OF THE SOFTMAX'S SUMS, which the kernel takes as an argument, read at a row and a head.
-/
module

public import proofs.«01_k».proof.Proof.Swa.Lse
public import proofs.«01_k».proof.Proof.Swa.Softmax
public import Idealize.ShloMosaic.Lib.Pointwise

@[expose] public section

noncomputable section

namespace Cert.SwaBwdIdeal.Swa

open Cert.SwaBwdIdeal Cert.SwaBwdIdeal.Gen Cert.Swa Idealize.ShloMosaic
open Cert.MemAttn (top ex)

/-- The host's formula at a row and a head. -/
theorem logSum_apply (s : FVec Ideal S64x2x4x128x257 .f32) (t : FVec Ideal S64x2x4x128 .f32) (n : Fin 64) (r : Fin 128) (k : Fin 2) (g : Fin 4) :
    (logSum (F := Ideal) s t (ix2 (at128 n r) (Cert.Swa.hd k g)) : EReal)
      = t (ix4 n k g r) + Ideal.log (∑ j : Fin 257, Ideal.exp (s (ix5 n k g r j) - t (ix4 n k g r))) := by
  unfold logSum
  refine (shapeCast_apply _ _ _ (ix4 (n0 := 64) (n1 := 128) (n2 := 2) (n3 := 4) n r k g) ?_).trans ?_
  · rw [rowMajor_val4 (d := ![64, 128, 2, 4]) _ 1024 8 4 rfl rfl rfl, rowMajor_val2 (d := ![8192, 8]) _ 8 rfl]
    show n.val * 1024 + r.val * 8 + k.val * 4 + g.val = (128 * n.val + r.val) * 8 + (4 * k.val + g.val)
    omega
  refine (transpose_apply _ _ _ _ (ix4 (n0 := 64) (n1 := 2) (n2 := 4) (n3 := 128) n k g r) ?_).trans ?_
  · intro b
    match b with
    | ⟨0, _⟩ => rfl
    | ⟨1, _⟩ => rfl
    | ⟨2, _⟩ => rfl
    | ⟨3, _⟩ => rfl
  simp only [pointwise, Ideal.hostReduceAdd_def]
  refine congrArg (fun y : EReal => t (ix4 n k g r) + Ideal.log y) ?_
  exact zero_add _

theorem logSum_at (x0 : (⟨S8192x2816, .bf16⟩ : BufTy).Contents (Elt Ideal)) (x1 : (⟨S1x8, .f32⟩ : BufTy).Contents (Elt Ideal))
    (x2 : (⟨S8192x1024, .bf16⟩ : BufTy).Contents (Elt Ideal)) (n : Fin 64) (r : Fin 128) (h : Fin 8) :
    (logSum (F := Ideal) (Cert.SwaBwdRefIdeal.Read.val_main_v54 x0 x1) (Cert.SwaBwdRefIdeal.Read.val_main_v55 x0 x1) (ix2 (at128 n r) h) : EReal)
      = (refArgs x0 x1 x2).lse n h r := by
  obtain ⟨k, g, rfl⟩ : ∃ (k : Fin 2) (g : Fin 4), h = Cert.Swa.hd k g :=
    ⟨⟨h.val / 4, by omega⟩, ⟨h.val % 4, Nat.mod_lt _ (by norm_num)⟩, Fin.ext (by show h.val = 4 * (h.val / 4) + h.val % 4; omega)⟩
  refine (logSum_apply _ _ n r k g).trans ?_
  rw [Cert.SwaBwdRefIdeal.Swa.v55_at x0 x1 x2]
  unfold Args.lse
  refine congrArg₂ (fun a b : EReal => a + Ideal.log b) rfl (Finset.sum_congr rfl fun j _ => ?_)
  rw [Cert.SwaBwdRefIdeal.Swa.v54_at x0 x1 x2]
  rfl

end Cert.SwaBwdIdeal.Swa

end
-- ==== Proof.Swa.Array.lean ====
/-
  THE SLIDING-WINDOW ATTENTION'S GRADIENT as the kernel computes it: 64 grid points of 128 rows, whose blocks of gradients cover
  the arrays.
-/
module

public import proofs.«01_k».proof.Proof.Swa.Outs
public import proofs.«01_k».proof.Proof.Swa.Block
public import proofs.«01_k».proof.Proof.Swa.Logs

@[expose] public section

noncomputable section

namespace Cert.SwaBwdIdeal.Swa

open Cert.SwaBwdIdeal Cert.SwaBwdIdeal.Gen Cert.Swa Idealize.ShloMosaic Idealize.ShloMosaic.TcCoe Idealize.SL.Sem

variable (m : (ℓ : Loc nD τ sig) → Buf (Elt Ideal) ℓ) (ρ : Dev nD → PrngReg)

/-- The arguments as the kernel reads them. -/
abbrev args (c : Dev nD) : Args :=
  kerArgs (m ((c : Thread nD τ).loc main_arg0)) (m ((c : Thread nD τ).loc main_arg1)) (m ((c : Thread nD τ).loc main_arg2))
/-- The arguments as the reference has them. -/
abbrev refs (c : Dev nD) : Args :=
  refArgs (m ((c : Thread nD τ).loc main_arg0)) (m ((c : Thread nD τ).loc main_arg1)) (m ((c : Thread nD τ).loc main_arg2))

theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val - 1 ∧ win0_2.index t 1 = 4 :=
  (by decide +kernel : ∀ t : Fin grid0.N, win0_2.index t 0 = t.val - 1 ∧ win0_2.index t 1 = 4)
theorem idx3 : ∀ t : Fin cfg0.N, win0_3.index t 0 = t.val ∧ win0_3.index t 1 = 4 :=
  (by decide +kernel : ∀ t : Fin grid0.N, win0_3.index t 0 = t.val ∧ win0_3.index t 1 = 4)
theorem idx4 : ∀ t : Fin cfg0.N, win0_4.index t 0 = t.val - 1 ∧ win0_4.index t 1 = 5 :=
  (by decide +kernel : ∀ t : Fin grid0.N, win0_4.index t 0 = t.val - 1 ∧ win0_4.index t 1 = 5)
theorem idx5 : ∀ t : Fin cfg0.N, win0_5.index t 0 = t.val ∧ win0_5.index t 1 = 5 :=
  (by decide +kernel : ∀ t : Fin grid0.N, win0_5.index t 0 = t.val ∧ win0_5.index t 1 = 5)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)
theorem idx12 : ∀ t : Fin cfg0.N, win0_12.index t 0 = t.val ∧ win0_12.index t 1 = 0 :=
  (by decide +kernel : ∀ t : Fin grid0.N, win0_12.index t 0 = t.val ∧ win0_12.index t 1 = 0)

theorem point : ∀ t : Fin cfg0.N, (grid0.coords t 0).val = t.val :=
  (by decide +kernel : ∀ t : Fin grid0.N, (grid0.coords t 0).val = t.val)

/-- The grid point as a number below 64. -/
def pt (t : Fin cfg0.N) : Fin 64 := ⟨t.val, lt_of_lt_of_eq t.isLt N_0⟩

/-! ## The blocks that a point reads -/

theorem q_at (c : Dev nD) (t : Fin cfg0.N) (r : Fin 128) (x : Fin 512) (R : Fin 8192) (X : Fin 2816) (hR : R.val = 128 * t.val + r.val) (hX : X.val = x.val) :
    (X0_1 m c t : Vec Ideal S128x512 .bf16) (ix2 r x) = m ((c : Thread nD τ).loc main_arg0) (ix2 R X) := by
  have hi := idx1 t
  unfold X0_1 Pipeline.Window.fill
  rw [dif_pos (moved0_1 t _)]
  unfold iblk
  rw [View.read_apply]
  show V m c main_arg0 _ = m (c.tc.loc main_arg0) _
  rw [V_main_arg0]
  congr 1
  funext b
  apply Fin.ext
  match b with
  | ⟨0, _⟩ => show win0_1.index t 0 * 128 + 1 * r.val = R.val; rw [hi.1]; omega
  | ⟨1, _⟩ => show win0_1.index t 1 * 512 + 1 * x.val = X.val; rw [hi.2]; omega

theorem kp_at (c : Dev nD) (t : Fin cfg0.N) (r : Fin 128) (x : Fin 128) (R : Fin 8192) (X : Fin 2816) (hR : R.val = 128 * (t.val - 1) + r.val) (hX : X.val = 512 + x.val) :
    (iblk m c 2 t : Vec Ideal S128x128 .bf16) (ix2 r x) = m ((c : Thread nD τ).loc main_arg0) (ix2 R X) := by
  have hi := idx2 t
  unfold iblk
  rw [View.read_apply]
  show V m c main_arg0 _ = m (c.tc.loc main_arg0) _
  rw [V_main_arg0]
  congr 1
  funext b
  apply Fin.ext
  match b with
  | ⟨0, _⟩ => show win0_2.index t 0 * 128 + 1 * r.val = R.val; rw [hi.1]; omega
  | ⟨1, _⟩ => show win0_2.index t 1 * 128 + 1 * x.val = X.val; rw [hi.2]; omega

theorem kc_at (c : Dev nD) (t : Fin cfg0.N) (r : Fin 128) (x : Fin 128) (R : Fin 8192) (X : Fin 2816) (hR : R.val = 128 * t.val + r.val) (hX : X.val = 512 + x.val) :
    (iblk m c 3 t : Vec Ideal S128x128 .bf16) (ix2 r x) = m ((c : Thread nD τ).loc main_arg0) (ix2 R X) := by
  have hi := idx3 t
  unfold iblk
  rw [View.read_apply]
  show V m c main_arg0 _ = m (c.tc.loc main_arg0) _
  rw [V_main_arg0]
  congr 1
  funext b
  apply Fin.ext
  match b with
  | ⟨0, _⟩ => show win0_3.index t 0 * 128 + 1 * r.val = R.val; rw [hi.1]; omega
  | ⟨1, _⟩ => show win0_3.index t 1 * 128 + 1 * x.val = X.val; rw [hi.2]; omega

theorem vp_at (c : Dev nD) (t : Fin cfg0.N) (r : Fin 128) (x : Fin 128) (R : Fin 8192) (X : Fin 2816) (hR : R.val = 128 * (t.val - 1) + r.val) (hX : X.val = 640 + x.val) :
    (iblk m c 4 t : Vec Ideal S128x128 .bf16) (ix2 r x) = m ((c : Thread nD τ).loc main_arg0) (ix2 R X) := by
  have hi := idx4 t
  unfold iblk
  rw [View.read_apply]
  show V m c main_arg0 _ = m (c.tc.loc main_arg0) _
  rw [V_main_arg0]
  congr 1
  funext b
  apply Fin.ext
  match b with
  | ⟨0, _⟩ => show win0_4.index t 0 * 128 + 1 * r.val = R.val; rw [hi.1]; omega
  | ⟨1, _⟩ => show win0_4.index t 1 * 128 + 1 * x.val = X.val; rw [hi.2]; omega

theorem vc_at (c : Dev nD) (t : Fin cfg0.N) (r : Fin 128) (x : Fin 128) (R : Fin 8192) (X : Fin 2816) (hR : R.val = 128 * t.val + r.val) (hX : X.val = 640 + x.val) :
    (iblk m c 5 t : Vec Ideal S128x128 .bf16) (ix2 r x) = m ((c : Thread nD τ).loc main_arg0) (ix2 R X) := by
  have hi := idx5 t
  unfold iblk
  rw [View.read_apply]
  show V m c main_arg0 _ = m (c.tc.loc main_arg0) _
  rw [V_main_arg0]
  congr 1
  funext b
  apply Fin.ext
  match b with
  | ⟨0, _⟩ => show win0_5.index t 0 * 128 + 1 * r.val = R.val; rw [hi.1]; omega
  | ⟨1, _⟩ => show win0_5.index t 1 * 128 + 1 * x.val = X.val; rw [hi.2]; omega

theorem d_at (c : Dev nD) (t : Fin cfg0.N) (r : Fin 128) (x : Fin 512) (R : Fin 8192) (X : Fin 1024) (hR : R.val = 128 * t.val + r.val) (hX : X.val = x.val) :
    (iblk m c 6 t : Vec Ideal S128x512 .bf16) (ix2 r x) = m ((c : Thread nD τ).loc main_arg2) (ix2 R X) := by
  have hi := idx6 t
  unfold iblk
  rw [View.read_apply]
  show V m c main_arg2 _ = m (c.tc.loc main_arg2) _
  rw [V_main_arg2]
  congr 1
  funext b
  apply Fin.ext
  match b with
  | ⟨0, _⟩ => show win0_6.index t 0 * 128 + 1 * r.val = R.val; rw [hi.1]; omega
  | ⟨1, _⟩ => show win0_6.index t 1 * 512 + 1 * x.val = X.val; rw [hi.2]; omega

/-- A block of 128 rows of an array of the logarithms. -/
theorem read7 (A : Vec Ideal S8192x8 .f32) (t : Fin cfg0.N) (r : Fin 128) (h : Fin 8) :
    (((cfg0.win 7).blk t).view.read (Elt Ideal) A : Vec Ideal S128x8 .f32) (ix2 r h) = A (ix2 (at128 (pt t) r) h) := by
  have hi := idx7 t
  rw [View.read_apply]
  refine congrArg A (funext fun b => Fin.ext ?_)
  match b with
  | ⟨0, _⟩ => show win0_7.index t 0 * 128 + 1 * r.val = 128 * t.val + r.val; rw [hi.1]; omega
  | ⟨1, _⟩ => show win0_7.index t 1 * 8 + 1 * h.val = h.val; rw [hi.2]; omega

theorem l_read (c : Dev nD) (t : Fin cfg0.N) (r : Fin 128) (h : Fin 8) :
    (iblk m c 7 t : Vec Ideal S128x8 .f32) (ix2 r h) = V m c main_v58 (ix2 (at128 (pt t) r) h) := by
  unfold iblk
  exact read7 (V m c main_v58) t r h

theorem l_at (c : Dev nD) (t : Fin cfg0.N) (r : Fin 128) (h : Fin 8) :
    ((iblk m c 7 t : Vec Ideal S128x8 .f32) (ix2 r h) : EReal) = (args m c).lse (pt t) h r := by
  have e : (args m c).lse (pt t) h r = (refs m c).lse (pt t) h r :=
    (agree (m ((c : Thread nD τ).loc main_arg0)) (m ((c : Thread nD τ).loc main_arg1)) (m ((c : Thread nD τ).loc main_arg2))).lse (pt t) h r
  rw [e]
  exact (l_read m c t r h).trans ((congrFun (V_logs m c) _).trans
    (logSum_at (m ((c : Thread nD τ).loc main_arg0)) (m ((c : Thread nD τ).loc main_arg1)) (m ((c : Thread nD τ).loc main_arg2)) (pt t) r h))

/-- A point's blocks hold the arguments. -/
theorem holds (c : Dev nD) (t : Fin cfg0.N) : Holds (args m c) (pt t) (grid0.coords t) (X0_1 m c t) (iblk m c 2 t) (iblk m c 3 t) (iblk m c 4 t) (iblk m c 5 t)
    (iblk m c 6 t) (iblk m c 7 t) where
  i := point t
  q h r x := q_at m c t r ⟨64 * h.val + x.val, by omega⟩ (at128 (pt t) r) (colQ h x) rfl rfl
  kp k j x := kp_at m c t j ⟨64 * k.val + x.val, by omega⟩ (readRow (pt t) ⟨j.val, by omega⟩) (colK k x) (if_pos j.isLt) rfl
  kc k j x := kc_at m c t j ⟨64 * k.val + x.val, by omega⟩ (readRow (pt t) ⟨128 + j.val, by omega⟩) (colK k x)
    ((if_neg (by show ¬128 + j.val < 128; omega)).trans (by show 128 * t.val + (128 + j.val - 128) = _; omega)) rfl
  vp k j x := vp_at m c t j ⟨64 * k.val + x.val, by omega⟩ (readRow (pt t) ⟨j.val, by omega⟩) (colV k x) (if_pos j.isLt) rfl
  vc k j x := vc_at m c t j ⟨64 * k.val + x.val, by omega⟩ (readRow (pt t) ⟨128 + j.val, by omega⟩) (colV k x)
    ((if_neg (by show ¬128 + j.val < 128; omega)).trans (by show 128 * t.val + (128 + j.val - 128) = _; omega)) rfl
  d h r x := d_at m c t r ⟨64 * h.val + x.val, by omega⟩ (at128 (pt t) r) (colD h x) rfl rfl
  l h r := l_at m c t r h

/-! ## The gradients written block by block -/

/-- The queries' gradient as an array. -/
def resultQ (c : Dev nD) : Buf (Elt Ideal) ((c : Thread nD τ).loc main_v59_0) := fun i => (args m c).arrQ (i 0) (i 1)
/-- The keys' gradient from the blocks whose own they are, as an array. -/
def resultKa (c : Dev nD) : Buf (Elt Ideal) ((c : Thread nD τ).loc main_v59_1) := fun i => (args m c).arrK 1 (i 0) (i 1)
/-- The keys' gradient from the block after, as an array. -/
def resultKb (c : Dev nD) : Buf (Elt Ideal) ((c : Thread nD τ).loc main_v59_2) := fun i => (args m c).arrK 0 (i 0) (i 1)
/-- The values' gradient from the blocks whose own they are, as an array. -/
def resultVa (c : Dev nD) : Buf (Elt Ideal) ((c : Thread nD τ).loc main_v59_3) := fun i => (args m c).arrV 1 (i 0) (i 1)
/-- The values' gradient from the block after, as an array. -/
def resultVb (c : Dev nD) : Buf (Elt Ideal) ((c : Thread nD τ).loc main_v59_4) := fun i => (args m c).arrV 0 (i 0) (i 1)

theorem outs_Q (c : Dev nD) (t : Fin cfg0.N) :
    (outsAt0 m c t.val t.isLt).1 = stepQ (F := Ideal) (grid0.coords t) (X0_1 m c t) (iblk m c 2 t) (iblk m c 3 t) (iblk m c 4 t) (iblk m c 5 t) (iblk m c 6 t) (iblk m c 7 t) := by
  by_cases h0 : t.val % 64 = 0
  · exact outs_A_Q m c t h0
  · exact outs_B_Q m c t h0
theorem outs_Ka (c : Dev nD) (t : Fin cfg0.N) :
    (outsAt0 m c t.val t.isLt).2.1 = stepK (F := Ideal) 1 (grid0.coords t) (X0_1 m c t) (iblk m c 2 t) (iblk m c 3 t) (iblk m c 4 t) (iblk m c 5 t) (iblk m c 6 t) (iblk m c 7 t) := by
  by_cases h0 : t.val % 64 = 0
  · exact outs_A_Ka m c t h0
  · exact outs_B_Ka m c t h0
theorem outs_Kb (c : Dev nD) (t : Fin cfg0.N) :
    (outsAt0 m c t.val t.isLt).2.2.1 = stepK (F := Ideal) 0 (grid0.coords t) (X0_1 m c t) (iblk m c 2 t) (iblk m c 3 t) (iblk m c 4 t) (iblk m c 5 t) (iblk m c 6 t) (iblk m c 7 t) := by
  by_cases h0 : t.val % 64 = 0
  · exact outs_A_Kb m c t h0
  · exact outs_B_Kb m c t h0
theorem outs_Va (c : Dev nD) (t : Fin cfg0.N) :
    (outsAt0 m c t.val t.isLt).2.2.2.1 = stepV (F := Ideal) 1 (grid0.coords t) (X0_1 m c t) (iblk m c 2 t) (iblk m c 3 t) (iblk m c 6 t) (iblk m c 7 t) := by
  by_cases h0 : t.val % 64 = 0
  · exact outs_A_Va m c t h0
  · exact outs_B_Va m c t h0
theorem outs_Vb (c : Dev nD) (t : Fin cfg0.N) :
    (outsAt0 m c t.val t.isLt).2.2.2.2.1 = stepV (F := Ideal) 0 (grid0.coords t) (X0_1 m c t) (iblk m c 2 t) (iblk m c 3 t) (iblk m c 6 t) (iblk m c 7 t) := by
  by_cases h0 : t.val % 64 = 0
  · exact outs_A_Vb m c t h0
  · exact outs_B_Vb m c t h0

/-- The place of a block's row among the array's. -/
theorem place {α : Type} (f : Fin 64 → Fin 128 → α) (n : Fin 64) (r : Fin 128) (R : Fin 8192) (hR : R.val = n.val * 128 + r.val) :
    f ⟨R.val / 128, by omega⟩ ⟨R.val % 128, Nat.mod_lt _ (by norm_num)⟩ = f n r :=
  congr (congrArg f (Fin.ext (by show R.val / 128 = n.val; omega))) (Fin.ext (by show R.val % 128 = r.val; omega))

theorem arrQ_at (A : Args) (n : Fin 64) (r : Fin 128) (R : Fin 8192) (x : Fin 512) (hR : R.val = n.val * 128 + r.val) :
    A.arrQ R x = A.dq n ⟨x.val / 64, by omega⟩ r ⟨x.val % 64, Nat.mod_lt _ (by norm_num)⟩ :=
  place (fun n r => A.dq n ⟨x.val / 64, by omega⟩ r ⟨x.val % 64, Nat.mod_lt _ (by norm_num)⟩) n r R hR
theorem arrK_at (A : Args) (b : Fin 2) (n : Fin 64) (r : Fin 128) (R : Fin 8192) (x : Fin 128) (hR : R.val = n.val * 128 + r.val) :
    A.arrK b R x = A.dk n ⟨x.val / 64, by omega⟩ ⟨128 * b.val + r.val, by omega⟩ ⟨x.val % 64, Nat.mod_lt _ (by norm_num)⟩ :=
  place (fun n r => A.dk n ⟨x.val / 64, by omega⟩ ⟨128 * b.val + r.val, by omega⟩ ⟨x.val % 64, Nat.mod_lt _ (by norm_num)⟩) n r R hR
theorem arrV_at (A : Args) (b : Fin 2) (n : Fin 64) (r : Fin 128) (R : Fin 8192) (x : Fin 128) (hR : R.val = n.val * 128 + r.val) :
    A.arrV b R x = A.dv n ⟨x.val / 64, by omega⟩ ⟨128 * b.val + r.val, by omega⟩ ⟨x.val % 64, Nat.mod_lt _ (by norm_num)⟩ :=
  place (fun n r => A.dv n ⟨x.val / 64, by omega⟩ ⟨128 * b.val + r.val, by omega⟩ ⟨x.val % 64, Nat.mod_lt _ (by norm_num)⟩) n r R hR

theorem flushed_Q (c : Dev nD) (t : Fin cfg0.N) (_ : (cfg0.win 8).flush t = true) :
    (dats m 0 c).flushed 8 t = ((cfg0.win 8).blk t).view.read (Elt Ideal) (resultQ m c) := by
  have hi := idx8 t
  rw [Value.flushed8, outs_Q]
  funext y
  rw [View.read_apply]
  have e0 : (((cfg0.win 8).blk t).view.emb y 0).val = (pt t).val * 128 + (y 0).val := by
    show win0_8.index t 0 * 128 + 1 * (y 0).val = t.val * 128 + _; rw [hi.1]; omega
  have e1 : ((cfg0.win 8).blk t).view.emb y 1 = y 1 := Fin.ext (by show win0_8.index t 1 * 512 + 1 * (y 1).val = (y 1).val; rw [hi.2]; omega)
  refine (congrArg (stepQ (F := Ideal) _ _ _ _ _ _ _ _) (ix2_eta (n0 := 128) (n1 := 512) y).symm).trans ?_
  refine ((holds m c t).stepQ (y 0) (y 1)).trans ?_
  refine (arrQ_at (args m c) (pt t) (y 0) _ (y 1) e0).symm.trans ?_
  exact congrArg (fun x => (args m c).arrQ _ x) e1.symm

theorem flushed_Ka (c : Dev nD) (t : Fin cfg0.N) (_ : (cfg0.win 9).flush t = true) :
    (dats m 0 c).flushed 9 t = ((cfg0.win 9).blk t).view.read (Elt Ideal) (resultKa m c) := by
  have hi := idx9 t
  rw [Value.flushed9, outs_Ka]
  funext y
  rw [View.read_apply]
  have e0 : (((cfg0.win 9).blk t).view.emb y 0).val = (pt t).val * 128 + (y 0).val := by
    show win0_9.index t 0 * 128 + 1 * (y 0).val = t.val * 128 + _; rw [hi.1]; omega
  have e1 : ((cfg0.win 9).blk t).view.emb y 1 = y 1 := Fin.ext (by show win0_9.index t 1 * 128 + 1 * (y 1).val = (y 1).val; rw [hi.2]; omega)
  refine (congrArg (stepK (F := Ideal) 1 _ _ _ _ _ _ _ _) (ix2_eta (n0 := 128) (n1 := 128) y).symm).trans ?_
  refine ((holds m c t).stepK 1 (y 0) (y 1)).trans ?_
  refine (arrK_at (args m c) 1 (pt t) (y 0) _ (y 1) e0).symm.trans ?_
  exact congrArg (fun x => (args m c).arrK 1 _ x) e1.symm

theorem flushed_Kb (c : Dev nD) (t : Fin cfg0.N) (_ : (cfg0.win 10).flush t = true) :
    (dats m 0 c).flushed 10 t = ((cfg0.win 10).blk t).view.read (Elt Ideal) (resultKb m c) := by
  have hi := idx10 t
  rw [Value.flushed10, outs_Kb]
  funext y
  rw [View.read_apply]
  have e0 : (((cfg0.win 10).blk t).view.emb y 0).val = (pt t).val * 128 + (y 0).val := by
    show win0_10.index t 0 * 128 + 1 * (y 0).val = t.val * 128 + _; rw [hi.1]; omega
  have e1 : ((cfg0.win 10).blk t).view.emb y 1 = y 1 := Fin.ext (by show win0_10.index t 1 * 128 + 1 * (y 1).val = (y 1).val; rw [hi.2]; omega)
  refine (congrArg (stepK (F := Ideal) 0 _ _ _ _ _ _ _ _) (ix2_eta (n0 := 128) (n1 := 128) y).symm).trans ?_
  refine ((holds m c t).stepK 0 (y 0) (y 1)).trans ?_
  refine (arrK_at (args m c) 0 (pt t) (y 0) _ (y 1) e0).symm.trans ?_
  exact congrArg (fun x => (args m c).arrK 0 _ x) e1.symm

theorem flushed_Va (c : Dev nD) (t : Fin cfg0.N) (_ : (cfg0.win 11).flush t = true) :
    (dats m 0 c).flushed 11 t = ((cfg0.win 11).blk t).view.read (Elt Ideal) (resultVa m c) := by
  have hi := idx11 t
  rw [Value.flushed11, outs_Va]
  funext y
  rw [View.read_apply]
  have e0 : (((cfg0.win 11).blk t).view.emb y 0).val = (pt t).val * 128 + (y 0).val := by
    show win0_11.index t 0 * 128 + 1 * (y 0).val = t.val * 128 + _; rw [hi.1]; omega
  have e1 : ((cfg0.win 11).blk t).view.emb y 1 = y 1 := Fin.ext (by show win0_11.index t 1 * 128 + 1 * (y 1).val = (y 1).val; rw [hi.2]; omega)
  refine (congrArg (stepV (F := Ideal) 1 _ _ _ _ _ _) (ix2_eta (n0 := 128) (n1 := 128) y).symm).trans ?_
  refine ((holds m c t).stepV 1 (y 0) (y 1)).trans ?_
  refine (arrV_at (args m c) 1 (pt t) (y 0) _ (y 1) e0).symm.trans ?_
  exact congrArg (fun x => (args m c).arrV 1 _ x) e1.symm

theorem flushed_Vb (c : Dev nD) (t : Fin cfg0.N) (_ : (cfg0.win 12).flush t = true) :
    (dats m 0 c).flushed 12 t = ((cfg0.win 12).blk t).view.read (Elt Ideal) (resultVb m c) := by
  have hi := idx12 t
  rw [Value.flushed12, outs_Vb]
  funext y
  rw [View.read_apply]
  have e0 : (((cfg0.win 12).blk t).view.emb y 0).val = (pt t).val * 128 + (y 0).val := by
    show win0_12.index t 0 * 128 + 1 * (y 0).val = t.val * 128 + _; rw [hi.1]; omega
  have e1 : ((cfg0.win 12).blk t).view.emb y 1 = y 1 := Fin.ext (by show win0_12.index t 1 * 128 + 1 * (y 1).val = (y 1).val; rw [hi.2]; omega)
  refine (congrArg (stepV (F := Ideal) 0 _ _ _ _ _ _) (ix2_eta (n0 := 128) (n1 := 128) y).symm).trans ?_
  refine ((holds m c t).stepV 0 (y 0) (y 1)).trans ?_
  refine (arrV_at (args m c) 0 (pt t) (y 0) _ (y 1) e0).symm.trans ?_
  exact congrArg (fun x => (args m c).arrV 0 _ x) e1.symm

theorem final_Q (c : Dev nD) : (dats m 0 c).arrAt 8 cfg0.N = resultQ m c :=
  (dats m 0 c).arrAt_eq_of_cover 8 (resultQ m c) (flushed_Q m c) fun i => by
    have h0 : (i 0 : Nat) < 8192 := (i 0).isLt
    have h1 : (i 1 : Nat) < 512 := (i 1).isLt
    have hN : grid0.N = 64 := N_0
    let t : Fin cfg0.N := ⟨(i 0 : Nat) / 128, by show _ < grid0.N; omega⟩
    have ht : t.val = (i 0 : Nat) / 128 := rfl
    have hi := idx8 t
    refine ⟨t, flush0_8 t, ?_⟩
    show i ∈ ((View.whole main_v59_0).slice (win0_8.rect t)).set
    rw [View.set_slice_whole, Rect.mem_set_unit]
    intro a
    match a with
    | ⟨0, _⟩ => show win0_8.index t 0 * 128 ≤ (i 0 : Nat) ∧ (i 0 : Nat) < win0_8.index t 0 * 128 + 128
                rw [hi.1]; omega
    | ⟨1, _⟩ => show win0_8.index t 1 * 512 ≤ (i 1 : Nat) ∧ (i 1 : Nat) < win0_8.index t 1 * 512 + 512
                rw [hi.2]; omega

theorem final_Ka (c : Dev nD) : (dats m 0 c).arrAt 9 cfg0.N = resultKa m c :=
  (dats m 0 c).arrAt_eq_of_cover 9 (resultKa m c) (flushed_Ka m c) fun i => by
    have h0 : (i 0 : Nat) < 8192 := (i 0).isLt
    have h1 : (i 1 : Nat) < 128 := (i 1).isLt
    have hN : grid0.N = 64 := N_0
    let t : Fin cfg0.N := ⟨(i 0 : Nat) / 128, by show _ < grid0.N; omega⟩
    have ht : t.val = (i 0 : Nat) / 128 := rfl
    have hi := idx9 t
    refine ⟨t, flush0_9 t, ?_⟩
    show i ∈ ((View.whole main_v59_1).slice (win0_9.rect t)).set
    rw [View.set_slice_whole, Rect.mem_set_unit]
    intro a
    match a with
    | ⟨0, _⟩ => show win0_9.index t 0 * 128 ≤ (i 0 : Nat) ∧ (i 0 : Nat) < win0_9.index t 0 * 128 + 128
                rw [hi.1]; omega
    | ⟨1, _⟩ => show win0_9.index t 1 * 128 ≤ (i 1 : Nat) ∧ (i 1 : Nat) < win0_9.index t 1 * 128 + 128
                rw [hi.2]; omega

theorem final_Kb (c : Dev nD) : (dats m 0 c).arrAt 10 cfg0.N = resultKb m c :=
  (dats m 0 c).arrAt_eq_of_cover 10 (resultKb m c) (flushed_Kb m c) fun i => by
    have h0 : (i 0 : Nat) < 8192 := (i 0).isLt
    have h1 : (i 1 : Nat) < 128 := (i 1).isLt
    have hN : grid0.N = 64 := N_0
    let t : Fin cfg0.N := ⟨(i 0 : Nat) / 128, by show _ < grid0.N; omega⟩
    have ht : t.val = (i 0 : Nat) / 128 := rfl
    have hi := idx10 t
    refine ⟨t, flush0_10 t, ?_⟩
    show i ∈ ((View.whole main_v59_2).slice (win0_10.rect t)).set
    rw [View.set_slice_whole, Rect.mem_set_unit]
    intro a
    match a with
    | ⟨0, _⟩ => show win0_10.index t 0 * 128 ≤ (i 0 : Nat) ∧ (i 0 : Nat) < win0_10.index t 0 * 128 + 128
                rw [hi.1]; omega
    | ⟨1, _⟩ => show win0_10.index t 1 * 128 ≤ (i 1 : Nat) ∧ (i 1 : Nat) < win0_10.index t 1 * 128 + 128
                rw [hi.2]; omega

theorem final_Va (c : Dev nD) : (dats m 0 c).arrAt 11 cfg0.N = resultVa m c :=
  (dats m 0 c).arrAt_eq_of_cover 11 (resultVa m c) (flushed_Va m c) fun i => by
    have h0 : (i 0 : Nat) < 8192 := (i 0).isLt
    have h1 : (i 1 : Nat) < 128 := (i 1).isLt
    have hN : grid0.N = 64 := N_0
    let t : Fin cfg0.N := ⟨(i 0 : Nat) / 128, by show _ < grid0.N; omega⟩
    have ht : t.val = (i 0 : Nat) / 128 := rfl
    have hi := idx11 t
    refine ⟨t, flush0_11 t, ?_⟩
    show i ∈ ((View.whole main_v59_3).slice (win0_11.rect t)).set
    rw [View.set_slice_whole, Rect.mem_set_unit]
    intro a
    match a with
    | ⟨0, _⟩ => show win0_11.index t 0 * 128 ≤ (i 0 : Nat) ∧ (i 0 : Nat) < win0_11.index t 0 * 128 + 128
                rw [hi.1]; omega
    | ⟨1, _⟩ => show win0_11.index t 1 * 128 ≤ (i 1 : Nat) ∧ (i 1 : Nat) < win0_11.index t 1 * 128 + 128
                rw [hi.2]; omega

theorem final_Vb (c : Dev nD) : (dats m 0 c).arrAt 12 cfg0.N = resultVb m c :=
  (dats m 0 c).arrAt_eq_of_cover 12 (resultVb m c) (flushed_Vb m c) fun i => by
    have h0 : (i 0 : Nat) < 8192 := (i 0).isLt
    have h1 : (i 1 : Nat) < 128 := (i 1).isLt
    have hN : grid0.N = 64 := N_0
    let t : Fin cfg0.N := ⟨(i 0 : Nat) / 128, by show _ < grid0.N; omega⟩
    have ht : t.val = (i 0 : Nat) / 128 := rfl
    have hi := idx12 t
    refine ⟨t, flush0_12 t, ?_⟩
    show i ∈ ((View.whole main_v59_4).slice (win0_12.rect t)).set
    rw [View.set_slice_whole, Rect.mem_set_unit]
    intro a
    match a with
    | ⟨0, _⟩ => show win0_12.index t 0 * 128 ≤ (i 0 : Nat) ∧ (i 0 : Nat) < win0_12.index t 0 * 128 + 128
                rw [hi.1]; omega
    | ⟨1, _⟩ => show win0_12.index t 1 * 128 ≤ (i 1 : Nat) ∧ (i 1 : Nat) < win0_12.index t 1 * 128 + 128
                rw [hi.2]; omega

end Cert.SwaBwdIdeal.Swa

end
-- ==== Proof.Swa.Sink.lean ====
/-
  THE SINKS' GRADIENT at one grid point: for each head the sum over the block's rows of the sink's weight times the row's sum,
  negated and placed in the head's column, added to what the points before left.
-/
module

public import proofs.«01_k».proof.Proof.Swa.Block

@[expose] public section

noncomputable section

namespace Cert.SwaBwdIdeal.Swa

open Cert.SwaBwdIdeal Cert.SwaBwdIdeal.Gen Idealize.ShloMosaic Idealize.ShloMosaic.TcCoe Idealize.SL.Sem
open Cert.Swa (Args)

section
variable {F : FTy → Type} [FloatOps F]

/-- The numbers of the rows of the four heads. -/
abbrev rowNo : IVec S512x1 32 := iota .tc S512x1 32 [0] iota_S512x1_d0_w32
/-- The numbers of the heads' columns. -/
abbrev lane : IVec S1x8 32 := iota .tc S1x8 32 [1] iota_S1x8_d1_w32

/-- A row's number divided by 128, rounded down. -/
def quot (w : BitVec 32) : BitVec 32 :=
  Scalar.select (IntOp.andi (IntOp.cmpi .ne (IntOp.subi ((IntOp.cmpi .sgt w 0#32).setWidth 32) ((IntOp.cmpi .slt w 0#32).setWidth 32)) 1#32)
      (IntOp.cmpi .ne (IntOp.remsi .vector w 128#32) 0#32))
    (IntOp.subi (IntOp.divsi .vector w 128#32) 1#32) (IntOp.divsi .vector w 128#32)

theorem quot_row : ∀ R : Fin 512, quot (BitVec.ofNat 32 R.val) = BitVec.ofNat 32 (R.val / 128) := by decide +kernel

/-- The sink's weight times the row's sum, of every row. -/
def sinkPart (s0 s1 s2 s3 : Elt F .f32) (l e : FVec F S512x1 .f32) : FVec F S512x1 .f32 :=
  k0_pay37 l e s0 s1 s2 s3 rowNo 128#32 k0_pay34 k0_pay35 k0_pay36

/-- The sum of 128 rows' parts. -/
def rowsSum (o : Nat) (x : FVec F S512x1 .f32) (hs : S512x1.Slices ![o, 0] S128x1) : F .f32 :=
  extractAt ![0, 0, 0] (shapeCast S1x1x1 (multiReduction .add [1, 2] S1 (shapeCast S1x128x1 (extractStridedSlice S128x1 ![o, 0] x hs) shapeCasts_S128x1_S1x128x1)
    0x00000000#32 reduces_S1x128x1_S1 (.inl rfl) rfl) shapeCasts_S1_S1x1x1) inpos_S1x1x1_p0_0_0

/-- A number's negative in one column. -/
def put (h : BitVec 32) (x : F .f32) : FVec F S1x8 .f32 :=
  select (cmpi .eq lane (broadcast S1x8 h)) (broadcast S1x8 (Scalar.subf (Scalar.ofBits .f32 0x00000000#32) x)) (broadcast S1x8 (Scalar.ofBits .f32 0x00000000#32))

/-- The eight heads' sums, negated, each in its column. -/
def eight (x y : FVec F S512x1 .f32) : FVec F S1x8 .f32 :=
  addf (addf (addf (addf (addf (addf (addf (addf k0_pay8 (put 0#32 (rowsSum 0 x slices_S512x1_o0_0_S128x1))) (put 1#32 (rowsSum 128 x slices_S512x1_o128_0_S128x1)))
    (put 2#32 (rowsSum 256 x slices_S512x1_o256_0_S128x1))) (put 3#32 (rowsSum 384 x slices_S512x1_o384_0_S128x1)))
    (put 4#32 (rowsSum 0 y slices_S512x1_o0_0_S128x1))) (put 5#32 (rowsSum 128 y slices_S512x1_o128_0_S128x1)))
    (put 6#32 (rowsSum 256 y slices_S512x1_o256_0_S128x1))) (put 7#32 (rowsSum 384 y slices_S512x1_o384_0_S128x1))

/-- What the point stores of the sinks' gradient, of the sinks' entries. -/
def stepE (s0 s1 s2 s3 s4 s5 s6 s7 : Elt F .f32) (i : grid0.Coords) (q : Vec F S128x512 .bf16) (kp kc vp vc : Vec F S128x128 .bf16) (d : Vec F S128x512 .bf16)
    (l : Vec F S128x8 .f32) (acc : Vec F S1x8 .f32) : Vec F S1x8 .f32 :=
  addf acc (eight (sinkPart s0 s1 s2 s3 (logs l 0) (delta (weights i q kp kc l 0) (dweights d vp vc 0)))
    (sinkPart s4 s5 s6 s7 (logs l 1) (delta (weights i q kp kc l 1) (dweights d vp vc 1))))

/-- What the point stores of the sinks' gradient. -/
def stepS (s : Vec F S1x8 .f32) (i : grid0.Coords) (q : Vec F S128x512 .bf16) (kp kc vp vc : Vec F S128x128 .bf16) (d : Vec F S128x512 .bf16) (l : Vec F S128x8 .f32)
    (acc : Vec F S1x8 .f32) : Vec F S1x8 .f32 :=
  stepE (s (ix2 0 0)) (s (ix2 0 1)) (s (ix2 0 2)) (s (ix2 0 3)) (s (ix2 0 4)) (s (ix2 0 5)) (s (ix2 0 6)) (s (ix2 0 7)) i q kp kc vp vc d l acc

theorem stepS_of (s : Vec F S1x8 .f32) (s0 s1 s2 s3 s4 s5 s6 s7 : Elt F .f32) (i : grid0.Coords) (q : Vec F S128x512 .bf16) (kp kc vp vc : Vec F S128x128 .bf16)
    (d : Vec F S128x512 .bf16) (l : Vec F S128x8 .f32) (acc : Vec F S1x8 .f32) (h0 : s0 = s (ix2 0 0)) (h1 : s1 = s (ix2 0 1)) (h2 : s2 = s (ix2 0 2)) (h3 : s3 = s (ix2 0 3))
    (h4 : s4 = s (ix2 0 4)) (h5 : s5 = s (ix2 0 5)) (h6 : s6 = s (ix2 0 6)) (h7 : s7 = s (ix2 0 7)) :
    stepE s0 s1 s2 s3 s4 s5 s6 s7 i q kp kc vp vc d l acc = stepS s i q kp kc vp vc d l acc := by
  subst h0 h1 h2 h3 h4 h5 h6 h7
  rfl

theorem pay54_eq (s0 s1 s2 s3 : Elt F .f32) (l e : FVec F S512x1 .f32) :
    k0_pay54 l e s0 s1 s2 s3 rowNo 128#32 k0_pay52 k0_pay53 1#32 0#32 = sinkPart s0 s1 s2 s3 l e := by
  unfold k0_pay54 sinkPart k0_pay37 k0_pay52 k0_pay53 k0_pay34 k0_pay35 k0_pay36
  rfl

theorem pay43_eq (s0 s1 s2 s3 : Elt F .f32) (l e : FVec F S512x1 .f32) (v : FVec F S1x8 .f32) :
    k0_pay43 lane v (sinkPart s0 s1 s2 s3 l e) (k0_pay39 lane) (k0_pay40 l e s0 s1 s2 s3 rowNo 128#32 k0_pay34 k0_pay35 k0_pay36)
      = addf (addf (addf v (put 0#32 (rowsSum 0 (sinkPart s0 s1 s2 s3 l e) slices_S512x1_o0_0_S128x1)))
        (put 1#32 (rowsSum 128 (sinkPart s0 s1 s2 s3 l e) slices_S512x1_o128_0_S128x1))) (put 2#32 (rowsSum 256 (sinkPart s0 s1 s2 s3 l e) slices_S512x1_o256_0_S128x1)) := rfl

theorem pay47_eq (x : FVec F S512x1 .f32) (v : FVec F S1x8 .f32) :
    k0_pay47 v (k0_pay45 lane) (k0_pay46 x) = addf v (put 3#32 (rowsSum 384 x slices_S512x1_o384_0_S128x1)) := rfl

theorem pay56_eq (s0 s1 s2 s3 : Elt F .f32) (l e : FVec F S512x1 .f32) :
    k0_pay56 lane l e s0 s1 s2 s3 rowNo 128#32 k0_pay52 k0_pay53 1#32 0#32 = put 4#32 (rowsSum 0 (sinkPart s0 s1 s2 s3 l e) slices_S512x1_o0_0_S128x1) := by
  unfold k0_pay56
  rw [pay54_eq]
  rfl

theorem pay59_eq (v w : FVec F S1x8 .f32) (y : FVec F S512x1 .f32) :
    k0_pay59 lane v y w = addf (addf (addf v w) (put 5#32 (rowsSum 128 y slices_S512x1_o128_0_S128x1))) (put 6#32 (rowsSum 256 y slices_S512x1_o256_0_S128x1)) := rfl

theorem pay5_eq' (v acc : FVec F S1x8 .f32) (y : FVec F S512x1 .f32) :
    k0_pay5 v (k0_pay61 lane) (k0_pay62 y) (Scalar.ofBits .f32 0x00000000#32) acc = addf acc (addf v (put 7#32 (rowsSum 384 y slices_S512x1_o384_0_S128x1))) := by
  unfold k0_pay5
  dsimp only
  rw [shapeCast_self]
  rfl

theorem ld_sink (x : Vec F S1x8 .f32) (h : Fin 8) (o : Nat) (ho : o = h.val)
    (inb : ∀ a, (![0, o] : Fin 2 → Nat) a + (![1, 1] : Fin 2 → Nat) a ≤ S1x8.size a) (i) :
    View.ld x (Rect.unit (s := S1x8) ![0, o] ![1, 1] inb) i = x (ix2 0 h) := by
  subst ho
  have h0 : (i 0).val < 1 := (i 0).isLt
  have h1 : (i 1).val < 1 := (i 1).isLt
  refine congrArg x (funext fun a => Fin.ext ?_)
  fin_cases a
  · show 0 + 1 * (i 0).val = 0; omega
  · show h.val + 1 * (i 1).val = h.val; omega

/-- The kernel's chain of values for the sinks is this. -/
theorem chain_eq (s0 s1 s2 s3 s4 s5 s6 s7 : Elt F .f32) (L0 D0 L1 D1 : FVec F S512x1 .f32) (acc : FVec F S1x8 .f32) :
    k0_pay5 (k0_pay59 lane (k0_pay47 (k0_pay43 lane k0_pay8 (k0_pay37 L0 D0 s0 s1 s2 s3 rowNo 128#32 k0_pay34 k0_pay35 k0_pay36) (k0_pay39 lane)
        (k0_pay40 L0 D0 s0 s1 s2 s3 rowNo 128#32 k0_pay34 k0_pay35 k0_pay36)) (k0_pay45 lane) (k0_pay46 (k0_pay37 L0 D0 s0 s1 s2 s3 rowNo 128#32 k0_pay34 k0_pay35 k0_pay36)))
        (k0_pay54 L1 D1 s4 s5 s6 s7 rowNo 128#32 k0_pay52 k0_pay53 1#32 0#32) (k0_pay56 lane L1 D1 s4 s5 s6 s7 rowNo 128#32 k0_pay52 k0_pay53 1#32 0#32)) (k0_pay61 lane)
        (k0_pay62 (k0_pay54 L1 D1 s4 s5 s6 s7 rowNo 128#32 k0_pay52 k0_pay53 1#32 0#32)) (FloatOps.ofBits .f32 0x00000000#32) acc
      = addf acc (eight (sinkPart s0 s1 s2 s3 L0 D0) (sinkPart s4 s5 s6 s7 L1 D1)) := by
  rw [pay54_eq, pay56_eq]
  show k0_pay5 (k0_pay59 lane (k0_pay47 (k0_pay43 lane k0_pay8 (sinkPart s0 s1 s2 s3 L0 D0) (k0_pay39 lane)
        (k0_pay40 L0 D0 s0 s1 s2 s3 rowNo 128#32 k0_pay34 k0_pay35 k0_pay36)) (k0_pay45 lane) (k0_pay46 (sinkPart s0 s1 s2 s3 L0 D0))) _ _) (k0_pay61 lane) _ (Scalar.ofBits .f32 0x00000000#32) acc = _
  rw [pay43_eq, pay47_eq, pay59_eq, pay5_eq']
  rfl

theorem pieceS (s0 s1 s2 s3 s4 s5 s6 s7 : Elt F .f32) (i : grid0.Coords) (q d : Vec F S128x512 .bf16) (kp kc vp vc : Vec F S128x128 .bf16) (l : Vec F S128x8 .f32) (acc : Vec F S1x8 .f32) :
    k0_pay5 (k0_pay59 lane (k0_pay47 (k0_pay43 lane k0_pay8 (k0_pay37 (k0_pay18 (k0_pay17 (colOf l 0)) (colOf l 1) (colOf l 2) (colOf l 3)) (k0_pay24 (k0_pay20 (k0_pay11 (keyOf vp 0) (keyOf vc 0)) (k0_pay15 (headOf d 0) (headOf d 1) (headOf d 2) (headOf d 3))) (k0_pay22 (k0_pay7 i) (k0_pay9 (keyOf kp 0) (keyOf kc 0)) (k0_pay13 (headOf q 0) (headOf q 1) (headOf q 2) (headOf q 3)) (k0_pay17 (colOf l 0)) (colOf l 1) (colOf l 2) (colOf l 3))) s0 s1 s2 s3 rowNo 128#32 k0_pay34 k0_pay35 k0_pay36) (k0_pay39 lane)
        (k0_pay40 (k0_pay18 (k0_pay17 (colOf l 0)) (colOf l 1) (colOf l 2) (colOf l 3)) (k0_pay24 (k0_pay20 (k0_pay11 (keyOf vp 0) (keyOf vc 0)) (k0_pay15 (headOf d 0) (headOf d 1) (headOf d 2) (headOf d 3))) (k0_pay22 (k0_pay7 i) (k0_pay9 (keyOf kp 0) (keyOf kc 0)) (k0_pay13 (headOf q 0) (headOf q 1) (headOf q 2) (headOf q 3)) (k0_pay17 (colOf l 0)) (colOf l 1) (colOf l 2) (colOf l 3))) s0 s1 s2 s3 rowNo 128#32 k0_pay34 k0_pay35 k0_pay36)) (k0_pay45 lane) (k0_pay46 (k0_pay37 (k0_pay18 (k0_pay17 (colOf l 0)) (colOf l 1) (colOf l 2) (colOf l 3)) (k0_pay24 (k0_pay20 (k0_pay11 (keyOf vp 0) (keyOf vc 0)) (k0_pay15 (headOf d 0) (headOf d 1) (headOf d 2) (headOf d 3))) (k0_pay22 (k0_pay7 i) (k0_pay9 (keyOf kp 0) (keyOf kc 0)) (k0_pay13 (headOf q 0) (headOf q 1) (headOf q 2) (headOf q 3)) (k0_pay17 (colOf l 0)) (colOf l 1) (colOf l 2) (colOf l 3))) s0 s1 s2 s3 rowNo 128#32 k0_pay34 k0_pay35 k0_pay36)))
        (k0_pay54 (k0_pay19 (colOf l 4) (colOf l 5) (colOf l 6) (colOf l 7)) (k0_pay25 (k0_pay21 (k0_pay12 (keyOf vp 1) (keyOf vc 1)) (k0_pay16 (headOf d 4) (headOf d 5) (headOf d 6) (headOf d 7))) (k0_pay23 (k0_pay7 i) (k0_pay10 (keyOf kp 1) (keyOf kc 1)) (k0_pay14 (headOf q 4) (headOf q 5) (headOf q 6) (headOf q 7)) (colOf l 4) (colOf l 5) (colOf l 6) (colOf l 7))) s4 s5 s6 s7 rowNo 128#32 k0_pay52 k0_pay53 1#32 0#32) (k0_pay56 lane (k0_pay19 (colOf l 4) (colOf l 5) (colOf l 6) (colOf l 7)) (k0_pay25 (k0_pay21 (k0_pay12 (keyOf vp 1) (keyOf vc 1)) (k0_pay16 (headOf d 4) (headOf d 5) (headOf d 6) (headOf d 7))) (k0_pay23 (k0_pay7 i) (k0_pay10 (keyOf kp 1) (keyOf kc 1)) (k0_pay14 (headOf q 4) (headOf q 5) (headOf q 6) (headOf q 7)) (colOf l 4) (colOf l 5) (colOf l 6) (colOf l 7))) s4 s5 s6 s7 rowNo 128#32 k0_pay52 k0_pay53 1#32 0#32)) (k0_pay61 lane)
        (k0_pay62 (k0_pay54 (k0_pay19 (colOf l 4) (colOf l 5) (colOf l 6) (colOf l 7)) (k0_pay25 (k0_pay21 (k0_pay12 (keyOf vp 1) (keyOf vc 1)) (k0_pay16 (headOf d 4) (headOf d 5) (headOf d 6) (headOf d 7))) (k0_pay23 (k0_pay7 i) (k0_pay10 (keyOf kp 1) (keyOf kc 1)) (k0_pay14 (headOf q 4) (headOf q 5) (headOf q 6) (headOf q 7)) (colOf l 4) (colOf l 5) (colOf l 6) (colOf l 7))) s4 s5 s6 s7 rowNo 128#32 k0_pay52 k0_pay53 1#32 0#32)) (FloatOps.ofBits .f32 0x00000000#32) acc
      = stepE s0 s1 s2 s3 s4 s5 s6 s7 i q kp kc vp vc d l acc := by
  rw [chain_eq, w0, d0, w1, d1, pay18_eq, pay19_eq, pay24_eq, pay25_eq]
  rfl

end

/-! ## Over the extended reals -/

theorem rowsSum_apply (g : Fin 4) (o : Nat) (ho : o = g.val * 128) (x : FVec Ideal S512x1 .f32) (hs : S512x1.Slices ![o, 0] S128x1) :
    (rowsSum (F := Ideal) o x hs : EReal) = ∑ r : Fin 128, x (ix2 (at4 g r) 0) := by
  unfold rowsSum
  simp only [pointwise]
  refine Finset.sum_congr rfl fun r _ => ?_
  rw [Finset.univ_unique, Finset.sum_singleton]
  refine congrArg x (funext fun a => Fin.ext ?_)
  subst ho
  match a with
  | ⟨0, _⟩ => show g.val * 128 + r.val = g.val * 128 + r.val; rfl
  | ⟨1, _⟩ => rfl

theorem lane_eq : ∀ x h : Fin 8, IntOp.cmpi .eq (BitVec.ofNat 32 x.val) (BitVec.ofNat 32 h.val) = Cert.Swa.bit (x = h) := by decide +kernel

theorem put_apply (h : Fin 8) (w : BitVec 32) (hw : w = BitVec.ofNat 32 h.val) (y : EReal) (x : Fin 8) :
    (put (F := Ideal) w y (ix2 0 x) : EReal) = if x = h then -y else 0 := by
  subst hw
  have e : lane (ix2 0 x) = BitVec.ofNat 32 x.val := by
    show BitVec.ofNat 32 (0 * 8 + x.val) = _
    rw [Nat.zero_mul, Nat.zero_add]
  show Scalar.select (IntOp.cmpi .eq (lane (ix2 0 x)) (BitVec.ofNat 32 h.val)) ((Ideal.ofBits .f32 0x00000000#32 : EReal) - y) (Ideal.ofBits .f32 0x00000000#32) = _
  rw [e, lane_eq, Ideal.ofBits_zero_f32, zero_sub]
  exact if_congr (Cert.Swa.bit_eq_one _) rfl rfl

/-- The eight sums, column by column. -/
theorem eight_apply (x y : FVec Ideal S512x1 .f32) (f : Fin 8 → EReal)
    (hx : ∀ g : Fin 4, ∑ r : Fin 128, (x (ix2 (at4 g r) 0) : EReal) = f (hd 0 g)) (hy : ∀ g : Fin 4, ∑ r : Fin 128, (y (ix2 (at4 g r) 0) : EReal) = f (hd 1 g)) (h : Fin 8) :
    (eight (F := Ideal) x y (ix2 0 h) : EReal) = -f h := by
  show (((((((((k0_pay8 (F := Ideal) (ix2 0 h) : EReal) + put (F := Ideal) 0#32 _ (ix2 0 h)) + put (F := Ideal) 1#32 _ (ix2 0 h)) + put (F := Ideal) 2#32 _ (ix2 0 h))
    + put (F := Ideal) 3#32 _ (ix2 0 h)) + put (F := Ideal) 4#32 _ (ix2 0 h)) + put (F := Ideal) 5#32 _ (ix2 0 h)) + put (F := Ideal) 6#32 _ (ix2 0 h)) + put (F := Ideal) 7#32 _ (ix2 0 h)) = _
  rw [put_apply 0 0#32 rfl, put_apply 1 1#32 rfl, put_apply 2 2#32 rfl, put_apply 3 3#32 rfl, put_apply 4 4#32 rfl, put_apply 5 5#32 rfl, put_apply 6 6#32 rfl,
    put_apply 7 7#32 rfl,
    rowsSum_apply 0 0 rfl, rowsSum_apply 1 128 rfl, rowsSum_apply 2 256 rfl, rowsSum_apply 3 384 rfl, rowsSum_apply 0 0 rfl, rowsSum_apply 1 128 rfl,
    rowsSum_apply 2 256 rfl, rowsSum_apply 3 384 rfl, hx, hx, hx, hx, hy, hy, hy, hy, show (k0_pay8 (F := Ideal) (ix2 0 h) : EReal) = 0 from Ideal.ofBits_zero_f32]
  fin_cases h <;> simp <;> rfl

/-- A choice among four by the row's head. -/
theorem group_eq : ∀ (g k : Fin 4), IntOp.cmpi .eq (BitVec.ofNat 32 g.val) (BitVec.ofNat 32 k.val) = Cert.Swa.bit (g = k) := by decide +kernel

theorem sinkPart_apply (s : Fin 4 → EReal) (l e : FVec Ideal S512x1 .f32) (g : Fin 4) (r : Fin 128) :
    (sinkPart (F := Ideal) (s 0) (s 1) (s 2) (s 3) l e (ix2 (at4 g r) 0) : EReal) = Ideal.exp (s g - l (ix2 (at4 g r) 0)) * e (ix2 (at4 g r) 0) := by
  have e0 : rowNo (ix2 (at4 g r) 0) = BitVec.ofNat 32 (at4 g r).val := by
    show BitVec.ofNat 32 (0 * 512 + (at4 g r).val) = _
    rw [Nat.zero_mul, Nat.zero_add]
  have hq : quot (rowNo (ix2 (at4 g r) 0)) = BitVec.ofNat 32 g.val := by
    rw [e0, quot_row]
    exact congrArg (BitVec.ofNat 32) (by show (g.val * 128 + r.val) / 128 = g.val; omega)
  have hp : (sinkPart (F := Ideal) (s 0) (s 1) (s 2) (s 3) l e (ix2 (at4 g r) 0) : EReal)
      = Ideal.exp (Scalar.select (IntOp.cmpi .eq (quot (rowNo (ix2 (at4 g r) 0))) 3#32) (s 3) (Scalar.select (IntOp.cmpi .eq (quot (rowNo (ix2 (at4 g r) 0))) 2#32) (s 2)
        (Scalar.select (IntOp.cmpi .eq (quot (rowNo (ix2 (at4 g r) 0))) 1#32) (s 1) (Scalar.select (IntOp.cmpi .eq (quot (rowNo (ix2 (at4 g r) 0))) 0#32) (s 0)
        (Ideal.ofBits .f32 0x00000000#32)))) - l (ix2 (at4 g r) 0)) * e (ix2 (at4 g r) 0) := by
    unfold sinkPart k0_pay37
    rfl
  rw [hp, hq]
  fin_cases g <;> rfl

/-- What a point adds to the sinks' gradient. -/
theorem Holds.stepS {A : Args} {n : Fin 64} {i : grid0.Coords} {q : Vec Ideal S128x512 .bf16} {kp kc vp vc : Vec Ideal S128x128 .bf16}
    {d : Vec Ideal S128x512 .bf16} {l : Vec Ideal S128x8 .f32} (H : Holds A n i q kp kc vp vc d l) (s : Vec Ideal S1x8 .f32) (hs : ∀ h, (s (ix2 0 h) : EReal) = A.s h)
    (acc : Vec Ideal S1x8 .f32) (h : Fin 8) :
    (Swa.stepS (F := Ideal) s i q kp kc vp vc d l acc (ix2 0 h) : EReal) = acc (ix2 0 h) + A.part n h := by
  have part : ∀ (k : Fin 2) (g : Fin 4) (r : Fin 128), (sinkPart (F := Ideal) (s (ix2 0 (Cert.Swa.hd k 0))) (s (ix2 0 (Cert.Swa.hd k 1))) (s (ix2 0 (Cert.Swa.hd k 2))) (s (ix2 0 (Cert.Swa.hd k 3)))
      (logs l k) (Swa.delta (Swa.weights i q kp kc l k) (Swa.dweights (F := Ideal) d vp vc k)) (ix2 (at4 g r) 0) : EReal) = A.ps n (Cert.Swa.hd k g) r * A.delta n (Cert.Swa.hd k g) r := by
    intro k g r
    refine (sinkPart_apply (fun g => s (ix2 0 (Cert.Swa.hd k g))) _ _ g r).trans ?_
    rw [H.delta, logs_apply, H.l, hs]
    rfl
  refine congrArg (fun x : EReal => acc (ix2 0 h) + x) ?_
  exact eight_apply _ _ (fun h => ∑ r : Fin 128, A.ps n h r * A.delta n h r) (fun g => Finset.sum_congr rfl fun r _ => part 0 g r)
    (fun g => Finset.sum_congr rfl fun r _ => part 1 g r) h

end Cert.SwaBwdIdeal.Swa

end
-- ==== Proof.Swa.SinkOuts.lean ====
/-
  WHAT EACH GRID POINT leaves in the window of the sinks' gradient.
-/
module

public import proofs.«01_k».proof.Proof.Swa.Sink

@[expose] public section

noncomputable section

namespace Cert.SwaBwdIdeal.Swa

open Cert.SwaBwdIdeal Cert.SwaBwdIdeal.Gen Idealize.ShloMosaic Idealize.ShloMosaic.TcCoe Idealize.SL.Sem

variable {F : FTy → Type} [FloatOps F]

variable (m : (ℓ : Loc nD τ sig) → Buf (Elt F) ℓ)

theorem hz : (![0, 0] : Fin 2 → ℕ) = fun _ => 0 := funext fun a => by fin_cases a <;> rfl

set_option maxHeartbeats 4000000 in
/-- The first point: the sinks' gradient. -/
theorem outs_A_S (c : Dev nD) (t : Fin cfg0.N) (h0 : t.val % 64 = 0) :
    (outsAt0 m c t.val t.isLt).2.2.2.2.2 = stepS (iblk m c 0 t) (grid0.coords t) (X0_1 m c t) (iblk m c 2 t) (iblk m c 3 t) (iblk m c 4 t) (iblk m c 5 t) (iblk m c 6 t) (iblk m c 7 t)
      k0_pay6 := by
  rw [outsAt0_A m c t h0]
  dsimp only
  unfold out0_A_13
  rw [View.read_writes_eq_canon _ _ _ (cover0_A_13 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp (disch := decide) only [View.readCov_skip, View.readCov_fill]
  simp only [ld_head _ 0 0 rfl, ld_head _ 1 64 rfl, ld_head _ 2 128 rfl, ld_head _ 3 192 rfl, ld_head _ 4 256 rfl, ld_head _ 5 320 rfl, ld_head _ 6 384 rfl,
    ld_head _ 7 448 rfl, ld_key _ 0 0 rfl, ld_key _ 1 64 rfl, ld_col _ 0 0 rfl, ld_col _ 1 1 rfl, ld_col _ 2 2 rfl, ld_col _ 3 3 rfl, ld_col _ 4 4 rfl,
    ld_col _ 5 5 rfl, ld_col _ 6 6 rfl, ld_col _ 7 7 rfl, View.ld_unit_zero (S := S1x8) hz]
  rw [View.canon_cons_unit_zero (S := S1x8) hz]
  refine (pieceS _ _ _ _ _ _ _ _ (grid0.coords t) (X0_1 m c t) (iblk m c 6 t) (iblk m c 2 t) (iblk m c 3 t) (iblk m c 4 t) (iblk m c 5 t) (iblk m c 7 t) _).trans ?_
  exact stepS_of (iblk m c 0 t) _ _ _ _ _ _ _ _ _ _ _ _ _ _ _ _ _ (ld_sink _ 0 0 rfl _ _) (ld_sink _ 1 1 rfl _ _) (ld_sink _ 2 2 rfl _ _) (ld_sink _ 3 3 rfl _ _)
    (ld_sink _ 4 4 rfl _ _) (ld_sink _ 5 5 rfl _ _) (ld_sink _ 6 6 rfl _ _) (ld_sink _ 7 7 rfl _ _)

set_option maxHeartbeats 4000000 in
/-- A later point: the sinks' gradient. -/
theorem outs_B_S (c : Dev nD) (t : Fin cfg0.N) (h0 : ¬t.val % 64 = 0) :
    (outsAt0 m c t.val t.isLt).2.2.2.2.2 = stepS (iblk m c 0 t) (grid0.coords t) (X0_1 m c t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.2.2.2.2 := by
  rw [outsAt0_B m c t h0]
  dsimp only
  unfold out0_B_13
  rw [View.read_writes_eq_canon _ _ _ (cover0_B_13 c _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_13 t).read_unread]
  simp only [ld_head _ 0 0 rfl, ld_head _ 1 64 rfl, ld_head _ 2 128 rfl, ld_head _ 3 192 rfl, ld_head _ 4 256 rfl, ld_head _ 5 320 rfl, ld_head _ 6 384 rfl,
    ld_head _ 7 448 rfl, ld_key _ 0 0 rfl, ld_key _ 1 64 rfl, ld_col _ 0 0 rfl, ld_col _ 1 1 rfl, ld_col _ 2 2 rfl, ld_col _ 3 3 rfl, ld_col _ 4 4 rfl,
    ld_col _ 5 5 rfl, ld_col _ 6 6 rfl, ld_col _ 7 7 rfl, View.ld_unit_zero (S := S1x8) hz]
  rw [View.canon_cons_unit_zero (S := S1x8) hz]
  refine (pieceS _ _ _ _ _ _ _ _ (grid0.coords t) (X0_1 m c t) (iblk m c 6 t) (iblk m c 2 t) (iblk m c 3 t) (iblk m c 4 t) (iblk m c 5 t) (iblk m c 7 t) _).trans ?_
  exact stepS_of (iblk m c 0 t) _ _ _ _ _ _ _ _ _ _ _ _ _ _ _ _ _ (ld_sink _ 0 0 rfl _ _) (ld_sink _ 1 1 rfl _ _) (ld_sink _ 2 2 rfl _ _) (ld_sink _ 3 3 rfl _ _)
    (ld_sink _ 4 4 rfl _ _) (ld_sink _ 5 5 rfl _ _) (ld_sink _ 6 6 rfl _ _) (ld_sink _ 7 7 rfl _ _)

end Cert.SwaBwdIdeal.Swa

end
-- ==== Proof.Swa.Total.lean ====
/-
  THE SINKS' GRADIENT accumulated over the 64 grid points, and the kernel's run with all six results.
-/
module

public import proofs.«01_k».proof.Proof.Swa.Array
public import proofs.«01_k».proof.Proof.Swa.SinkOuts

@[expose] public section

noncomputable section

namespace Cert.SwaBwdIdeal.Swa

open Cert.SwaBwdIdeal Cert.SwaBwdIdeal.Gen Cert.Swa Idealize.ShloMosaic Idealize.ShloMosaic.TcCoe Idealize.SL.Sem

variable (m : (ℓ : Loc nD τ sig) → Buf (Elt Ideal) ℓ) (ρ : Dev nD → PrngReg)

/-- The sinks' gradient as an array. -/
def resultS (c : Dev nD) : Buf (Elt Ideal) ((c : Thread nD τ).loc main_v59_5) := fun i => (args m c).dsink (i 1)

theorem idx0 : ∀ t : Fin cfg0.N, win0_0.index t 0 = 0 ∧ win0_0.index t 1 = 0 :=
  (by decide +kernel : ∀ t : Fin grid0.N, win0_0.index t 0 = 0 ∧ win0_0.index t 1 = 0)

theorem s_at (c : Dev nD) (t : Fin cfg0.N) (h : Fin 8) : ((iblk m c 0 t : Vec Ideal S1x8 .f32) (ix2 0 h) : EReal) = (args m c).s h := by
  have hi := idx0 t
  show _ = m ((c : Thread nD τ).loc main_arg1) (ix2 0 h)
  unfold iblk
  rw [View.read_apply]
  show V m c main_arg1 _ = m (c.tc.loc main_arg1) _
  rw [V_main_arg1]
  congr 1
  funext b
  apply Fin.ext
  match b with
  | ⟨0, _⟩ => show win0_0.index t 0 * 1 + 1 * 0 = 0; rw [hi.1]
  | ⟨1, _⟩ => show win0_0.index t 1 * 8 + 1 * h.val = h.val; rw [hi.2]; omega

/-- What point `t` adds. -/
def adds (c : Dev nD) (h : Fin 8) (t : ℕ) : EReal := if ht : t < 64 then (args m c).part ⟨t, ht⟩ h else 0

theorem adds_pt (c : Dev nD) (h : Fin 8) (t : Fin cfg0.N) : adds m c h t.val = (args m c).part (pt t) h := dif_pos (pt t).isLt

theorem step_at (c : Dev nD) (t : Fin cfg0.N) (acc : Vec Ideal S1x8 .f32) (h : Fin 8) :
    (stepS (F := Ideal) (iblk m c 0 t) (grid0.coords t) (X0_1 m c t) (iblk m c 2 t) (iblk m c 3 t) (iblk m c 4 t) (iblk m c 5 t) (iblk m c 6 t) (iblk m c 7 t) acc (ix2 0 h) : EReal)
      = acc (ix2 0 h) + adds m c h t.val := by
  rw [adds_pt]
  exact (holds m c t).stepS (iblk m c 0 t) (s_at m c t) acc h

/-- After point `n` the accumulator holds the sum of what the points up to `n` add. -/
theorem outs_S (c : Dev nD) (h : Fin 8) : ∀ (n : ℕ) (hn : n < cfg0.N),
    ((outsAt0 m c n hn).2.2.2.2.2 (ix2 0 h) : EReal) = ∑ t ∈ Finset.range (n + 1), adds m c h t
  | 0, hn => by
    rw [show (outsAt0 m c 0 hn).2.2.2.2.2 = _ from outs_A_S m c ⟨0, hn⟩ rfl]
    refine (step_at m c ⟨0, hn⟩ _ h).trans ?_
    rw [show (k0_pay6 (F := Ideal) (ix2 0 h) : EReal) = 0 from Ideal.ofBits_zero_f32, zero_add, zero_add, Finset.range_one, Finset.sum_singleton]
  | n + 1, hn => by
    have hN : cfg0.N = 64 := N_0
    have hB : ¬(⟨n + 1, hn⟩ : Fin cfg0.N).val % 64 = 0 := by dsimp only; omega
    have ih := outs_S c h n (Nat.lt_of_succ_lt hn)
    rw [show (outsAt0 m c (n + 1) hn).2.2.2.2.2 = _ from outs_B_S m c ⟨n + 1, hn⟩ hB]
    refine (step_at m c ⟨n + 1, hn⟩ _ h).trans ?_
    rw [Finset.sum_range_succ _ (n + 1), ← ih]
    rfl

/-- The last point. -/
def lastPt : Fin cfg0.N := ⟨63, lt_of_lt_of_eq (by norm_num) N_0.symm⟩

theorem last_S (c : Dev nD) : (outsAt0 m c lastPt.val lastPt.isLt).2.2.2.2.2 = resultS m c := by
  funext i
  obtain ⟨h, rfl⟩ : ∃ h : Fin 8, i = ix2 0 h :=
    ⟨i 1, funext fun a => match a with
      | ⟨0, _⟩ => Fin.ext (by have h0 : (i 0).val < 1 := (i 0).isLt; show (i 0).val = 0; omega)
      | ⟨1, _⟩ => rfl⟩
  refine (outs_S m c h 63 _).trans ?_
  show _ = ∑ n : Fin 64, (args m c).part n h
  rw [Finset.sum_range]
  exact Finset.sum_congr rfl fun n _ => dif_pos n.isLt

theorem idx13 : ∀ t : Fin cfg0.N, win0_13.index t 0 = 0 ∧ win0_13.index t 1 = 0 :=
  (by decide +kernel : ∀ t : Fin grid0.N, win0_13.index t 0 = 0 ∧ win0_13.index t 1 = 0)

theorem flushed_S (c : Dev nD) (t : Fin cfg0.N) (hf : (cfg0.win 13).flush t = true) :
    (dats m 0 c).flushed 13 t = ((cfg0.win 13).blk t).view.read (Elt Ideal) (resultS m c) := by
  have hN : cfg0.N = 64 := N_0
  have h63 : t.val = 63 := by have := (flush0_13 t).mp hf; have := t.isLt; omega
  obtain rfl : t = lastPt := Fin.ext h63
  rw [Value.flushed13, last_S m c]
  have hi := idx13 lastPt
  have hz : (fun a => win0_13.index lastPt a * main_v59_5.ty.shape.size a) = fun _ => 0 := funext fun a =>
    match a with
    | ⟨0, _⟩ => by show win0_13.index lastPt 0 * 1 = 0; rw [hi.1]
    | ⟨1, _⟩ => by show win0_13.index lastPt 1 * 8 = 0; rw [hi.2]
  exact (Memref.read_access_unit_zero (Elt Ideal) main_v59_5 hz (fun a => by rw [congrFun hz a]; simp) (resultS m c)).symm

theorem final_S (c : Dev nD) : (dats m 0 c).arrAt 13 cfg0.N = resultS m c :=
  (dats m 0 c).arrAt_eq_of_cover 13 (resultS m c) (flushed_S m c) fun i =>
    ⟨lastPt, (flush0_13 lastPt).mpr rfl, by
      have hi := idx13 lastPt
      show i ∈ ((View.whole main_v59_5).slice (win0_13.rect lastPt)).set
      rw [View.set_slice_whole, Rect.mem_set_unit]
      intro a
      have h0 : (i 0 : Nat) < 1 := (i 0).isLt
      have h1 : (i 1 : Nat) < 8 := (i 1).isLt
      match a with
      | ⟨0, _⟩ => show win0_13.index lastPt 0 * 1 ≤ (i 0 : Nat) ∧ (i 0 : Nat) < win0_13.index lastPt 0 * 1 + 1; rw [hi.1]; omega
      | ⟨1, _⟩ => show win0_13.index lastPt 1 * 8 ≤ (i 1 : Nat) ∧ (i 1 : Nat) < win0_13.index lastPt 1 * 8 + 8; rw [hi.2]; omega⟩

/-- The kernel ends with the six gradients, its arguments unchanged. -/
theorem run : θ_run defs (onTc (τ := τ) (main (F := Ideal))) ⟨m, fun _ => 0, ρ⟩ fun r => ∀ c : Dev nD,
      r.2.mem ((c : Thread nD τ).loc main_v59_0) = resultQ m c ∧ r.2.mem ((c : Thread nD τ).loc main_v59_1) = resultKa m c
      ∧ r.2.mem ((c : Thread nD τ).loc main_v59_2) = resultKb m c ∧ r.2.mem ((c : Thread nD τ).loc main_v59_3) = resultVa m c
      ∧ r.2.mem ((c : Thread nD τ).loc main_v59_4) = resultVb m c ∧ r.2.mem ((c : Thread nD τ).loc main_v59_5) = resultS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    obtain ⟨h8, h9, h10, h11, h12, h13, h⟩ := h c
    exact ⟨h8.trans (final_Q m c), h9.trans (final_Ka m c), h10.trans (final_Kb m c), h11.trans (final_Va m c), h12.trans (final_Vb m c),
      h13.trans (final_S m c), h⟩) (Value.run_blocks m ρ)

end Cert.SwaBwdIdeal.Swa

end
-- ==== Proof.Swa.Reference.lean ====
/-
  WHAT THE REFERENCE COMPUTES, read at an index over the extended reals: the derivative of the sliding-window attention with its
  scores' gradient in the form of the quotient rule.
-/
module

public import proofs.«01_k».proof.Proof.Gen.SwaBwdRefIdeal.Read
public import proofs.«01_k».proof.Proof.Swa.Softmax
public import Idealize.ShloMosaic.Lib.Pointwise
public import Idealize.ShloMosaic.Lib.TwoAxisContraction
public import Idealize.ShloMosaic.Lib.KernelVsHost

@[expose] public section

noncomputable section

namespace Cert.SwaBwdRefIdeal.Swa

open Cert.SwaBwdRefIdeal Cert.SwaBwdRefIdeal.Gen Cert.SwaBwdRefIdeal.Read Cert.Swa Idealize.ShloMosaic
open Cert.MemAttn (top ex wt dsVjp)

variable (x0 : (⟨S8192x2816, .bf16⟩ : BufTy).Contents (Elt Ideal)) (x1 : (⟨S1x8, .f32⟩ : BufTy).Contents (Elt Ideal))
  (x2 : (⟨S8192x1024, .bf16⟩ : BufTy).Contents (Elt Ideal))

/-! ## The results -/

variable {x0 x1 x2} (hx : ∀ n h r j, ∃ x : ℝ, (refArgs x0 x1 x2).sc n h r j = (x : EReal)) (hs : ∀ h, ∃ x : ℝ, (refArgs x0 x1 x2).s h = (x : EReal))
include hx hs

theorem v113_at (i : S64x2x4x128x256.Idx) : val_main_v113 (F := Ideal) x0 x1 x2 i = (refArgs x0 x1 x2).ds (i 0) (hd (i 1) (i 2)) (i 3) (i 4) := by
  rw [val_main_v113_apply, val_main_v112_apply, val_main_cst_23_apply, val_main_v111_apply, mask_at]
  refine (congrArg (fun y : EReal => y * scale) ((select_ok _ _ _ _ _).trans (congrArg₂ (pick (i 0) (i 3) (i 4)) ?_ ?_))).trans
    (Args.dsVjp_castSucc (refArgs x0 x1 x2) (i 0) (hd (i 1) (i 2)) (i 3) hx hs (i 4))
  · rw [val_main_v105_apply, v104_at]
    rfl
  · rw [val_main_call3_v0_apply, val_main_call3_cst_apply]
    exact Ideal.ofBits_zero_f32

theorem v114_at (i : S64x2x256x128x4.Idx) : val_main_v114 (F := Ideal) x0 x1 x2 i = (refArgs x0 x1 x2).ds (i 0) (hd (i 1) (i 4)) (i 3) (i 2) := by
  rw [val_main_v114_apply]
  exact v113_at hx hs _

theorem v83_p (i : S64x2x4x128x256.Idx) : val_main_v83 (F := Ideal) x0 x1 i = (refArgs x0 x1 x2).p (i 0) (hd (i 1) (i 2)) (i 3) (i 4) :=
  (v83_at x0 x1 x2 i).trans (Args.wt_castSucc _ _ _ _ hx hs _)

theorem v115_at (i : S64x2x128x4x64.Idx) : val_main_v115 (F := Ideal) x0 x1 x2 i = (refArgs x0 x1 x2).dq (i 0) (hd (i 1) (i 3)) (i 2) (i 4) := by
  rw [val_main_v115_apply]
  refine Eq.trans ?_ (Args.dq_hd (refArgs x0 x1 x2) (i 0) (i 1) (i 3) (i 2) (i 4)).symm
  refine Finset.sum_congr rfl fun j _ => ?_
  rw [v114_at hx hs, v9_at x0 x1 x2]
  rfl

/-- The queries' gradient. -/
theorem v120_at (i : S8192x512.Idx) : val_main_v120 (F := Ideal) x0 x1 x2 i = (refArgs x0 x1 x2).arrQ (i 0) (i 1) := by
  have h0 : (i 0).val < 8192 := (i 0).isLt
  have h1 : (i 1).val < 512 := (i 1).isLt
  rw [val_main_v120_apply, val_main_v119_apply, val_main_v116_apply]
  refine (v115_at hx hs _).trans ?_
  unfold Args.arrQ
  congr 1
  · exact Fin.ext (by show ((i 0).val * 512 + (i 1).val) / 65536 = (i 0).val / 128; omega)
  · exact Fin.ext (by show 4 * (((i 0).val * 512 + (i 1).val) / 256 % 2) + ((i 0).val * 512 + (i 1).val) / 64 % 4 = (i 1).val / 64; omega)
  · exact Fin.ext (by show ((i 0).val * 512 + (i 1).val) / 512 % 128 = (i 0).val % 128; omega)
  · exact Fin.ext (by show ((i 0).val * 512 + (i 1).val) % 64 = (i 1).val % 64; omega)

omit hx hs in
/-- The product over two axes that gives the keys' gradient. -/
theorem dotK_apply (y : (⟨S64x2x256x128x4, .f32⟩ : BufTy).Contents (Elt Ideal)) (w : (⟨S64x128x2x4x64, .f32⟩ : BufTy).Contents (Elt Ideal)) (i : S64x2x256x64.Idx) :
    (Host.dotGeneral (F := Ideal) (φ₁ := .f32) (φ₂ := .f32) dot_S64x2x256x128x4_S64x128x2x4x64_S64x2x256x64_34_13_2_4_01_02 none y w i : EReal)
      = ∑ r : Fin 128, ∑ g : Fin 4, y (ix5 (n0 := 64) (n1 := 2) (n2 := 256) (i 0) (i 1) (i 2) r g) * w (ix5 (n0 := 64) (n2 := 2) (n4 := 64) (i 0) r (i 1) g (i 3)) := by
  let D := dot_S64x2x256x128x4_S64x128x2x4x64_S64x2x256x64_34_13_2_4_01_02
  have hr : D.contr.rank = 2 := rfl
  simp only [Host.dotGeneral]
  rw [Ideal.dotGeneral_apply, ← Equiv.sum_comp (ValueIdx.contrEquiv2 D 128 4 hr rfl rfl).symm, Fintype.sum_prod_type]
  refine Finset.sum_congr rfl fun r _ => Finset.sum_congr rfl fun g _ => ?_
  have h0 := ValueIdx.contrEquiv2_symm_val0 D 128 4 hr rfl rfl (r, g)
  have h1 := ValueIdx.contrEquiv2_symm_val1 D 128 4 hr rfl rfl (r, g)
  refine congrArg₂ (fun a b : EReal => a * b) (congrArg y (funext fun a => Fin.ext ?_)) (congrArg w (funext fun a => Fin.ext ?_))
  · match a with
    | ⟨0, _⟩ => rfl
    | ⟨1, _⟩ => rfl
    | ⟨2, _⟩ => rfl
    | ⟨3, _⟩ => exact h0
    | ⟨4, _⟩ => exact h1
  · match a with
    | ⟨0, _⟩ => rfl
    | ⟨1, _⟩ => exact h0
    | ⟨2, _⟩ => rfl
    | ⟨3, _⟩ => exact h1
    | ⟨4, _⟩ => rfl

omit hx hs in
/-- The product over two axes that gives the values' gradient. -/
theorem dotV_apply (y : (⟨S64x2x64x4x128, .f32⟩ : BufTy).Contents (Elt Ideal)) (w : (⟨S64x2x4x128x256, .f32⟩ : BufTy).Contents (Elt Ideal)) (i : S64x2x64x256.Idx) :
    (Host.dotGeneral (F := Ideal) (φ₁ := .f32) (φ₂ := .f32) dot_S64x2x64x4x128_S64x2x4x128x256_S64x2x64x256_34_23_2_4_01_01 none y w i : EReal)
      = ∑ g : Fin 4, ∑ r : Fin 128, y (ix5 (n0 := 64) (n1 := 2) (n2 := 64) (i 0) (i 1) (i 2) g r) * w (ix5 (n0 := 64) (n1 := 2) (n4 := 256) (i 0) (i 1) g r (i 3)) := by
  let D := dot_S64x2x64x4x128_S64x2x4x128x256_S64x2x64x256_34_23_2_4_01_01
  have hr : D.contr.rank = 2 := rfl
  simp only [Host.dotGeneral]
  rw [Ideal.dotGeneral_apply, ← Equiv.sum_comp (ValueIdx.contrEquiv2 D 4 128 hr rfl rfl).symm, Fintype.sum_prod_type]
  refine Finset.sum_congr rfl fun g _ => Finset.sum_congr rfl fun r _ => ?_
  have h0 := ValueIdx.contrEquiv2_symm_val0 D 4 128 hr rfl rfl (g, r)
  have h1 := ValueIdx.contrEquiv2_symm_val1 D 4 128 hr rfl rfl (g, r)
  refine congrArg₂ (fun a b : EReal => a * b) (congrArg y (funext fun a => Fin.ext ?_)) (congrArg w (funext fun a => Fin.ext ?_))
  · match a with
    | ⟨0, _⟩ => rfl
    | ⟨1, _⟩ => rfl
    | ⟨2, _⟩ => rfl
    | ⟨3, _⟩ => exact h0
    | ⟨4, _⟩ => exact h1
  · match a with
    | ⟨0, _⟩ => rfl
    | ⟨1, _⟩ => rfl
    | ⟨2, _⟩ => exact h0
    | ⟨3, _⟩ => exact h1
    | ⟨4, _⟩ => rfl

theorem v118_at (i : S64x256x2x64.Idx) : val_main_v118 (F := Ideal) x0 x1 x2 i = (refArgs x0 x1 x2).dk (i 0) (i 2) (i 1) (i 3) := by
  rw [val_main_v118_apply]
  unfold val_main_v117 Args.dk
  rw [dotK_apply, Finset.sum_comm]
  simp only [v114_at hx hs, v14_at x0 x1 x2]
  rfl

theorem v91_at (i : S64x256x2x64.Idx) : val_main_v91 (F := Ideal) x0 x1 x2 i = (refArgs x0 x1 x2).dv (i 0) (i 2) (i 1) (i 3) := by
  rw [val_main_v91_apply]
  unfold val_main_v90 Args.dv
  rw [dotV_apply]
  refine Finset.sum_congr rfl fun g _ => Finset.sum_congr rfl fun r _ => ?_
  rw [v88_at x0 x1 x2, v83_p hx hs]
  exact mul_comm (G := EReal) _ _

omit hx hs in
theorem at4 {α : Type} (f : Fin 64 → Fin 2 → Fin 256 → Fin 64 → α) (b : Fin 2) (R : Fin 8192) (x : Fin 128) (n : Fin 64) (k : Fin 2) (j : Fin 256) (c : Fin 64)
    (hn : n.val = (R.val * 128 + x.val) / 16384) (hk : k.val = (R.val * 128 + x.val) / 64 % 2) (hj : j.val = 128 * b.val + (R.val * 128 + x.val) / 128 % 128)
    (hc : c.val = (R.val * 128 + x.val) % 64) :
    f n k j c = f ⟨R.val / 128, by omega⟩ ⟨x.val / 64, by omega⟩ ⟨128 * b.val + R.val % 128, by omega⟩ ⟨x.val % 64, Nat.mod_lt _ (by norm_num)⟩ := by
  exact congr (congr (congr (congrArg f (Fin.ext (by rw [hn]; show _ = R.val / 128; omega))) (Fin.ext (by rw [hk]; show _ = x.val / 64; omega)))
    (Fin.ext (by rw [hj]; show _ = 128 * b.val + R.val % 128; omega))) (Fin.ext (by rw [hc]; show _ = x.val % 64; omega))

/-- The keys' gradient from the blocks whose own they are. -/
theorem v122_at (i : S8192x128.Idx) : val_main_v122 (F := Ideal) x0 x1 x2 i = (refArgs x0 x1 x2).arrK 1 (i 0) (i 1) := by
  rw [val_main_v122_apply, val_main_v121_apply]
  exact (v118_at hx hs _).trans (at4 _ 1 (i 0) (i 1) _ _ _ _ rfl rfl rfl rfl)
/-- The keys' gradient from the block after. -/
theorem v124_at (i : S8192x128.Idx) : val_main_v124 (F := Ideal) x0 x1 x2 i = (refArgs x0 x1 x2).arrK 0 (i 0) (i 1) := by
  rw [val_main_v124_apply, val_main_v123_apply]
  exact (v118_at hx hs _).trans (at4 _ 0 (i 0) (i 1) _ _ _ _ rfl rfl (Nat.zero_add _).symm rfl)
/-- The values' gradient, likewise. -/
theorem v126_at (i : S8192x128.Idx) : val_main_v126 (F := Ideal) x0 x1 x2 i = (refArgs x0 x1 x2).arrV 1 (i 0) (i 1) := by
  rw [val_main_v126_apply, val_main_v125_apply]
  exact (v91_at hx hs _).trans (at4 _ 1 (i 0) (i 1) _ _ _ _ rfl rfl rfl rfl)
theorem v128_at (i : S8192x128.Idx) : val_main_v128 (F := Ideal) x0 x1 x2 i = (refArgs x0 x1 x2).arrV 0 (i 0) (i 1) := by
  rw [val_main_v128_apply, val_main_v127_apply]
  exact (v91_at hx hs _).trans (at4 _ 0 (i 0) (i 1) _ _ _ _ rfl rfl (Nat.zero_add _).symm rfl)

omit hx hs in
/-- A sum over blocks and rows, the heads given. -/
theorem sum_rows (h : S64x2x4x128x1.ReducesTo [0, 3, 4] S2x4) (y : S64x2x4x128x1.Idx → EReal) (j : S2x4.Idx) :
    ∑ i ∈ Finset.univ.filter (fun i => h.drop i = j), y i
      = ∑ n : Fin 64, ∑ r : Fin 128, y (ix5 (n0 := 64) (n1 := 2) (n2 := 4) (n3 := 128) (n4 := 1) n (j 0) (j 1) r 0) := by
  rw [← Fintype.sum_prod_type' (f := fun (n : Fin 64) (r : Fin 128) => y (ix5 (n0 := 64) (n1 := 2) (n2 := 4) (n3 := 128) (n4 := 1) n (j 0) (j 1) r 0))]
  refine Finset.sum_bij' (fun i _ => ((i 0, i 3) : Fin 64 × Fin 128)) (fun p _ => ix5 (n0 := 64) (n1 := 2) (n2 := 4) (n3 := 128) (n4 := 1) p.1 (j 0) (j 1) p.2 0)
    (fun _ _ => Finset.mem_univ _) (fun p _ => ?_) (fun i hi => ?_) (fun p _ => rfl) (fun i hi => ?_)
  · rw [Finset.mem_filter]
    refine ⟨Finset.mem_univ _, ?_⟩
    funext a
    apply Fin.ext
    match a with
    | ⟨0, _⟩ => rfl
    | ⟨1, _⟩ => rfl
  · have e := (Finset.mem_filter.1 hi).2
    funext a
    apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => have h4 : (i 4).val < 1 := (i 4).isLt; show 0 = (i 4).val; omega
  · have e := (Finset.mem_filter.1 hi).2
    refine congrArg y ?_
    funext a
    apply Fin.ext
    match a with
    | ⟨0, _⟩ => rfl
    | ⟨1, _⟩ => exact congrArg Fin.val (congrFun e 0)
    | ⟨2, _⟩ => exact congrArg Fin.val (congrFun e 1)
    | ⟨3, _⟩ => rfl
    | ⟨4, _⟩ => have h4 : (i 4).val < 1 := (i 4).isLt; show (i 4).val = 0; omega

omit hx hs in
/-- A sum over axes of extent one. -/
theorem sum_units (h : S1x2x4x1x1.ReducesTo [0, 3, 4] S2x4) (y : S1x2x4x1x1.Idx → EReal) (j : S2x4.Idx) :
    ∑ i ∈ Finset.univ.filter (fun i => h.drop i = j), y i = y (ix5 (n0 := 1) (n1 := 2) (n2 := 4) (n3 := 1) (n4 := 1) 0 (j 0) (j 1) 0 0) := by
  refine Finset.sum_eq_single_of_mem _ ?_ fun i hi hne => absurd ?_ hne
  · rw [Finset.mem_filter]
    refine ⟨Finset.mem_univ _, ?_⟩
    funext a
    apply Fin.ext
    match a with
    | ⟨0, _⟩ => rfl
    | ⟨1, _⟩ => rfl
  · have e := (Finset.mem_filter.1 hi).2
    funext a
    apply Fin.ext
    match a with
    | ⟨0, _⟩ => have h0 : (i 0).val < 1 := (i 0).isLt; show (i 0).val = 0; omega
    | ⟨1, _⟩ => exact congrArg Fin.val (congrFun e 0)
    | ⟨2, _⟩ => exact congrArg Fin.val (congrFun e 1)
    | ⟨3, _⟩ => have h3 : (i 3).val < 1 := (i 3).isLt; show (i 3).val = 0; omega
    | ⟨4, _⟩ => have h4 : (i 4).val < 1 := (i 4).isLt; show (i 4).val = 0; omega

variable (hdp : ∀ n h r j, ∃ x : ℝ, (refArgs x0 x1 x2).dp n h r j = (x : EReal))
include hdp

theorem v107_at (i : S2x4.Idx) : val_main_v107 (F := Ideal) x0 x1 x2 i = (refArgs x0 x1 x2).dsink (hd (i 0) (i 1)) := by
  unfold val_main_v107
  simp only [Host.reduceAdd_apply, Ideal.hostReduceAdd_def]
  refine (congrArg₂ (fun a b : EReal => a + b) ((val_main_cst_21_apply _).trans Ideal.ofBits_zero_f32) (sum_rows _ _ i)).trans ?_
  rw [zero_add]
  unfold Args.dsink
  refine Finset.sum_congr rfl fun n _ => ?_
  rw [← Args.sum_sink (refArgs x0 x1 x2) n (hd (i 0) (i 1)) hx hs hdp]
  refine Finset.sum_congr rfl fun r _ => ?_
  rw [val_main_v106_apply, v104_at]
  rfl

/-- The sinks' gradient. -/
theorem v110_at (i : S1x8.Idx) : val_main_v110 (F := Ideal) x0 x1 x2 i = (refArgs x0 x1 x2).dsink (i 1) := by
  rw [val_main_v110_apply]
  unfold val_main_v109
  simp only [Host.reduceAdd_apply, Ideal.hostReduceAdd_def]
  refine (congrArg₂ (fun a b : EReal => a + b) ((val_main_cst_22_apply _).trans Ideal.ofBits_zero_f32) (sum_units _ _ _)).trans ?_
  rw [zero_add, val_main_v108_apply]
  refine (v107_at hx hs hdp _).trans (congrArg _ (Fin.ext ?_))
  have h1 : (i 1).val < 8 := (i 1).isLt
  have h0 : (i 0).val < 1 := (i 0).isLt
  show 4 * (((i 0).val * 8 + (i 1).val) / 4) + ((i 0).val * 8 + (i 1).val) % 4 = (i 1).val
  omega

end Cert.SwaBwdRefIdeal.Swa

end
-- ==== Proof.Swa.Finite.lean ====
/-
  WHAT THE PRECONDITION GIVES: where the projections' used columns, the sinks and the heads' gradient are less than infinity in
  absolute value, the scores, the sinks and the weights' gradient are real numbers.
-/
module

public import proofs.«01_k».proof.Pre_finite_window
public import proofs.«01_k».proof.Proof.Swa.Results
public import proofs.«01_k».proof.Proof.MemAttn.Finite
public import Idealize.ShloMosaic.Lib.ReduceAll
public import Idealize.ShloMosaic.Lib.Pointwise

@[expose] public section

noncomputable section

namespace Cert.Swa

open Cert.Pre_finite_window Idealize.ShloMosaic
open Cert.MemAttn (real_of_abs inf_eq coe_sum)

theorem scale_coe : scale = ((1 / 8 : ℝ) : EReal) := by
  simp [scale, Ideal.ofBits, Ideal.ieee, -EReal.coe_mul]; norm_num

instance : Subsingleton Cert.Pre_finite_window.S_.Idx := ⟨fun _ _ => funext fun a => a.elim0⟩

variable [Cert.Pre_finite_window.Facts]
variable (z : FVec Ideal Cert.Pre_finite_window.S8192x2816 .bf16) (s : FVec Ideal Cert.Pre_finite_window.S1x8 .f32) (d : FVec Ideal Cert.Pre_finite_window.S8192x1024 .bf16)

/-- The precondition's three parts. -/
theorem finite (h : Cert.Pre_finite_window.fn (F := Ideal) z s d = fun _ => 1#1) :
    (∀ (R : Fin 8192) (x : Fin 768), ∃ r : ℝ, z (ix2 R ⟨x.val, by omega⟩) = (r : EReal)) ∧ (∀ i, ∃ r : ℝ, s i = (r : EReal))
      ∧ ∀ (R : Fin 8192) (x : Fin 512), ∃ r : ℝ, d (ix2 R ⟨x.val, by omega⟩) = (r : EReal) := by
  have h0 := congrFun h (fun a => a.elim0)
  obtain ⟨h1, hd⟩ := IntOp.andi_eq_one.1 h0
  obtain ⟨hz, hs⟩ := IntOp.andi_eq_one.1 h1
  refine ⟨fun R x => ?_, fun i => ?_, fun R x => ?_⟩
  · have e : (extractStridedSlice Cert.Pre_finite_window.S8192x768 ![0, 0] z Facts.slices_S8192x2816_S8192x768_0_0 (ix2 R x) : EReal) = z (ix2 R ⟨x.val, by omega⟩) := by
      refine extractStridedSlice_apply _ _ _ _ _ (fun a => ?_)
      match a with
      | ⟨0, _⟩ => show R.val = 0 + R.val; omega
      | ⟨1, _⟩ => show x.val = 0 + x.val; omega
    rw [← e]
    apply real_of_abs
    rw [← inf_eq]
    exact Host.reduce_andi_all _ _ _ _ _ hz (ix2 R x)
  · apply real_of_abs
    rw [← inf_eq]
    exact Host.reduce_andi_all _ _ _ _ _ hs i
  · have e : (extractStridedSlice Cert.Pre_finite_window.S8192x512 ![0, 0] d Facts.slices_S8192x1024_S8192x512_0_0 (ix2 R x) : EReal) = d (ix2 R ⟨x.val, by omega⟩) := by
      refine extractStridedSlice_apply _ _ _ _ _ (fun a => ?_)
      match a with
      | ⟨0, _⟩ => show R.val = 0 + R.val; omega
      | ⟨1, _⟩ => show x.val = 0 + x.val; omega
    rw [← e]
    apply real_of_abs
    rw [← inf_eq]
    exact Host.reduce_andi_all _ _ _ _ _ hd (ix2 R x)

/-- A sum of products of real numbers is a real number. -/
theorem sum_mul_coe (a b : Fin 64 → EReal) (ha : ∀ c, ∃ r : ℝ, a c = (r : EReal)) (hb : ∀ c, ∃ r : ℝ, b c = (r : EReal)) :
    ∃ r : ℝ, ∑ c, a c * b c = (r : EReal) := by
  choose x hx using ha
  choose y hy using hb
  refine ⟨∑ c, x c * y c, ?_⟩
  simp only [hx, hy, ← EReal.coe_mul]
  exact coe_sum _ _

variable {z s d} (h : Cert.Pre_finite_window.fn (F := Ideal) z s d = fun _ => 1#1)
include h

theorem key_coe (n : Fin 64) (k : Fin 2) (j : Fin 256) (c : Fin 64) : ∃ r : ℝ, (refArgs z s d).k n k j c = (r : EReal) := by
  show ∃ r : ℝ, (if 128 ≤ j.val ∨ 0 < n.val then z (ix2 (keyRow n j) (colK k c)) else 0) = (r : EReal)
  split
  · exact (finite z s d h).1 (keyRow n j) ⟨512 + (64 * k.val + c.val), by omega⟩
  · exact ⟨0, rfl⟩

theorem val_coe (n : Fin 64) (k : Fin 2) (j : Fin 256) (c : Fin 64) : ∃ r : ℝ, (refArgs z s d).v n k j c = (r : EReal) := by
  show ∃ r : ℝ, (if 128 ≤ j.val ∨ 0 < n.val then z (ix2 (keyRow n j) (colV k c)) else 0) = (r : EReal)
  split
  · exact (finite z s d h).1 (keyRow n j) ⟨640 + (64 * k.val + c.val), by omega⟩
  · exact ⟨0, rfl⟩

/-- The scores are real. -/
theorem sc_coe (n : Fin 64) (hh : Fin 8) (r : Fin 128) (j : Fin 256) : ∃ x : ℝ, (refArgs z s d).sc n hh r j = (x : EReal) := by
  obtain ⟨x, hx⟩ := sum_mul_coe (fun c => (refArgs z s d).q n hh r c) (fun c => (refArgs z s d).k n (kh hh) j c)
    (fun c => (finite z s d h).1 (at128 n r) ⟨64 * hh.val + c.val, by omega⟩) (fun c => key_coe h n (kh hh) j c)
  refine ⟨x * (1 / 8), ?_⟩
  unfold Args.sc
  rw [hx, scale_coe, EReal.coe_mul]

/-- The sinks are real. -/
theorem sink_coe (hh : Fin 8) : ∃ x : ℝ, (refArgs z s d).s hh = (x : EReal) := (finite z s d h).2.1 (ix2 0 hh)

/-- The weights' gradient is real. -/
theorem dp_coe (n : Fin 64) (hh : Fin 8) (r : Fin 128) (j : Fin 256) : ∃ x : ℝ, (refArgs z s d).dp n hh r j = (x : EReal) :=
  sum_mul_coe (fun c => (refArgs z s d).d n hh r c) (fun c => (refArgs z s d).v n (kh hh) j c)
    (fun c => (finite z s d h).2.2 (at128 n r) ⟨64 * hh.val + c.val, by omega⟩) (fun c => val_coe h n (kh hh) j c)

end Cert.Swa

end
-- ==== Proof.Swa.Claims.lean ====
/-
  THE CLAIMS ABOUT THE SLIDING-WINDOW ATTENTION'S GRADIENT: the reference's frame, and that kernel and reference compute the same
  six arrays where the projections, the sinks and the gradient that comes in are finite.
-/
module

public import proofs.«01_k».proof.Defs
public import proofs.«01_k».proof.Proof.Gen.SwaBwdIdeal.Frame
public import proofs.«01_k».proof.Proof.Gen.SwaBwdRefIdeal.Run
public import proofs.«01_k».proof.Proof.Gen.Pre_finite_window
public import proofs.«01_k».proof.Proof.Swa.Total
public import proofs.«01_k».proof.Proof.Swa.Reference
public import proofs.«01_k».proof.Proof.Swa.Finite
public import Idealize.ShloMosaic.Adequacy
public import Idealize.ShloMosaic.Init

@[expose] public section

noncomputable section

namespace Cert.Swa

open Idealize.ShloMosaic Idealize.SL.Sem

/-- The reference leaves its arguments unchanged, and there is no semaphore in it. -/
theorem reference_frame : Cert.quiescent_SwaBwdRefIdeal := fun m g _ =>
  (θ_run Cert.SwaBwdRefIdeal.defs _ _).mono (fun r h => ⟨fun c => (h c).2.2.2.2.2.2, sem_eq_zero_of_no_sems (by decide) r.2⟩)
    (Cert.SwaBwdRefIdeal.Value.run m g)

/-- Kernel and reference end with the same gradients of the queries, the keys, the values and the sinks. -/
theorem algebraic : Cert.algebraic_SwaBwdIdeal_SwaBwdRefIdeal_pre_finite_window := fun m g m' g' hpre hargs =>
  ⟨Cert.SwaBwdIdeal.Swa.resultQ m, Cert.SwaBwdIdeal.Swa.resultKa m, Cert.SwaBwdIdeal.Swa.resultKb m, Cert.SwaBwdIdeal.Swa.resultVa m,
    Cert.SwaBwdIdeal.Swa.resultVb m, Cert.SwaBwdIdeal.Swa.resultS m, Cert.SwaBwdIdeal.Swa.run m g,
    (θ_run Cert.SwaBwdRefIdeal.defs _ _).mono (fun r h c => by
      obtain ⟨h0, h1, h2, h3, h4, h5, h⟩ := h c
      obtain ⟨e0, e1, e2⟩ := hargs c
      have hx := sc_coe (hpre c)
      have hs := sink_coe (hpre c)
      have hd := dp_coe (hpre c)
      refine ⟨?_, ?_, ?_, ?_, ?_, ?_, h⟩
      · rw [h0, Cert.SwaBwdRefIdeal.Read.val_main_v120_eq, e0, e1, e2]
        exact funext fun i => (Cert.SwaBwdRefIdeal.Swa.v120_at hx hs i).trans ((agree _ _ _).arrQ _ _).symm
      · rw [h1, Cert.SwaBwdRefIdeal.Read.val_main_v122_eq, e0, e1, e2]
        exact funext fun i => (Cert.SwaBwdRefIdeal.Swa.v122_at hx hs i).trans ((agree _ _ _).arrK 1 _ _).symm
      · rw [h2, Cert.SwaBwdRefIdeal.Read.val_main_v124_eq, e0, e1, e2]
        exact funext fun i => (Cert.SwaBwdRefIdeal.Swa.v124_at hx hs i).trans ((agree _ _ _).arrK 0 _ _).symm
      · rw [h3, Cert.SwaBwdRefIdeal.Read.val_main_v126_eq, e0, e1, e2]
        exact funext fun i => (Cert.SwaBwdRefIdeal.Swa.v126_at hx hs i).trans ((agree _ _ _).arrV 1 _ _).symm
      · rw [h4, Cert.SwaBwdRefIdeal.Read.val_main_v128_eq, e0, e1, e2]
        exact funext fun i => (Cert.SwaBwdRefIdeal.Swa.v128_at hx hs i).trans ((agree _ _ _).arrV 0 _ _).symm
      · rw [h5, Cert.SwaBwdRefIdeal.Read.val_main_v110_eq, e0, e1, e2]
        exact funext fun i => (Cert.SwaBwdRefIdeal.Swa.v110_at hx hs hd i).trans ((agree _ _ _).dsink (i 1)).symm)
      (Cert.SwaBwdRefIdeal.Value.run m' g')⟩

end Cert.Swa

end
-- ==== Proof.Products.Sum.lean ====
/-
  A PRODUCT CONTRACTED OVER THE ROWS, taken 1024 rows at a time: `grad a b` is the sum over all 8192 rows of `a`'s entry times
  `b`'s (the gradient of a weight from the activations and the output's gradient), and the sum of the eight blocks' sums is it. `rowDot a b` is
  the product contracted over the columns.
-/
module

public import Idealize.ShloMosaic.PureOps.Ideal.Laws
public import Idealize.ShloMosaic.Lib.ValueIdx
public import Idealize.ShloMosaic.Lib.Pointwise

@[expose] public section

noncomputable section

namespace Cert.Products

open Idealize.ShloMosaic

/-- The sum over the rows of column `o` of `a` times column `j` of `b`. -/
def grad {R K N : Nat} (a : Fin R → Fin K → EReal) (b : Fin R → Fin N → EReal) (o : Fin K) (j : Fin N) : EReal :=
  ∑ r : Fin R, a r o * b r j

/-- The sum over the columns of row `i` of `a` times row `j` of `b`. -/
def rowDot {R K N : Nat} (a : Fin R → Fin K → EReal) (b : Fin N → Fin K → EReal) (i : Fin R) (j : Fin N) : EReal :=
  ∑ k : Fin K, a i k * b j k

/-- Rows `1024 t …` of an array of 8192 rows. -/
def rows {N : Nat} (x : Fin 8192 → Fin N → EReal) (t : Fin 8) : Fin 1024 → Fin N → EReal :=
  fun r => x ⟨t.val * 1024 + r.val, by have := r.isLt; have := t.isLt; omega⟩

/-- What the block of rows `t` adds to `grad`; nothing from the eighth on. -/
def add {K N : Nat} (a : Fin 8192 → Fin K → EReal) (b : Fin 8192 → Fin N → EReal) (o : Fin K) (j : Fin N) (t : ℕ) : EReal :=
  if h : t < 8 then grad (rows a ⟨t, h⟩) (rows b ⟨t, h⟩) o j else 0

/-- The eight blocks together. -/
theorem sum_add {K N : Nat} (a : Fin 8192 → Fin K → EReal) (b : Fin 8192 → Fin N → EReal) (o : Fin K) (j : Fin N) :
    ∑ t ∈ Finset.range 8, add a b o j t = grad a b o j := by
  rw [Finset.sum_range]
  unfold grad
  rw [Fin.sum_univ_tiles 8 1024 rfl]
  refine Finset.sum_congr rfl fun t _ => ?_
  unfold add
  rw [dif_pos t.isLt]
  rfl

/-- An accumulator that starts at the first block and takes up a block at each point ends with the whole product. -/
theorem acc_eq {K N : Nat} (a : Fin 8192 → Fin K → EReal) (b : Fin 8192 → Fin N → EReal) (o : Fin K) (j : Fin N) (s : ℕ → EReal)
    (h0 : s 0 = add a b o j 0) (hs : ∀ n, n < 7 → s (n + 1) = s n + add a b o j (n + 1)) : s 7 = grad a b o j := by
  have h : ∀ n, n < 8 → s n = ∑ t ∈ Finset.range (n + 1), add a b o j t := by
    intro n
    induction n with
    | zero => intro _; rw [h0]; simp
    | succ n ih => intro hn; rw [hs n (by omega), ih (by omega), ← Finset.sum_range_succ]
  rw [h 7 (by omega), sum_add]

end Cert.Products

end
-- ==== Proof.Products.References.lean ====
/-
  WHAT THE PRODUCTS' REFERENCES COMPUTE, entry by entry: `grad` (contracted over the rows) or `rowDot` (over the columns) of
  their arguments. Where the derivative's product has its factors the other way round they commute.
-/
module

public import proofs.«01_k».proof.Proof.Gen.UpDwRefIdeal.Read
public import proofs.«01_k».proof.Proof.Gen.WideDwRefIdeal.Read
public import proofs.«01_k».proof.Proof.Gen.SquareDwRefIdeal.Read
public import proofs.«01_k».proof.Proof.Gen.DownDxRefIdeal.Read
public import proofs.«01_k».proof.Proof.Gen.SquareDxRefIdeal.Read
public import proofs.«01_k».proof.Proof.Gen.FfnUpRefIdeal.Read
public import proofs.«01_k».proof.Proof.Gen.CaQRefIdeal.Read
public import proofs.«01_k».proof.Proof.Products.Sum

@[expose] public section

noncomputable section

namespace Cert.Products

open Idealize.ShloMosaic

/-- Two rank-2 indices with the same coordinates. -/
theorem idx2_ext {n0 n1 : Nat} (i j : (⟨2, ![n0, n1]⟩ : Shape).Idx) (h0 : (i 0).val = (j 0).val) (h1 : (i 1).val = (j 1).val) : i = j := by
  funext a
  match a with
  | ⟨0, _⟩ => exact Fin.ext h0
  | ⟨1, _⟩ => exact Fin.ext h1

section WideDw
open Cert.WideDwRefIdeal Cert.WideDwRefIdeal.Read

theorem wideDw_reference (x : Vec Ideal S8192x2816 .bf16) (y : Vec Ideal S8192x1024 .bf16) (i : S2816x1024.Idx) :
    (val_main_v6 (F := Ideal) x y i : EReal) = grad (fun r k => x (ix2 r k)) (fun r k => y (ix2 r k)) (i 0) (i 1) :=
  (val_main_v5_apply (F := Ideal) x y i).trans <| (val_main_v4_apply x y _).trans <| Finset.sum_congr rfl fun k _ =>
    (mul_comm (G := EReal) _ _).trans (congrArg₂ (fun a b : EReal => a * b) (congrArg x (idx2_ext _ _ rfl rfl)) (congrArg y (idx2_ext _ _ rfl rfl)))

end WideDw

section SquareDw
open Cert.SquareDwRefIdeal Cert.SquareDwRefIdeal.Read

theorem squareDw_reference (x y : Vec Ideal S8192x1024 .bf16) (i : S1024x1024.Idx) :
    (val_main_v6 (F := Ideal) x y i : EReal) = grad (fun r k => x (ix2 r k)) (fun r k => y (ix2 r k)) (i 0) (i 1) :=
  (val_main_v5_apply (F := Ideal) x y i).trans <| (val_main_v4_apply x y _).trans <| Finset.sum_congr rfl fun k _ =>
    (mul_comm (G := EReal) _ _).trans (congrArg₂ (fun a b : EReal => a * b) (congrArg x (idx2_ext _ _ rfl rfl)) (congrArg y (idx2_ext _ _ rfl rfl)))

end SquareDw

section DownDx
open Cert.DownDxRefIdeal Cert.DownDxRefIdeal.Read

theorem downDx_reference (x : Vec Ideal S8192x1024 .bf16) (w : Vec Ideal S2816x1024 .bf16) (i : S8192x2816.Idx) :
    (val_main_v4 (F := Ideal) x w i : EReal) = rowDot (fun r k => x (ix2 r k)) (fun r k => w (ix2 r k)) (i 0) (i 1) :=
  (val_main_v4_apply x w i).trans <| Finset.sum_congr rfl fun k _ =>
    congrArg₂ (fun a b : EReal => a * b) (congrArg x (idx2_ext _ _ rfl rfl)) (congrArg w (idx2_ext _ _ rfl rfl))

end DownDx

section SquareDx
open Cert.SquareDxRefIdeal Cert.SquareDxRefIdeal.Read

theorem squareDx_reference (x : Vec Ideal S8192x1024 .bf16) (w : Vec Ideal S1024x1024 .bf16) (i : S8192x1024.Idx) :
    (val_main_v5 (F := Ideal) x w i : EReal) = rowDot (fun r k => x (ix2 r k)) (fun r k => w (ix2 r k)) (i 0) (i 1) :=
  (val_main_v4_apply x w i).trans <| Finset.sum_congr rfl fun k _ =>
    congrArg₂ (fun a b : EReal => a * b) (congrArg x (idx2_ext _ _ rfl rfl)) (congrArg w (idx2_ext _ _ rfl rfl))

end SquareDx

section CaQ
open Cert.CaQRefIdeal Cert.CaQRefIdeal.Read

theorem caQ_reference (x : Vec Ideal S8192x1024 .bf16) (w : Vec Ideal S1024x1024 .bf16) (i : S8192x1024.Idx) :
    (val_main_v3 (F := Ideal) x w i : EReal) = rowDot (fun r k => x (ix2 r k)) (fun o k => w (ix2 k o)) (i 0) (i 1) :=
  (val_main_v2_apply x w i).trans <| Finset.sum_congr rfl fun k _ =>
    congrArg₂ (fun a b : EReal => a * b) (congrArg x (idx2_ext _ _ rfl rfl)) (congrArg w (idx2_ext _ _ rfl rfl))

end CaQ

section FfnUp
open Cert.FfnUpRefIdeal Cert.FfnUpRefIdeal.Read

theorem ffnUp_product (x : Vec Ideal S8192x1024 .bf16) (w : Vec Ideal S5632x1024 .bf16) (i : S8192x5632.Idx) :
    (val_main_v3 (F := Ideal) x w i : EReal) = rowDot (fun r k => x (ix2 r k)) (fun r k => w (ix2 r k)) (i 0) (i 1) :=
  (val_main_v3_apply x w i).trans <| Finset.sum_congr rfl fun k _ =>
    congrArg₂ (fun a b : EReal => a * b) (congrArg x (idx2_ext _ _ rfl rfl))
      ((val_main_v1_apply (F := Ideal) w _).trans (congrArg w (idx2_ext _ _ rfl rfl)))

theorem ffnUp_reference (x : Vec Ideal S8192x1024 .bf16) (w : Vec Ideal S5632x1024 .bf16) (i : S2x8192x2816.Idx) (o : Fin 5632)
    (ho : o.val = (i 0).val * 2816 + (i 2).val) :
    (val_main_v8 (F := Ideal) x w i : EReal) = rowDot (fun r k => x (ix2 r k)) (fun r k => w (ix2 r k)) (i 1) o := by
  have h0 : (i 0).val < 2 := (i 0).isLt
  unfold val_main_v8
  by_cases h : (i 0).val = 0
  · refine (concatenate_pair_apply_left (s₁ := S1x8192x2816) (s₂ := S1x8192x2816) 0 _ _ _ i rfl (ix3 0 (i 1) (i 2)) (fun b => ?_)).trans ?_
    · match b with
      | ⟨0, _⟩ => exact h.symm
      | ⟨1, _⟩ => rfl
      | ⟨2, _⟩ => rfl
    refine (val_main_v6_apply (F := Ideal) x w _).trans <| (val_main_v4_apply (F := Ideal) x w _).trans <| (ffnUp_product x w _).trans ?_
    exact congrArg (fun o => rowDot _ _ (i 1) o) (Fin.ext (by show (i 2).val = o.val; omega))
  · refine (concatenate_pair_apply_right (s₁ := S1x8192x2816) (s₂ := S1x8192x2816) 0 _ _ _ i rfl rfl (ix3 0 (i 1) (i 2)) (fun b hb => ?_) ?_).trans ?_
    · match b with
      | ⟨0, _⟩ => exact absurd rfl hb
      | ⟨1, _⟩ => rfl
      | ⟨2, _⟩ => rfl
    · show 0 + 1 = (i 0).val; omega
    refine (val_main_v7_apply (F := Ideal) x w _).trans <| (val_main_v5_apply (F := Ideal) x w _).trans <| (ffnUp_product x w _).trans ?_
    exact congrArg (fun o => rowDot _ _ (i 1) o) (Fin.ext (by show 2816 + (i 2).val = o.val; omega))

end FfnUp

section UpDw
open Cert.UpDwRefIdeal Cert.UpDwRefIdeal.Read

/-- The two halves side by side, at an index. -/
theorem upDw_halves (x : Vec Ideal S2x8192x2816 .bf16) (r : Fin 8192) (o : Fin 5632) (q : Fin 2) (k : Fin 2816) (ho : o.val = q.val * 2816 + k.val) :
    (val_main_v4 (F := Ideal) x (ix2 r o) : EReal) = x (ix3 q r k) := by
  have hk := k.isLt
  have hr := r.isLt
  unfold val_main_v4
  by_cases h : q.val = 0
  · refine (concatenate_pair_apply_left (s₁ := S8192x2816) (s₂ := S8192x2816) 1 _ _ _ (ix2 r o) rfl (ix2 r k) (fun b => ?_)).trans ?_
    · match b with
      | ⟨0, _⟩ => rfl
      | ⟨1, _⟩ => show k.val = o.val; omega
    refine (val_main_v1_apply (F := Ideal) x _).trans <| (val_main_v0_apply (F := Ideal) x _).trans (congrArg x (funext fun a => Fin.ext ?_))
    match a with
    | ⟨0, _⟩ => exact h.symm
    | ⟨1, _⟩ => show (r.val * 2816 + k.val) / 2816 % 8192 = r.val; omega
    | ⟨2, _⟩ => show (r.val * 2816 + k.val) % 2816 = k.val; omega
  · refine (concatenate_pair_apply_right (s₁ := S8192x2816) (s₂ := S8192x2816) 1 _ _ _ (ix2 r o) rfl rfl (ix2 r k) (fun b hb => ?_) ?_).trans ?_
    · match b with
      | ⟨0, _⟩ => rfl
      | ⟨1, _⟩ => exact absurd rfl hb
    · show k.val + 2816 = o.val; omega
    refine (val_main_v3_apply (F := Ideal) x _).trans <| (val_main_v2_apply (F := Ideal) x _).trans (congrArg x (funext fun a => Fin.ext ?_))
    match a with
    | ⟨0, _⟩ => show 1 + 0 = q.val; omega
    | ⟨1, _⟩ => show (r.val * 2816 + k.val) / 2816 % 8192 = r.val; omega
    | ⟨2, _⟩ => show (r.val * 2816 + k.val) % 2816 = k.val; omega

theorem upDw_reference (x : Vec Ideal S2x8192x2816 .bf16) (y : Vec Ideal S8192x1024 .bf16) (i : S5632x1024.Idx) (q : Fin 2) (k : Fin 2816)
    (ho : (i 0).val = q.val * 2816 + k.val) :
    (val_main_v12 (F := Ideal) x y i : EReal) = grad (fun r k => x (ix3 q r k)) (fun r k => y (ix2 r k)) k (i 1) :=
  (val_main_v11_apply (F := Ideal) x y i).trans <| (val_main_v10_apply (F := Ideal) x y _).trans <| (val_main_v9_apply x y _).trans <| Finset.sum_congr rfl fun r _ =>
    congrArg₂ (fun a b : EReal => a * b)
      ((congrArg (val_main_v4 (F := Ideal) x) (idx2_ext (lidx_main_v9 (idx_main_v10 (idx_main_v11 i)) r) (ix2 r (i 0)) rfl rfl)).trans (upDw_halves x r (i 0) q k ho))
      (congrArg y (idx2_ext _ _ rfl rfl))

end UpDw

end Cert.Products

end
-- ==== Proof.Products.UpDw.lean ====
/-
  THE GRADIENT OF THE FEED-FORWARD UP WEIGHT (5632 by 1024: the gate's half over the value's) as the kernel computes it: for
  each half eight grid points, each adding 1024 rows' product to an accumulator, the last one writing it out. Row `o` of the
  array ends holding `grad` of the half `o / 2816`.
-/
module

public import proofs.«01_k».proof.Proof.Gen.UpDwIdeal.Value
public import proofs.«01_k».proof.Proof.Products.Sum
public import Idealize.ShloMosaic.Lib.Pipeline.ReadBack
public import Idealize.ShloMosaic.Lib.Pointwise
public import Idealize.ShloMosaic.Lib.Pointwise.Tactic
public import Idealize.ShloMosaic.Lib.ValueIdx
public import Idealize.ShloMosaic.Lib.Tactic

@[expose] public section

noncomputable section

namespace Cert.UpDwIdeal.Products

open Cert.UpDwIdeal Cert.UpDwIdeal.Gen Cert.Products Idealize.ShloMosaic Idealize.ShloMosaic.TcCoe Idealize.SL.Sem

/-! ## One grid point -/

section Point

variable {F : FTy → Type} [FloatOps F]

theorem hz : (![0, 0] : Fin 2 → ℕ) = fun _ => 0 := funext fun a => by fin_cases a <;> rfl
theorem hz3 : (![0, 0, 0] : Fin 3 → ℕ) = fun _ => 0 := funext fun a => by fin_cases a <;> rfl

variable (c : Dev nD) (i : grid0.Coords) (a3 : Memref sig .tc .vmem S1x1024x2816 .bf16) (h3 : a3.IsWhole)
  (a4 : Memref sig .tc .vmem S1024x1024 .bf16) (h4 : a4.IsWhole) (a5 : Memref sig .tc .vmem S2816x1024 .bf16) (h5 : a5.IsWhole)
  (a6 : Memref sig .tc .vmem S2816x1024 .f32) (h6 : a6.IsWhole) (x : Vec F S1x1024x2816 .bf16) (y : Vec F S1024x1024 .bf16)

/-- The first point starts the accumulator at zero. -/
theorem acc_A (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S2816x1024) hz, View.readCov_unit_zero (S := S2816x1024) _ hz]
  simp only [View.readAt_eq_ld, h3.read_unread, h4.read_unread, View.ld_unit_zero (S := S1x1024x2816) hz3, View.ld_unit_zero (S := S1024x1024) hz]

/-- A later point adds to it. -/
theorem acc_B (hc0 : ¬cond0_0 i) (hc1 : ¬cond0_1 i) (s : Vec F S2816x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero (S := S2816x1024) hz]
  simp only [View.readAt_eq_ld, h3.read_unread, h4.read_unread, h6.read_unread, View.ld_unit_zero (S := S1x1024x2816) hz3, View.ld_unit_zero (S := S1024x1024) hz, View.ld_unit_zero (S := S2816x1024) hz]

/-- The last point writes the accumulator out. -/
theorem out_C (hc0 : ¬cond0_0 i) (hc1 : cond0_1 i) (s : Vec F S2816x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S2816x1024) hz, View.readCov_unit_zero (S := S2816x1024) _ hz]
  simp only [View.readAt_eq_ld, h3.read_unread, h4.read_unread, h6.read_unread, View.ld_unit_zero (S := S1x1024x2816) hz3, View.ld_unit_zero (S := S1024x1024) hz, View.ld_unit_zero (S := S2816x1024) hz]

end Point

/-- The accumulator starts at zero. -/
theorem start_apply (o : Fin 2816) (j : Fin 1024) : k0_pay1 (F := Ideal) (ix2 o j) = (0 : EReal) := by
  unfold k0_pay1
  simp only [pointwise, Ideal.ofBits_zero_f32]

/-- A block's product is added. -/
theorem step_apply (s : Vec Ideal S2816x1024 .f32) (x : Vec Ideal S1x1024x2816 .bf16) (y : Vec Ideal S1024x1024 .bf16) (o : Fin 2816) (j : Fin 1024) :
    k0_pay2 (F := Ideal) s x y (ix2 o j) = (s (ix2 o j) : EReal) + grad (fun r k => x (ix3 0 r k)) (fun r k => y (ix2 r k)) o j := by
  unfold k0_pay2 grad
  simp only [pointwise, Ideal.matmul_def, zero_add]

/-! ## The array -/

variable (m : (ℓ : Loc nD τ sig) → Buf (Elt Ideal) ℓ)

/-- The left argument's entries, of one half. -/
def aA (c : Dev nD) (q : Fin 2) (r : Fin 8192) (k : Fin 2816) : EReal := m ((c : Thread nD τ).loc main_arg0) (ix3 q r k)
/-- The right argument's entries. -/
def bA (c : Dev nD) (r : Fin 8192) (k : Fin 1024) : EReal := m ((c : Thread nD τ).loc main_arg1) (ix2 r k)

theorem idx0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

theorem idx1 : ∀ t : Fin cfg0.N, win0_1.index t 0 = t.val % 8 ∧ win0_1.index t 1 = 0 :=
  (by decide +kernel : ∀ t : Fin grid0.N, win0_1.index t 0 = t.val % 8 ∧ win0_1.index t 1 = 0)

theorem iblk_0 (c : Dev nD) (t : Fin cfg0.N) (q : Fin 2) (n : Fin 8) (ht : t.val = 8 * q.val + n.val) (r : Fin 1024) (k : Fin 2816) :
    (iblk m c 0 t : Vec Ideal S1x1024x2816 .bf16) (ix3 0 r k) = rows (aA m c q) n r k := by
  obtain ⟨i0, i1, i2⟩ := idx0 t
  have hn := n.isLt
  unfold iblk
  rw [View.read_apply]
  show V m c main_arg0 _ = m (c.tc.loc main_arg0) _
  unfold V
  congr 1
  funext a
  apply Fin.ext
  match a with
  | ⟨0, _⟩ => show win0_0.index t 0 * 1 + 1 * 0 = q.val; rw [i0]; omega
  | ⟨1, _⟩ => show win0_0.index t 1 * 1024 + 1 * r.val = n.val * 1024 + r.val; rw [i1]; omega
  | ⟨2, _⟩ => show win0_0.index t 2 * 2816 + 1 * k.val = k.val; rw [i2]; omega

theorem iblk_1 (c : Dev nD) (t : Fin cfg0.N) (q : Fin 2) (n : Fin 8) (ht : t.val = 8 * q.val + n.val) (r : Fin 1024) (k : Fin 1024) :
    (iblk m c 1 t : Vec Ideal S1024x1024 .bf16) (ix2 r k) = rows (bA m c) n r k := by
  have hi := idx1 t
  have hn := n.isLt
  unfold iblk
  rw [View.read_apply]
  show V m c main_arg1 _ = m (c.tc.loc main_arg1) _
  unfold V
  congr 1
  funext a
  apply Fin.ext
  match a with
  | ⟨0, _⟩ => show win0_1.index t 0 * 1024 + 1 * r.val = n.val * 1024 + r.val; rw [hi.1]; omega
  | ⟨1, _⟩ => show win0_1.index t 1 * 1024 + 1 * k.val = k.val; rw [hi.2]; omega

/-- What the product of the half `q`'s point `n` adds. -/
theorem block_add (c : Dev nD) (t : Fin cfg0.N) (q : Fin 2) (n : ℕ) (hn : n < 8) (ht : t.val = 8 * q.val + n) (o : Fin 2816) (j : Fin 1024) :
    grad (fun r k => (iblk m c 0 t : Vec Ideal S1x1024x2816 .bf16) (ix3 0 r k)) (fun r k => (iblk m c 1 t : Vec Ideal S1024x1024 .bf16) (ix2 r k)) o j
      = add (aA m c q) (bA m c) o j n := by
  unfold add
  rw [dif_pos hn]
  exact congrArg₂ (fun a b => grad a b o j) (funext fun r => funext fun k => iblk_0 m c t q ⟨n, hn⟩ ht r k) (funext fun r => funext fun k => iblk_1 m c t q ⟨n, hn⟩ ht r k)

/-- The gradient as an array. -/
def result (c : Dev nD) : Buf (Elt Ideal) ((c : Thread nD τ).loc main_v0) :=
  fun i => grad (aA m c ⟨(i 0).val / 2816, by have h : (i 0).val < 5632 := (i 0).isLt; omega⟩) (bA m c)
    ⟨(i 0).val % 2816, Nat.mod_lt _ (by norm_num)⟩ (i 1)

theorem acc_zero (c : Dev nD) (q : Fin 2) (hn : 8 * q.val < cfg0.N) (o : Fin 2816) (j : Fin 1024) :
    ((outsAt0 m c (8 * q.val) hn).2 (ix2 o j) : EReal) = add (aA m c q) (bA m c) o j 0 := by
  rw [show outsAt0 m c (8 * q.val) hn = _ from outsAt0_A m c ⟨8 * q.val, hn⟩ (by dsimp only; omega) (by dsimp only; omega)]
  dsimp only
  rw [acc_A, step_apply, block_add m c _ q 0 (by omega) rfl, start_apply, zero_add]

theorem acc_succ (c : Dev nD) (q : Fin 2) (n : ℕ) (h : n < 6) (hn : 8 * q.val + n + 1 < cfg0.N) (o : Fin 2816) (j : Fin 1024) :
    ((outsAt0 m c (8 * q.val + n + 1) hn).2 (ix2 o j) : EReal)
      = (outsAt0 m c (8 * q.val + n) (Nat.lt_of_succ_lt hn)).2 (ix2 o j) + add (aA m c q) (bA m c) o j (n + 1) := by
  have h0 : ¬(⟨8 * q.val + n + 1, hn⟩ : Fin cfg0.N).val % 8 = 0 := by dsimp only; omega
  have h1 : ¬(⟨8 * q.val + n + 1, hn⟩ : Fin cfg0.N).val % 8 = 7 := by dsimp only; omega
  rw [show outsAt0 m c (8 * q.val + n + 1) hn = _ from outsAt0_B m c ⟨8 * q.val + n + 1, hn⟩ h0 h1]
  dsimp only
  rw [acc_B, step_apply, block_add m c _ q (n + 1) (by omega) rfl]
  rfl

theorem last (c : Dev nD) (q : Fin 2) (hn : 8 * q.val + 6 + 1 < cfg0.N) (o : Fin 2816) (j : Fin 1024) :
    ((outsAt0 m c (8 * q.val + 6 + 1) hn).1 (ix2 o j) : EReal)
      = (outsAt0 m c (8 * q.val + 6) (Nat.lt_of_succ_lt hn)).2 (ix2 o j) + add (aA m c q) (bA m c) o j (6 + 1) := by
  rw [show outsAt0 m c (8 * q.val + 6 + 1) hn = _ from outsAt0_C m c ⟨8 * q.val + 6 + 1, hn⟩ (by dsimp only; omega) (by dsimp only; omega)]
  dsimp only
  rw [out_C]
  show k0_pay2 (F := Ideal) _ _ _ (ix2 o j) = _
  rw [step_apply, block_add m c _ q (6 + 1) (by omega) rfl]
  rfl

/-- What the half `q`'s last point leaves. -/
theorem last_eq (c : Dev nD) (q : Fin 2) (hn : 8 * q.val + 7 < cfg0.N) (o : Fin 2816) (j : Fin 1024) :
    ((outsAt0 m c (8 * q.val + 7) hn).1 (ix2 o j) : EReal) = grad (aA m c q) (bA m c) o j := by
  have hN : cfg0.N = 16 := N_0
  have hq := q.isLt
  let s : ℕ → EReal := fun n => if h7 : n = 7 then (outsAt0 m c (8 * q.val + 7) (by omega)).1 (ix2 o j) else
    if h : n < 7 then (outsAt0 m c (8 * q.val + n) (by omega)).2 (ix2 o j) else 0
  have h := acc_eq (aA m c q) (bA m c) o j s
    (by show (if h7 : (0 : ℕ) = 7 then _ else _) = _; rw [dif_neg (by omega), dif_pos (by omega)]; exact acc_zero m c q _ o j)
    (fun n hn => by
      show (if h7 : n + 1 = 7 then _ else _) = (if h7 : n = 7 then _ else _) + _
      rw [dif_neg (show ¬n = 7 by omega), dif_pos hn]
      by_cases h6 : n = 6
      · subst h6; rw [dif_pos rfl]; exact last m c q (by omega) o j
      · rw [dif_neg (by omega), dif_pos (by omega)]; exact acc_succ m c q n (by omega) (by omega) o j)
  exact (show (_ : EReal) = s 7 by show _ = (if h7 : (7 : ℕ) = 7 then _ else _); rw [dif_pos rfl]).trans h

theorem final (c : Dev nD) : Value.G2 m c = result m c := by
  have hN : cfg0.N = 16 := N_0
  funext i
  have h0 : (i 0).val < 5632 := (i 0).isLt
  have h1 : (i 1).val < 1024 := (i 1).isLt
  have hp : Value.pt2Of i = 8 * ((i 0).val / 2816) + 7 := by
    show 8 * (1 * ((i 0).val / 2816 - 0) + 1 * ((i 1).val / 1024 - 0)) + 7 = _; omega
  have hq : (i 0).val / 2816 < 2 := by omega
  unfold Value.G2
  rw [dif_pos (by rw [hp]; omega), Value.fold0_congr m c _ _ _ (by omega) hp, ← Value.outsAt0_sweep m c _ (by omega)]
  refine Eq.trans ?_ (last_eq m c ⟨(i 0).val / 2816, hq⟩ (by dsimp only; omega) ⟨(i 0).val % 2816, Nat.mod_lt _ (by norm_num)⟩ (i 1))
  refine congrArg _ (funext fun a => Fin.ext ?_)
  match a with
  | ⟨0, _⟩ => rfl
  | ⟨1, _⟩ => show (i 1).val % 1024 = (i 1).val; omega

end Cert.UpDwIdeal.Products

end
-- ==== Proof.Products.WideDw.lean ====
/-
  THE GRADIENT OF A WIDE WEIGHT (2816 by 1024) as the kernel computes it: eight grid points, each adding 1024 rows' product
  to an accumulator, the last one writing it out. The array ends holding `grad` of the whole arguments.
-/
module

public import proofs.«01_k».proof.Proof.Gen.WideDwIdeal.Value
public import proofs.«01_k».proof.Proof.Products.Sum
public import Idealize.ShloMosaic.Lib.Pipeline.ReadBack
public import Idealize.ShloMosaic.Lib.Pointwise
public import Idealize.ShloMosaic.Lib.Pointwise.Tactic
public import Idealize.ShloMosaic.Lib.ValueIdx
public import Idealize.ShloMosaic.Lib.Tactic

@[expose] public section

noncomputable section

namespace Cert.WideDwIdeal.Products

open Cert.WideDwIdeal Cert.WideDwIdeal.Gen Cert.Products Idealize.ShloMosaic Idealize.ShloMosaic.TcCoe Idealize.SL.Sem

/-! ## One grid point -/

section Point

variable {F : FTy → Type} [FloatOps F]

theorem hz : (![0, 0] : Fin 2 → ℕ) = fun _ => 0 := funext fun a => by fin_cases a <;> rfl

variable (c : Dev nD) (i : grid0.Coords) (a3 : Memref sig .tc .vmem S1024x2816 .bf16) (h3 : a3.IsWhole)
  (a4 : Memref sig .tc .vmem S1024x1024 .bf16) (h4 : a4.IsWhole) (a5 : Memref sig .tc .vmem S2816x1024 .bf16) (h5 : a5.IsWhole)
  (a6 : Memref sig .tc .vmem S2816x1024 .f32) (h6 : a6.IsWhole) (x : Vec F S1024x2816 .bf16) (y : Vec F S1024x1024 .bf16)

/-- The first point starts the accumulator at zero. -/
theorem acc_A (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S2816x1024) hz, View.readCov_unit_zero (S := S2816x1024) _ hz]
  simp only [View.readAt_eq_ld, h3.read_unread, h4.read_unread, View.ld_unit_zero (S := S1024x2816) hz, View.ld_unit_zero (S := S1024x1024) hz]

/-- A later point adds to it. -/
theorem acc_B (hc0 : ¬cond0_0 i) (hc1 : ¬cond0_1 i) (s : Vec F S2816x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero (S := S2816x1024) hz]
  simp only [View.readAt_eq_ld, h3.read_unread, h4.read_unread, h6.read_unread, View.ld_unit_zero (S := S1024x2816) hz, View.ld_unit_zero (S := S1024x1024) hz, View.ld_unit_zero (S := S2816x1024) hz]

/-- The last point writes the accumulator out. -/
theorem out_C (hc0 : ¬cond0_0 i) (hc1 : cond0_1 i) (s : Vec F S2816x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S2816x1024) hz, View.readCov_unit_zero (S := S2816x1024) _ hz]
  simp only [View.readAt_eq_ld, h3.read_unread, h4.read_unread, h6.read_unread, View.ld_unit_zero (S := S1024x2816) hz, View.ld_unit_zero (S := S1024x1024) hz, View.ld_unit_zero (S := S2816x1024) hz]

end Point

/-- The accumulator starts at zero. -/
theorem start_apply (o : Fin 2816) (j : Fin 1024) : k0_pay1 (F := Ideal) (ix2 o j) = (0 : EReal) := by
  unfold k0_pay1
  simp only [pointwise, Ideal.ofBits_zero_f32]

/-- A block's product is added. -/
theorem step_apply (s : Vec Ideal S2816x1024 .f32) (x : Vec Ideal S1024x2816 .bf16) (y : Vec Ideal S1024x1024 .bf16) (o : Fin 2816) (j : Fin 1024) :
    k0_pay2 (F := Ideal) s x y (ix2 o j) = (s (ix2 o j) : EReal) + grad (fun r k => x (ix2 r k)) (fun r k => y (ix2 r k)) o j := by
  unfold k0_pay2 grad
  simp only [pointwise, Ideal.matmul_def, zero_add]

/-! ## The array -/

variable (m : (ℓ : Loc nD τ sig) → Buf (Elt Ideal) ℓ)

/-- The left argument's entries. -/
def aA (c : Dev nD) (r : Fin 8192) (k : Fin 2816) : EReal := m ((c : Thread nD τ).loc main_arg0) (ix2 r k)
/-- The right argument's entries. -/
def bA (c : Dev nD) (r : Fin 8192) (k : Fin 1024) : EReal := m ((c : Thread nD τ).loc main_arg1) (ix2 r k)

theorem idx0 : ∀ t : Fin cfg0.N, win0_0.index t 0 = t.val ∧ win0_0.index t 1 = 0 :=
  (by decide +kernel : ∀ t : Fin grid0.N, win0_0.index t 0 = t.val ∧ win0_0.index t 1 = 0)

theorem idx1 : ∀ t : Fin cfg0.N, win0_1.index t 0 = t.val ∧ win0_1.index t 1 = 0 :=
  (by decide +kernel : ∀ t : Fin grid0.N, win0_1.index t 0 = t.val ∧ win0_1.index t 1 = 0)

theorem iblk_0 (c : Dev nD) (t : Fin cfg0.N) (h8 : t.val < 8) (r : Fin 1024) (k : Fin 2816) :
    (iblk m c 0 t : Vec Ideal S1024x2816 .bf16) (ix2 r k) = rows (aA m c) ⟨t.val, h8⟩ r k := by
  have hi := idx0 t
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val * 1024 + r.val; rw [hi.1]; omega
  | ⟨1, _⟩ => show win0_0.index t 1 * 2816 + 1 * k.val = k.val; rw [hi.2]; omega

theorem iblk_1 (c : Dev nD) (t : Fin cfg0.N) (h8 : t.val < 8) (r : Fin 1024) (k : Fin 1024) :
    (iblk m c 1 t : Vec Ideal S1024x1024 .bf16) (ix2 r k) = rows (bA m c) ⟨t.val, h8⟩ r k := by
  have hi := idx1 t
  unfold iblk
  rw [View.read_apply]
  show V m c main_arg1 _ = m (c.tc.loc main_arg1) _
  unfold V
  congr 1
  funext a
  apply Fin.ext
  match a with
  | ⟨0, _⟩ => show win0_1.index t 0 * 1024 + 1 * r.val = t.val * 1024 + r.val; rw [hi.1]; omega
  | ⟨1, _⟩ => show win0_1.index t 1 * 1024 + 1 * k.val = k.val; rw [hi.2]; omega

/-- What a point's product adds. -/
theorem block_add (c : Dev nD) (t : Fin cfg0.N) (o : Fin 2816) (j : Fin 1024) :
    grad (fun r k => (iblk m c 0 t : Vec Ideal S1024x2816 .bf16) (ix2 r k)) (fun r k => (iblk m c 1 t : Vec Ideal S1024x1024 .bf16) (ix2 r k)) o j
      = add (aA m c) (bA m c) o j t.val := by
  have h8 : t.val < 8 := lt_of_lt_of_eq t.isLt N_0
  unfold add
  rw [dif_pos h8]
  exact congrArg₂ (fun a b => grad a b o j) (funext fun r => funext fun k => iblk_0 m c t h8 r k) (funext fun r => funext fun k => iblk_1 m c t h8 r k)

/-- The gradient as an array. -/
def result (c : Dev nD) : Buf (Elt Ideal) ((c : Thread nD τ).loc main_v0) :=
  fun i => grad (aA m c) (bA m c) (i 0) (i 1)

/-- After the points up to `n`, before the last, the accumulator's entry is the running sum. -/
theorem acc_succ (c : Dev nD) (n : ℕ) (h : n < 6) (hn : n + 1 < cfg0.N) (o : Fin 2816) (j : Fin 1024) :
    ((outsAt0 m c (n + 1) hn).2 (ix2 o j) : EReal) = (outsAt0 m c n (Nat.lt_of_succ_lt hn)).2 (ix2 o j) + add (aA m c) (bA m c) o j (n + 1) := by
  have h0 : ¬(⟨n + 1, hn⟩ : Fin cfg0.N).val % 8 = 0 := by dsimp only; omega
  have h1 : ¬(⟨n + 1, hn⟩ : Fin cfg0.N).val % 8 = 7 := by dsimp only; omega
  rw [show outsAt0 m c (n + 1) hn = _ from outsAt0_B m c ⟨n + 1, hn⟩ h0 h1]
  dsimp only
  rw [acc_B, step_apply, block_add]
  rfl

theorem acc_zero (c : Dev nD) (hn : 0 < cfg0.N) (o : Fin 2816) (j : Fin 1024) :
    ((outsAt0 m c 0 hn).2 (ix2 o j) : EReal) = add (aA m c) (bA m c) o j 0 := by
  rw [show outsAt0 m c 0 hn = _ from outsAt0_A m c ⟨0, hn⟩ rfl (by dsimp only; omega)]
  dsimp only
  rw [acc_A, step_apply, block_add, start_apply, zero_add]

theorem last (c : Dev nD) (hn : 6 + 1 < cfg0.N) (o : Fin 2816) (j : Fin 1024) :
    ((outsAt0 m c (6 + 1) hn).1 (ix2 o j) : EReal) = (outsAt0 m c 6 (Nat.lt_of_succ_lt hn)).2 (ix2 o j) + add (aA m c) (bA m c) o j (6 + 1) := by
  rw [show outsAt0 m c (6 + 1) hn = _ from outsAt0_C m c ⟨6 + 1, hn⟩ (by dsimp only; omega) rfl]
  dsimp only
  rw [out_C]
  show k0_pay2 (F := Ideal) _ _ _ (ix2 o j) = _
  rw [step_apply, block_add]

theorem final (c : Dev nD) : Value.G2 m c = result m c := by
  have hN : cfg0.N = 8 := N_0
  funext i
  rw [Value.G2_last, ← Value.outsAt0_sweep m c 7 (by omega)]
  obtain ⟨o, j, rfl⟩ : ∃ (o : Fin 2816) (j : Fin 1024), i = ix2 o j := ⟨i 0, i 1, (ix2_eta i).symm⟩
  let s : ℕ → EReal := fun n => if h7 : n = 7 then (outsAt0 m c 7 (by omega)).1 (ix2 o j) else
    if h : n < cfg0.N then (outsAt0 m c n h).2 (ix2 o j) else 0
  have h := acc_eq (aA m c) (bA m c) o j s
    (by show (if h7 : (0 : ℕ) = 7 then _ else _) = _; rw [dif_neg (by omega), dif_pos (by omega)]; exact acc_zero m c _ o j)
    (fun n hn => by
      show (if h7 : n + 1 = 7 then _ else _) = (if h7 : n = 7 then _ else _) + _
      rw [dif_neg (show ¬n = 7 by omega), dif_pos (show n < cfg0.N by omega)]
      by_cases h6 : n = 6
      · subst h6; rw [dif_pos rfl]; exact last m c (by omega) o j
      · rw [dif_neg (by omega), dif_pos (by omega)]; exact acc_succ m c n (by omega) (by omega) o j)
  exact (show (_ : EReal) = s 7 by show _ = (if h7 : (7 : ℕ) = 7 then _ else _); rw [dif_pos rfl]).trans h

end Cert.WideDwIdeal.Products

end
-- ==== Proof.Products.SquareDw.lean ====
/-
  THE GRADIENT OF A SQUARE WEIGHT (1024 by 1024) as the kernel computes it: eight grid points, each adding 1024 rows' product
  to an accumulator, the last one writing it out. The array ends holding `grad` of the whole arguments.
-/
module

public import proofs.«01_k».proof.Proof.Gen.SquareDwIdeal.Value
public import proofs.«01_k».proof.Proof.Products.Sum
public import Idealize.ShloMosaic.Lib.Pipeline.ReadBack
public import Idealize.ShloMosaic.Lib.Pointwise
public import Idealize.ShloMosaic.Lib.Pointwise.Tactic
public import Idealize.ShloMosaic.Lib.ValueIdx
public import Idealize.ShloMosaic.Lib.Tactic

@[expose] public section

noncomputable section

namespace Cert.SquareDwIdeal.Products

open Cert.SquareDwIdeal Cert.SquareDwIdeal.Gen Cert.Products Idealize.ShloMosaic Idealize.ShloMosaic.TcCoe Idealize.SL.Sem

/-! ## One grid point -/

section Point

variable {F : FTy → Type} [FloatOps F]

theorem hz : (![0, 0] : Fin 2 → ℕ) = fun _ => 0 := funext fun a => by fin_cases a <;> rfl

variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .bf16) (h5 : a5.IsWhole)
  (a6 : Memref sig .tc .vmem S1024x1024 .f32) (h6 : a6.IsWhole) (x : Vec F S1024x1024 .bf16) (y : Vec F S1024x1024 .bf16)

/-- The first point starts the accumulator at zero. -/
theorem acc_A (hc0 : cond0_0 i) (hc1 : ¬cond0_1 i) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A later point adds to it. -/
theorem acc_B (hc0 : ¬cond0_0 i) (hc1 : ¬cond0_1 i) (s : Vec F S1024x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero (S := S1024x1024) hz]
  simp only [View.readAt_eq_ld, h3.read_unread, h4.read_unread, h6.read_unread, View.ld_unit_zero (S := S1024x1024) hz]

/-- The last point writes the accumulator out. -/
theorem out_C (hc0 : ¬cond0_0 i) (hc1 : cond0_1 i) (s : Vec F S1024x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x1024) hz]

end Point

/-- The accumulator starts at zero. -/
theorem start_apply (o : Fin 1024) (j : Fin 1024) : k0_pay1 (F := Ideal) (ix2 o j) = (0 : EReal) := by
  unfold k0_pay1
  simp only [pointwise, Ideal.ofBits_zero_f32]

/-- A block's product is added. -/
theorem step_apply (s : Vec Ideal S1024x1024 .f32) (x : Vec Ideal S1024x1024 .bf16) (y : Vec Ideal S1024x1024 .bf16) (o : Fin 1024) (j : Fin 1024) :
    k0_pay2 (F := Ideal) s x y (ix2 o j) = (s (ix2 o j) : EReal) + grad (fun r k => x (ix2 r k)) (fun r k => y (ix2 r k)) o j := by
  unfold k0_pay2 grad
  simp only [pointwise, Ideal.matmul_def, zero_add]

/-! ## The array -/

variable (m : (ℓ : Loc nD τ sig) → Buf (Elt Ideal) ℓ)

/-- The left argument's entries. -/
def aA (c : Dev nD) (r : Fin 8192) (k : Fin 1024) : EReal := m ((c : Thread nD τ).loc main_arg0) (ix2 r k)
/-- The right argument's entries. -/
def bA (c : Dev nD) (r : Fin 8192) (k : Fin 1024) : EReal := m ((c : Thread nD τ).loc main_arg1) (ix2 r k)

theorem idx0 : ∀ t : Fin cfg0.N, win0_0.index t 0 = t.val ∧ win0_0.index t 1 = 0 :=
  (by decide +kernel : ∀ t : Fin grid0.N, win0_0.index t 0 = t.val ∧ win0_0.index t 1 = 0)

theorem idx1 : ∀ t : Fin cfg0.N, win0_1.index t 0 = t.val ∧ win0_1.index t 1 = 0 :=
  (by decide +kernel : ∀ t : Fin grid0.N, win0_1.index t 0 = t.val ∧ win0_1.index t 1 = 0)

theorem iblk_0 (c : Dev nD) (t : Fin cfg0.N) (h8 : t.val < 8) (r : Fin 1024) (k : Fin 1024) :
    (iblk m c 0 t : Vec Ideal S1024x1024 .bf16) (ix2 r k) = rows (aA m c) ⟨t.val, h8⟩ r k := by
  have hi := idx0 t
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val * 1024 + r.val; rw [hi.1]; omega
  | ⟨1, _⟩ => show win0_0.index t 1 * 1024 + 1 * k.val = k.val; rw [hi.2]; omega

theorem iblk_1 (c : Dev nD) (t : Fin cfg0.N) (h8 : t.val < 8) (r : Fin 1024) (k : Fin 1024) :
    (iblk m c 1 t : Vec Ideal S1024x1024 .bf16) (ix2 r k) = rows (bA m c) ⟨t.val, h8⟩ r k := by
  have hi := idx1 t
  unfold iblk
  rw [View.read_apply]
  show V m c main_arg1 _ = m (c.tc.loc main_arg1) _
  unfold V
  congr 1
  funext a
  apply Fin.ext
  match a with
  | ⟨0, _⟩ => show win0_1.index t 0 * 1024 + 1 * r.val = t.val * 1024 + r.val; rw [hi.1]; omega
  | ⟨1, _⟩ => show win0_1.index t 1 * 1024 + 1 * k.val = k.val; rw [hi.2]; omega

/-- What a point's product adds. -/
theorem block_add (c : Dev nD) (t : Fin cfg0.N) (o : Fin 1024) (j : Fin 1024) :
    grad (fun r k => (iblk m c 0 t : Vec Ideal S1024x1024 .bf16) (ix2 r k)) (fun r k => (iblk m c 1 t : Vec Ideal S1024x1024 .bf16) (ix2 r k)) o j
      = add (aA m c) (bA m c) o j t.val := by
  have h8 : t.val < 8 := lt_of_lt_of_eq t.isLt N_0
  unfold add
  rw [dif_pos h8]
  exact congrArg₂ (fun a b => grad a b o j) (funext fun r => funext fun k => iblk_0 m c t h8 r k) (funext fun r => funext fun k => iblk_1 m c t h8 r k)

/-- The gradient as an array. -/
def result (c : Dev nD) : Buf (Elt Ideal) ((c : Thread nD τ).loc main_v0) :=
  fun i => grad (aA m c) (bA m c) (i 0) (i 1)

/-- After the points up to `n`, before the last, the accumulator's entry is the running sum. -/
theorem acc_succ (c : Dev nD) (n : ℕ) (h : n < 6) (hn : n + 1 < cfg0.N) (o : Fin 1024) (j : Fin 1024) :
    ((outsAt0 m c (n + 1) hn).2 (ix2 o j) : EReal) = (outsAt0 m c n (Nat.lt_of_succ_lt hn)).2 (ix2 o j) + add (aA m c) (bA m c) o j (n + 1) := by
  have h0 : ¬(⟨n + 1, hn⟩ : Fin cfg0.N).val % 8 = 0 := by dsimp only; omega
  have h1 : ¬(⟨n + 1, hn⟩ : Fin cfg0.N).val % 8 = 7 := by dsimp only; omega
  rw [show outsAt0 m c (n + 1) hn = _ from outsAt0_B m c ⟨n + 1, hn⟩ h0 h1]
  dsimp only
  rw [acc_B, step_apply, block_add]
  rfl

theorem acc_zero (c : Dev nD) (hn : 0 < cfg0.N) (o : Fin 1024) (j : Fin 1024) :
    ((outsAt0 m c 0 hn).2 (ix2 o j) : EReal) = add (aA m c) (bA m c) o j 0 := by
  rw [show outsAt0 m c 0 hn = _ from outsAt0_A m c ⟨0, hn⟩ rfl (by dsimp only; omega)]
  dsimp only
  rw [acc_A, step_apply, block_add, start_apply, zero_add]

theorem last (c : Dev nD) (hn : 6 + 1 < cfg0.N) (o : Fin 1024) (j : Fin 1024) :
    ((outsAt0 m c (6 + 1) hn).1 (ix2 o j) : EReal) = (outsAt0 m c 6 (Nat.lt_of_succ_lt hn)).2 (ix2 o j) + add (aA m c) (bA m c) o j (6 + 1) := by
  rw [show outsAt0 m c (6 + 1) hn = _ from outsAt0_C m c ⟨6 + 1, hn⟩ (by dsimp only; omega) rfl]
  dsimp only
  rw [out_C]
  show k0_pay2 (F := Ideal) _ _ _ (ix2 o j) = _
  rw [step_apply, block_add]

theorem final (c : Dev nD) : Value.G2 m c = result m c := by
  have hN : cfg0.N = 8 := N_0
  funext i
  rw [Value.G2_last, ← Value.outsAt0_sweep m c 7 (by omega)]
  obtain ⟨o, j, rfl⟩ : ∃ (o : Fin 1024) (j : Fin 1024), i = ix2 o j := ⟨i 0, i 1, (ix2_eta i).symm⟩
  let s : ℕ → EReal := fun n => if h7 : n = 7 then (outsAt0 m c 7 (by omega)).1 (ix2 o j) else
    if h : n < cfg0.N then (outsAt0 m c n h).2 (ix2 o j) else 0
  have h := acc_eq (aA m c) (bA m c) o j s
    (by show (if h7 : (0 : ℕ) = 7 then _ else _) = _; rw [dif_neg (by omega), dif_pos (by omega)]; exact acc_zero m c _ o j)
    (fun n hn => by
      show (if h7 : n + 1 = 7 then _ else _) = (if h7 : n = 7 then _ else _) + _
      rw [dif_neg (show ¬n = 7 by omega), dif_pos (show n < cfg0.N by omega)]
      by_cases h6 : n = 6
      · subst h6; rw [dif_pos rfl]; exact last m c (by omega) o j
      · rw [dif_neg (by omega), dif_pos (by omega)]; exact acc_succ m c n (by omega) (by omega) o j)
  exact (show (_ : EReal) = s 7 by show _ = (if h7 : (7 : ℕ) = 7 then _ else _); rw [dif_pos rfl]).trans h

end Cert.SquareDwIdeal.Products

end
-- ==== Proof.Products.DownDx.lean ====
/-
  THE GRADIENT OF THE FEED-FORWARD'S GATED ACTIVATIONS as the kernel computes it: eight grid points, each writing 1024 rows of
  the product of the output's gradient with the down weight's rows.
-/
module

public import proofs.«01_k».proof.Proof.Gen.DownDxIdeal.Value
public import proofs.«01_k».proof.Proof.Products.Sum
public import Idealize.ShloMosaic.Lib.Pipeline.ReadBack
public import Idealize.ShloMosaic.Lib.Pointwise
public import Idealize.ShloMosaic.Lib.Pointwise.Tactic
public import Idealize.ShloMosaic.Lib.ValueIdx
public import Idealize.ShloMosaic.Lib.Tactic

@[expose] public section

noncomputable section

namespace Cert.DownDxIdeal.Products

open Cert.DownDxIdeal Cert.DownDxIdeal.Gen Cert.Products Idealize.ShloMosaic Idealize.ShloMosaic.TcCoe Idealize.SL.Sem

theorem hz : (![0, 0] : Fin 2 → ℕ) = fun _ => 0 := funext fun a => by fin_cases a <;> rfl

/-- One block: the sum over the 1024 columns. -/
theorem block_apply (x : Vec Ideal S1024x1024 .bf16) (w : Vec Ideal S2816x1024 .bf16) (r : Fin 1024) (o : Fin 2816) :
    (out0_2 (F := Ideal) x w (ix2 r o) : EReal) = rowDot (fun r k => x (ix2 r k)) (fun o k => w (ix2 o k)) r o := by
  unfold out0_2 rowDot
  rw [View.canon_unit_zero (S := S1024x2816) hz, View.ld_unit_zero (S := S1024x1024) hz, View.ld_unit_zero (S := S2816x1024) hz]
  unfold k0_pay1
  simp only [pointwise, Ideal.matmul_def, zero_add]

variable (m : (ℓ : Loc nD τ sig) → Buf (Elt Ideal) ℓ) (ρ : Dev nD → PrngReg)

/-- The left argument's entries. -/
def xA (c : Dev nD) (r : Fin 8192) (k : Fin 1024) : EReal := m ((c : Thread nD τ).loc main_arg0) (ix2 r k)
/-- The right argument's entries. -/
def wA (c : Dev nD) (o : Fin 2816) (k : Fin 1024) : EReal := m ((c : Thread nD τ).loc main_arg1) (ix2 o k)

/-- The product as an array. -/
def result (c : Dev nD) : Buf (Elt Ideal) ((c : Thread nD τ).loc main_v0) :=
  fun i => rowDot (xA m c) (wA m c) (i 0) (i 1)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The left block holds rows `1024 t …`. -/
theorem iblk_0 (c : Dev nD) (t : Fin cfg0.N) (r : Fin 1024) (k : Fin 1024) (R : Fin 8192) (hR : R.val = t.val * 1024 + r.val) :
    (iblk m c 0 t : Vec Ideal S1024x1024 .bf16) (ix2 r k) = xA m c R k := by
  have hi := idx0 t
  unfold iblk
  rw [View.read_apply]
  show V m c main_arg0 _ = m (c.tc.loc main_arg0) _
  unfold V
  congr 1
  funext a
  apply Fin.ext
  match a with
  | ⟨0, _⟩ => show win0_0.index t 0 * 1024 + 1 * r.val = R.val; rw [hi.1]; omega
  | ⟨1, _⟩ => show win0_0.index t 1 * 1024 + 1 * k.val = k.val; rw [hi.2]; omega

/-- The right block is the whole right argument. -/
theorem iblk_1 (c : Dev nD) (t : Fin cfg0.N) (o : Fin 2816) (k : Fin 1024) :
    (iblk m c 1 t : Vec Ideal S2816x1024 .bf16) (ix2 o k) = wA m c o k := by
  have hi := idx1 t
  unfold iblk
  rw [View.read_apply]
  show V m c main_arg1 _ = m (c.tc.loc main_arg1) _
  unfold V
  congr 1
  funext a
  apply Fin.ext
  match a with
  | ⟨0, _⟩ => show win0_1.index t 0 * 2816 + 1 * o.val = o.val; rw [hi.1]; omega
  | ⟨1, _⟩ => show win0_1.index t 1 * 1024 + 1 * k.val = k.val; rw [hi.2]; omega

theorem flushed (c : Dev nD) (t : Fin cfg0.N) (_ : (cfg0.win 2).flush t = true) :
    (dats m 0 c).flushed 2 t = ((cfg0.win 2).blk t).view.read (Elt Ideal) (result m c) := by
  have hi := idx2 t
  have hN : t.val < 8 := lt_of_lt_of_eq t.isLt N_0
  rw [Value.flushed2]
  funext y
  have h0 : (y 0).val < 1024 := (y 0).isLt
  rw [View.read_apply]
  refine (congrArg (out0_2 (F := Ideal) _ _) (ix2_eta (n0 := 1024) (n1 := 2816) y).symm).trans ?_
  refine (block_apply _ _ (y 0) (y 1)).trans ?_
  refine Finset.sum_congr rfl fun k _ => congrArg₂ (fun a b : EReal => a * b) (iblk_0 m c t (y 0) k _ ?_) ((iblk_1 m c t (y 1) k).trans (congrArg (fun o => wA m c o k) (Fin.ext ?_)))
  · show win0_2.index t 0 * 1024 + 1 * (y 0).val = _; rw [hi.1]; omega
  · show (y 1).val = win0_2.index t 1 * 2816 + 1 * (y 1).val; rw [hi.2]; omega

theorem final (c : Dev nD) : (dats m 0 c).arrAt 2 cfg0.N = result m c :=
  (dats m 0 c).arrAt_eq_of_cover 2 (result m c) (flushed m c) fun i => by
    have h0 : (i 0 : Nat) < 8192 := (i 0).isLt
    have h1 : (i 1 : Nat) < 2816 := (i 1).isLt
    have hN : grid0.N = 8 := N_0
    let t : Fin cfg0.N := ⟨(i 0 : Nat) / 1024, by show _ < grid0.N; omega⟩
    have hi := idx2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; show (i 0 : Nat) / 1024 * 1024 ≤ _ ∧ _ < (i 0 : Nat) / 1024 * 1024 + 1024; omega
    | ⟨1, _⟩ => show win0_2.index t 1 * 2816 ≤ (i 1 : Nat) ∧ (i 1 : Nat) < win0_2.index t 1 * 2816 + 2816
                rw [hi.2]; omega

/-- The kernel's run: its result is the product, its arguments are as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.DownDxIdeal.Products

end
-- ==== Proof.Products.SquareDx.lean ====
/-
  THE GRADIENT OF A SQUARE PRODUCT'S INPUT as the kernel computes it: eight grid points, each writing 1024 rows of the product
  of the output's gradient with the weight's rows.
-/
module

public import proofs.«01_k».proof.Proof.Gen.SquareDxIdeal.Value
public import proofs.«01_k».proof.Proof.Products.Sum
public import Idealize.ShloMosaic.Lib.Pipeline.ReadBack
public import Idealize.ShloMosaic.Lib.Pointwise
public import Idealize.ShloMosaic.Lib.Pointwise.Tactic
public import Idealize.ShloMosaic.Lib.ValueIdx
public import Idealize.ShloMosaic.Lib.Tactic

@[expose] public section

noncomputable section

namespace Cert.SquareDxIdeal.Products

open Cert.SquareDxIdeal Cert.SquareDxIdeal.Gen Cert.Products Idealize.ShloMosaic Idealize.ShloMosaic.TcCoe Idealize.SL.Sem

theorem hz : (![0, 0] : Fin 2 → ℕ) = fun _ => 0 := funext fun a => by fin_cases a <;> rfl

/-- One block: the sum over the 1024 columns. -/
theorem block_apply (x : Vec Ideal S1024x1024 .bf16) (w : Vec Ideal S1024x1024 .bf16) (r : Fin 1024) (o : Fin 1024) :
    (out0_2 (F := Ideal) x w (ix2 r o) : EReal) = rowDot (fun r k => x (ix2 r k)) (fun o k => w (ix2 o k)) r o := by
  unfold out0_2 rowDot
  rw [View.canon_unit_zero (S := S1024x1024) hz, View.ld_unit_zero (S := S1024x1024) hz, View.ld_unit_zero (S := S1024x1024) hz]
  unfold k0_pay1
  simp only [pointwise, Ideal.matmul_def, zero_add]

variable (m : (ℓ : Loc nD τ sig) → Buf (Elt Ideal) ℓ) (ρ : Dev nD → PrngReg)

/-- The left argument's entries. -/
def xA (c : Dev nD) (r : Fin 8192) (k : Fin 1024) : EReal := m ((c : Thread nD τ).loc main_arg0) (ix2 r k)
/-- The right argument's entries. -/
def wA (c : Dev nD) (o : Fin 1024) (k : Fin 1024) : EReal := m ((c : Thread nD τ).loc main_arg1) (ix2 o k)

/-- The product as an array. -/
def result (c : Dev nD) : Buf (Elt Ideal) ((c : Thread nD τ).loc main_v0) :=
  fun i => rowDot (xA m c) (wA m c) (i 0) (i 1)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The left block holds rows `1024 t …`. -/
theorem iblk_0 (c : Dev nD) (t : Fin cfg0.N) (r : Fin 1024) (k : Fin 1024) (R : Fin 8192) (hR : R.val = t.val * 1024 + r.val) :
    (iblk m c 0 t : Vec Ideal S1024x1024 .bf16) (ix2 r k) = xA m c R k := by
  have hi := idx0 t
  unfold iblk
  rw [View.read_apply]
  show V m c main_arg0 _ = m (c.tc.loc main_arg0) _
  unfold V
  congr 1
  funext a
  apply Fin.ext
  match a with
  | ⟨0, _⟩ => show win0_0.index t 0 * 1024 + 1 * r.val = R.val; rw [hi.1]; omega
  | ⟨1, _⟩ => show win0_0.index t 1 * 1024 + 1 * k.val = k.val; rw [hi.2]; omega

/-- The right block is the whole right argument. -/
theorem iblk_1 (c : Dev nD) (t : Fin cfg0.N) (o : Fin 1024) (k : Fin 1024) :
    (iblk m c 1 t : Vec Ideal S1024x1024 .bf16) (ix2 o k) = wA m c o k := by
  have hi := idx1 t
  unfold iblk
  rw [View.read_apply]
  show V m c main_arg1 _ = m (c.tc.loc main_arg1) _
  unfold V
  congr 1
  funext a
  apply Fin.ext
  match a with
  | ⟨0, _⟩ => show win0_1.index t 0 * 1024 + 1 * o.val = o.val; rw [hi.1]; omega
  | ⟨1, _⟩ => show win0_1.index t 1 * 1024 + 1 * k.val = k.val; rw [hi.2]; omega

theorem flushed (c : Dev nD) (t : Fin cfg0.N) (_ : (cfg0.win 2).flush t = true) :
    (dats m 0 c).flushed 2 t = ((cfg0.win 2).blk t).view.read (Elt Ideal) (result m c) := by
  have hi := idx2 t
  have hN : t.val < 8 := lt_of_lt_of_eq t.isLt N_0
  rw [Value.flushed2]
  funext y
  have h0 : (y 0).val < 1024 := (y 0).isLt
  rw [View.read_apply]
  refine (congrArg (out0_2 (F := Ideal) _ _) (ix2_eta (n0 := 1024) (n1 := 1024) y).symm).trans ?_
  refine (block_apply _ _ (y 0) (y 1)).trans ?_
  refine Finset.sum_congr rfl fun k _ => congrArg₂ (fun a b : EReal => a * b) (iblk_0 m c t (y 0) k _ ?_) ((iblk_1 m c t (y 1) k).trans (congrArg (fun o => wA m c o k) (Fin.ext ?_)))
  · show win0_2.index t 0 * 1024 + 1 * (y 0).val = _; rw [hi.1]; omega
  · show (y 1).val = win0_2.index t 1 * 1024 + 1 * (y 1).val; rw [hi.2]; omega

theorem final (c : Dev nD) : (dats m 0 c).arrAt 2 cfg0.N = result m c :=
  (dats m 0 c).arrAt_eq_of_cover 2 (result m c) (flushed m c) fun i => by
    have h0 : (i 0 : Nat) < 8192 := (i 0).isLt
    have h1 : (i 1 : Nat) < 1024 := (i 1).isLt
    have hN : grid0.N = 8 := N_0
    let t : Fin cfg0.N := ⟨(i 0 : Nat) / 1024, by show _ < grid0.N; omega⟩
    have hi := idx2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; show (i 0 : Nat) / 1024 * 1024 ≤ _ ∧ _ < (i 0 : Nat) / 1024 * 1024 + 1024; omega
    | ⟨1, _⟩ => show win0_2.index t 1 * 1024 ≤ (i 1 : Nat) ∧ (i 1 : Nat) < win0_2.index t 1 * 1024 + 1024
                rw [hi.2]; omega

/-- The kernel's run: its result is the product, its arguments are as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.SquareDxIdeal.Products

end
-- ==== Proof.Products.FfnUp.lean ====
/-
  THE FEED-FORWARD'S UP PRODUCT as the kernel computes it: for each half of the weight (the gate's, the value's) eight grid
  points, each writing 1024 rows of the product of the activations with the half's rows.
-/
module

public import proofs.«01_k».proof.Proof.Gen.FfnUpIdeal.Value
public import proofs.«01_k».proof.Proof.Products.Sum
public import Idealize.ShloMosaic.Lib.Pipeline.ReadBack
public import Idealize.ShloMosaic.Lib.Pointwise
public import Idealize.ShloMosaic.Lib.Pointwise.Tactic
public import Idealize.ShloMosaic.Lib.ValueIdx
public import Idealize.ShloMosaic.Lib.Tactic

@[expose] public section

noncomputable section

namespace Cert.FfnUpIdeal.Products

open Cert.FfnUpIdeal Cert.FfnUpIdeal.Gen Cert.Products Idealize.ShloMosaic Idealize.ShloMosaic.TcCoe Idealize.SL.Sem

theorem hz3 : (![0, 0, 0] : Fin 3 → ℕ) = fun _ => 0 := funext fun a => by fin_cases a <;> rfl
theorem hz : (![0, 0] : Fin 2 → ℕ) = fun _ => 0 := funext fun a => by fin_cases a <;> rfl

/-- One block: the sum over the 1024 columns. -/
theorem block_apply (x : Vec Ideal S1024x1024 .bf16) (w : Vec Ideal S2816x1024 .bf16) (r : Fin 1024) (o : Fin 2816) :
    (out0_2 (F := Ideal) x w (ix3 0 r o) : EReal) = rowDot (fun r k => x (ix2 r k)) (fun o k => w (ix2 o k)) r o := by
  unfold out0_2 rowDot
  rw [View.canon_unit_zero (S := S1x1024x2816) hz3, View.ld_unit_zero (S := S1024x1024) hz, View.ld_unit_zero (S := S2816x1024) hz]
  unfold k0_pay1
  simp only [pointwise, Ideal.matmul_def, zero_add]

variable (m : (ℓ : Loc nD τ sig) → Buf (Elt Ideal) ℓ) (ρ : Dev nD → PrngReg)

/-- The left argument's entries. -/
def xA (c : Dev nD) (r : Fin 8192) (k : Fin 1024) : EReal := m ((c : Thread nD τ).loc main_arg0) (ix2 r k)
/-- The right argument's entries. -/
def wA (c : Dev nD) (o : Fin 5632) (k : Fin 1024) : EReal := m ((c : Thread nD τ).loc main_arg1) (ix2 o k)

/-- The product as an array. -/
def result (c : Dev nD) : Buf (Elt Ideal) ((c : Thread nD τ).loc main_v0) :=
  fun i => rowDot (xA m c) (wA m c) (i 1) ⟨(i 0).val * 2816 + (i 2).val, by
    have h0 : (i 0).val < 2 := (i 0).isLt
    have h2 : (i 2).val < 2816 := (i 2).isLt
    omega⟩

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = t.val / 8 ∧ win0_1.index t 1 = 0 :=
  (by decide +kernel : ∀ t : Fin grid0.N, win0_1.index t 0 = t.val / 8 ∧ win0_1.index t 1 = 0)
theorem idx2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)

/-- The left block holds 1024 rows. -/
theorem iblk_0 (c : Dev nD) (t : Fin cfg0.N) (r : Fin 1024) (k : Fin 1024) (R : Fin 8192) (hR : R.val = t.val % 8 * 1024 + r.val) :
    (iblk m c 0 t : Vec Ideal S1024x1024 .bf16) (ix2 r k) = xA m c R k := by
  have hi := idx0 t
  unfold iblk
  rw [View.read_apply]
  show V m c main_arg0 _ = m (c.tc.loc main_arg0) _
  unfold V
  congr 1
  funext a
  apply Fin.ext
  match a with
  | ⟨0, _⟩ => show win0_0.index t 0 * 1024 + 1 * r.val = R.val; rw [hi.1]; omega
  | ⟨1, _⟩ => show win0_0.index t 1 * 1024 + 1 * k.val = k.val; rw [hi.2]; omega

/-- The right block is a half of the right argument. -/
theorem iblk_1 (c : Dev nD) (t : Fin cfg0.N) (o : Fin 2816) (k : Fin 1024) (O : Fin 5632) (hO : O.val = t.val / 8 * 2816 + o.val) :
    (iblk m c 1 t : Vec Ideal S2816x1024 .bf16) (ix2 o k) = wA m c O k := by
  have hi := idx1 t
  unfold iblk
  rw [View.read_apply]
  show V m c main_arg1 _ = m (c.tc.loc main_arg1) _
  unfold V
  congr 1
  funext a
  apply Fin.ext
  match a with
  | ⟨0, _⟩ => show win0_1.index t 0 * 2816 + 1 * o.val = O.val; rw [hi.1]; omega
  | ⟨1, _⟩ => show win0_1.index t 1 * 1024 + 1 * k.val = k.val; rw [hi.2]; omega

theorem flushed (c : Dev nD) (t : Fin cfg0.N) (_ : (cfg0.win 2).flush t = true) :
    (dats m 0 c).flushed 2 t = ((cfg0.win 2).blk t).view.read (Elt Ideal) (result m c) := by
  obtain ⟨e0, e1, e2⟩ := idx2 t
  rw [Value.flushed2]
  funext y
  have h0 : (y 0).val < 1 := (y 0).isLt
  rw [View.read_apply]
  have hy : y = ix3 (n0 := 1) (n1 := 1024) (n2 := 2816) 0 (y 1) (y 2) := by
    funext a
    match a with
    | ⟨0, _⟩ => exact Fin.ext (by show (y 0).val = 0; omega)
    | ⟨1, _⟩ => rfl
    | ⟨2, _⟩ => rfl
  refine (congrArg (out0_2 (F := Ideal) _ _) hy).trans ?_
  refine (block_apply _ _ (y 1) (y 2)).trans ?_
  refine Finset.sum_congr rfl fun k _ => congrArg₂ (fun a b : EReal => a * b) (iblk_0 m c t (y 1) k _ ?_) (iblk_1 m c t (y 2) k _ ?_)
  · show win0_2.index t 1 * 1024 + 1 * (y 1).val = _; rw [e1]; omega
  · show (win0_2.index t 0 * 1 + 1 * (y 0).val) * 2816 + (win0_2.index t 2 * 2816 + 1 * (y 2).val) = _; rw [e0, e2]; omega

theorem final (c : Dev nD) : (dats m 0 c).arrAt 2 cfg0.N = result m c :=
  (dats m 0 c).arrAt_eq_of_cover 2 (result m c) (flushed m c) fun i => by
    have h0 : (i 0 : Nat) < 2 := (i 0).isLt
    have h1 : (i 1 : Nat) < 8192 := (i 1).isLt
    have h2 : (i 2 : Nat) < 2816 := (i 2).isLt
    have hN : grid0.N = 16 := N_0
    let t : Fin cfg0.N := ⟨8 * (i 0 : Nat) + (i 1 : Nat) / 1024, by show _ < grid0.N; omega⟩
    have ht : t.val = 8 * (i 0 : Nat) + (i 1 : Nat) / 1024 := rfl
    obtain ⟨e0, e1, e2⟩ := idx2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1; rw [e0, ht]; omega
    | ⟨1, _⟩ => show win0_2.index t 1 * 1024 ≤ (i 1 : Nat) ∧ (i 1 : Nat) < win0_2.index t 1 * 1024 + 1024; rw [e1, ht]; omega
    | ⟨2, _⟩ => show win0_2.index t 2 * 2816 ≤ (i 2 : Nat) ∧ (i 2 : Nat) < win0_2.index t 2 * 2816 + 2816; rw [e2]; omega

/-- The kernel's run: its result is the product, its arguments are as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.FfnUpIdeal.Products

end
-- ==== Proof.Products.CaQ.lean ====
/-
  THE QUERIES' PROJECTION as the kernel computes it: eight grid points, each writing 1024 rows of the product of the
  activations with the weight's columns.
-/
module

public import proofs.«01_k».proof.Proof.Gen.CaQIdeal.Value
public import proofs.«01_k».proof.Proof.Products.Sum
public import Idealize.ShloMosaic.Lib.Pipeline.ReadBack
public import Idealize.ShloMosaic.Lib.Pointwise
public import Idealize.ShloMosaic.Lib.Pointwise.Tactic
public import Idealize.ShloMosaic.Lib.ValueIdx
public import Idealize.ShloMosaic.Lib.Tactic

@[expose] public section

noncomputable section

namespace Cert.CaQIdeal.Products

open Cert.CaQIdeal Cert.CaQIdeal.Gen Cert.Products Idealize.ShloMosaic Idealize.ShloMosaic.TcCoe Idealize.SL.Sem

theorem hz : (![0, 0] : Fin 2 → ℕ) = fun _ => 0 := funext fun a => by fin_cases a <;> rfl

/-- One block: the sum over the 1024 columns. -/
theorem block_apply (x : Vec Ideal S1024x1024 .bf16) (w : Vec Ideal S1024x1024 .bf16) (r : Fin 1024) (o : Fin 1024) :
    (out0_2 (F := Ideal) x w (ix2 r o) : EReal) = rowDot (fun r k => x (ix2 r k)) (fun o k => w (ix2 k o)) r o := by
  unfold out0_2 rowDot
  rw [View.canon_unit_zero (S := S1024x1024) hz, View.ld_unit_zero (S := S1024x1024) hz, View.ld_unit_zero (S := S1024x1024) hz]
  unfold k0_pay1
  simp only [pointwise, Ideal.matmul_def, zero_add]

variable (m : (ℓ : Loc nD τ sig) → Buf (Elt Ideal) ℓ) (ρ : Dev nD → PrngReg)

/-- The left argument's entries. -/
def xA (c : Dev nD) (r : Fin 8192) (k : Fin 1024) : EReal := m ((c : Thread nD τ).loc main_arg0) (ix2 r k)
/-- The right argument's entries, by column. -/
def wA (c : Dev nD) (o : Fin 1024) (k : Fin 1024) : EReal := m ((c : Thread nD τ).loc main_arg1) (ix2 k o)

/-- The product as an array. -/
def result (c : Dev nD) : Buf (Elt Ideal) ((c : Thread nD τ).loc main_v0) :=
  fun i => rowDot (xA m c) (wA m c) (i 0) (i 1)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The left block holds rows `1024 t …`. -/
theorem iblk_0 (c : Dev nD) (t : Fin cfg0.N) (r : Fin 1024) (k : Fin 1024) (R : Fin 8192) (hR : R.val = t.val * 1024 + r.val) :
    (iblk m c 0 t : Vec Ideal S1024x1024 .bf16) (ix2 r k) = xA m c R k := by
  have hi := idx0 t
  unfold iblk
  rw [View.read_apply]
  show V m c main_arg0 _ = m (c.tc.loc main_arg0) _
  unfold V
  congr 1
  funext a
  apply Fin.ext
  match a with
  | ⟨0, _⟩ => show win0_0.index t 0 * 1024 + 1 * r.val = R.val; rw [hi.1]; omega
  | ⟨1, _⟩ => show win0_0.index t 1 * 1024 + 1 * k.val = k.val; rw [hi.2]; omega

/-- The right block is the whole right argument. -/
theorem iblk_1 (c : Dev nD) (t : Fin cfg0.N) (o : Fin 1024) (k : Fin 1024) :
    (iblk m c 1 t : Vec Ideal S1024x1024 .bf16) (ix2 k o) = wA m c o k := by
  have hi := idx1 t
  unfold iblk
  rw [View.read_apply]
  show V m c main_arg1 _ = m (c.tc.loc main_arg1) _
  unfold V
  congr 1
  funext a
  apply Fin.ext
  match a with
  | ⟨0, _⟩ => show win0_1.index t 0 * 1024 + 1 * k.val = k.val; rw [hi.1]; omega
  | ⟨1, _⟩ => show win0_1.index t 1 * 1024 + 1 * o.val = o.val; rw [hi.2]; omega

theorem flushed (c : Dev nD) (t : Fin cfg0.N) (_ : (cfg0.win 2).flush t = true) :
    (dats m 0 c).flushed 2 t = ((cfg0.win 2).blk t).view.read (Elt Ideal) (result m c) := by
  have hi := idx2 t
  have hN : t.val < 8 := lt_of_lt_of_eq t.isLt N_0
  rw [Value.flushed2]
  funext y
  have h0 : (y 0).val < 1024 := (y 0).isLt
  rw [View.read_apply]
  refine (congrArg (out0_2 (F := Ideal) _ _) (ix2_eta (n0 := 1024) (n1 := 1024) y).symm).trans ?_
  refine (block_apply _ _ (y 0) (y 1)).trans ?_
  refine Finset.sum_congr rfl fun k _ => congrArg₂ (fun a b : EReal => a * b) (iblk_0 m c t (y 0) k _ ?_) ((iblk_1 m c t (y 1) k).trans (congrArg (fun o => wA m c o k) (Fin.ext ?_)))
  · show win0_2.index t 0 * 1024 + 1 * (y 0).val = _; rw [hi.1]; omega
  · show (y 1).val = win0_2.index t 1 * 1024 + 1 * (y 1).val; rw [hi.2]; omega

theorem final (c : Dev nD) : (dats m 0 c).arrAt 2 cfg0.N = result m c :=
  (dats m 0 c).arrAt_eq_of_cover 2 (result m c) (flushed m c) fun i => by
    have h0 : (i 0 : Nat) < 8192 := (i 0).isLt
    have h1 : (i 1 : Nat) < 1024 := (i 1).isLt
    have hN : grid0.N = 8 := N_0
    let t : Fin cfg0.N := ⟨(i 0 : Nat) / 1024, by show _ < grid0.N; omega⟩
    have hi := idx2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hi.1]; show (i 0 : Nat) / 1024 * 1024 ≤ _ ∧ _ < (i 0 : Nat) / 1024 * 1024 + 1024; omega
    | ⟨1, _⟩ => show win0_2.index t 1 * 1024 ≤ (i 1 : Nat) ∧ (i 1 : Nat) < win0_2.index t 1 * 1024 + 1024
                rw [hi.2]; omega

/-- The kernel's run: its result is the product, its arguments are as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.CaQIdeal.Products

end
-- ==== Proof.Products.Claims.lean ====
/-
  THE CLAIMS ABOUT THE PRODUCTS: the references' frames, and that kernel and reference compute
  the same array. No precondition: a sum over the extended reals may be taken in blocks.
-/
module

public import proofs.«01_k».proof.Defs
public import proofs.«01_k».proof.Proof.Products.References
public import proofs.«01_k».proof.Proof.Products.UpDw
public import proofs.«01_k».proof.Proof.Products.WideDw
public import proofs.«01_k».proof.Proof.Products.SquareDw
public import proofs.«01_k».proof.Proof.Products.DownDx
public import proofs.«01_k».proof.Proof.Products.SquareDx
public import proofs.«01_k».proof.Proof.Products.FfnUp
public import proofs.«01_k».proof.Proof.Products.CaQ
public import Idealize.ShloMosaic.Adequacy
public import Idealize.ShloMosaic.Init

@[expose] public section

noncomputable section

namespace Cert.Products

open Idealize.ShloMosaic Idealize.SL.Sem

/-! ## The gradient of the feed-forward up weight -/

theorem upDw_reference_frame : Cert.quiescent_UpDwRefIdeal := fun m g _ =>
  (θ_run Cert.UpDwRefIdeal.defs _ _).mono (fun r h => ⟨fun c => (h c).2, sem_eq_zero_of_no_sems (by decide) r.2⟩)
    (Cert.UpDwRefIdeal.Value.run m g)

theorem upDw_algebraic : Cert.algebraic_UpDwIdeal_UpDwRefIdeal := fun m g m' g' _ hargs =>
  ⟨Cert.UpDwIdeal.Products.result m, (θ_run Cert.UpDwIdeal.defs _ _).mono (fun _ h c => ⟨(h c).1.trans (Cert.UpDwIdeal.Products.final m c), (h c).2⟩) (Cert.UpDwIdeal.Value.run m g),
    (θ_run Cert.UpDwRefIdeal.defs _ _).mono (fun r h c => by
      obtain ⟨hv, h⟩ := h c
      obtain ⟨e0, e1⟩ := hargs c
      refine ⟨?_, h⟩
      rw [hv, Cert.UpDwRefIdeal.Read.val_main_v12_eq, e0, e1]
      exact funext fun i => upDw_reference _ _ i _ _ (Nat.div_add_mod' _ _).symm) (Cert.UpDwRefIdeal.Value.run m' g')⟩

/-! ## The gradient of a wide weight -/

theorem wideDw_reference_frame : Cert.quiescent_WideDwRefIdeal := fun m g _ =>
  (θ_run Cert.WideDwRefIdeal.defs _ _).mono (fun r h => ⟨fun c => (h c).2, sem_eq_zero_of_no_sems (by decide) r.2⟩)
    (Cert.WideDwRefIdeal.Value.run m g)

theorem wideDw_algebraic : Cert.algebraic_WideDwIdeal_WideDwRefIdeal := fun m g m' g' _ hargs =>
  ⟨Cert.WideDwIdeal.Products.result m, (θ_run Cert.WideDwIdeal.defs _ _).mono (fun _ h c => ⟨(h c).1.trans (Cert.WideDwIdeal.Products.final m c), (h c).2⟩) (Cert.WideDwIdeal.Value.run m g),
    (θ_run Cert.WideDwRefIdeal.defs _ _).mono (fun r h c => by
      obtain ⟨hv, h⟩ := h c
      obtain ⟨e0, e1⟩ := hargs c
      refine ⟨?_, h⟩
      rw [hv, Cert.WideDwRefIdeal.Read.val_main_v6_eq, e0, e1]
      exact funext fun i => wideDw_reference _ _ i) (Cert.WideDwRefIdeal.Value.run m' g')⟩

/-! ## The gradient of a square weight -/

theorem squareDw_reference_frame : Cert.quiescent_SquareDwRefIdeal := fun m g _ =>
  (θ_run Cert.SquareDwRefIdeal.defs _ _).mono (fun r h => ⟨fun c => (h c).2, sem_eq_zero_of_no_sems (by decide) r.2⟩)
    (Cert.SquareDwRefIdeal.Value.run m g)

theorem squareDw_algebraic : Cert.algebraic_SquareDwIdeal_SquareDwRefIdeal := fun m g m' g' _ hargs =>
  ⟨Cert.SquareDwIdeal.Products.result m, (θ_run Cert.SquareDwIdeal.defs _ _).mono (fun _ h c => ⟨(h c).1.trans (Cert.SquareDwIdeal.Products.final m c), (h c).2⟩) (Cert.SquareDwIdeal.Value.run m g),
    (θ_run Cert.SquareDwRefIdeal.defs _ _).mono (fun r h c => by
      obtain ⟨hv, h⟩ := h c
      obtain ⟨e0, e1⟩ := hargs c
      refine ⟨?_, h⟩
      rw [hv, Cert.SquareDwRefIdeal.Read.val_main_v6_eq, e0, e1]
      exact funext fun i => squareDw_reference _ _ i) (Cert.SquareDwRefIdeal.Value.run m' g')⟩

/-! ## The gradient of the gated activations -/

theorem downDx_reference_frame : Cert.quiescent_DownDxRefIdeal := fun m g _ =>
  (θ_run Cert.DownDxRefIdeal.defs _ _).mono (fun r h => ⟨fun c => (h c).2, sem_eq_zero_of_no_sems (by decide) r.2⟩)
    (Cert.DownDxRefIdeal.Value.run m g)

theorem downDx_algebraic : Cert.algebraic_DownDxIdeal_DownDxRefIdeal := fun m g m' g' _ hargs =>
  ⟨Cert.DownDxIdeal.Products.result m, Cert.DownDxIdeal.Products.run m g,
    (θ_run Cert.DownDxRefIdeal.defs _ _).mono (fun r h c => by
      obtain ⟨hv, h⟩ := h c
      obtain ⟨e0, e1⟩ := hargs c
      refine ⟨?_, h⟩
      rw [hv, Cert.DownDxRefIdeal.Read.val_main_v4_eq, e0, e1]
      exact funext fun i => downDx_reference _ _ i) (Cert.DownDxRefIdeal.Value.run m' g')⟩

/-! ## The gradient of a square product's input -/

theorem squareDx_reference_frame : Cert.quiescent_SquareDxRefIdeal := fun m g _ =>
  (θ_run Cert.SquareDxRefIdeal.defs _ _).mono (fun r h => ⟨fun c => (h c).2, sem_eq_zero_of_no_sems (by decide) r.2⟩)
    (Cert.SquareDxRefIdeal.Value.run m g)

theorem squareDx_algebraic : Cert.algebraic_SquareDxIdeal_SquareDxRefIdeal := fun m g m' g' _ hargs =>
  ⟨Cert.SquareDxIdeal.Products.result m, Cert.SquareDxIdeal.Products.run m g,
    (θ_run Cert.SquareDxRefIdeal.defs _ _).mono (fun r h c => by
      obtain ⟨hv, h⟩ := h c
      obtain ⟨e0, e1⟩ := hargs c
      refine ⟨?_, h⟩
      rw [hv, Cert.SquareDxRefIdeal.Read.val_main_v5_eq, e0, e1]
      exact funext fun i => squareDx_reference _ _ i) (Cert.SquareDxRefIdeal.Value.run m' g')⟩

/-! ## The feed-forward's up product -/

theorem ffnUp_reference_frame : Cert.quiescent_FfnUpRefIdeal := fun m g _ =>
  (θ_run Cert.FfnUpRefIdeal.defs _ _).mono (fun r h => ⟨fun c => (h c).2, sem_eq_zero_of_no_sems (by decide) r.2⟩)
    (Cert.FfnUpRefIdeal.Value.run m g)

theorem ffnUp_algebraic : Cert.algebraic_FfnUpIdeal_FfnUpRefIdeal := fun m g m' g' _ hargs =>
  ⟨Cert.FfnUpIdeal.Products.result m, Cert.FfnUpIdeal.Products.run m g,
    (θ_run Cert.FfnUpRefIdeal.defs _ _).mono (fun r h c => by
      obtain ⟨hv, h⟩ := h c
      obtain ⟨e0, e1⟩ := hargs c
      refine ⟨?_, h⟩
      rw [hv, Cert.FfnUpRefIdeal.Read.val_main_v8_eq, e0, e1]
      exact funext fun i => ffnUp_reference _ _ i _ rfl) (Cert.FfnUpRefIdeal.Value.run m' g')⟩

/-! ## The queries' projection -/

theorem caQ_reference_frame : Cert.quiescent_CaQRefIdeal := fun m g _ =>
  (θ_run Cert.CaQRefIdeal.defs _ _).mono (fun r h => ⟨fun c => (h c).2, sem_eq_zero_of_no_sems (by decide) r.2⟩)
    (Cert.CaQRefIdeal.Value.run m g)

theorem caQ_algebraic : Cert.algebraic_CaQIdeal_CaQRefIdeal := fun m g m' g' _ hargs =>
  ⟨Cert.CaQIdeal.Products.result m, Cert.CaQIdeal.Products.run m g,
    (θ_run Cert.CaQRefIdeal.defs _ _).mono (fun r h c => by
      obtain ⟨hv, h⟩ := h c
      obtain ⟨e0, e1⟩ := hargs c
      refine ⟨?_, h⟩
      rw [hv, Cert.CaQRefIdeal.Read.val_main_v3_eq, e0, e1]
      exact funext fun i => caQ_reference _ _ i) (Cert.CaQRefIdeal.Value.run m' g')⟩

end Cert.Products

end
-- ==== Proof.Conv.Block.lean ====
/-
  ONE BLOCK of the gradient of the causal convolution as the kernel computes it: 512 rows of one half, each row from itself
  and the two rows after it, the last two of the block from the first rows of the next block (or zero at the end).
-/
module

public import proofs.«01_k».proof.Proof.Gen.ConvBwdIdeal.Value
public import Idealize.ShloMosaic.Lib.Pointwise
public import Idealize.ShloMosaic.Lib.Pointwise.Tactic
public import Idealize.ShloMosaic.Lib.ValueIdx
public import Idealize.ShloMosaic.Lib.Tactic
public import Idealize.ShloMosaic.Lib.KernelVsHost

@[expose] public section

noncomputable section

namespace Cert.ConvBwdIdeal.Conv

open Cert.ConvBwdIdeal Cert.ConvBwdIdeal.Gen Idealize.ShloMosaic Idealize.ShloMosaic.TcCoe Idealize.SL.Sem

/-- Choosing by the equality of two small numbers, as words. -/
theorem select_eq {α : Type} (n k : Nat) (hn : n < 2 ^ 32) (hk : k < 2 ^ 32) (a b : α) :
    Scalar.select (IntOp.cmpi .eq (BitVec.ofNat 32 n) (BitVec.ofNat 32 k)) a b = if n = k then a else b := by
  have h : (BitVec.ofNat 32 n = BitVec.ofNat 32 k) ↔ n = k := by
    constructor
    · intro h
      have := congrArg BitVec.toNat h
      rw [BitVec.toNat_ofNat, BitVec.toNat_ofNat, Nat.mod_eq_of_lt hn, Nat.mod_eq_of_lt hk] at this
      exact this
    · rintro rfl; rfl
  by_cases e : n = k
  · subst e; simp [Scalar.select, IntOp.cmpi]
  · rw [if_neg e]
    have hb : (BitVec.ofNat 32 n == BitVec.ofNat 32 k) = false := by rw [beq_eq_false_iff_ne]; exact fun hh => e (h.1 hh)
    simp [Scalar.select, IntOp.cmpi, hb]

/-- A row of the next block, or zero where there is none. -/
def next (t : Nat) (y : Fin 8 → Fin 1408 → EReal) (a : Fin 8) (c : Fin 1408) : EReal := if t = 15 then 0 else y a c

/-- The gradient of one row, from it and the two rows after it. -/
def rowGrad (t : Nat) (x : Fin 512 → Fin 1408 → EReal) (y : Fin 8 → Fin 1408 → EReal) (w : Fin 3 → Fin 1408 → EReal)
    (r : Fin 512) (c : Fin 1408) : EReal :=
  w 2 c * x r c
  + w 1 c * (if r.val = 511 then next t y 0 c else x ⟨(r.val + 1) % 512, Nat.mod_lt _ (by norm_num)⟩ c)
  + w 0 c * (if r.val = 511 then next t y 1 c else if r.val = 510 then next t y 0 c
      else x ⟨(r.val + 2) % 512, Nat.mod_lt _ (by norm_num)⟩ c)

/-- The first half's stored rows. -/
theorem pay_fst (i : grid0.Coords) (x : Vec Ideal S1x512x1408 .f32) (y : Vec Ideal S1x8x1408 .f32) (w : Vec Ideal S3x1408 .f32)
    (r : Fin 512) (c : Fin 1408) :
    (k0_pay8 (F := Ideal) (k0_pay5 i x y) w (k0_pay6 x w) (k0_pay7 i x y w) (ix3 0 r c) : EReal)
      = rowGrad (i 0).val (fun r c => x (ix3 0 r c)) (fun a c => y (ix3 0 a c)) (fun a c => w (ix2 a c)) r c := by
  have hi : (i 0).val < 2 ^ 32 := lt_trans (i 0).isLt (by decide)
  have h511 (a b : EReal) : Scalar.select (IntOp.cmpi .eq (BitVec.ofNat 32 r.val) 511#32) a b = if r.val = 511 then a else b :=
    select_eq _ _ (by omega) (by norm_num) a b
  have h510 (a b : EReal) : Scalar.select (IntOp.cmpi .eq (BitVec.ofNat 32 r.val) 510#32) a b = if r.val = 510 then a else b :=
    select_eq _ _ (by omega) (by norm_num) a b
  have hs (a b : EReal) : Scalar.select (Scalar.cmpi .eq (BitVec.ofNat 32 (i 0).val) 15#32) a b = if (i 0).val = 15 then a else b :=
    select_eq _ _ hi (by norm_num) a b
  unfold k0_pay8 k0_pay5 k0_pay6 k0_pay7 k0_pay4 k0_pay3 k0_pay2
  simp only [pointwise, iota_single_apply]
  simp [h511, h510, hs, rowGrad, next, -mul_ite]

/-- The second half's stored rows. -/
theorem pay_snd (i : grid0.Coords) (x0 : Vec Ideal S2x512x1408 .f32) (x1 : Vec Ideal S2x8x1408 .f32) (x2 x3 : Vec Ideal S3x1408 .f32)
    (x : Vec Ideal S1x512x1408 .f32) (y : Vec Ideal S1x8x1408 .f32) (w : Vec Ideal S3x1408 .f32) (r : Fin 512) (c : Fin 1408) :
    (k0_pay1 (F := Ideal) (k0_pay9 x) (k0_pay12 (Scalar.cmpi .eq (BitVec.ofNat 32 (i 0).val) 15#32) (k0_pay14 i x0 x1 x2 x3) x y)
        (k0_pay13 (Scalar.cmpi .eq (BitVec.ofNat 32 (i 0).val) 15#32) (k0_pay14 i x0 x1 x2 x3) x y) w (ix3 0 r c) : EReal)
      = rowGrad (i 0).val (fun r c => x (ix3 0 r c)) (fun a c => y (ix3 0 a c)) (fun a c => w (ix2 a c)) r c := by
  have hi : (i 0).val < 2 ^ 32 := lt_trans (i 0).isLt (by decide)
  have h511 (a b : EReal) : Scalar.select (IntOp.cmpi .eq (BitVec.ofNat 32 r.val) 511#32) a b = if r.val = 511 then a else b :=
    select_eq _ _ (by omega) (by norm_num) a b
  have h510 (a b : EReal) : Scalar.select (IntOp.cmpi .eq (BitVec.ofNat 32 r.val) 510#32) a b = if r.val = 510 then a else b :=
    select_eq _ _ (by omega) (by norm_num) a b
  have hs (a b : EReal) : Scalar.select (Scalar.cmpi .eq (BitVec.ofNat 32 (i 0).val) 15#32) a b = if (i 0).val = 15 then a else b :=
    select_eq _ _ hi (by norm_num) a b
  unfold k0_pay1 k0_pay12 k0_pay13 k0_pay14 k0_pay11 k0_pay10 k0_pay9
  simp only [pointwise, iota_single_apply]
  simp [h511, h510, hs, rowGrad, next, -mul_ite]

theorem hz : (![0, 0] : Fin 2 → ℕ) = fun _ => 0 := funext fun a => by fin_cases a <;> rfl

theorem emb_fst (r : Fin 512) (c : Fin 1408) : r0_0.emb (ix3 0 r c) = ix3 0 r c := by
  funext a; refine Fin.ext ?_
  match a with
  | ⟨0, _⟩ => rfl
  | ⟨1, _⟩ => show 0 + 1 * r.val = r.val; omega
  | ⟨2, _⟩ => show 0 + 1 * c.val = c.val; omega

theorem emb_snd (r : Fin 512) (c : Fin 1408) : r0_3.emb (ix3 0 r c) = ix3 1 r c := by
  funext a; refine Fin.ext ?_
  match a with
  | ⟨0, _⟩ => rfl
  | ⟨1, _⟩ => show 0 + 1 * r.val = r.val; omega
  | ⟨2, _⟩ => show 0 + 1 * c.val = c.val; omega

theorem emb_fst' (a : Fin 8) (c : Fin 1408) : r0_1.emb (ix3 0 a c) = ix3 0 a c := by
  funext b; refine Fin.ext ?_
  match b with
  | ⟨0, _⟩ => rfl
  | ⟨1, _⟩ => show 0 + 1 * a.val = a.val; omega
  | ⟨2, _⟩ => show 0 + 1 * c.val = c.val; omega

theorem emb_snd' (a : Fin 8) (c : Fin 1408) : r0_4.emb (ix3 0 a c) = ix3 1 a c := by
  funext b; refine Fin.ext ?_
  match b with
  | ⟨0, _⟩ => rfl
  | ⟨1, _⟩ => show 0 + 1 * a.val = a.val; omega
  | ⟨2, _⟩ => show 0 + 1 * c.val = c.val; omega

/-- What the grid point stores, at an index. -/
theorem out_apply (i : grid0.Coords) (x0 : Vec Ideal S2x512x1408 .f32) (x1 : Vec Ideal S2x8x1408 .f32) (x2 x3 : Vec Ideal S3x1408 .f32)
    (h : Fin 2) (r : Fin 512) (c : Fin 1408) :
    (out0_4 (F := Ideal) i x0 x1 x2 x3 (ix3 h r c) : EReal)
      = rowGrad (i 0).val (fun r c => x0 (ix3 h r c)) (fun a c => x1 (ix3 h a c)) (fun a c => if h = 0 then x2 (ix2 a c) else x3 (ix2 a c)) r c := by
  unfold out0_4
  rw [View.ld_unit_zero (S := S3x1408) hz, View.ld_unit_zero (S := S3x1408) hz]
  match h with
  | ⟨0, _⟩ =>
    refine (View.canon_cons_of_not_mem _ _ fun hm => ?_).trans ?_
    · rw [Rect.mem_set_unit] at hm
      have := (hm 0).1
      exact absurd this (by show ¬ 1 ≤ 0; norm_num)
    · refine Eq.trans (congrArg _ (emb_fst r c).symm) ?_
      refine (View.canon_cons_emb _ _ _ _).trans ((pay_fst i _ _ _ r c).trans ?_)
      have e0 : (fun r c => View.ld x0 r0_0 (ix3 0 r c)) = fun r c => x0 (ix3 0 r c) := funext fun r => funext fun c => congrArg x0 (emb_fst r c)
      have e1 : (fun r c => View.ld x1 r0_1 (ix3 0 r c)) = fun r c => x1 (ix3 0 r c) := funext fun r => funext fun c => congrArg x1 (emb_fst' r c)
      rw [e0, e1]
      rfl
  | ⟨1, _⟩ =>
    refine Eq.trans (congrArg _ (emb_snd r c).symm) ?_
    refine (View.canon_cons_emb _ _ _ _).trans ((pay_snd i _ _ _ _ _ _ _ r c).trans ?_)
    have e0 : (fun r c => View.ld x0 r0_3 (ix3 0 r c)) = fun r c => x0 (ix3 1 r c) := funext fun r => funext fun c => congrArg x0 (emb_snd r c)
    have e1 : (fun r c => View.ld x1 r0_4 (ix3 0 r c)) = fun r c => x1 (ix3 1 r c) := funext fun r => funext fun c => congrArg x1 (emb_snd' r c)
    rw [e0, e1]
    rfl

end Cert.ConvBwdIdeal.Conv

end
-- ==== Proof.Conv.Array.lean ====
/-
  THE GRADIENT OF THE CAUSAL CONVOLUTION as the kernel computes it: 16 by 2 grid points, each writing 512 rows and 1408 columns
  of both halves.
-/
module

public import proofs.«01_k».proof.Proof.Conv.Block

@[expose] public section

noncomputable section

namespace Cert.Conv

/-- Row `r + n` of a half, zero after the last row. -/
def after (d : Fin 2 → Fin 8192 → Fin 2816 → EReal) (h : Fin 2) (r : Fin 8192) (n : Nat) (c : Fin 2816) : EReal :=
  if hr : r.val + n < 8192 then d h ⟨r.val + n, hr⟩ c else 0

/-- Column `c` of half `h` among the columns of both. -/
def both (h : Fin 2) (c : Fin 2816) : Fin 5632 := ⟨h.val * 2816 + c.val, by omega⟩

/-- The gradient of the convolution's input: each row from itself and the two rows after it. -/
def grad (d : Fin 2 → Fin 8192 → Fin 2816 → EReal) (w : Fin 3 → Fin 5632 → EReal) (h : Fin 2) (r : Fin 8192) (c : Fin 2816) : EReal :=
  w 2 (both h c) * d h r c + w 1 (both h c) * after d h r 1 c + w 0 (both h c) * after d h r 2 c

end Cert.Conv

namespace Cert.ConvBwdIdeal.Conv

open Cert.ConvBwdIdeal Cert.ConvBwdIdeal.Gen Cert.Conv Idealize.ShloMosaic Idealize.ShloMosaic.TcCoe Idealize.SL.Sem

variable (m : (ℓ : Loc nD τ sig) → Buf (Elt Ideal) ℓ) (ρ : Dev nD → PrngReg)

/-- The entries of the gradient that comes in. -/
def dA (c : Dev nD) (h : Fin 2) (r : Fin 8192) (k : Fin 2816) : EReal := m ((c : Thread nD τ).loc main_arg0) (ix3 h r k)
/-- The entries of the weights. -/
def wA (c : Dev nD) (a : Fin 3) (k : Fin 5632) : EReal := m ((c : Thread nD τ).loc main_arg1) (ix2 a k)

/-- The gradient as an array. -/
def result (c : Dev nD) : Buf (Elt Ideal) ((c : Thread nD τ).loc main_v0) :=
  fun i => grad (dA m c) (wA m c) (i 0) (i 1) (i 2)

theorem idx0 : ∀ t : Fin cfg0.N, win0_0.index t 0 = 0 ∧ win0_0.index t 1 = t.val / 2 ∧ win0_0.index t 2 = t.val % 2 :=
  (by decide +kernel : ∀ t : Fin grid0.N, win0_0.index t 0 = 0 ∧ win0_0.index t 1 = t.val / 2 ∧ win0_0.index t 2 = t.val % 2)
theorem idx1 : ∀ t : Fin cfg0.N, win0_1.index t 0 = 0 ∧ win0_1.index t 1 = min ((t.val / 2 + 1) * 64) 1023 ∧ win0_1.index t 2 = t.val % 2 :=
  (by decide +kernel : ∀ t : Fin grid0.N, win0_1.index t 0 = 0 ∧ win0_1.index t 1 = min ((t.val / 2 + 1) * 64) 1023 ∧ win0_1.index t 2 = t.val % 2)
theorem idx2 : ∀ t : Fin cfg0.N, win0_2.index t 0 = 0 ∧ win0_2.index t 1 = t.val % 2 :=
  (by decide +kernel : ∀ t : Fin grid0.N, win0_2.index t 0 = 0 ∧ win0_2.index t 1 = t.val % 2)
theorem idx3 : ∀ t : Fin cfg0.N, win0_3.index t 0 = 0 ∧ win0_3.index t 1 = t.val % 2 + 2 :=
  (by decide +kernel : ∀ t : Fin grid0.N, win0_3.index t 0 = 0 ∧ win0_3.index t 1 = t.val % 2 + 2)
theorem idx4 : ∀ t : Fin cfg0.N, win0_4.index t 0 = 0 ∧ win0_4.index t 1 = t.val / 2 ∧ win0_4.index t 2 = t.val % 2 :=
  (by decide +kernel : ∀ t : Fin grid0.N, win0_4.index t 0 = 0 ∧ win0_4.index t 1 = t.val / 2 ∧ win0_4.index t 2 = t.val % 2)
theorem coord0 : ∀ t : Fin cfg0.N, (grid0.coords t 0).val = t.val / 2 :=
  (by decide +kernel : ∀ t : Fin grid0.N, (grid0.coords t 0).val = t.val / 2)

theorem iblk_0 (c : Dev nD) (t : Fin cfg0.N) (h : Fin 2) (r : Fin 512) (k : Fin 1408) (R : Fin 8192) (K : Fin 2816)
    (hR : R.val = t.val / 2 * 512 + r.val) (hK : K.val = t.val % 2 * 1408 + k.val) :
    (iblk m c 0 t : Vec Ideal S2x512x1408 .f32) (ix3 h r k) = dA m c h R K := by
  have hi := idx0 t
  unfold iblk
  rw [View.read_apply]
  show V m c main_arg0 _ = m (c.tc.loc main_arg0) _
  unfold V
  congr 1
  funext a
  apply Fin.ext
  match a with
  | ⟨0, _⟩ => show win0_0.index t 0 * 2 + 1 * h.val = h.val; rw [hi.1]; omega
  | ⟨1, _⟩ => show win0_0.index t 1 * 512 + 1 * r.val = R.val; rw [hi.2.1]; omega
  | ⟨2, _⟩ => show win0_0.index t 2 * 1408 + 1 * k.val = K.val; rw [hi.2.2]; omega

theorem iblk_1 (c : Dev nD) (t : Fin cfg0.N) (h : Fin 2) (r : Fin 8) (k : Fin 1408) (R : Fin 8192) (K : Fin 2816)
    (hR : R.val = min ((t.val / 2 + 1) * 64) 1023 * 8 + r.val) (hK : K.val = t.val % 2 * 1408 + k.val) :
    (iblk m c 1 t : Vec Ideal S2x8x1408 .f32) (ix3 h r k) = dA m c h R K := by
  have hi := idx1 t
  unfold iblk
  rw [View.read_apply]
  show V m c main_arg0 _ = m (c.tc.loc main_arg0) _
  unfold V
  congr 1
  funext a
  apply Fin.ext
  match a with
  | ⟨0, _⟩ => show win0_1.index t 0 * 2 + 1 * h.val = h.val; rw [hi.1]; omega
  | ⟨1, _⟩ => show win0_1.index t 1 * 8 + 1 * r.val = R.val; rw [hi.2.1]; omega
  | ⟨2, _⟩ => show win0_1.index t 2 * 1408 + 1 * k.val = K.val; rw [hi.2.2]; omega

theorem iblk_2 (c : Dev nD) (t : Fin cfg0.N) (a : Fin 3) (k : Fin 1408) (K : Fin 5632) (hK : K.val = t.val % 2 * 1408 + k.val) :
    (iblk m c 2 t : Vec Ideal S3x1408 .f32) (ix2 a k) = wA m c a K := by
  have hi := idx2 t
  unfold iblk
  rw [View.read_apply]
  show V m c main_arg1 _ = m (c.tc.loc main_arg1) _
  unfold V
  congr 1
  funext b
  apply Fin.ext
  match b with
  | ⟨0, _⟩ => show win0_2.index t 0 * 3 + 1 * a.val = a.val; rw [hi.1]; omega
  | ⟨1, _⟩ => show win0_2.index t 1 * 1408 + 1 * k.val = K.val; rw [hi.2]; omega

theorem iblk_3 (c : Dev nD) (t : Fin cfg0.N) (a : Fin 3) (k : Fin 1408) (K : Fin 5632) (hK : K.val = (t.val % 2 + 2) * 1408 + k.val) :
    (iblk m c 3 t : Vec Ideal S3x1408 .f32) (ix2 a k) = wA m c a K := by
  have hi := idx3 t
  unfold iblk
  rw [View.read_apply]
  show V m c main_arg1 _ = m (c.tc.loc main_arg1) _
  unfold V
  congr 1
  funext b
  apply Fin.ext
  match b with
  | ⟨0, _⟩ => show win0_3.index t 0 * 3 + 1 * a.val = a.val; rw [hi.1]; omega
  | ⟨1, _⟩ => show win0_3.index t 1 * 1408 + 1 * k.val = K.val; rw [hi.2]; omega

/-- A block's rows are the array's. -/
theorem block_eq (c : Dev nD) (t : Fin cfg0.N) (h : Fin 2) (r : Fin 512) (k : Fin 1408) (R : Fin 8192) (K : Fin 2816)
    (hR : R.val = t.val / 2 * 512 + r.val) (hK : K.val = t.val % 2 * 1408 + k.val) :
    (out0_4 (F := Ideal) (grid0.coords t) (iblk m c 0 t) (iblk m c 1 t) (iblk m c 2 t) (iblk m c 3 t) (ix3 h r k) : EReal)
      = grad (dA m c) (wA m c) h R K := by
  have hN : t.val < 32 := lt_of_lt_of_eq t.isLt N_0
  have hw (a : Fin 3) : (if h = 0 then (iblk m c 2 t : Vec Ideal S3x1408 .f32) (ix2 a k) else (iblk m c 3 t : Vec Ideal S3x1408 .f32) (ix2 a k))
      = wA m c a (both h K) := by
    match h with
    | ⟨0, _⟩ => exact iblk_2 m c t a k _ (by show 0 * 2816 + K.val = _; omega)
    | ⟨1, _⟩ => exact iblk_3 m c t a k _ (by show 1 * 2816 + K.val = _; omega)
  have hx (n : Nat) (hn : r.val + n < 512) : (iblk m c 0 t : Vec Ideal S2x512x1408 .f32) (ix3 h ⟨(r.val + n) % 512, Nat.mod_lt _ (by norm_num)⟩ k)
      = Cert.Conv.after (dA m c) h R n K := by
    unfold Cert.Conv.after
    rw [dif_pos (by omega)]
    exact iblk_0 m c t h _ k _ K (by show R.val + n = _ + (r.val + n) % 512; omega) hK
  have hy (n : Nat) (hn : 512 ≤ r.val + n) (hn' : r.val + n < 520) :
      next (t.val / 2) (fun a c' => (iblk m c 1 t : Vec Ideal S2x8x1408 .f32) (ix3 h a c')) ⟨r.val + n - 512, by omega⟩ k
      = Cert.Conv.after (dA m c) h R n K := by
    unfold Cert.Conv.after next
    by_cases ht : t.val / 2 = 15
    · rw [if_pos ht, dif_neg (by omega)]
    · rw [if_neg ht, dif_pos (by omega)]
      exact iblk_1 m c t h _ k _ K (by show R.val + n = _ + (r.val + n - 512); omega) hK
  refine (out_apply _ _ _ _ _ h r k).trans ?_
  unfold rowGrad grad
  beta_reduce
  rw [hw 0, hw 1, hw 2, coord0 t, iblk_0 m c t h r k R K hR hK]
  congr 2
  · congr 1
    by_cases h1 : r.val = 511
    · rw [if_pos h1, ← hy 1 (by omega) (by omega)]
      congr 1
      exact Fin.ext (by show 0 = r.val + 1 - 512; omega)
    · rw [if_neg h1]; exact hx 1 (by omega)
  · by_cases h1 : r.val = 511
    · rw [if_pos h1, ← hy 2 (by omega) (by omega)]
      congr 1
      exact Fin.ext (by show 1 = r.val + 2 - 512; omega)
    · rw [if_neg h1]
      by_cases h2 : r.val = 510
      · rw [if_pos h2, ← hy 2 (by omega) (by omega)]
        congr 1
        exact Fin.ext (by show 0 = r.val + 2 - 512; omega)
      · rw [if_neg h2]; exact hx 2 (by omega)

theorem flushed (c : Dev nD) (t : Fin cfg0.N) (_ : (cfg0.win 4).flush t = true) :
    (dats m 0 c).flushed 4 t = ((cfg0.win 4).blk t).view.read (Elt Ideal) (result m c) := by
  have hi := idx4 t
  rw [Value.flushed4]
  funext y
  rw [View.read_apply]
  have e0 : ((cfg0.win 4).blk t).view.emb y 0 = y 0 := Fin.ext (by show win0_4.index t 0 * 2 + 1 * (y 0).val = (y 0).val; rw [hi.1]; omega)
  have e1 : (((cfg0.win 4).blk t).view.emb y 1).val = t.val / 2 * 512 + (y 1).val := by
    show win0_4.index t 1 * 512 + 1 * (y 1).val = _; rw [hi.2.1]; omega
  have e2 : (((cfg0.win 4).blk t).view.emb y 2).val = t.val % 2 * 1408 + (y 2).val := by
    show win0_4.index t 2 * 1408 + 1 * (y 2).val = _; rw [hi.2.2]; omega
  refine (congrArg (out0_4 (F := Ideal) _ _ _ _ _) (ix3_eta (n0 := 2) (n1 := 512) (n2 := 1408) y).symm).trans ?_
  refine (block_eq m c t (y 0) (y 1) (y 2) _ _ e1 e2).trans ?_
  exact congrArg (fun h => grad (dA m c) (wA m c) h _ _) e0.symm

theorem final (c : Dev nD) : (dats m 0 c).arrAt 4 cfg0.N = result m c :=
  (dats m 0 c).arrAt_eq_of_cover 4 (result m c) (flushed m c) fun i => by
    have h0 : (i 0 : Nat) < 2 := (i 0).isLt
    have h1 : (i 1 : Nat) < 8192 := (i 1).isLt
    have h2 : (i 2 : Nat) < 2816 := (i 2).isLt
    have hN : grid0.N = 32 := N_0
    let t : Fin cfg0.N := ⟨(i 1 : Nat) / 512 * 2 + (i 2 : Nat) / 1408, by show _ < grid0.N; omega⟩
    have ht : t.val = (i 1 : Nat) / 512 * 2 + (i 2 : Nat) / 1408 := rfl
    have hi := idx4 t
    refine ⟨t, flush0_4 t, ?_⟩
    show i ∈ ((View.whole main_v0).slice (win0_4.rect t)).set
    rw [View.set_slice_whole, Rect.mem_set_unit]
    intro a
    match a with
    | ⟨0, _⟩ => show win0_4.index t 0 * 2 ≤ (i 0 : Nat) ∧ (i 0 : Nat) < win0_4.index t 0 * 2 + 2
                rw [hi.1]; omega
    | ⟨1, _⟩ => show win0_4.index t 1 * 512 ≤ (i 1 : Nat) ∧ (i 1 : Nat) < win0_4.index t 1 * 512 + 512
                rw [hi.2.1]; omega
    | ⟨2, _⟩ => show win0_4.index t 2 * 1408 ≤ (i 2 : Nat) ∧ (i 2 : Nat) < win0_4.index t 2 * 1408 + 1408
                rw [hi.2.2]; omega

/-- The kernel's run: its result is the gradient, its arguments are as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.ConvBwdIdeal.Conv

end
-- ==== Proof.Conv.Reference.lean ====
/-
  WHAT THE CONVOLUTION'S REFERENCE COMPUTES, entry by entry: the derivative's three padded products, summed.
-/
module

public import proofs.«01_k».proof.Proof.Gen.ConvBwdRefIdeal.Read
public import proofs.«01_k».proof.Proof.Conv.Array
public import Idealize.ShloMosaic.Lib.KernelVsHost

@[expose] public section

noncomputable section

namespace Cert.Conv

open Idealize.ShloMosaic Cert.ConvBwdRefIdeal Cert.ConvBwdRefIdeal.Read

/-- Two rank-2 indices with the same coordinates. -/
theorem idx2_ext {n0 n1 : Nat} (i j : (⟨2, ![n0, n1]⟩ : Shape).Idx) (h0 : (i 0).val = (j 0).val) (h1 : (i 1).val = (j 1).val) : i = j := by
  funext a
  match a with
  | ⟨0, _⟩ => exact Fin.ext h0
  | ⟨1, _⟩ => exact Fin.ext h1

/-- Two rank-3 indices with the same coordinates. -/
theorem idx3_ext {n0 n1 n2 : Nat} (i j : (⟨3, ![n0, n1, n2]⟩ : Shape).Idx) (h0 : (i 0).val = (j 0).val) (h1 : (i 1).val = (j 1).val)
    (h2 : (i 2).val = (j 2).val) : i = j := by
  funext a
  match a with
  | ⟨0, _⟩ => exact Fin.ext h0
  | ⟨1, _⟩ => exact Fin.ext h1
  | ⟨2, _⟩ => exact Fin.ext h2

variable (x0 : Vec Ideal S2x8192x2816 .f32) (x1 : Vec Ideal S3x5632 .f32)

/-- The halves side by side. -/
theorem joined (h : Fin 2) (r : Fin 8192) (k : Fin 2816) : val_main_v4 (F := Ideal) x0 (ix2 r (both h k)) = x0 (ix3 h r k) := by
  unfold val_main_v4
  match h with
  | ⟨0, _⟩ =>
    refine (concatenate_pair_apply_left (t := S8192x5632) (s₁ := S8192x2816) (s₂ := S8192x2816) 1 _ _ _ _ rfl (ix2 r k) ?_).trans ?_
    · intro a
      match a with
      | ⟨0, _⟩ => rfl
      | ⟨1, _⟩ => show k.val = 0 * 2816 + k.val; omega
    · refine (val_main_v1_apply x0 _).trans ((val_main_v0_apply x0 _).trans (congrArg x0 (idx3_ext _ _ rfl ?_ ?_)))
      · show (r.val * 2816 + k.val) / 2816 % 8192 = r.val; omega
      · show (r.val * 2816 + k.val) % 2816 = k.val; omega
  | ⟨1, _⟩ =>
    refine (concatenate_pair_apply_right (t := S8192x5632) (s₁ := S8192x2816) (s₂ := S8192x2816) 1 _ _ _ _ rfl rfl (ix2 r k) ?_ ?_).trans ?_
    · intro a ha
      match a with
      | ⟨0, _⟩ => rfl
      | ⟨1, _⟩ => exact absurd rfl ha
    · show k.val + 2816 = 1 * 2816 + k.val; omega
    · refine (val_main_v3_apply x0 _).trans ((val_main_v2_apply x0 _).trans (congrArg x0 (idx3_ext _ _ rfl ?_ ?_)))
      · show (r.val * 2816 + k.val) / 2816 % 8192 = r.val; omega
      · show (r.val * 2816 + k.val) % 2816 = k.val; omega

theorem weight_2 (r : Fin 8192) (C : Fin 5632) : val_main_v29 (F := Ideal) x1 (ix2 r C) = x1 (ix2 2 C) :=
  (val_main_v29_apply x1 _).trans <| (val_main_v25_apply x1 _).trans <| (val_main_v24_apply x1 _).trans <|
    (val_main_v23_apply x1 _).trans <| congrArg x1 (idx2_ext _ _ rfl (Nat.mod_eq_of_lt C.isLt))
theorem weight_1 (r : Fin 8192) (C : Fin 5632) : val_main_v32 (F := Ideal) x1 (ix2 r C) = x1 (ix2 1 C) :=
  (val_main_v32_apply x1 _).trans <| (val_main_v18_apply x1 _).trans <| (val_main_v17_apply x1 _).trans <|
    (val_main_v16_apply x1 _).trans <| congrArg x1 (idx2_ext _ _ rfl (Nat.mod_eq_of_lt C.isLt))
theorem weight_0 (r : Fin 8192) (C : Fin 5632) : val_main_v36 (F := Ideal) x1 (ix2 r C) = x1 (ix2 0 C) :=
  (val_main_v36_apply x1 _).trans <| (val_main_v12_apply x1 _).trans <| (val_main_v11_apply x1 _).trans <|
    (val_main_v10_apply x1 _).trans <| congrArg x1 (idx2_ext _ _ rfl (Nat.mod_eq_of_lt C.isLt))

/-- The product with the last weight, two rows down. -/
theorem term_2 (h : Fin 2) (r : Fin 8192) (k : Fin 2816) (R : Fin 8194) (hR : R.val = 2 + r.val) :
    (val_main_v31 (F := Ideal) x0 x1 (ix2 R (both h k)) : EReal) = (x1 (ix2 2 (both h k)) : EReal) * x0 (ix3 h r k) := by
  unfold val_main_v31
  refine (pad_apply_of_inside _ _ _ _ _ _ _ _ (ix2 r (both h k)) ?_).trans ?_
  · intro a
    match a with
    | ⟨0, _⟩ => show R.val = 2 + r.val * (0 + 1); omega
    | ⟨1, _⟩ => show (both h k).val = 0 + (both h k).val * (0 + 1); omega
  · exact (val_main_v30_apply x0 x1 _).trans ((mul_comm (G := EReal) _ _).trans
      (congrArg₂ (fun a b : EReal => a * b) (weight_2 x1 r _) (joined x0 h r k)))

/-- The product with the middle weight, one row down. -/
theorem term_1 (h : Fin 2) (r : Fin 8192) (k : Fin 2816) (R : Fin 8194) (hR : R.val = 2 + r.val) :
    (val_main_v34 (F := Ideal) x0 x1 (ix2 R (both h k)) : EReal)
      = (x1 (ix2 1 (both h k)) : EReal) * after (fun h r c => x0 (ix3 h r c)) h r 1 k := by
  unfold val_main_v34 after
  by_cases hr : r.val + 1 < 8192
  · rw [dif_pos hr]
    refine (pad_apply_of_inside _ _ _ _ _ _ _ _ (ix2 ⟨r.val + 1, hr⟩ (both h k)) ?_).trans ?_
    · intro a
      match a with
      | ⟨0, _⟩ => show R.val = 1 + (r.val + 1) * (0 + 1); omega
      | ⟨1, _⟩ => show (both h k).val = 0 + (both h k).val * (0 + 1); omega
    · exact (val_main_v33_apply x0 x1 _).trans ((mul_comm (G := EReal) _ _).trans
        (congrArg₂ (fun a b : EReal => a * b) (weight_1 x1 _ _) (joined x0 h _ k)))
  · rw [dif_neg hr, mul_zero]
    refine (pad_apply_of_not_inside _ _ _ _ _ _ _ _ ⟨0, by decide⟩ ?_).trans ((val_main_cst_3_apply _).trans Ideal.ofBits_zero_f32)
    rintro ⟨_, _, h3⟩
    have h3 : (R.val - 1) / (0 + 1) < 8192 := h3
    omega

/-- The product with the first weight, in its own row. -/
theorem term_0 (h : Fin 2) (r : Fin 8192) (k : Fin 2816) (R : Fin 8194) (hR : R.val = 2 + r.val) :
    (val_main_v38 (F := Ideal) x0 x1 (ix2 R (both h k)) : EReal)
      = (x1 (ix2 0 (both h k)) : EReal) * after (fun h r c => x0 (ix3 h r c)) h r 2 k := by
  unfold val_main_v38 after
  by_cases hr : r.val + 2 < 8192
  · rw [dif_pos hr]
    refine (pad_apply_of_inside _ _ _ _ _ _ _ _ (ix2 ⟨r.val + 2, hr⟩ (both h k)) ?_).trans ?_
    · intro a
      match a with
      | ⟨0, _⟩ => show R.val = 0 + (r.val + 2) * (0 + 1); omega
      | ⟨1, _⟩ => show (both h k).val = 0 + (both h k).val * (0 + 1); omega
    · exact (val_main_v37_apply x0 x1 _).trans ((mul_comm (G := EReal) _ _).trans
        (congrArg₂ (fun a b : EReal => a * b) (weight_0 x1 _ _) (joined x0 h _ k)))
  · rw [dif_neg hr, mul_zero]
    refine (pad_apply_of_not_inside _ _ _ _ _ _ _ _ ⟨0, by decide⟩ ?_).trans ((val_main_cst_4_apply _).trans Ideal.ofBits_zero_f32)
    rintro ⟨_, _, h3⟩
    have h3 : (R.val - 0) / (0 + 1) < 8192 := h3
    omega

/-- The sum of the three, without the two rows before the first. -/
theorem summed (h : Fin 2) (r : Fin 8192) (k : Fin 2816) :
    (val_main_v41 (F := Ideal) x0 x1 (ix2 r (both h k)) : EReal)
      = grad (fun h r c => x0 (ix3 h r c)) (fun a c => x1 (ix2 a c)) h r k := by
  have e : idx_main_v41 (ix2 r (both h k)) = ix2 ⟨2 + r.val, by omega⟩ (both h k) := idx2_ext _ _ rfl rfl
  refine (val_main_v41_apply x0 x1 _).trans ?_
  rw [e]
  refine (val_main_v39_apply x0 x1 _).trans ?_
  exact congrArg₂ (fun a b : EReal => a + b)
    ((val_main_v35_apply x0 x1 _).trans (congrArg₂ (fun a b : EReal => a + b) (term_2 x0 x1 h r k _ rfl) (term_1 x0 x1 h r k _ rfl)))
    (term_0 x0 x1 h r k _ rfl)

/-- The reference's result. -/
theorem reference (i : S2x8192x2816.Idx) : (val_main_v47 (F := Ideal) x0 x1 i : EReal)
    = grad (fun h r c => x0 (ix3 h r c)) (fun a c => x1 (ix2 a c)) (i 0) (i 1) (i 2) := by
  refine (val_main_v47_apply x0 x1 i).trans ?_
  show (val_main_v46 (F := Ideal) x0 x1 i : EReal) = _
  obtain ⟨h, r, k, rfl⟩ : ∃ (h : Fin 2) (r : Fin 8192) (k : Fin 2816), i = ix3 h r k := ⟨i 0, i 1, i 2, idx3_ext _ _ rfl rfl rfl⟩
  unfold val_main_v46
  match h with
  | ⟨0, _⟩ =>
    refine (concatenate_pair_apply_left (t := S2x8192x2816) (s₁ := S1x8192x2816) (s₂ := S1x8192x2816) 0 _ _ _ _ rfl (ix3 0 r k) ?_).trans ?_
    · intro a
      match a with
      | ⟨0, _⟩ => rfl
      | ⟨1, _⟩ => rfl
      | ⟨2, _⟩ => rfl
    · refine (val_main_v44_apply x0 x1 _).trans ((val_main_v42_apply x0 x1 _).trans ?_)
      rw [show idx_main_v42 (idx_main_v44 (ix3 0 r k)) = ix2 r (both 0 k) from
        idx2_ext _ _ rfl (by show k.val = 0 * 2816 + k.val; omega)]
      exact summed x0 x1 0 r k
  | ⟨1, _⟩ =>
    refine (concatenate_pair_apply_right (t := S2x8192x2816) (s₁ := S1x8192x2816) (s₂ := S1x8192x2816) 0 _ _ _ _ rfl rfl (ix3 0 r k) ?_ ?_).trans ?_
    · intro a ha
      match a with
      | ⟨0, _⟩ => exact absurd rfl ha
      | ⟨1, _⟩ => rfl
      | ⟨2, _⟩ => rfl
    · rfl
    · refine (val_main_v45_apply x0 x1 _).trans ((val_main_v43_apply x0 x1 _).trans ?_)
      rw [show idx_main_v43 (idx_main_v45 (ix3 0 r k)) = ix2 r (both 1 k) from
        idx2_ext _ _ rfl (by show 2816 + k.val = 1 * 2816 + k.val; omega)]
      exact summed x0 x1 1 r k

end Cert.Conv

end
-- ==== Proof.Conv.Claims.lean ====
/-
  THE CLAIMS ABOUT THE CONVOLUTION'S GRADIENT: the reference's frame, and that kernel and reference compute the same array.
  No precondition.
-/
module

public import proofs.«01_k».proof.Defs
public import proofs.«01_k».proof.Proof.Conv.Reference
public import Idealize.ShloMosaic.Adequacy
public import Idealize.ShloMosaic.Init

@[expose] public section

noncomputable section

namespace Cert.Conv

open Idealize.ShloMosaic Idealize.SL.Sem

theorem reference_frame : Cert.quiescent_ConvBwdRefIdeal := fun m g _ =>
  (θ_run Cert.ConvBwdRefIdeal.defs _ _).mono (fun r h => ⟨fun c => (h c).2, sem_eq_zero_of_no_sems (by decide) r.2⟩)
    (Cert.ConvBwdRefIdeal.Value.run m g)

theorem algebraic : Cert.algebraic_ConvBwdIdeal_ConvBwdRefIdeal := fun m g m' g' _ hargs =>
  ⟨Cert.ConvBwdIdeal.Conv.result m, Cert.ConvBwdIdeal.Conv.run m g,
    (θ_run Cert.ConvBwdRefIdeal.defs _ _).mono (fun r h c => by
      obtain ⟨hv, h⟩ := h c
      obtain ⟨e0, e1⟩ := hargs c
      refine ⟨?_, h⟩
      rw [hv, Cert.ConvBwdRefIdeal.Read.val_main_v47_eq, e0, e1]
      exact funext fun i => reference _ _ i) (Cert.ConvBwdRefIdeal.Value.run m' g')⟩

end Cert.Conv

end
-- ==== Proof.Down.Tile.lean ====
/-
  ONE GRID POINT of the last product with the loss behind it, as the kernel computes it on 512 rows, in two halves of 256:
  the product's rows `y` are normalised, added to the residual and compared with the target; the point stores the gradients
  `gradX` of the residual and `gradY` of the product, and adds to the loss and to the gain's gradient.
-/
module

public import proofs.«01_k».proof.Proof.Gen.FfnDownIdeal.Value
public import Idealize.ShloMosaic.Lib.Pipeline.ReadBack
public import Idealize.ShloMosaic.Lib.Pointwise.Tactic
public import Idealize.ShloMosaic.Lib.ValueIdx
public import Idealize.ShloMosaic.Lib.Tactic

@[expose] public section

noncomputable section

namespace Cert.FfnDownIdeal.Down

open Cert.FfnDownIdeal Cert.FfnDownIdeal.Gen Idealize.ShloMosaic Idealize.ShloMosaic.TcCoe Idealize.SL.Sem

variable {F : FTy → Type} [FloatOps F]

/-- The product of a block of rows with the weights. -/
def prod (a : Vec F S512x2816 .bf16) (w : Vec F S2816x1024 .bf16) : FVec F S512x1024 .f32 :=
  matmul dot_S512x2816_S2816x1024_S512x1024_1_0_0_1_n_n none a w (constant S512x1024 .f32 0x00000000#32)

/-- One of the two halves of a block of rows. -/
def half (x : FVec F S512x1024 .f32) (h : Fin 2) : FVec F S256x1024 .f32 :=
  fun i => x (ix2 ⟨256 * h.val + (i 0).val, by have := h.isLt; have : (i 0).val < 256 := (i 0).isLt; omega⟩ (i 1))

/-- Two halves, one above the other. -/
def stack {e : EltTy} (p : Fin 2 → Vec F S256x1024 e) : Vec F S512x1024 e :=
  fun i => p ⟨(i 0).val / 256, by have : (i 0).val < 512 := (i 0).isLt; omega⟩ (ix2 ⟨(i 0).val % 256, Nat.mod_lt _ (by norm_num)⟩ (i 1))

/-- Each row's mean. -/
def mean (x : FVec F S256x1024 .f32) : FVec F S256x1 .f32 :=
  divf (shapeCast S256x1 (multiReduction .add [1] S256 x 0x00000000#32 reduces_S256x1024_S256 (.inl rfl) rfl) shapeCasts_S256_S256x1) (broadcast S256x1 (Scalar.ofBits .f32 0x44800000#32))

/-- The inverse of each row's root mean square. -/
def inv (y : FVec F S256x1024 .f32) : FVec F S256x1 .f32 :=
  rsqrt (addf (mean (mulf y y)) (broadcast S256x1 (Scalar.ofBits .f32 0x358637BD#32)))

/-- The normalised rows. -/
def unit (y : FVec F S256x1024 .f32) : FVec F S256x1024 .f32 :=
  mulf y (broadcastTo S256x1024 (inv y) broadcasts_S256x1_S256x1024)

/-- The difference from the target. -/
def miss (y : FVec F S256x1024 .f32) (x t : Vec F S256x1024 .f32) (g : Vec F S1x1024 .f32) : FVec F S256x1024 .f32 :=
  subf (addf x (mulf (unit y) (broadcastTo S256x1024 g broadcasts_S1x1024_S256x1024))) t

/-- The gradient of the residual. -/
def gradX (y : FVec F S256x1024 .f32) (x t : Vec F S256x1024 .f32) (g : Vec F S1x1024 .f32) : FVec F S256x1024 .f32 :=
  mulf (miss y x t g) (broadcast S256x1024 (Scalar.ofBits .f32 0x3A800000#32))

/-- The gradient of the normalised rows. -/
def gradUnit (y : FVec F S256x1024 .f32) (x t : Vec F S256x1024 .f32) (g : Vec F S1x1024 .f32) : FVec F S256x1024 .f32 :=
  mulf (gradX y x t g) (broadcastTo S256x1024 g broadcasts_S1x1024_S256x1024)

/-- The gradient of the product. -/
def gradY (y : FVec F S256x1024 .f32) (x t : Vec F S256x1024 .f32) (g : Vec F S1x1024 .f32) : FVec F S256x1024 .bf16 :=
  truncf .bf16 (mulf (broadcastTo S256x1024 (inv y) broadcasts_S256x1_S256x1024)
    (subf (gradUnit y x t g) (mulf (unit y) (broadcastTo S256x1024 (mean (mulf (gradUnit y x t g) (unit y))) broadcasts_S256x1_S256x1024)))) bitsLt_bf16_f32

/-- The loss with these rows' share added. -/
def addLoss (y : FVec F S256x1024 .f32) (x t : Vec F S256x1024 .f32) (g acc : Vec F S1x1024 .f32) : FVec F S1x1024 .f32 :=
  addf acc (broadcast S1x1024 (Scalar.mulf (Scalar.ofBits .f32 0x3F000000#32)
    (extractAt ![0, 0, 0] (shapeCast S1x1x1 (multiReduction .add [1, 2] S1 (shapeCast S1x256x1 (mean (mulf (miss y x t g) (miss y x t g))) shapeCasts_S256x1_S1x256x1) 0x00000000#32 reduces_S1x256x1_S1 (.inl rfl) rfl) shapeCasts_S1_S1x1x1) inpos_S1x1x1_p0_0_0)))

/-- The gain's gradient with these rows' share added. -/
def addGain (y : FVec F S256x1024 .f32) (x t : Vec F S256x1024 .f32) (g acc : Vec F S1x1024 .f32) : FVec F S1x1024 .f32 :=
  addf acc (shapeCast S1x1024 (multiReduction .add [0] S1024 (mulf (gradX y x t g) (unit y)) 0x00000000#32 reduces_S256x1024_S1024 (.inl rfl) rfl) shapeCasts_S1024_S1x1024)

/-- What the point stores of the residual's gradient. -/
def stepX (a : Vec F S512x2816 .bf16) (w : Vec F S2816x1024 .bf16) (x t : Vec F S512x1024 .f32) (g : Vec F S1x1024 .f32) : Vec F S512x1024 .f32 :=
  stack fun h => gradX (half (prod a w) h) (half x h) (half t h) g

/-- What the point stores of the product's gradient. -/
def stepY (a : Vec F S512x2816 .bf16) (w : Vec F S2816x1024 .bf16) (x t : Vec F S512x1024 .f32) (g : Vec F S1x1024 .f32) : Vec F S512x1024 .bf16 :=
  stack fun h => gradY (half (prod a w) h) (half x h) (half t h) g

/-- The loss after the point. -/
def stepLoss (a : Vec F S512x2816 .bf16) (w : Vec F S2816x1024 .bf16) (x t : Vec F S512x1024 .f32) (g acc : Vec F S1x1024 .f32) : Vec F S1x1024 .f32 :=
  addLoss (half (prod a w) 1) (half x 1) (half t 1) g (addLoss (half (prod a w) 0) (half x 0) (half t 0) g acc)

/-- The gain's gradient after the point. -/
def stepGain (a : Vec F S512x2816 .bf16) (w : Vec F S2816x1024 .bf16) (x t : Vec F S512x1024 .f32) (g acc : Vec F S1x1024 .f32) : Vec F S1x1024 .f32 :=
  addGain (half (prod a w) 1) (half x 1) (half t 1) g (addGain (half (prod a w) 0) (half x 0) (half t 0) g acc)

/-- The accumulators' start. -/
abbrev zeros : Vec F S1x1024 .f32 := broadcast S1x1024 (Scalar.ofBits .f32 0x00000000#32)

/-- A load of a half's rows reads them. -/
theorem ld_half (x : Vec F S512x1024 .f32) (h : Fin 2) (o : Nat) (ho : o = 256 * h.val)
    (inb : ∀ a, (![o, 0] : Fin 2 → Nat) a + S256x1024.size a ≤ S512x1024.size a) :
    View.ld x (Rect.unit (s := S512x1024) ![o, 0] S256x1024.size inb) = half x h := by
  subst ho
  funext i
  refine congrArg x (funext fun a => Fin.ext ?_)
  fin_cases a
  · show 256 * h.val + 1 * (i 0).val = 256 * h.val + (i 0).val; omega
  · show 0 + 1 * (i 1).val = (i 1).val; omega

/-- Cutting a half's rows out of a value. -/
theorem cut_half (x : FVec F S512x1024 .f32) (h : Fin 2) (o : Nat) (ho : o = 256 * h.val) (hs) :
    extractStridedSlice S256x1024 ![o, 0] x hs = half x h := by
  subst ho
  funext i
  refine congrArg x (funext fun a => Fin.ext ?_)
  fin_cases a
  · show 256 * h.val + (i 0).val = 256 * h.val + (i 0).val; rfl
  · show 0 + (i 1).val = (i 1).val; omega

/-- A store of a half's rows, read at an index of the block. -/
theorem canon_rows {e : EltTy} (h : Fin 2) (o : Nat) (ho : o = 256 * h.val)
    (inb : ∀ a, (![o, 0] : Fin 2 → Nat) a + (![256, 1024] : Fin 2 → Nat) a ≤ S512x1024.size a)
    (w : Vec F S256x1024 e) (L : List (View.Piece (Elt F) S512x1024 e)) (i : S512x1024.Idx) :
    View.canon (⟨Rect.unit (s := S512x1024) ![o, 0] ![256, 1024] inb, w⟩ :: L) i
      = if (i 0).val / 256 = h.val then w (ix2 ⟨(i 0).val % 256, Nat.mod_lt _ (by norm_num)⟩ (i 1)) else View.canon L i := by
  subst ho
  split
  · next hh =>
    have e : (Rect.unit (s := S512x1024) ![256 * h.val, 0] ![256, 1024] inb).emb (ix2 ⟨(i 0).val % 256, Nat.mod_lt _ (by norm_num)⟩ (i 1)) = i := by
      funext a; refine Fin.ext ?_
      fin_cases a
      · show 256 * h.val + 1 * ((i 0).val % 256) = (i 0).val; omega
      · show 0 + 1 * (i 1).val = (i 1).val; omega
    conv_lhs => rw [← e]
    exact View.canon_cons_emb (Rect.unit (s := S512x1024) ![256 * h.val, 0] ![256, 1024] inb) w L _
  · next hh =>
    refine View.canon_cons_of_not_mem _ L fun hm => hh ?_
    rw [Rect.mem_set_unit] at hm
    have := hm 0
    have h1 : 256 * h.val ≤ (i 0).val := this.1
    have h2 : (i 0).val < 256 * h.val + 256 := this.2
    omega

/-- Stores of both halves leave them stacked. -/
theorem canon_stack {e : EltTy} (inb0 inb1) (p0 p1 : Vec F S256x1024 e) (p : Fin 2 → Vec F S256x1024 e) (h0 : p 0 = p0) (h1 : p 1 = p1) (L : List (View.Piece (Elt F) S512x1024 e)) :
    View.canon (⟨Rect.unit (s := S512x1024) ![256, 0] ![256, 1024] inb1, p1⟩
      :: ⟨Rect.unit (s := S512x1024) ![0, 0] ![256, 1024] inb0, p0⟩ :: L) = stack p := by
  subst h0 h1
  funext i
  rw [canon_rows 1 256 rfl, canon_rows 0 0 rfl]
  have hlt : (i 0).val < 512 := (i 0).isLt
  unfold stack
  have key : ∀ h : Fin 2, (i 0).val / 256 = h.val → p h (ix2 ⟨(i 0).val % 256, Nat.mod_lt _ (by norm_num)⟩ (i 1))
      = p ⟨(i 0).val / 256, by omega⟩ (ix2 ⟨(i 0).val % 256, Nat.mod_lt _ (by norm_num)⟩ (i 1)) := fun h e => by
    have : h = ⟨(i 0).val / 256, by omega⟩ := Fin.ext e.symm
    rw [this]
  split
  · next h => exact key 1 h
  split
  · next h => exact key 0 h
  · next h1 h0 =>
    exfalso
    have : (i 0).val / 256 < 2 := by omega
    simp only [Fin.val_zero, Fin.val_one] at h1 h0
    omega

/-- Each row's sum of squares. -/
def squares (y : FVec F S256x1024 .f32) : FVec F S256 .f32 :=
  multiReduction .add [1] S256 (mulf y y) 0x00000000#32 reduces_S256x1024_S256 (.inl rfl) rfl

/-! ## The stored values in these terms -/

theorem pay6_eq (a : Vec F S512x2816 .bf16) (w : Vec F S2816x1024 .bf16) : k0_pay6 a w = half (prod a w) 0 :=
  cut_half _ 0 0 rfl slices_S512x1024_o0_0_S256x1024
theorem pay17_eq (y : FVec F S512x1024 .f32) : k0_pay17 y = half y 1 := cut_half _ 1 256 rfl slices_S512x1024_o256_0_S256x1024
theorem pay7_eq (a : Vec F S512x2816 .bf16) (w : Vec F S2816x1024 .bf16) : k0_pay7 a w = inv (half (prod a w) 0) := by
  unfold k0_pay7; rw [pay6_eq]; rfl
theorem pay8_eq (a : Vec F S512x2816 .bf16) (w : Vec F S2816x1024 .bf16) : k0_pay8 a w = unit (half (prod a w) 0) := by
  unfold k0_pay8; rw [pay6_eq, pay7_eq]; rfl
theorem pay9_eq (a : Vec F S512x2816 .bf16) (w : Vec F S2816x1024 .bf16) (g : Vec F S1x1024 .f32) (x t : Vec F S256x1024 .f32) :
    k0_pay9 a w g x t = miss (half (prod a w) 0) x t g := by
  unfold k0_pay9; rw [pay8_eq]; rfl
theorem pay13_eq (a : Vec F S512x2816 .bf16) (w : Vec F S2816x1024 .bf16) (g acc : Vec F S1x1024 .f32) (x t : Vec F S256x1024 .f32) :
    k0_pay13 (k0_pay10 acc) (k0_pay11 a w g x t) k0_pay12 = addLoss (half (prod a w) 0) x t g acc := by
  unfold k0_pay13 k0_pay10 k0_pay11; rw [pay9_eq, shapeCast_self]; rfl
theorem pay18_eq (y : FVec F S512x1024 .f32) :
    k0_pay18 y = squares (half y 1) := by
  unfold k0_pay18; rw [pay17_eq]; rfl
theorem pay14_eq (y : FVec F S256x1024 .f32) (g : Vec F S1x1024 .f32) (x t : Vec F S256x1024 .f32) :
    k0_pay14 (miss y x t g) = gradX y x t g := rfl
theorem pay15_eq (y : FVec F S256x1024 .f32) (g : Vec F S1x1024 .f32) (x t : Vec F S256x1024 .f32) :
    k0_pay15 g (inv y) (unit y) (miss y x t g) = gradY y x t g := rfl
theorem pay16_eq (y : FVec F S256x1024 .f32) (g acc : Vec F S1x1024 .f32) (x t : Vec F S256x1024 .f32) :
    k0_pay16 (unit y) (miss y x t g) acc = addGain y x t g acc := by
  unfold k0_pay16; rw [shapeCast_self]; rfl
theorem pay22_eq (y : FVec F S256x1024 .f32) (g acc : Vec F S1x1024 .f32) (x t : Vec F S256x1024 .f32) :
    k0_pay22 y g (squares y) x t acc = addLoss y x t g acc := by
  unfold k0_pay22; rw [shapeCast_self]; rfl
theorem pay23_eq (y : FVec F S256x1024 .f32) (g : Vec F S1x1024 .f32) (x t : Vec F S256x1024 .f32) :
    k0_pay23 y g (squares y) x t = gradX y x t g := rfl
theorem pay1_eq (y : FVec F S256x1024 .f32) (g : Vec F S1x1024 .f32) (x t : Vec F S256x1024 .f32)  :
    k0_pay1 (k0_pay19 (squares y)) (k0_pay20 y (squares y)) (k0_pay24 y g (squares y) x t) (k0_pay25 y g (squares y) x t) = gradY y x t g := rfl
theorem pay2_eq (y : FVec F S256x1024 .f32) (g acc : Vec F S1x1024 .f32) (x t : Vec F S256x1024 .f32) :
    k0_pay2 (k0_pay20 y (squares y)) (gradX y x t g) acc = addGain y x t g acc := by
  unfold k0_pay2; rw [shapeCast_self]; rfl
theorem pay5_eq (a : Vec F S512x2816 .bf16) (w : Vec F S2816x1024 .bf16) : k0_pay5 a w = prod a w := rfl

theorem hz : (![0, 0] : Fin 2 → ℕ) = fun _ => 0 := funext fun a => by fin_cases a <;> rfl

variable (m : (ℓ : Loc nD τ sig) → Buf (Elt F) ℓ)

set_option maxHeartbeats 2000000 in
/-- The first point: the residual's gradient. -/
theorem outs_A_X (c : Dev nD) (t : Fin cfg0.N) (h0 : t.val % 16 = 0) :
    (outsAt0 m c t.val t.isLt).1 = stepX (iblk m c 0 t) (iblk m c 1 t) (iblk m c 2 t) (iblk m c 3 t) (iblk m c 4 t) := by
  rw [outsAt0_A m c t h0]
  dsimp only
  unfold out0_A_5
  rw [View.read_writes_eq_canon _ _ _ (cover0_A_5 c _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  simp only [ld_half _ 0 0 rfl, ld_half _ 1 256 rfl, View.ld_unit_zero (S := S512x2816) hz, View.ld_unit_zero (S := S2816x1024) hz, View.ld_unit_zero (S := S1x1024) hz,
    pay5_eq, pay7_eq, pay8_eq, pay9_eq, pay13_eq, pay14_eq, pay15_eq, pay16_eq, pay17_eq, pay18_eq, pay22_eq, pay23_eq, pay1_eq, pay2_eq]
  unfold stepX
  generalize prod (iblk m c 0 t) (iblk m c 1 t) = y
  generalize hp : (fun h => gradX (half y h) (half (iblk m c 2 t) h) (half (iblk m c 3 t) h) (iblk m c 4 t)) = p
  have h0 := congrFun hp 0
  have h1 := congrFun hp 1
  beta_reduce at h0 h1
  rw [h0, h1]
  exact canon_stack (F := F) (e := .f32) inb_S512x1024_S256x1024_0_0 inb_S512x1024_S256x1024_256_0 _ _ p rfl rfl []

set_option maxHeartbeats 2000000 in
/-- The first point: the product's gradient. -/
theorem outs_A_Y (c : Dev nD) (t : Fin cfg0.N) (h0 : t.val % 16 = 0) :
    (outsAt0 m c t.val t.isLt).2.1 = stepY (iblk m c 0 t) (iblk m c 1 t) (iblk m c 2 t) (iblk m c 3 t) (iblk m c 4 t) := by
  rw [outsAt0_A m c t h0]
  dsimp only
  unfold out0_A_6
  rw [View.read_writes_eq_canon _ _ _ (cover0_A_6 c _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  simp only [ld_half _ 0 0 rfl, ld_half _ 1 256 rfl, View.ld_unit_zero (S := S512x2816) hz, View.ld_unit_zero (S := S2816x1024) hz, View.ld_unit_zero (S := S1x1024) hz,
    pay5_eq, pay7_eq, pay8_eq, pay9_eq, pay13_eq, pay14_eq, pay15_eq, pay16_eq, pay17_eq, pay18_eq, pay22_eq, pay23_eq, pay1_eq, pay2_eq]
  unfold stepY
  generalize prod (iblk m c 0 t) (iblk m c 1 t) = y
  generalize hp : (fun h => gradY (half y h) (half (iblk m c 2 t) h) (half (iblk m c 3 t) h) (iblk m c 4 t)) = p
  have h0 := congrFun hp 0
  have h1 := congrFun hp 1
  beta_reduce at h0 h1
  rw [h0, h1]
  exact canon_stack (F := F) (e := .bf16) inb_S512x1024_S256x1024_0_0 inb_S512x1024_S256x1024_256_0 _ _ p rfl rfl []

/-- The first point: the loss. -/
theorem outs_A_Loss (c : Dev nD) (t : Fin cfg0.N) (h0 : t.val % 16 = 0) :
    (outsAt0 m c t.val t.isLt).2.2.1 = stepLoss (iblk m c 0 t) (iblk m c 1 t) (iblk m c 2 t) (iblk m c 3 t) (iblk m c 4 t) zeros := by
  rw [outsAt0_A m c t h0]
  dsimp only
  unfold out0_A_7
  rw [View.read_writes_eq_canon _ _ _ (cover0_A_7 c _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  simp (disch := decide) only [View.readCov_skip, View.readCov_fill]
  rw [View.canon_cons_unit_zero (S := S1x1024) hz]
  simp only [ld_half _ 0 0 rfl, ld_half _ 1 256 rfl, View.ld_unit_zero (S := S512x2816) hz, View.ld_unit_zero (S := S2816x1024) hz, View.ld_unit_zero (S := S1x1024) hz,
    pay5_eq, pay7_eq, pay8_eq, pay9_eq, pay13_eq, pay14_eq, pay15_eq, pay16_eq, pay17_eq, pay18_eq, pay22_eq, pay23_eq, pay1_eq, pay2_eq]
  rfl

/-- The first point: the gain's gradient. -/
theorem outs_A_Gain (c : Dev nD) (t : Fin cfg0.N) (h0 : t.val % 16 = 0) :
    (outsAt0 m c t.val t.isLt).2.2.2 = stepGain (iblk m c 0 t) (iblk m c 1 t) (iblk m c 2 t) (iblk m c 3 t) (iblk m c 4 t) zeros := by
  rw [outsAt0_A m c t h0]
  dsimp only
  unfold out0_A_8
  rw [View.read_writes_eq_canon _ _ _ (cover0_A_8 c _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  simp (disch := decide) only [View.readCov_skip, View.readCov_fill]
  rw [View.canon_cons_unit_zero (S := S1x1024) hz]
  simp only [ld_half _ 0 0 rfl, ld_half _ 1 256 rfl, View.ld_unit_zero (S := S512x2816) hz, View.ld_unit_zero (S := S2816x1024) hz, View.ld_unit_zero (S := S1x1024) hz,
    pay5_eq, pay7_eq, pay8_eq, pay9_eq, pay13_eq, pay14_eq, pay15_eq, pay16_eq, pay17_eq, pay18_eq, pay22_eq, pay23_eq, pay1_eq, pay2_eq]
  rfl

set_option maxHeartbeats 2000000 in
/-- A later point: the residual's gradient. -/
theorem outs_B_X (c : Dev nD) (t : Fin cfg0.N) (h0 : ¬t.val % 16 = 0) :
    (outsAt0 m c t.val t.isLt).1 = stepX (iblk m c 0 t) (iblk m c 1 t) (iblk m c 2 t) (iblk m c 3 t) (iblk m c 4 t) := by
  rw [outsAt0_B m c t h0]
  dsimp only
  unfold out0_B_5
  rw [View.read_writes_eq_canon _ _ _ (cover0_B_5 c _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_7 t).read_unread, (hs0_8 t).read_unread]
  simp only [ld_half _ 0 0 rfl, ld_half _ 1 256 rfl, View.ld_unit_zero (S := S512x2816) hz, View.ld_unit_zero (S := S2816x1024) hz, View.ld_unit_zero (S := S1x1024) hz,
    pay5_eq, pay7_eq, pay8_eq, pay9_eq, pay13_eq, pay14_eq, pay15_eq, pay16_eq, pay17_eq, pay18_eq, pay22_eq, pay23_eq, pay1_eq, pay2_eq]
  unfold stepX
  generalize prod (iblk m c 0 t) (iblk m c 1 t) = y
  generalize hp : (fun h => gradX (half y h) (half (iblk m c 2 t) h) (half (iblk m c 3 t) h) (iblk m c 4 t)) = p
  have h0 := congrFun hp 0
  have h1 := congrFun hp 1
  beta_reduce at h0 h1
  rw [h0, h1]
  exact canon_stack (F := F) (e := .f32) inb_S512x1024_S256x1024_0_0 inb_S512x1024_S256x1024_256_0 _ _ p rfl rfl []

set_option maxHeartbeats 2000000 in
/-- A later point: the product's gradient. -/
theorem outs_B_Y (c : Dev nD) (t : Fin cfg0.N) (h0 : ¬t.val % 16 = 0) :
    (outsAt0 m c t.val t.isLt).2.1 = stepY (iblk m c 0 t) (iblk m c 1 t) (iblk m c 2 t) (iblk m c 3 t) (iblk m c 4 t) := by
  rw [outsAt0_B m c t h0]
  dsimp only
  unfold out0_B_6
  rw [View.read_writes_eq_canon _ _ _ (cover0_B_6 c _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_7 t).read_unread, (hs0_8 t).read_unread]
  simp only [ld_half _ 0 0 rfl, ld_half _ 1 256 rfl, View.ld_unit_zero (S := S512x2816) hz, View.ld_unit_zero (S := S2816x1024) hz, View.ld_unit_zero (S := S1x1024) hz,
    pay5_eq, pay7_eq, pay8_eq, pay9_eq, pay13_eq, pay14_eq, pay15_eq, pay16_eq, pay17_eq, pay18_eq, pay22_eq, pay23_eq, pay1_eq, pay2_eq]
  unfold stepY
  generalize prod (iblk m c 0 t) (iblk m c 1 t) = y
  generalize hp : (fun h => gradY (half y h) (half (iblk m c 2 t) h) (half (iblk m c 3 t) h) (iblk m c 4 t)) = p
  have h0 := congrFun hp 0
  have h1 := congrFun hp 1
  beta_reduce at h0 h1
  rw [h0, h1]
  exact canon_stack (F := F) (e := .bf16) inb_S512x1024_S256x1024_0_0 inb_S512x1024_S256x1024_256_0 _ _ p rfl rfl []

/-- A later point: the loss. -/
theorem outs_B_Loss (c : Dev nD) (t : Fin cfg0.N) (h0 : ¬t.val % 16 = 0) :
    (outsAt0 m c t.val t.isLt).2.2.1 = stepLoss (iblk m c 0 t) (iblk m c 1 t) (iblk m c 2 t) (iblk m c 3 t) (iblk m c 4 t) (outsAt0 m c (t.val - 1) (Nat.lt_of_le_of_lt (Nat.sub_le _ _) t.isLt)).2.2.1 := by
  rw [outsAt0_B m c t h0]
  dsimp only
  unfold out0_B_7
  rw [View.read_writes_eq_canon _ _ _ (cover0_B_7 c _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_7 t).read_unread, (hs0_8 t).read_unread]
  simp (disch := decide) only [View.readCov_skip, View.readCov_fill]
  rw [View.canon_cons_unit_zero (S := S1x1024) hz]
  simp only [ld_half _ 0 0 rfl, ld_half _ 1 256 rfl, View.ld_unit_zero (S := S512x2816) hz, View.ld_unit_zero (S := S2816x1024) hz, View.ld_unit_zero (S := S1x1024) hz,
    pay5_eq, pay7_eq, pay8_eq, pay9_eq, pay13_eq, pay14_eq, pay15_eq, pay16_eq, pay17_eq, pay18_eq, pay22_eq, pay23_eq, pay1_eq, pay2_eq]
  rfl

/-- A later point: the gain's gradient. -/
theorem outs_B_Gain (c : Dev nD) (t : Fin cfg0.N) (h0 : ¬t.val % 16 = 0) :
    (outsAt0 m c t.val t.isLt).2.2.2 = stepGain (iblk m c 0 t) (iblk m c 1 t) (iblk m c 2 t) (iblk m c 3 t) (iblk m c 4 t) (outsAt0 m c (t.val - 1) (Nat.lt_of_le_of_lt (Nat.sub_le _ _) t.isLt)).2.2.2 := by
  rw [outsAt0_B m c t h0]
  dsimp only
  unfold out0_B_8
  rw [View.read_writes_eq_canon _ _ _ (cover0_B_8 c _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_7 t).read_unread, (hs0_8 t).read_unread]
  simp (disch := decide) only [View.readCov_skip, View.readCov_fill]
  rw [View.canon_cons_unit_zero (S := S1x1024) hz]
  simp only [ld_half _ 0 0 rfl, ld_half _ 1 256 rfl, View.ld_unit_zero (S := S512x2816) hz, View.ld_unit_zero (S := S2816x1024) hz, View.ld_unit_zero (S := S1x1024) hz,
    pay5_eq, pay7_eq, pay8_eq, pay9_eq, pay13_eq, pay14_eq, pay15_eq, pay16_eq, pay17_eq, pay18_eq, pay22_eq, pay23_eq, pay1_eq, pay2_eq]
  rfl

end Cert.FfnDownIdeal.Down

end
-- ==== Proof.Down.Row.lean ====
/-
  ONE ROW of the loss and its gradients over the extended reals: the inverse root mean square `rinv` of a row of the product,
  the normalised row `un`, the difference `ms` from the target, the gradients `gx` of the residual and `gy` of the product.
  `gy` is what the chain rule gives through the inverse root (`backVjp_eq`).
-/
module

public import proofs.«01_k».proof.Proof.MemAttn.Row

@[expose] public section

noncomputable section

namespace Cert.Down

open Idealize.ShloMosaic Cert.MemAttn

/-- The number of a row's entries. -/
def len : EReal := Ideal.ofBits .f32 0x44800000#32
/-- Its inverse. -/
def tiny : EReal := Ideal.ofBits .f32 0x3A800000#32
/-- What is added under the root. -/
def eps : EReal := Ideal.ofBits .f32 0x358637BD#32
/-- One half. -/
def hf : EReal := Ideal.ofBits .f32 0x3F000000#32
/-- One half, negated. -/
def mhf : EReal := Ideal.ofBits .f32 0xBF000000#32
/-- One. -/
def one : EReal := Ideal.ofBits .f32 0x3F800000#32

theorem len_coe : len = ((1024 : ℝ) : EReal) := by
  simp [len, Ideal.ofBits, Ideal.ieee, -EReal.coe_mul]; norm_num
theorem tiny_coe : tiny = ((1 / 1024 : ℝ) : EReal) := by
  simp [tiny, Ideal.ofBits, Ideal.ieee, -EReal.coe_mul]; norm_num
theorem eps_coe : ∃ e : ℝ, 0 < e ∧ eps = (e : EReal) := by
  refine ⟨_, ?_, by simp [eps, Ideal.ofBits, Ideal.ieee, -EReal.coe_mul]; rfl⟩
  positivity
theorem hf_coe : hf = ((1 / 2 : ℝ) : EReal) := by
  simp [hf, Ideal.ofBits, Ideal.ieee, -EReal.coe_mul]; norm_num
theorem mhf_coe : mhf = ((-1 / 2 : ℝ) : EReal) := by
  simp [mhf, Ideal.ofBits, Ideal.ieee, -EReal.coe_mul, -EReal.coe_neg]; norm_num
theorem one_coe : one = ((1 : ℝ) : EReal) := by
  simp [one, Ideal.ofBits, Ideal.ieee, -EReal.coe_mul]; norm_num

/-- The mean of the squares, and what is added to it. -/
def msq (y : Fin 1024 → EReal) : EReal := Ideal.div (∑ j, y j * y j) len + eps
/-- The inverse root mean square. -/
def rinv (y : Fin 1024 → EReal) : EReal := Ideal.rsqrt (msq y)
/-- The normalised row. -/
def un (y : Fin 1024 → EReal) (j : Fin 1024) : EReal := y j * rinv y
/-- The difference from the target. -/
def ms (y x t g : Fin 1024 → EReal) (j : Fin 1024) : EReal := x j + un y j * g j - t j
/-- The row's share of the loss, before halving. -/
def share (y x t g : Fin 1024 → EReal) : EReal := Ideal.div (∑ j, ms y x t g j * ms y x t g j) len
/-- The gradient of the residual. -/
def gx (y x t g : Fin 1024 → EReal) (j : Fin 1024) : EReal := ms y x t g j * tiny
/-- The gradient of the normalised row. -/
def gu (y x t g : Fin 1024 → EReal) (j : Fin 1024) : EReal := gx y x t g j * g j
/-- The gradient of a row from that of the normalised one: the part along the row taken off. -/
def back (y u : Fin 1024 → EReal) (j : Fin 1024) : EReal :=
  rinv y * (u j - un y j * Ideal.div (∑ i, u i * un y i) len)
/-- The gradient of the product. -/
def gy (y x t g : Fin 1024 → EReal) : Fin 1024 → EReal := back y (gu y x t g)

/-- The gradient through the inverse root, one factor of the square. -/
def slope (y u : Fin 1024 → EReal) : EReal :=
  Ideal.div ((∑ i, y i * u i) * (mhf * Ideal.div (rinv y) (msq y))) len
/-- The gradient of a row by the chain rule. -/
def backVjp (y u : Fin 1024 → EReal) (j : Fin 1024) : EReal :=
  u j * rinv y + y j * slope y u + slope y u * y j

/-- A product with the weight `1/2 · 1 / 1024`, twice, is the product with `1/1024`. -/
theorem twice (d : EReal) : d * Ideal.div (hf * one) len + Ideal.div (hf * one) len * d = d * tiny := by
  rw [hf_coe, one_coe, len_coe, tiny_coe, div_coe _ _ (by norm_num), ← EReal.coe_mul, ← EReal.coe_mul, mul_comm _ d]
  rw [← EReal.left_distrib_of_nonneg (by exact_mod_cast (by norm_num : (0:ℝ) ≤ 1 / 2 * 1 * (1024)⁻¹)) (by exact_mod_cast (by norm_num : (0:ℝ) ≤ 1 / 2 * 1 * (1024)⁻¹)), ← EReal.coe_add]
  norm_num

section Real
variable (y : Fin 1024 → EReal) (r : Fin 1024 → ℝ) (hy : ∀ j, y j = (r j : EReal))
include hy

/-- Of a real row the mean square and the inverse root are real, and the root's square inverts the mean. -/
theorem msq_coe : ∃ q R : ℝ, 0 < q ∧ 0 ≤ R ∧ msq y = (q : EReal) ∧ rinv y = (R : EReal) ∧ R * R * q = 1 := by
  obtain ⟨e, he, hE⟩ := eps_coe
  have hq : msq y = ((((∑ j, r j * r j) * (1024 : ℝ)⁻¹ + e : ℝ)) : EReal) := by
    unfold msq
    rw [hE, len_coe, div_coe _ _ (by norm_num)]
    simp only [hy, ← EReal.coe_mul]
    rw [coe_sum, ← EReal.coe_mul, ← EReal.coe_add]
  have hpos : 0 < (∑ j, r j * r j) * (1024 : ℝ)⁻¹ + e := by
    have : 0 ≤ ∑ j, r j * r j := Finset.sum_nonneg fun j _ => mul_self_nonneg _
    positivity
  refine ⟨_, (Real.sqrt ((∑ j, r j * r j) * (1024 : ℝ)⁻¹ + e))⁻¹, hpos, inv_nonneg.2 (Real.sqrt_nonneg _), hq, ?_, ?_⟩
  · unfold rinv
    rw [hq, Ideal.rsqrt_coe, if_neg (not_lt.2 hpos.le), if_neg hpos.ne']
  · have := Real.mul_self_sqrt hpos.le
    have h0 := (Real.sqrt_pos.2 hpos).ne'
    generalize Real.sqrt ((∑ j, r j * r j) * (1024 : ℝ)⁻¹ + e) = s at this h0 ⊢
    rw [← this]
    field_simp

/-- The two forms of the gradient of a real row. -/
theorem backVjp_real (u : Fin 1024 → EReal) (j : Fin 1024) : backVjp y u j = back y u j := by
  obtain ⟨q, R, hq, hR0, e1, e2, hR⟩ := msq_coe y r hy
  unfold backVjp back slope un
  rw [e1, e2, mhf_coe, len_coe, div_coe _ q hq.ne', div_coe _ 1024 (by norm_num), div_coe _ 1024 (by norm_num), ← EReal.coe_mul, ← EReal.coe_mul]
  have hS : ∑ i, u i * (y i * (R : EReal)) = (R : EReal) * ∑ i, y i * u i := by
    rw [coe_mul_sum _ _ hR0]
    exact Finset.sum_congr rfl fun i _ => by ac_rfl
  rw [hS]
  generalize (∑ i, y i * u i) = S
  have h1 (d : ℝ) : y j * (S * ((-d : ℝ) : EReal)) = -(y j * S) * (d : EReal) := by
    rw [EReal.coe_neg, mul_neg, mul_neg, neg_mul, mul_assoc]
  have e4 : R * q⁻¹ = R * R * R := by
    field_simp; linear_combination - R * hR
  have eL : S * ((-1 / 2 * (R * q⁻¹) : ℝ) : EReal) * ((1024⁻¹ : ℝ) : EReal) = S * ((-(R * R * R / 2048) : ℝ) : EReal) := by
    rw [mul_assoc, ← EReal.coe_mul, e4]
    exact congrArg (fun x : ℝ => S * (x : EReal)) (by ring)
  have eR : y j * (R : EReal) * ((R : EReal) * S * ((1024⁻¹ : ℝ) : EReal)) = y j * S * ((R * R / 1024 : ℝ) : EReal) := by
    have : ((R * R / 1024 : ℝ) : EReal) = (R : EReal) * (R : EReal) * ((1024⁻¹ : ℝ) : EReal) := by
      rw [← EReal.coe_mul, ← EReal.coe_mul, div_eq_mul_inv]
    rw [this]
    ac_rfl
  have hd : (0 : EReal) ≤ ((R * R * R / 2048 : ℝ) : EReal) := EReal.coe_nonneg.mpr (by positivity)
  rw [eL, eR, mul_comm (S * _) (y j), h1, sub_eq_add_neg, add_assoc, ← EReal.left_distrib_of_nonneg hd hd, ← EReal.coe_add,
    EReal.left_distrib_of_nonneg_of_ne_top (EReal.coe_nonneg.mpr hR0) (EReal.coe_ne_top _), mul_comm (u j), ← neg_mul (y j * S) _, mul_left_comm,
    ← EReal.coe_mul]
  exact congrArg (fun x : ℝ => (R : EReal) * u j + -(y j * S) * (x : EReal)) (by ring)
end Real

/-- The two forms of the gradient of a row: where an entry is infinite, the inverse root is zero and so are both. -/
theorem backVjp_eq (y u : Fin 1024 → EReal) (j : Fin 1024) : backVjp y u j = back y u j := by
  by_cases h : ∀ j, ∃ r : ℝ, y j = (r : EReal)
  · choose r hr using h
    exact backVjp_real y r hr u j
  · obtain ⟨i, hi⟩ := not_forall.1 h
    have hii : y i * y i = ⊤ := by
      generalize y i = x at hi
      induction x with
      | bot => rfl
      | top => rfl
      | coe r => exact absurd ⟨r, rfl⟩ hi
    have hs : ∑ j, y j * y j = ⊤ := top_le_iff.1 (hii ▸ Finset.single_le_sum (f := fun j => y j * y j) (fun j _ => by
      generalize y j = x
      induction x with
      | bot => exact le_top
      | top => exact le_top
      | coe r => rw [← EReal.coe_mul]; exact EReal.coe_nonneg.mpr (mul_self_nonneg r)) (Finset.mem_univ i))
    obtain ⟨e, he, hE⟩ := eps_coe
    have hq : msq y = ⊤ := by
      unfold msq
      rw [hs, len_coe, hE, div_coe _ _ (by norm_num), EReal.top_mul_coe_of_pos (by norm_num), EReal.top_add_coe]
    have hr : rinv y = 0 := by unfold rinv; rw [hq]; rfl
    unfold backVjp back slope
    rw [hr, hq]
    simp [Ideal.div, len_coe]

end Cert.Down

end
-- ==== Proof.Down.Block.lean ====
/-
  A HALF OF A GRID POINT over the extended reals: at each index the step's values are the row functions of `Row`, applied to
  the rows of the product, the residual and the target.
-/
module

public import proofs.«01_k».proof.Proof.Down.Tile
public import proofs.«01_k».proof.Proof.Down.Row
public import Idealize.ShloMosaic.PureOps.Ideal.Laws
public import Idealize.ShloMosaic.Lib.Pointwise

@[expose] public section

noncomputable section

namespace Cert.FfnDownIdeal.Down

open Cert.FfnDownIdeal Cert.FfnDownIdeal.Gen Cert.Down Idealize.ShloMosaic Idealize.ShloMosaic.TcCoe

/-- Row `r` of a half. -/
abbrev row (x : FVec Ideal S256x1024 .f32) (r : Fin 256) : Fin 1024 → EReal := fun j => x (ix2 r j)
/-- The gain as a row. -/
abbrev gain (g : FVec Ideal S1x1024 .f32) : Fin 1024 → EReal := fun j => g (ix2 0 j)

theorem prod_apply (a : FVec Ideal S512x2816 .bf16) (w : FVec Ideal S2816x1024 .bf16) (r : Fin 512) (j : Fin 1024) :
    prod (F := Ideal) a w (ix2 r j) = (∑ k : Fin 2816, a (ix2 r k) * w (ix2 k j) : EReal) := by
  unfold prod
  simp only [pointwise, Ideal.matmul_def, zero_add]

variable (y x t : FVec Ideal S256x1024 .f32) (g acc : FVec Ideal S1x1024 .f32)

theorem mean_apply (r : Fin 256) (k : Fin 1) : mean (F := Ideal) x (ix2 r k) = Ideal.div (∑ j, row x r j) len := by
  unfold mean len row
  pointwise

theorem inv_apply (r : Fin 256) (k : Fin 1) : inv (F := Ideal) y (ix2 r k) = rinv (row y r) := by
  show Ideal.rsqrt (mean (F := Ideal) (mulf y y) (ix2 r k) + eps) = _
  rw [mean_apply]
  rfl

/-- One number per row, spread over the row. -/
theorem spread_apply (v : FVec Ideal S256x1 .f32) (r : Fin 256) (j : Fin 1024) :
    broadcastTo S256x1024 v broadcasts_S256x1_S256x1024 (ix2 r j) = v (ix2 r 0) := by
  refine congrArg v (funext fun a => Fin.ext ?_)
  fin_cases a <;> rfl

theorem unit_apply (r : Fin 256) (j : Fin 1024) : unit (F := Ideal) y (ix2 r j) = un (row y r) j := by
  show y (ix2 r j) * broadcastTo S256x1024 (inv (F := Ideal) y) _ (ix2 r j) = _
  rw [spread_apply, inv_apply]
  rfl

theorem miss_apply (r : Fin 256) (j : Fin 1024) :
    miss (F := Ideal) y x t g (ix2 r j) = ms (row y r) (row x r) (row t r) (gain g) j := by
  unfold miss
  simp only [pointwise]
  rw [unit_apply]
  rfl

theorem gradX_apply (r : Fin 256) (j : Fin 1024) :
    gradX (F := Ideal) y x t g (ix2 r j) = gx (row y r) (row x r) (row t r) (gain g) j := by
  show miss (F := Ideal) y x t g (ix2 r j) * tiny = _
  rw [miss_apply]
  rfl

theorem gradUnit_apply (r : Fin 256) (j : Fin 1024) :
    gradUnit (F := Ideal) y x t g (ix2 r j) = gu (row y r) (row x r) (row t r) (gain g) j := by
  unfold gradUnit
  simp only [pointwise]
  rw [gradX_apply]
  rfl

theorem gradY_apply (r : Fin 256) (j : Fin 1024) :
    (gradY (F := Ideal) y x t g (ix2 r j) : EReal) = gy (row y r) (row x r) (row t r) (gain g) j := by
  show broadcastTo S256x1024 (inv (F := Ideal) y) _ (ix2 r j) * (gradUnit (F := Ideal) y x t g (ix2 r j)
    - unit (F := Ideal) y (ix2 r j) * broadcastTo S256x1024 (mean (F := Ideal) (mulf (gradUnit y x t g) (unit y))) _ (ix2 r j)) = _
  rw [spread_apply, spread_apply, inv_apply, mean_apply, gradUnit_apply, unit_apply]
  unfold gy back
  refine congrArg (fun s => _ * (_ - _ * Ideal.div s len)) (Finset.sum_congr rfl fun i _ => ?_)
  show gradUnit (F := Ideal) y x t g (ix2 r i) * unit (F := Ideal) y (ix2 r i) = _
  rw [gradUnit_apply, unit_apply]

theorem addLoss_apply (k : Fin 1) (j : Fin 1024) :
    addLoss (F := Ideal) y x t g acc (ix2 k j) = acc (ix2 k j) + hf * ∑ r : Fin 256, share (row y r) (row x r) (row t r) (gain g) := by
  unfold addLoss
  simp only [pointwise]
  refine congrArg (fun s => acc (ix2 k j) + hf * s) (Finset.sum_congr rfl fun r _ => ?_)
  rw [Finset.univ_unique, Finset.sum_singleton, mean_apply]
  refine congrArg (fun s => Ideal.div s len) (Finset.sum_congr rfl fun i _ => ?_)
  show miss (F := Ideal) y x t g (ix2 r i) * miss (F := Ideal) y x t g (ix2 r i) = _
  rw [miss_apply]

theorem addGain_apply (k : Fin 1) (j : Fin 1024) :
    addGain (F := Ideal) y x t g acc (ix2 k j)
      = acc (ix2 k j) + ∑ r : Fin 256, gx (row y r) (row x r) (row t r) (gain g) j * un (row y r) j := by
  unfold addGain
  simp only [pointwise]
  refine congrArg (acc (ix2 k j) + ·) (Finset.sum_congr rfl fun r _ => ?_)
  show gradX (F := Ideal) y x t g (ix2 r j) * unit (F := Ideal) y (ix2 r j) = _
  rw [gradX_apply, unit_apply]

end Cert.FfnDownIdeal.Down

end
-- ==== Proof.Down.Args.lean ====
/-
  THE LOSS AND ITS GRADIENTS OF THE WHOLE ARRAYS: 8192 rows, each with `Row`'s functions, and sums over the rows taken in 16
  blocks of two halves.
-/
module

public import proofs.«01_k».proof.Proof.Down.Row
public import Idealize.ShloMosaic.Lib.Pointwise
public import Idealize.ShloMosaic.Lib.Pointwise.Sums

@[expose] public section

noncomputable section

namespace Cert.Down

open Idealize.ShloMosaic

/-- The arguments' entries: activations, weights, residual, target, gain. -/
structure Args where
  /-- The activations. -/
  a : Fin 8192 → Fin 2816 → EReal
  /-- The weights. -/
  w : Fin 2816 → Fin 1024 → EReal
  /-- The residual. -/
  x : Fin 8192 → Fin 1024 → EReal
  /-- The target. -/
  t : Fin 8192 → Fin 1024 → EReal
  /-- The gain. -/
  g : Fin 1024 → EReal

/-- A row of the product. -/
def Args.y (A : Args) (r : Fin 8192) (j : Fin 1024) : EReal := ∑ k : Fin 2816, A.a r k * A.w k j
/-- The gradient of the residual. -/
def Args.dx (A : Args) (r : Fin 8192) (j : Fin 1024) : EReal := gx (A.y r) (A.x r) (A.t r) A.g j
/-- The gradient of the product. -/
def Args.dy (A : Args) (r : Fin 8192) (j : Fin 1024) : EReal := gy (A.y r) (A.x r) (A.t r) A.g j
/-- A row's share of the loss. -/
def Args.part (A : Args) (r : Fin 8192) : EReal := share (A.y r) (A.x r) (A.t r) A.g
/-- The loss. -/
def Args.loss (A : Args) : EReal := hf * ∑ r : Fin 8192, A.part r
/-- The gradient of the gain. -/
def Args.dg (A : Args) (j : Fin 1024) : EReal := ∑ r : Fin 8192, A.dx r j * un (A.y r) j

/-- Row `r` of half `h` of block `t`. -/
def at_ (t : Fin 16) (h : Fin 2) (r : Fin 256) : Fin 8192 := ⟨t.val * 512 + (256 * h.val + r.val), by omega⟩

/-- A sum over all rows, block by block and half by half. -/
theorem sum_at (f : Fin 8192 → EReal) : ∑ t : Fin 16, (∑ r : Fin 256, f (at_ t 0 r) + ∑ r : Fin 256, f (at_ t 1 r)) = ∑ r : Fin 8192, f r := by
  rw [Fin.sum_univ_tiles 16 512 rfl]
  refine Finset.sum_congr rfl fun t _ => ?_
  rw [Fin.sum_univ_tiles 2 256 rfl, Fin.sum_univ_two]
  refine congrArg₂ (fun a b : EReal => a + b) (Finset.sum_congr rfl fun r _ => congrArg f (Fin.ext ?_)) (Finset.sum_congr rfl fun r _ => congrArg f (Fin.ext ?_))
  · show t.val * 512 + (256 * 0 + r.val) = t.val * 512 + (0 * 256 + r.val); omega
  · show t.val * 512 + (256 * 1 + r.val) = t.val * 512 + (1 * 256 + r.val); omega

/-- What block `t` adds to an accumulated sum; nothing from the sixteenth on. -/
def both (f : Fin 8192 → EReal) (t : ℕ) : EReal :=
  if h : t < 16 then ∑ r : Fin 256, f (at_ ⟨t, h⟩ 0 r) + ∑ r : Fin 256, f (at_ ⟨t, h⟩ 1 r) else 0

theorem sum_both (f : Fin 8192 → EReal) : ∑ t ∈ Finset.range 16, both f t = ∑ r : Fin 8192, f r := by
  rw [Finset.sum_range, ← sum_at]
  refine Finset.sum_congr rfl fun t _ => ?_
  unfold both
  rw [dif_pos t.isLt]

end Cert.Down

end
-- ==== Proof.Down.Array.lean ====
/-
  THE LAST PRODUCT WITH THE LOSS as the kernel computes it: 16 grid points of 512 rows. The gradients of the residual and of the
  product are written block by block; the loss and the gain's gradient are accumulated over all the points.
-/
module

public import proofs.«01_k».proof.Proof.Down.Block
public import proofs.«01_k».proof.Proof.Down.Args

@[expose] public section

noncomputable section

namespace Cert.FfnDownIdeal.Down

open Cert.FfnDownIdeal Cert.FfnDownIdeal.Gen Cert.Down Idealize.ShloMosaic Idealize.ShloMosaic.TcCoe Idealize.SL.Sem

variable (m : (ℓ : Loc nD τ sig) → Buf (Elt Ideal) ℓ) (ρ : Dev nD → PrngReg)

/-- The arguments' entries. -/
def args (c : Dev nD) : Args where
  a r k := m ((c : Thread nD τ).loc main_arg0) (ix2 r k)
  w k j := m ((c : Thread nD τ).loc main_arg1) (ix2 k j)
  x r j := m ((c : Thread nD τ).loc main_arg2) (ix2 r j)
  t r j := m ((c : Thread nD τ).loc main_arg3) (ix2 r j)
  g j := m ((c : Thread nD τ).loc main_arg4) (ix2 0 j)

/-- The gradient of the residual as an array. -/
def resultX (c : Dev nD) : Buf (Elt Ideal) ((c : Thread nD τ).loc main_v0_0) := fun i => (args m c).dx (i 0) (i 1)
/-- The gradient of the product as an array. -/
def resultY (c : Dev nD) : Buf (Elt Ideal) ((c : Thread nD τ).loc main_v0_1) := fun i => (args m c).dy (i 0) (i 1)
/-- The loss, along a row. -/
def resultLoss (c : Dev nD) : Buf (Elt Ideal) ((c : Thread nD τ).loc main_v0_2) := fun _ => (args m c).loss
/-- The gradient of the gain as an array. -/
def resultGain (c : Dev nD) : Buf (Elt Ideal) ((c : Thread nD τ).loc main_v0_3) := fun i => (args m c).dg (i 1)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

theorem iblk_0 (c : Dev nD) (t : Fin cfg0.N) (r : Fin 512) (k : Fin 2816) (R : Fin 8192) (hR : R.val = t.val * 512 + r.val) :
    (iblk m c 0 t : Vec Ideal S512x2816 .bf16) (ix2 r k) = (args m c).a R k := by
  have hi := idx0 t
  unfold iblk
  rw [View.read_apply]
  show V m c main_arg0 _ = m (c.tc.loc main_arg0) _
  unfold V
  congr 1
  funext b
  apply Fin.ext
  match b with
  | ⟨0, _⟩ => show win0_0.index t 0 * 512 + 1 * r.val = R.val; rw [hi.1]; omega
  | ⟨1, _⟩ => show win0_0.index t 1 * 2816 + 1 * k.val = k.val; rw [hi.2]; omega

theorem iblk_1 (c : Dev nD) (t : Fin cfg0.N) (k : Fin 2816) (j : Fin 1024) :
    (iblk m c 1 t : Vec Ideal S2816x1024 .bf16) (ix2 k j) = (args m c).w k j := by
  have hi := idx1 t
  unfold iblk
  rw [View.read_apply]
  show V m c main_arg1 _ = m (c.tc.loc main_arg1) _
  unfold V
  congr 1
  funext b
  apply Fin.ext
  match b with
  | ⟨0, _⟩ => show win0_1.index t 0 * 2816 + 1 * k.val = k.val; rw [hi.1]; omega
  | ⟨1, _⟩ => show win0_1.index t 1 * 1024 + 1 * j.val = j.val; rw [hi.2]; omega

theorem iblk_2 (c : Dev nD) (t : Fin cfg0.N) (r : Fin 512) (j : Fin 1024) (R : Fin 8192) (hR : R.val = t.val * 512 + r.val) :
    (iblk m c 2 t : Vec Ideal S512x1024 .f32) (ix2 r j) = (args m c).x R j := by
  have hi := idx2 t
  unfold iblk
  rw [View.read_apply]
  show V m c main_arg2 _ = m (c.tc.loc main_arg2) _
  unfold V
  congr 1
  funext b
  apply Fin.ext
  match b with
  | ⟨0, _⟩ => show win0_2.index t 0 * 512 + 1 * r.val = R.val; rw [hi.1]; omega
  | ⟨1, _⟩ => show win0_2.index t 1 * 1024 + 1 * j.val = j.val; rw [hi.2]; omega

theorem iblk_3 (c : Dev nD) (t : Fin cfg0.N) (r : Fin 512) (j : Fin 1024) (R : Fin 8192) (hR : R.val = t.val * 512 + r.val) :
    (iblk m c 3 t : Vec Ideal S512x1024 .f32) (ix2 r j) = (args m c).t R j := by
  have hi := idx3 t
  unfold iblk
  rw [View.read_apply]
  show V m c main_arg3 _ = m (c.tc.loc main_arg3) _
  unfold V
  congr 1
  funext b
  apply Fin.ext
  match b with
  | ⟨0, _⟩ => show win0_3.index t 0 * 512 + 1 * r.val = R.val; rw [hi.1]; omega
  | ⟨1, _⟩ => show win0_3.index t 1 * 1024 + 1 * j.val = j.val; rw [hi.2]; omega

theorem iblk_4 (c : Dev nD) (t : Fin cfg0.N) : gain (iblk m c 4 t : FVec Ideal S1x1024 .f32) = (args m c).g := by
  funext j
  have hi := idx4 t
  show (iblk m c 4 t : Vec Ideal S1x1024 .f32) (ix2 0 j) = _
  unfold iblk
  rw [View.read_apply]
  show V m c main_arg4 _ = m (c.tc.loc main_arg4) _
  unfold V
  congr 1
  funext b
  apply Fin.ext
  match b with
  | ⟨0, _⟩ => show win0_4.index t 0 * 1 + 1 * 0 = 0; rw [hi.1]
  | ⟨1, _⟩ => show win0_4.index t 1 * 1024 + 1 * j.val = j.val; rw [hi.2]; omega

/-- The grid point as a number below 16. -/
def pt (t : Fin cfg0.N) : Fin 16 := ⟨t.val, lt_of_lt_of_eq t.isLt N_0⟩

/-- The rows of a half of the point's blocks are the arrays'. -/
theorem row_y (c : Dev nD) (t : Fin cfg0.N) (h : Fin 2) (r : Fin 256) :
    row (half (F := Ideal) (prod (F := Ideal) (iblk m c 0 t) (iblk m c 1 t)) h) r = (args m c).y (at_ (pt t) h r) := by
  funext j
  refine (prod_apply _ _ _ _).trans ?_
  exact Finset.sum_congr rfl fun k _ => congrArg₂ (fun a b : EReal => a * b) (iblk_0 m c t _ k _ rfl) (iblk_1 m c t k j)

theorem row_x (c : Dev nD) (t : Fin cfg0.N) (h : Fin 2) (r : Fin 256) :
    row (half (F := Ideal) (iblk m c 2 t) h) r = (args m c).x (at_ (pt t) h r) := funext fun j => iblk_2 m c t _ j _ rfl

theorem row_t (c : Dev nD) (t : Fin cfg0.N) (h : Fin 2) (r : Fin 256) :
    row (half (F := Ideal) (iblk m c 3 t) h) r = (args m c).t (at_ (pt t) h r) := funext fun j => iblk_3 m c t _ j _ rfl

/-! ## The gradients written block by block -/

/-- The half and the row in it of a row of the block. -/
theorem at_split (t : Fin cfg0.N) (r : Fin 512) (R : Fin 8192) (hR : R.val = t.val * 512 + r.val) :
    at_ (pt t) ⟨r.val / 256, by omega⟩ ⟨r.val % 256, Nat.mod_lt _ (by norm_num)⟩ = R :=
  Fin.ext (by show t.val * 512 + (256 * (r.val / 256) + r.val % 256) = R.val; omega)

theorem stepX_eq (c : Dev nD) (t : Fin cfg0.N) (r : Fin 512) (j : Fin 1024) (R : Fin 8192) (hR : R.val = t.val * 512 + r.val) :
    (stepX (F := Ideal) (iblk m c 0 t) (iblk m c 1 t) (iblk m c 2 t) (iblk m c 3 t) (iblk m c 4 t) (ix2 r j) : EReal) = (args m c).dx R j := by
  refine (gradX_apply _ _ _ _ _ _).trans ?_
  rw [row_y, row_x, row_t, iblk_4]
  exact congrArg (fun q => gx ((args m c).y q) ((args m c).x q) ((args m c).t q) (args m c).g j) (at_split t r R hR)

theorem stepY_eq (c : Dev nD) (t : Fin cfg0.N) (r : Fin 512) (j : Fin 1024) (R : Fin 8192) (hR : R.val = t.val * 512 + r.val) :
    (stepY (F := Ideal) (iblk m c 0 t) (iblk m c 1 t) (iblk m c 2 t) (iblk m c 3 t) (iblk m c 4 t) (ix2 r j) : EReal) = (args m c).dy R j := by
  refine (gradY_apply _ _ _ _ _ _).trans ?_
  rw [row_y, row_x, row_t, iblk_4]
  exact congrArg (fun q => gy ((args m c).y q) ((args m c).x q) ((args m c).t q) (args m c).g j) (at_split t r R hR)

/-- At every point the same blocks. -/
theorem outs_X (c : Dev nD) (t : Fin cfg0.N) :
    (outsAt0 m c t.val t.isLt).1 = stepX (F := Ideal) (iblk m c 0 t) (iblk m c 1 t) (iblk m c 2 t) (iblk m c 3 t) (iblk m c 4 t) := by
  by_cases h0 : t.val % 16 = 0
  · exact outs_A_X m c t h0
  · exact outs_B_X m c t h0

theorem outs_Y (c : Dev nD) (t : Fin cfg0.N) :
    (outsAt0 m c t.val t.isLt).2.1 = stepY (F := Ideal) (iblk m c 0 t) (iblk m c 1 t) (iblk m c 2 t) (iblk m c 3 t) (iblk m c 4 t) := by
  by_cases h0 : t.val % 16 = 0
  · exact outs_A_Y m c t h0
  · exact outs_B_Y m c t h0

theorem flushed_X (c : Dev nD) (t : Fin cfg0.N) (_ : (cfg0.win 5).flush t = true) :
    (dats m 0 c).flushed 5 t = ((cfg0.win 5).blk t).view.read (Elt Ideal) (resultX m c) := by
  have hi := idx5 t
  rw [Value.flushed5, outs_X]
  funext y
  rw [View.read_apply]
  have e0 : (((cfg0.win 5).blk t).view.emb y 0).val = t.val * 512 + (y 0).val := by
    show win0_5.index t 0 * 512 + 1 * (y 0).val = _; rw [hi.1]; omega
  have e1 : ((cfg0.win 5).blk t).view.emb y 1 = y 1 := Fin.ext (by show win0_5.index t 1 * 1024 + 1 * (y 1).val = (y 1).val; rw [hi.2]; omega)
  refine (congrArg (stepX (F := Ideal) _ _ _ _ _) (ix2_eta (n0 := 512) (n1 := 1024) y).symm).trans ?_
  refine (stepX_eq m c t (y 0) (y 1) _ e0).trans ?_
  exact congrArg (fun j => (args m c).dx _ j) e1.symm

theorem flushed_Y (c : Dev nD) (t : Fin cfg0.N) (_ : (cfg0.win 6).flush t = true) :
    (dats m 0 c).flushed 6 t = ((cfg0.win 6).blk t).view.read (Elt Ideal) (resultY m c) := by
  have hi := idx6 t
  rw [Value.flushed6, outs_Y]
  funext y
  rw [View.read_apply]
  have e0 : (((cfg0.win 6).blk t).view.emb y 0).val = t.val * 512 + (y 0).val := by
    show win0_6.index t 0 * 512 + 1 * (y 0).val = _; rw [hi.1]; omega
  have e1 : ((cfg0.win 6).blk t).view.emb y 1 = y 1 := Fin.ext (by show win0_6.index t 1 * 1024 + 1 * (y 1).val = (y 1).val; rw [hi.2]; omega)
  refine (congrArg (stepY (F := Ideal) _ _ _ _ _) (ix2_eta (n0 := 512) (n1 := 1024) y).symm).trans ?_
  refine (stepY_eq m c t (y 0) (y 1) _ e0).trans ?_
  exact congrArg (fun j => (args m c).dy _ j) e1.symm

theorem final_X (c : Dev nD) : (dats m 0 c).arrAt 5 cfg0.N = resultX m c :=
  (dats m 0 c).arrAt_eq_of_cover 5 (resultX m c) (flushed_X m c) fun i => by
    have h0 : (i 0 : Nat) < 8192 := (i 0).isLt
    have h1 : (i 1 : Nat) < 1024 := (i 1).isLt
    have hN : grid0.N = 16 := N_0
    let t : Fin cfg0.N := ⟨(i 0 : Nat) / 512, by show _ < grid0.N; omega⟩
    have ht : t.val = (i 0 : Nat) / 512 := rfl
    have hi := idx5 t
    refine ⟨t, flush0_5 t, ?_⟩
    show i ∈ ((View.whole main_v0_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [hi.1]; omega
    | ⟨1, _⟩ => show win0_5.index t 1 * 1024 ≤ (i 1 : Nat) ∧ (i 1 : Nat) < win0_5.index t 1 * 1024 + 1024
                rw [hi.2]; omega

theorem final_Y (c : Dev nD) : (dats m 0 c).arrAt 6 cfg0.N = resultY m c :=
  (dats m 0 c).arrAt_eq_of_cover 6 (resultY m c) (flushed_Y m c) fun i => by
    have h0 : (i 0 : Nat) < 8192 := (i 0).isLt
    have h1 : (i 1 : Nat) < 1024 := (i 1).isLt
    have hN : grid0.N = 16 := N_0
    let t : Fin cfg0.N := ⟨(i 0 : Nat) / 512, by show _ < grid0.N; omega⟩
    have ht : t.val = (i 0 : Nat) / 512 := rfl
    have hi := idx6 t
    refine ⟨t, flush0_6 t, ?_⟩
    show i ∈ ((View.whole main_v0_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512
                rw [hi.1]; omega
    | ⟨1, _⟩ => show win0_6.index t 1 * 1024 ≤ (i 1 : Nat) ∧ (i 1 : Nat) < win0_6.index t 1 * 1024 + 1024
                rw [hi.2]; omega

/-! ## The accumulated loss and gain's gradient -/

theorem zeros_apply (i : S1x1024.Idx) : zeros (F := Ideal) i = (0 : EReal) := Ideal.ofBits_zero_f32

/-- A point's two halves. -/
theorem both_pt (f : Fin 8192 → EReal) (t : Fin cfg0.N) :
    both f t.val = ∑ r : Fin 256, f (at_ (pt t) 0 r) + ∑ r : Fin 256, f (at_ (pt t) 1 r) := dif_pos (pt t).isLt

/-- What a point adds to the loss. -/
theorem stepLoss_eq (c : Dev nD) (t : Fin cfg0.N) (acc : FVec Ideal S1x1024 .f32) (k : Fin 1) (j : Fin 1024) :
    (stepLoss (F := Ideal) (iblk m c 0 t) (iblk m c 1 t) (iblk m c 2 t) (iblk m c 3 t) (iblk m c 4 t) acc (ix2 k j) : EReal)
      = acc (ix2 k j) + hf * both (args m c).part t.val := by
  refine (addLoss_apply _ _ _ _ _ _ _).trans ?_
  rw [addLoss_apply]
  simp only [row_y, row_x, row_t, iblk_4]
  rw [both_pt, hf_coe, EReal.left_distrib_of_nonneg_of_ne_top (EReal.coe_nonneg.mpr (by norm_num)) (EReal.coe_ne_top _), ← add_assoc]
  rfl

/-- What a point adds to the gain's gradient. -/
theorem stepGain_eq (c : Dev nD) (t : Fin cfg0.N) (acc : FVec Ideal S1x1024 .f32) (k : Fin 1) (j : Fin 1024) :
    (stepGain (F := Ideal) (iblk m c 0 t) (iblk m c 1 t) (iblk m c 2 t) (iblk m c 3 t) (iblk m c 4 t) acc (ix2 k j) : EReal)
      = acc (ix2 k j) + both (fun r => (args m c).dx r j * un ((args m c).y r) j) t.val := by
  refine (addGain_apply _ _ _ _ _ _ _).trans ?_
  rw [addGain_apply]
  simp only [row_y, row_x, row_t, iblk_4]
  rw [both_pt, ← add_assoc]
  rfl

/-- After point `n` the accumulators hold the sums of what the points up to `n` add. -/
theorem outs_acc (c : Dev nD) (k : Fin 1) (j : Fin 1024) : ∀ (n : ℕ) (hn : n < cfg0.N),
    ((outsAt0 m c n hn).2.2.1 (ix2 k j) : EReal) = ∑ t ∈ Finset.range (n + 1), hf * both (args m c).part t
    ∧ ((outsAt0 m c n hn).2.2.2 (ix2 k j) : EReal)
      = ∑ t ∈ Finset.range (n + 1), both (fun r => (args m c).dx r j * un ((args m c).y r) j) t
  | 0, hn => by
    have hA : (⟨0, hn⟩ : Fin cfg0.N).val % 16 = 0 := rfl
    rw [show (outsAt0 m c 0 hn).2.2.1 = _ from outs_A_Loss m c ⟨0, hn⟩ hA, show (outsAt0 m c 0 hn).2.2.2 = _ from outs_A_Gain m c ⟨0, hn⟩ hA,
      stepLoss_eq, stepGain_eq, zeros_apply, zero_add, zero_add]
    simp only [zero_add, Finset.range_one, Finset.sum_singleton]
    exact ⟨trivial, trivial⟩
  | n + 1, hn => by
    have hN : cfg0.N = 16 := N_0
    have hB : ¬(⟨n + 1, hn⟩ : Fin cfg0.N).val % 16 = 0 := by dsimp only; omega
    obtain ⟨ihL, ihG⟩ := outs_acc c k j n (Nat.lt_of_succ_lt hn)
    rw [show (outsAt0 m c (n + 1) hn).2.2.1 = _ from outs_B_Loss m c ⟨n + 1, hn⟩ hB,
      show (outsAt0 m c (n + 1) hn).2.2.2 = _ from outs_B_Gain m c ⟨n + 1, hn⟩ hB, stepLoss_eq, stepGain_eq,
      Finset.sum_range_succ _ (n + 1), Finset.sum_range_succ _ (n + 1), ← ihL, ← ihG]
    exact ⟨rfl, rfl⟩

theorem last_Loss (c : Dev nD) (hn : 15 < cfg0.N) : (outsAt0 m c 15 hn).2.2.1 = resultLoss m c := by
  funext i
  refine ((congrArg _ (ix2_eta i).symm).trans (outs_acc m c (i 0) (i 1) 15 hn).1).trans ?_
  show _ = (args m c).loss
  unfold Args.loss
  rw [← sum_both, hf_coe, Finset.sum_range, Finset.sum_range, Cert.MemAttn.coe_mul_sum _ _ (by norm_num)]

theorem last_Gain (c : Dev nD) (hn : 15 < cfg0.N) : (outsAt0 m c 15 hn).2.2.2 = resultGain m c := by
  funext i
  exact ((congrArg _ (ix2_eta i).symm).trans (outs_acc m c (i 0) (i 1) 15 hn).2).trans (sum_both _)

theorem flushed_Loss (c : Dev nD) (t : Fin cfg0.N) (hf : (cfg0.win 7).flush t = true) :
    (dats m 0 c).flushed 7 t = ((cfg0.win 7).blk t).view.read (Elt Ideal) (resultLoss m c) := by
  have hN : cfg0.N = 16 := N_0
  have h15 : t.val = 15 := by have := (flush0_7 t).mp hf; have := t.isLt; omega
  obtain rfl : t = t0_15 := Fin.ext h15
  rw [Value.flushed7]
  rw [show (outsAt0 m c t0_15.val t0_15.isLt).2.2.1 = _ from last_Loss m c _]
  have hz : (fun a => win0_7.index t0_15 a * main_v0_2.ty.shape.size a) = fun _ => 0 := funext fun a => by fin_cases a <;> decide
  exact (Memref.read_access_unit_zero (Elt Ideal) main_v0_2 hz (fun a => by rw [congrFun hz a]; simp) (resultLoss m c)).symm

theorem flushed_Gain (c : Dev nD) (t : Fin cfg0.N) (hf : (cfg0.win 8).flush t = true) :
    (dats m 0 c).flushed 8 t = ((cfg0.win 8).blk t).view.read (Elt Ideal) (resultGain m c) := by
  have hN : cfg0.N = 16 := N_0
  have h15 : t.val = 15 := by have := (flush0_8 t).mp hf; have := t.isLt; omega
  obtain rfl : t = t0_15 := Fin.ext h15
  rw [Value.flushed8]
  rw [show (outsAt0 m c t0_15.val t0_15.isLt).2.2.2 = _ from last_Gain m c _]
  have hz : (fun a => win0_8.index t0_15 a * main_v0_3.ty.shape.size a) = fun _ => 0 := funext fun a => by fin_cases a <;> decide
  exact (Memref.read_access_unit_zero (Elt Ideal) main_v0_3 hz (fun a => by rw [congrFun hz a]; simp) (resultGain m c)).symm

theorem final_Loss (c : Dev nD) : (dats m 0 c).arrAt 7 cfg0.N = resultLoss m c :=
  (dats m 0 c).arrAt_eq_of_cover 7 (resultLoss m c) (flushed_Loss m c) fun i =>
    ⟨t0_15, (flush0_7 t0_15).mpr rfl, by
      show i ∈ ((View.whole main_v0_2).slice (win0_7.rect t0_15)).set
      rw [View.set_slice_whole, Rect.mem_set_unit]
      intro a
      have h0 : (i 0 : Nat) < 1 := (i 0).isLt
      have h1 : (i 1 : Nat) < 1024 := (i 1).isLt
      match a with
      | ⟨0, _⟩ => show 0 ≤ (i 0 : Nat) ∧ (i 0 : Nat) < 0 + 1; omega
      | ⟨1, _⟩ => show 0 ≤ (i 1 : Nat) ∧ (i 1 : Nat) < 0 + 1024; omega⟩

theorem final_Gain (c : Dev nD) : (dats m 0 c).arrAt 8 cfg0.N = resultGain m c :=
  (dats m 0 c).arrAt_eq_of_cover 8 (resultGain m c) (flushed_Gain m c) fun i =>
    ⟨t0_15, (flush0_8 t0_15).mpr rfl, by
      show i ∈ ((View.whole main_v0_3).slice (win0_8.rect t0_15)).set
      rw [View.set_slice_whole, Rect.mem_set_unit]
      intro a
      have h0 : (i 0 : Nat) < 1 := (i 0).isLt
      have h1 : (i 1 : Nat) < 1024 := (i 1).isLt
      match a with
      | ⟨0, _⟩ => show 0 ≤ (i 0 : Nat) ∧ (i 0 : Nat) < 0 + 1; omega
      | ⟨1, _⟩ => show 0 ≤ (i 1 : Nat) ∧ (i 1 : Nat) < 0 + 1024; omega⟩

/-- The kernel's run: its four results are the two gradients, the loss and the gain's gradient; its arguments are as launched. -/
theorem run : θ_run defs (onTc (τ := τ) (main (F := Ideal))) ⟨m, fun _ => 0, ρ⟩ fun r => ∀ c : Dev nD,
      r.2.mem ((c : Thread nD τ).loc main_v0_0) = resultX m c
      ∧ r.2.mem ((c : Thread nD τ).loc main_v0_1) = resultY m c
      ∧ r.2.mem ((c : Thread nD τ).loc main_v0_2) = resultLoss m c
      ∧ r.2.mem ((c : Thread nD τ).loc main_v0_3) = resultGain m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h5, h6, h7, h8, h⟩ := h c
    exact ⟨h5.trans (final_X m c), h6.trans (final_Y m c), h7.trans (final_Loss m c), h8.trans (final_Gain m c), h⟩) (Value.run_blocks m ρ)

end Cert.FfnDownIdeal.Down

end
-- ==== Proof.Down.Reference.lean ====
/-
  WHAT THE REFERENCE COMPUTES, read at an index over the extended reals: the loss and the derivatives of the residual, the
  product and the gain. The product's derivative comes by the chain rule (`backVjp`), which equals the kernel's form.
-/
module

public import proofs.«01_k».proof.Proof.Gen.FfnDownRefIdeal.Read
public import proofs.«01_k».proof.Proof.Down.Args

@[expose] public section

noncomputable section

namespace Cert.FfnDownRefIdeal.Down

open Cert.FfnDownRefIdeal Cert.FfnDownRefIdeal.Read Cert.Down Idealize.ShloMosaic

variable (x0 : (⟨S8192x2816, .bf16⟩ : BufTy).Contents (Elt Ideal)) (x1 : (⟨S2816x1024, .bf16⟩ : BufTy).Contents (Elt Ideal))
  (x2 x3 : (⟨S8192x1024, .f32⟩ : BufTy).Contents (Elt Ideal)) (x4 : (⟨S1x1024, .f32⟩ : BufTy).Contents (Elt Ideal))

/-- The arguments' entries. -/
def args : Args where
  a r k := x0 (ix2 r k)
  w k j := x1 (ix2 k j)
  x r j := x2 (ix2 r j)
  t r j := x3 (ix2 r j)
  g j := x4 (ix2 0 j)

theorem v2_at (i : S8192x1024.Idx) : val_main_v2 (F := Ideal) x0 x1 i = (args x0 x1 x2 x3 x4).y (i 0) (i 1) := by
  rw [val_main_v2_apply]
  exact Finset.sum_congr rfl fun k _ => congrArg₂ (fun a b : EReal => a * b)
    (congrArg x0 (ix2_eta (n0 := 8192) (n1 := 2816) (lidx_main_v2 i k)).symm) (congrArg x1 (ix2_eta (n0 := 2816) (n1 := 1024) (ridx_main_v2 i k)).symm)

theorem v10_at (i : S8192x1.Idx) : val_main_v10 (F := Ideal) x0 x1 i = msq ((args x0 x1 x2 x3 x4).y (i 0)) := by
  rw [val_main_v10_apply, val_main_v8_apply, val_main_v6_apply, val_main_v5_apply]
  simp only [val_main_v4_apply, v2_at x0 x1 x2 x3 x4]
  show Ideal.div (Ideal.ofBits .f32 0x00000000#32 + _) len + eps = _
  rw [Ideal.ofBits_zero_f32, zero_add]
  rfl

theorem v11_at (i : S8192x1.Idx) : val_main_v11 (F := Ideal) x0 x1 i = rinv ((args x0 x1 x2 x3 x4).y (i 0)) := by
  rw [val_main_v11_apply, v10_at x0 x1 x2 x3 x4]
  rfl

theorem v14_at (i : S8192x1.Idx) : val_main_v14 (F := Ideal) x0 x1 i = mhf * Ideal.div (rinv ((args x0 x1 x2 x3 x4).y (i 0))) (msq ((args x0 x1 x2 x3 x4).y (i 0))) := by
  rw [val_main_v14_apply, val_main_v12_apply, v11_at x0 x1 x2 x3 x4, v10_at x0 x1 x2 x3 x4]
  rfl

theorem v16_at (i : S8192x1024.Idx) : val_main_v16 (F := Ideal) x0 x1 i = un ((args x0 x1 x2 x3 x4).y (i 0)) (i 1) := by
  rw [val_main_v16_apply, val_main_v15_apply, v11_at x0 x1 x2 x3 x4, v2_at x0 x1 x2 x3 x4]
  rfl

theorem v17_at (i : S1x1024.Idx) : val_main_v17 (F := Ideal) x4 i = (args x0 x1 x2 x3 x4).g (i 1) := by
  rw [val_main_v17_apply, val_main_v3_apply]
  refine congrArg x4 (funext fun a => Fin.ext ?_)
  have h1 : (i 1).val < 1024 := (i 1).isLt
  match a with
  | ⟨0, _⟩ => rfl
  | ⟨1, _⟩ => show (i 1).val % 1024 = (i 1).val; omega

theorem v21_at (i : S8192x1024.Idx) :
    val_main_v21 (F := Ideal) x0 x1 x2 x3 x4 i = ms ((args x0 x1 x2 x3 x4).y (i 0)) ((args x0 x1 x2 x3 x4).x (i 0)) ((args x0 x1 x2 x3 x4).t (i 0)) (args x0 x1 x2 x3 x4).g (i 1) := by
  rw [val_main_v21_apply, val_main_v20_apply, val_main_v19_apply, v16_at x0 x1 x2 x3 x4, val_main_v18_apply, v17_at x0 x1 x2 x3 x4]
  exact congrArg₂ (fun a b : EReal => a + _ - b) (congrArg x2 (ix2_eta (n0 := 8192) (n1 := 1024) i).symm) (congrArg x3 (ix2_eta (n0 := 8192) (n1 := 1024) i).symm)

theorem v32_at (i : S8192x1024.Idx) : (val_main_v32 (F := Ideal) i : EReal) = Ideal.div (hf * one) len := by
  rw [val_main_v32_apply, val_main_v31_apply, val_main_v29_apply, val_main_v30_apply, val_main_v28_apply]
  rfl

/-- The derivative of the residual. -/
theorem v35_at (i : S8192x1024.Idx) : val_main_v35 (F := Ideal) x0 x1 x2 x3 x4 i = (args x0 x1 x2 x3 x4).dx (i 0) (i 1) := by
  rw [val_main_v35_apply, val_main_v33_apply, val_main_v34_apply, v32_at, v21_at]
  exact twice _

/-- The loss. -/
theorem v57_at (i : S1x1024.Idx) : val_main_v57 (F := Ideal) x0 x1 x2 x3 x4 i = (args x0 x1 x2 x3 x4).loss := by
  rw [val_main_v57_apply, val_main_v27_apply, val_main_v26_apply]
  simp only [val_main_v25_apply, val_main_v23_apply, val_main_v22_apply, v21_at]
  show hf * (Ideal.ofBits .f32 0x00000000#32 + ∑ j : S8192.Idx, Ideal.div (Ideal.ofBits .f32 0x00000000#32 + _) len) = _
  simp only [Ideal.ofBits_zero_f32, zero_add]
  refine congrArg (hf * ·) ((sum_idx1 _).trans ?_)
  rfl

/-- The derivative of the gain. -/
theorem v58_at (i : S1x1024.Idx) : val_main_v58 (F := Ideal) x0 x1 x2 x3 x4 i = (args x0 x1 x2 x3 x4).dg (i 1) := by
  rw [val_main_v58_apply, val_main_v41_apply]
  simp only [Fin.sum_univ_one, val_main_v38_apply, val_main_v37_apply, val_main_v36_apply, v35_at, v16_at x0 x1 x2 x3 x4]
  show Ideal.ofBits .f32 0x00000000#32 + (Ideal.ofBits .f32 0x00000000#32 + _) = _
  rw [Ideal.ofBits_zero_f32, zero_add, zero_add]
  have hj : idx_main_v38 (idx_main_v41 (idx_main_v58 i) 0) 0 = i 1 := Fin.ext (by
    have h0 : (i 0).val < 1 := (i 0).isLt
    show 0 * 1024 + ((i 0).val * 1024 + (i 1).val) = (i 1).val; omega)
  refine Finset.sum_congr rfl fun r _ => ?_
  show un ((args x0 x1 x2 x3 x4).y r) (idx_main_v38 (idx_main_v41 (idx_main_v58 i) 0) 0)
    * (args x0 x1 x2 x3 x4).dx r (idx_main_v38 (idx_main_v41 (idx_main_v58 i) 0) 0) = _
  rw [hj]
  exact mul_comm (G := EReal) _ _

theorem v40_at (i : S8192x1024.Idx) :
    val_main_v40 (F := Ideal) x0 x1 x2 x3 x4 i = gu ((args x0 x1 x2 x3 x4).y (i 0)) ((args x0 x1 x2 x3 x4).x (i 0)) ((args x0 x1 x2 x3 x4).t (i 0)) (args x0 x1 x2 x3 x4).g (i 1) := by
  rw [val_main_v40_apply, v35_at, val_main_v39_apply, v17_at x0 x1 x2 x3 x4]
  rfl

theorem v49_at (i : S8192x1.Idx) :
    val_main_v49 (F := Ideal) x0 x1 x2 x3 x4 i = slope ((args x0 x1 x2 x3 x4).y (i 0)) (gu ((args x0 x1 x2 x3 x4).y (i 0)) ((args x0 x1 x2 x3 x4).x (i 0)) ((args x0 x1 x2 x3 x4).t (i 0)) (args x0 x1 x2 x3 x4).g) := by
  rw [val_main_v49_apply, val_main_v47_apply, val_main_v44_apply, val_main_v43_apply, v14_at x0 x1 x2 x3 x4]
  simp only [val_main_v42_apply, v40_at, v2_at x0 x1 x2 x3 x4]
  show Ideal.div ((Ideal.ofBits .f32 0x00000000#32 + _) * _) len = _
  rw [Ideal.ofBits_zero_f32, zero_add]
  have hj : idx_main_v44 i 0 = i 0 := Fin.ext (by
    have h1 : (i 1).val < 1 := (i 1).isLt
    show (i 0).val * 1 + (i 1).val = (i 0).val; omega)
  show Ideal.div ((∑ k, (args x0 x1 x2 x3 x4).y (idx_main_v44 i 0) k
    * gu ((args x0 x1 x2 x3 x4).y (idx_main_v44 i 0)) ((args x0 x1 x2 x3 x4).x (idx_main_v44 i 0)) ((args x0 x1 x2 x3 x4).t (idx_main_v44 i 0))
      (args x0 x1 x2 x3 x4).g k) * _) len = _
  rw [hj]
  rfl

theorem v51_at (i : S8192x1024.Idx) :
    val_main_v51 (F := Ideal) x0 x1 x2 x3 x4 i = slope ((args x0 x1 x2 x3 x4).y (i 0)) (gu ((args x0 x1 x2 x3 x4).y (i 0)) ((args x0 x1 x2 x3 x4).x (i 0)) ((args x0 x1 x2 x3 x4).t (i 0)) (args x0 x1 x2 x3 x4).g) := by
  rw [val_main_v51_apply, val_main_v50_apply]
  simp only [Fin.sum_univ_one, v49_at]
  show Ideal.ofBits .f32 0x00000000#32 + _ = _
  rw [Ideal.ofBits_zero_f32, zero_add]
  rfl

/-- The derivative of the product. -/
theorem v56_at (i : S8192x1024.Idx) : (val_main_v56 (F := Ideal) x0 x1 x2 x3 x4 i : EReal) = (args x0 x1 x2 x3 x4).dy (i 0) (i 1) := by
  rw [val_main_v56_apply, val_main_v55_apply, val_main_v54_apply, val_main_v53_apply, val_main_v52_apply, val_main_v46_apply, val_main_v45_apply,
    v51_at, v40_at, v2_at x0 x1 x2 x3 x4, v11_at x0 x1 x2 x3 x4]
  exact backVjp_eq _ _ _

end Cert.FfnDownRefIdeal.Down

end
-- ==== Proof.Down.Claims.lean ====
/-
  THE CLAIMS ABOUT THE LAST PRODUCT WITH THE LOSS: kernel and reference end with the same gradients and the same loss.
-/
module

public import proofs.«01_k».proof.Defs
public import proofs.«01_k».proof.Proof.Gen.FfnDownRefIdeal.Run
public import proofs.«01_k».proof.Proof.Down.Array
public import proofs.«01_k».proof.Proof.Down.Reference
public import Idealize.ShloMosaic.Adequacy
public import Idealize.ShloMosaic.Init

@[expose] public section

noncomputable section

namespace Cert.Down

open Idealize.ShloMosaic Idealize.SL.Sem

/-- The reference leaves its arguments unchanged, and there is no semaphore in it. -/
theorem reference_frame : Cert.quiescent_FfnDownRefIdeal := fun m g _ =>
  (θ_run Cert.FfnDownRefIdeal.defs _ _).mono (fun r h => ⟨fun c => (h c).2.2.2.2, sem_eq_zero_of_no_sems (by decide) r.2⟩)
    (Cert.FfnDownRefIdeal.Value.run m g)

/-- Kernel and reference end with the same gradients of the residual, the product and the gain, and the same loss. -/
theorem algebraic : Cert.algebraic_FfnDownIdeal_FfnDownRefIdeal := fun m g m' g' _ hargs =>
  ⟨Cert.FfnDownIdeal.Down.resultX m, Cert.FfnDownIdeal.Down.resultY m, Cert.FfnDownIdeal.Down.resultLoss m, Cert.FfnDownIdeal.Down.resultGain m,
    Cert.FfnDownIdeal.Down.run m g,
    (θ_run Cert.FfnDownRefIdeal.defs _ _).mono (fun r h c => by
      obtain ⟨hx, hy, hl, hg, h⟩ := h c
      obtain ⟨e0, e1, e2, e3, e4⟩ := hargs c
      refine ⟨?_, ?_, ?_, ?_, h⟩
      · rw [hx, e0, e1, e2, e3, e4]
        exact (Cert.FfnDownRefIdeal.Read.val_main_v35_eq _ _ _ _ _).trans (funext fun i => Cert.FfnDownRefIdeal.Down.v35_at _ _ _ _ _ i)
      · rw [hy, Cert.FfnDownRefIdeal.Read.val_main_v56_eq, e0, e1, e2, e3, e4]
        exact funext fun i => Cert.FfnDownRefIdeal.Down.v56_at _ _ _ _ _ i
      · rw [hl, e0, e1, e2, e3, e4]
        exact (Cert.FfnDownRefIdeal.Read.val_main_v57_eq _ _ _ _ _).trans (funext fun i => Cert.FfnDownRefIdeal.Down.v57_at _ _ _ _ _ i)
      · rw [hg, Cert.FfnDownRefIdeal.Read.val_main_v58_eq, e0, e1, e2, e3, e4]
        exact funext fun i => Cert.FfnDownRefIdeal.Down.v58_at _ _ _ _ _ i)
      (Cert.FfnDownRefIdeal.Value.run m' g')⟩

end Cert.Down

end
-- ==== Proof.lean ====
module

public import proofs.«01_k».proof.Defs
public import proofs.«01_k».proof.Proof.Gen.KernelIdeal.Value
public import proofs.«01_k».proof.Proof.Gen.ReferenceIdeal.Read
public import proofs.«01_k».proof.Proof.Gen.Pre_finite_scores
public import proofs.«01_k».proof.Proof.MemAttn.Claims
public import proofs.«01_k».proof.Proof.Gen.SwaBwd.Frame
public import proofs.«01_k».proof.Proof.Gen.SwaBwdIdeal.Frame
public import proofs.«01_k».proof.Proof.Gen.SwaBwdIdeal.Value
public import proofs.«01_k».proof.Proof.Gen.SwaBwdRefIdeal.Read
public import proofs.«01_k».proof.Proof.Gen.Pre_finite_window
public import proofs.«01_k».proof.Proof.Swa.Claims
public import proofs.«01_k».proof.Proof.Products.Claims
public import proofs.«01_k».proof.Proof.Conv.Claims
public import proofs.«01_k».proof.Proof.Down.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Read
public import proofs.«01_k».proof.Proof.Gen.WideDw.Frame
public import proofs.«01_k».proof.Proof.Gen.WideDwIdeal.Frame
public import proofs.«01_k».proof.Proof.Gen.WideDwIdeal.Value
public import proofs.«01_k».proof.Proof.Gen.WideDwRefIdeal.Read
public import proofs.«01_k».proof.Proof.Gen.SquareDw.Frame
public import proofs.«01_k».proof.Proof.Gen.SquareDwIdeal.Frame
public import proofs.«01_k».proof.Proof.Gen.SquareDwIdeal.Value
public import proofs.«01_k».proof.Proof.Gen.SquareDwRefIdeal.Read
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal.Read
public import proofs.«01_k».proof.Proof.Gen.SquareDx.Frame
public import proofs.«01_k».proof.Proof.Gen.SquareDxIdeal.Frame
public import proofs.«01_k».proof.Proof.Gen.SquareDxIdeal.Value
public import proofs.«01_k».proof.Proof.Gen.SquareDxRefIdeal.Read
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal.Read
public import proofs.«01_k».proof.Proof.Gen.CaQ.Frame
public import proofs.«01_k».proof.Proof.Gen.CaQIdeal.Frame
public import proofs.«01_k».proof.Proof.Gen.CaQIdeal.Value
public import proofs.«01_k».proof.Proof.Gen.CaQRefIdeal.Read
public import proofs.«01_k».proof.Proof.Gen.ConvBwd.Frame
public import proofs.«01_k».proof.Proof.Gen.ConvBwdIdeal.Frame
public import proofs.«01_k».proof.Proof.Gen.ConvBwdIdeal.Value
public import proofs.«01_k».proof.Proof.Gen.ConvBwdRefIdeal.Read
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.UpDw.Gen.facts, Cert.UpDwIdeal.Gen.facts, Cert.UpDwRefIdeal.Gen.facts,
  Cert.WideDw.Gen.facts, Cert.WideDwIdeal.Gen.facts, Cert.WideDwRefIdeal.Gen.facts,
  Cert.SquareDw.Gen.facts, Cert.SquareDwIdeal.Gen.facts, Cert.SquareDwRefIdeal.Gen.facts,
  Cert.DownDx.Gen.facts, Cert.DownDxIdeal.Gen.facts, Cert.DownDxRefIdeal.Gen.facts,
  Cert.SquareDx.Gen.facts, Cert.SquareDxIdeal.Gen.facts, Cert.SquareDxRefIdeal.Gen.facts,
  Cert.FfnUp.Gen.facts, Cert.FfnUpIdeal.Gen.facts, Cert.FfnUpRefIdeal.Gen.facts,
  Cert.CaQ.Gen.facts, Cert.CaQIdeal.Gen.facts, Cert.CaQRefIdeal.Gen.facts,
  Cert.ConvBwd.Gen.facts, Cert.ConvBwdIdeal.Gen.facts, Cert.ConvBwdRefIdeal.Gen.facts,
  Cert.SwaBwd.Gen.facts, Cert.SwaBwdIdeal.Gen.facts, Cert.SwaBwdRefIdeal.Gen.facts,
  Cert.FfnDown.Gen.facts, Cert.FfnDownIdeal.Gen.facts, Cert.FfnDownRefIdeal.Gen.facts,
  Cert.Pre_finite_scores.Gen.facts, Cert.Pre_finite_window.Gen.facts,
  fun m g _ => Cert.Kernel.Gen.frame m g, fun m g _ => Cert.KernelIdeal.Gen.frame m g, fun m g _ => Cert.KernelIdeal.Gen.frame m g,
  Cert.MemAttn.reference_frame, fun m g _ => Cert.MemAttn.reference_frame m g trivial,
  fun m g _ => Cert.UpDw.Gen.frame m g, fun m g _ => Cert.UpDwIdeal.Gen.frame m g, Cert.Products.upDw_reference_frame,
  fun m g _ => Cert.WideDw.Gen.frame m g, fun m g _ => Cert.WideDwIdeal.Gen.frame m g, Cert.Products.wideDw_reference_frame,
  fun m g _ => Cert.SquareDw.Gen.frame m g, fun m g _ => Cert.SquareDwIdeal.Gen.frame m g, Cert.Products.squareDw_reference_frame,
  fun m g _ => Cert.DownDx.Gen.frame m g, fun m g _ => Cert.DownDxIdeal.Gen.frame m g, Cert.Products.downDx_reference_frame,
  fun m g _ => Cert.SquareDx.Gen.frame m g, fun m g _ => Cert.SquareDxIdeal.Gen.frame m g, Cert.Products.squareDx_reference_frame,
  fun m g _ => Cert.FfnUp.Gen.frame m g, fun m g _ => Cert.FfnUpIdeal.Gen.frame m g, Cert.Products.ffnUp_reference_frame,
  fun m g _ => Cert.CaQ.Gen.frame m g, fun m g _ => Cert.CaQIdeal.Gen.frame m g, Cert.Products.caQ_reference_frame,
  fun m g _ => Cert.ConvBwd.Gen.frame m g, fun m g _ => Cert.ConvBwdIdeal.Gen.frame m g, Cert.Conv.reference_frame,
  fun m g _ => Cert.SwaBwd.Gen.frame m g, fun m g _ => Cert.SwaBwdIdeal.Gen.frame m g, fun m g _ => Cert.SwaBwdIdeal.Gen.frame m g,
  Cert.Swa.reference_frame, fun m g _ => Cert.Swa.reference_frame m g trivial,
  fun m g _ => Cert.FfnDown.Gen.frame m g, fun m g _ => Cert.FfnDownIdeal.Gen.frame m g, Cert.Down.reference_frame,
  trivial, Cert.MemAttn.algebraic,
  trivial, Cert.Products.upDw_algebraic,
  trivial, Cert.Products.wideDw_algebraic,
  trivial, Cert.Products.squareDw_algebraic,
  trivial, Cert.Products.downDx_algebraic,
  trivial, Cert.Products.squareDx_algebraic,
  trivial, Cert.Products.ffnUp_algebraic,
  trivial, Cert.Products.caQ_algebraic,
  trivial, Cert.Conv.algebraic,
  trivial, Cert.Swa.algebraic,
  trivial, Cert.Down.algebraic⟩

end Cert.Proof

end
